-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Outf (m : (ℓ : Loc Cert.Outf.nD Cert.Outf.τ Cert.Outf.sig) → Buf (Elt Bits) ℓ) : Prop :=
  True

def Pre_OutfIdeal (m : (ℓ : Loc Cert.OutfIdeal.nD Cert.OutfIdeal.τ Cert.OutfIdeal.sig) → Buf (Elt Ideal) ℓ) : Prop :=
  True

def Pre_OutfRefIdeal (m : (ℓ : Loc Cert.OutfRefIdeal.nD Cert.OutfRefIdeal.τ Cert.OutfRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4)
      ∧ r.2.mem ((c.tc : Thread Cert.Dw.nD Cert.Dw.τ).loc Cert.Dw.main_arg5) = m ((c.tc : Thread Cert.Dw.nD Cert.Dw.τ).loc Cert.Dw.main_arg5)
      ∧ r.2.mem ((c.tc : Thread Cert.Dw.nD Cert.Dw.τ).loc Cert.Dw.main_arg6) = m ((c.tc : Thread Cert.Dw.nD Cert.Dw.τ).loc Cert.Dw.main_arg6)
      ∧ r.2.mem ((c.tc : Thread Cert.Dw.nD Cert.Dw.τ).loc Cert.Dw.main_arg7) = m ((c.tc : Thread Cert.Dw.nD Cert.Dw.τ).loc Cert.Dw.main_arg7))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
      ∧ r.2.mem ((c.tc : Thread Cert.DwIdeal.nD Cert.DwIdeal.τ).loc Cert.DwIdeal.main_arg6) = m ((c.tc : Thread Cert.DwIdeal.nD Cert.DwIdeal.τ).loc Cert.DwIdeal.main_arg6)
      ∧ r.2.mem ((c.tc : Thread Cert.DwIdeal.nD Cert.DwIdeal.τ).loc Cert.DwIdeal.main_arg7) = m ((c.tc : Thread Cert.DwIdeal.nD Cert.DwIdeal.τ).loc Cert.DwIdeal.main_arg7))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4)
      ∧ r.2.mem ((c.tc : Thread Cert.DwRefIdeal.nD Cert.DwRefIdeal.τ).loc Cert.DwRefIdeal.main_arg5) = m ((c.tc : Thread Cert.DwRefIdeal.nD Cert.DwRefIdeal.τ).loc Cert.DwRefIdeal.main_arg5)
      ∧ r.2.mem ((c.tc : Thread Cert.DwRefIdeal.nD Cert.DwRefIdeal.τ).loc Cert.DwRefIdeal.main_arg6) = m ((c.tc : Thread Cert.DwRefIdeal.nD Cert.DwRefIdeal.τ).loc Cert.DwRefIdeal.main_arg6)
      ∧ r.2.mem ((c.tc : Thread Cert.DwRefIdeal.nD Cert.DwRefIdeal.τ).loc Cert.DwRefIdeal.main_arg7) = m ((c.tc : Thread Cert.DwRefIdeal.nD Cert.DwRefIdeal.τ).loc Cert.DwRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Outf [hOutf : Cert.Outf.Facts] : Prop :=
  ∀ (m : (ℓ : Loc Cert.Outf.nD Cert.Outf.τ Cert.Outf.sig) → Buf (Elt Bits) ℓ) (g : Dev Cert.Outf.nD → PrngReg), Pre_Outf m →
    θ_run (Cert.Outf.defs (F := Bits)) (onTc (τ := Cert.Outf.τ) (Cert.Outf.main (F := Bits))) ⟨m, fun _ => 0, g⟩ (fun r => (∀ c : Dev Cert.Outf.nD,
      r.2.mem ((c.tc : Thread Cert.Outf.nD Cert.Outf.τ).loc Cert.Outf.main_arg0) = m ((c.tc : Thread Cert.Outf.nD Cert.Outf.τ).loc Cert.Outf.main_arg0)
      ∧ r.2.mem ((c.tc : Thread Cert.Outf.nD Cert.Outf.τ).loc Cert.Outf.main_arg1) = m ((c.tc : Thread Cert.Outf.nD Cert.Outf.τ).loc Cert.Outf.main_arg1)
      ∧ r.2.mem ((c.tc : Thread Cert.Outf.nD Cert.Outf.τ).loc Cert.Outf.main_arg2) = m ((c.tc : Thread Cert.Outf.nD Cert.Outf.τ).loc Cert.Outf.main_arg2)
      ∧ r.2.mem ((c.tc : Thread Cert.Outf.nD Cert.Outf.τ).loc Cert.Outf.main_arg3) = m ((c.tc : Thread Cert.Outf.nD Cert.Outf.τ).loc Cert.Outf.main_arg3)
      ∧ r.2.mem ((c.tc : Thread Cert.Outf.nD Cert.Outf.τ).loc Cert.Outf.main_arg4) = m ((c.tc : Thread Cert.Outf.nD Cert.Outf.τ).loc Cert.Outf.main_arg4)
      ∧ r.2.mem ((c.tc : Thread Cert.Outf.nD Cert.Outf.τ).loc Cert.Outf.main_arg5) = m ((c.tc : Thread Cert.Outf.nD Cert.Outf.τ).loc Cert.Outf.main_arg5)
      ∧ r.2.mem ((c.tc : Thread Cert.Outf.nD Cert.Outf.τ).loc Cert.Outf.main_arg6) = m ((c.tc : Thread Cert.Outf.nD Cert.Outf.τ).loc Cert.Outf.main_arg6)
      ∧ r.2.mem ((c.tc : Thread Cert.Outf.nD Cert.Outf.τ).loc Cert.Outf.main_arg7) = m ((c.tc : Thread Cert.Outf.nD Cert.Outf.τ).loc Cert.Outf.main_arg7)
      ∧ r.2.mem ((c.tc : Thread Cert.Outf.nD Cert.Outf.τ).loc Cert.Outf.main_arg8) = m ((c.tc : Thread Cert.Outf.nD Cert.Outf.τ).loc Cert.Outf.main_arg8))
      ∧ r.2.sem = fun _ => 0)

def quiescent_OutfIdeal [hOutfIdeal : Cert.OutfIdeal.Facts] : Prop :=
  ∀ (m : (ℓ : Loc Cert.OutfIdeal.nD Cert.OutfIdeal.τ Cert.OutfIdeal.sig) → Buf (Elt Ideal) ℓ) (g : Dev Cert.OutfIdeal.nD → PrngReg), Pre_OutfIdeal m →
    θ_run (Cert.OutfIdeal.defs (F := Ideal)) (onTc (τ := Cert.OutfIdeal.τ) (Cert.OutfIdeal.main (F := Ideal))) ⟨m, fun _ => 0, g⟩ (fun r => (∀ c : Dev Cert.OutfIdeal.nD,
      r.2.mem ((c.tc : Thread Cert.OutfIdeal.nD Cert.OutfIdeal.τ).loc Cert.OutfIdeal.main_arg0) = m ((c.tc : Thread Cert.OutfIdeal.nD Cert.OutfIdeal.τ).loc Cert.OutfIdeal.main_arg0)
      ∧ r.2.mem ((c.tc : Thread Cert.OutfIdeal.nD Cert.OutfIdeal.τ).loc Cert.OutfIdeal.main_arg1) = m ((c.tc : Thread Cert.OutfIdeal.nD Cert.OutfIdeal.τ).loc Cert.OutfIdeal.main_arg1)
      ∧ r.2.mem ((c.tc : Thread Cert.OutfIdeal.nD Cert.OutfIdeal.τ).loc Cert.OutfIdeal.main_arg2) = m ((c.tc : Thread Cert.OutfIdeal.nD Cert.OutfIdeal.τ).loc Cert.OutfIdeal.main_arg2)
      ∧ r.2.mem ((c.tc : Thread Cert.OutfIdeal.nD Cert.OutfIdeal.τ).loc Cert.OutfIdeal.main_arg3) = m ((c.tc : Thread Cert.OutfIdeal.nD Cert.OutfIdeal.τ).loc Cert.OutfIdeal.main_arg3)
      ∧ r.2.mem ((c.tc : Thread Cert.OutfIdeal.nD Cert.OutfIdeal.τ).loc Cert.OutfIdeal.main_arg4) = m ((c.tc : Thread Cert.OutfIdeal.nD Cert.OutfIdeal.τ).loc Cert.OutfIdeal.main_arg4)
      ∧ r.2.mem ((c.tc : Thread Cert.OutfIdeal.nD Cert.OutfIdeal.τ).loc Cert.OutfIdeal.main_arg5) = m ((c.tc : Thread Cert.OutfIdeal.nD Cert.OutfIdeal.τ).loc Cert.OutfIdeal.main_arg5)
      ∧ r.2.mem ((c.tc : Thread Cert.OutfIdeal.nD Cert.OutfIdeal.τ).loc Cert.OutfIdeal.main_arg6) = m ((c.tc : Thread Cert.OutfIdeal.nD Cert.OutfIdeal.τ).loc Cert.OutfIdeal.main_arg6)
      ∧ r.2.mem ((c.tc : Thread Cert.OutfIdeal.nD Cert.OutfIdeal.τ).loc Cert.OutfIdeal.main_arg7) = m ((c.tc : Thread Cert.OutfIdeal.nD Cert.OutfIdeal.τ).loc Cert.OutfIdeal.main_arg7)
      ∧ r.2.mem ((c.tc : Thread Cert.OutfIdeal.nD Cert.OutfIdeal.τ).loc Cert.OutfIdeal.main_arg8) = m ((c.tc : Thread Cert.OutfIdeal.nD Cert.OutfIdeal.τ).loc Cert.OutfIdeal.main_arg8))
      ∧ r.2.sem = fun _ => 0)

def quiescent_OutfRefIdeal [hOutfRefIdeal : Cert.OutfRefIdeal.Facts] : Prop :=
  ∀ (m : (ℓ : Loc Cert.OutfRefIdeal.nD Cert.OutfRefIdeal.τ Cert.OutfRefIdeal.sig) → Buf (Elt Ideal) ℓ) (g : Dev Cert.OutfRefIdeal.nD → PrngReg), Pre_OutfRefIdeal m →
    θ_run (Cert.OutfRefIdeal.defs (F := Ideal)) (onTc (τ := Cert.OutfRefIdeal.τ) (Cert.OutfRefIdeal.main (F := Ideal))) ⟨m, fun _ => 0, g⟩ (fun r => (∀ c : Dev Cert.OutfRefIdeal.nD,
      r.2.mem ((c.tc : Thread Cert.OutfRefIdeal.nD Cert.OutfRefIdeal.τ).loc Cert.OutfRefIdeal.main_arg0) = m ((c.tc : Thread Cert.OutfRefIdeal.nD Cert.OutfRefIdeal.τ).loc Cert.OutfRefIdeal.main_arg0)
      ∧ r.2.mem ((c.tc : Thread Cert.OutfRefIdeal.nD Cert.OutfRefIdeal.τ).loc Cert.OutfRefIdeal.main_arg1) = m ((c.tc : Thread Cert.OutfRefIdeal.nD Cert.OutfRefIdeal.τ).loc Cert.OutfRefIdeal.main_arg1)
      ∧ r.2.mem ((c.tc : Thread Cert.OutfRefIdeal.nD Cert.OutfRefIdeal.τ).loc Cert.OutfRefIdeal.main_arg2) = m ((c.tc : Thread Cert.OutfRefIdeal.nD Cert.OutfRefIdeal.τ).loc Cert.OutfRefIdeal.main_arg2)
      ∧ r.2.mem ((c.tc : Thread Cert.OutfRefIdeal.nD Cert.OutfRefIdeal.τ).loc Cert.OutfRefIdeal.main_arg3) = m ((c.tc : Thread Cert.OutfRefIdeal.nD Cert.OutfRefIdeal.τ).loc Cert.OutfRefIdeal.main_arg3)
      ∧ r.2.mem ((c.tc : Thread Cert.OutfRefIdeal.nD Cert.OutfRefIdeal.τ).loc Cert.OutfRefIdeal.main_arg4) = m ((c.tc : Thread Cert.OutfRefIdeal.nD Cert.OutfRefIdeal.τ).loc Cert.OutfRefIdeal.main_arg4)
      ∧ r.2.mem ((c.tc : Thread Cert.OutfRefIdeal.nD Cert.OutfRefIdeal.τ).loc Cert.OutfRefIdeal.main_arg5) = m ((c.tc : Thread Cert.OutfRefIdeal.nD Cert.OutfRefIdeal.τ).loc Cert.OutfRefIdeal.main_arg5)
      ∧ r.2.mem ((c.tc : Thread Cert.OutfRefIdeal.nD Cert.OutfRefIdeal.τ).loc Cert.OutfRefIdeal.main_arg6) = m ((c.tc : Thread Cert.OutfRefIdeal.nD Cert.OutfRefIdeal.τ).loc Cert.OutfRefIdeal.main_arg6)
      ∧ r.2.mem ((c.tc : Thread Cert.OutfRefIdeal.nD Cert.OutfRefIdeal.τ).loc Cert.OutfRefIdeal.main_arg7) = m ((c.tc : Thread Cert.OutfRefIdeal.nD Cert.OutfRefIdeal.τ).loc Cert.OutfRefIdeal.main_arg7)
      ∧ r.2.mem ((c.tc : Thread Cert.OutfRefIdeal.nD Cert.OutfRefIdeal.τ).loc Cert.OutfRefIdeal.main_arg8) = m ((c.tc : Thread Cert.OutfRefIdeal.nD Cert.OutfRefIdeal.τ).loc Cert.OutfRefIdeal.main_arg8))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10))
      ∧ r.2.sem = fun _ => 0)

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)
      ∧ m' ((c.tc : Thread Cert.DwRefIdeal.nD Cert.DwRefIdeal.τ).loc Cert.DwRefIdeal.main_arg5) = m ((c.tc : Thread Cert.DwIdeal.nD Cert.DwIdeal.τ).loc Cert.DwIdeal.main_arg5)
      ∧ m' ((c.tc : Thread Cert.DwRefIdeal.nD Cert.DwRefIdeal.τ).loc Cert.DwRefIdeal.main_arg6) = m ((c.tc : Thread Cert.DwIdeal.nD Cert.DwIdeal.τ).loc Cert.DwIdeal.main_arg6)
      ∧ m' ((c.tc : Thread Cert.DwRefIdeal.nD Cert.DwRefIdeal.τ).loc Cert.DwRefIdeal.main_arg7) = m ((c.tc : Thread Cert.DwIdeal.nD Cert.DwIdeal.τ).loc Cert.DwIdeal.main_arg7)) →
    ∃ (v0 : (c : Dev Cert.DwIdeal.nD) → Buf (Elt Ideal) ((c.tc : Thread Cert.DwIdeal.nD Cert.DwIdeal.τ).loc Cert.DwIdeal.main_v1_0)) (v1 : (c : Dev Cert.DwIdeal.nD) → Buf (Elt Ideal) ((c.tc : Thread Cert.DwIdeal.nD Cert.DwIdeal.τ).loc Cert.DwIdeal.main_v1_1)) (v2 : (c : Dev Cert.DwIdeal.nD) → Buf (Elt Ideal) ((c.tc : Thread Cert.DwIdeal.nD Cert.DwIdeal.τ).loc Cert.DwIdeal.main_v1_2)) (v3 : (c : Dev Cert.DwIdeal.nD) → Buf (Elt Ideal) ((c.tc : Thread Cert.DwIdeal.nD Cert.DwIdeal.τ).loc Cert.DwIdeal.main_v1_3)) (v4 : (c : Dev Cert.DwIdeal.nD) → Buf (Elt Ideal) ((c.tc : Thread Cert.DwIdeal.nD Cert.DwIdeal.τ).loc Cert.DwIdeal.main_v1_4)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v1_0) = v0 c
          ∧ r.2.mem ((c.tc : Thread Cert.DwIdeal.nD Cert.DwIdeal.τ).loc Cert.DwIdeal.main_v1_1) = v1 c
          ∧ r.2.mem ((c.tc : Thread Cert.DwIdeal.nD Cert.DwIdeal.τ).loc Cert.DwIdeal.main_v1_2) = v2 c
          ∧ r.2.mem ((c.tc : Thread Cert.DwIdeal.nD Cert.DwIdeal.τ).loc Cert.DwIdeal.main_v1_3) = v3 c
          ∧ r.2.mem ((c.tc : Thread Cert.DwIdeal.nD Cert.DwIdeal.τ).loc Cert.DwIdeal.main_v1_4) = v4 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
          ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
          ∧ r.2.mem ((c.tc : Thread Cert.DwIdeal.nD Cert.DwIdeal.τ).loc Cert.DwIdeal.main_arg6) = m ((c.tc : Thread Cert.DwIdeal.nD Cert.DwIdeal.τ).loc Cert.DwIdeal.main_arg6)
          ∧ r.2.mem ((c.tc : Thread Cert.DwIdeal.nD Cert.DwIdeal.τ).loc Cert.DwIdeal.main_arg7) = m ((c.tc : Thread Cert.DwIdeal.nD Cert.DwIdeal.τ).loc Cert.DwIdeal.main_arg7))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v27) = v0 c
          ∧ r.2.mem ((c.tc : Thread Cert.DwRefIdeal.nD Cert.DwRefIdeal.τ).loc Cert.DwRefIdeal.main_v28) = v1 c
          ∧ r.2.mem ((c.tc : Thread Cert.DwRefIdeal.nD Cert.DwRefIdeal.τ).loc Cert.DwRefIdeal.main_v29) = v2 c
          ∧ r.2.mem ((c.tc : Thread Cert.DwRefIdeal.nD Cert.DwRefIdeal.τ).loc Cert.DwRefIdeal.main_v30) = v3 c
          ∧ r.2.mem ((c.tc : Thread Cert.DwRefIdeal.nD Cert.DwRefIdeal.τ).loc Cert.DwRefIdeal.main_v31) = v4 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4)
          ∧ r.2.mem ((c.tc : Thread Cert.DwRefIdeal.nD Cert.DwRefIdeal.τ).loc Cert.DwRefIdeal.main_arg5) = m' ((c.tc : Thread Cert.DwRefIdeal.nD Cert.DwRefIdeal.τ).loc Cert.DwRefIdeal.main_arg5)
          ∧ r.2.mem ((c.tc : Thread Cert.DwRefIdeal.nD Cert.DwRefIdeal.τ).loc Cert.DwRefIdeal.main_arg6) = m' ((c.tc : Thread Cert.DwRefIdeal.nD Cert.DwRefIdeal.τ).loc Cert.DwRefIdeal.main_arg6)
          ∧ r.2.mem ((c.tc : Thread Cert.DwRefIdeal.nD Cert.DwRefIdeal.τ).loc Cert.DwRefIdeal.main_arg7) = m' ((c.tc : Thread Cert.DwRefIdeal.nD Cert.DwRefIdeal.τ).loc Cert.DwRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v28_0)) (v1 : (c : Dev Cert.OutIdeal.nD) → Buf (Elt Ideal) ((c.tc : Thread Cert.OutIdeal.nD Cert.OutIdeal.τ).loc Cert.OutIdeal.main_v28_1)) (v2 : (c : Dev Cert.OutIdeal.nD) → Buf (Elt Ideal) ((c.tc : Thread Cert.OutIdeal.nD Cert.OutIdeal.τ).loc Cert.OutIdeal.main_v28_2)) (v3 : (c : Dev Cert.OutIdeal.nD) → Buf (Elt Ideal) ((c.tc : Thread Cert.OutIdeal.nD Cert.OutIdeal.τ).loc Cert.OutIdeal.main_v28_3)) (v4 : (c : Dev Cert.OutIdeal.nD) → Buf (Elt Ideal) ((c.tc : Thread Cert.OutIdeal.nD Cert.OutIdeal.τ).loc Cert.OutIdeal.main_v28_4)) (v5 : (c : Dev Cert.OutIdeal.nD) → Buf (Elt Ideal) ((c.tc : Thread Cert.OutIdeal.nD Cert.OutIdeal.τ).loc Cert.OutIdeal.main_v28_5)) (v6 : (c : Dev Cert.OutIdeal.nD) → Buf (Elt Ideal) ((c.tc : Thread Cert.OutIdeal.nD Cert.OutIdeal.τ).loc Cert.OutIdeal.main_v28_6)) (v7 : (c : Dev Cert.OutIdeal.nD) → Buf (Elt Ideal) ((c.tc : Thread Cert.OutIdeal.nD Cert.OutIdeal.τ).loc Cert.OutIdeal.main_v28_7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v28_0) = v0 c
          ∧ r.2.mem ((c.tc : Thread Cert.OutIdeal.nD Cert.OutIdeal.τ).loc Cert.OutIdeal.main_v28_1) = v1 c
          ∧ r.2.mem ((c.tc : Thread Cert.OutIdeal.nD Cert.OutIdeal.τ).loc Cert.OutIdeal.main_v28_2) = v2 c
          ∧ r.2.mem ((c.tc : Thread Cert.OutIdeal.nD Cert.OutIdeal.τ).loc Cert.OutIdeal.main_v28_3) = v3 c
          ∧ r.2.mem ((c.tc : Thread Cert.OutIdeal.nD Cert.OutIdeal.τ).loc Cert.OutIdeal.main_v28_4) = v4 c
          ∧ r.2.mem ((c.tc : Thread Cert.OutIdeal.nD Cert.OutIdeal.τ).loc Cert.OutIdeal.main_v28_5) = v5 c
          ∧ r.2.mem ((c.tc : Thread Cert.OutIdeal.nD Cert.OutIdeal.τ).loc Cert.OutIdeal.main_v28_6) = v6 c
          ∧ r.2.mem ((c.tc : Thread Cert.OutIdeal.nD Cert.OutIdeal.τ).loc Cert.OutIdeal.main_v28_7) = v7 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v62) = v0 c
          ∧ r.2.mem ((c.tc : Thread Cert.OutRefIdeal.nD Cert.OutRefIdeal.τ).loc Cert.OutRefIdeal.main_v66) = v1 c
          ∧ r.2.mem ((c.tc : Thread Cert.OutRefIdeal.nD Cert.OutRefIdeal.τ).loc Cert.OutRefIdeal.main_v67) = v2 c
          ∧ r.2.mem ((c.tc : Thread Cert.OutRefIdeal.nD Cert.OutRefIdeal.τ).loc Cert.OutRefIdeal.main_v68) = v3 c
          ∧ r.2.mem ((c.tc : Thread Cert.OutRefIdeal.nD Cert.OutRefIdeal.τ).loc Cert.OutRefIdeal.main_v64) = v4 c
          ∧ r.2.mem ((c.tc : Thread Cert.OutRefIdeal.nD Cert.OutRefIdeal.τ).loc Cert.OutRefIdeal.main_v69) = v5 c
          ∧ r.2.mem ((c.tc : Thread Cert.OutRefIdeal.nD Cert.OutRefIdeal.τ).loc Cert.OutRefIdeal.main_v40) = v6 c
          ∧ r.2.mem ((c.tc : Thread Cert.OutRefIdeal.nD Cert.OutRefIdeal.τ).loc Cert.OutRefIdeal.main_v37) = v7 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)) →
    ∃ (v0 : (c : Dev Cert.DxIdeal.nD) → Buf (Elt Ideal) ((c.tc : Thread Cert.DxIdeal.nD Cert.DxIdeal.τ).loc Cert.DxIdeal.main_v18_0)) (v1 : (c : Dev Cert.DxIdeal.nD) → Buf (Elt Ideal) ((c.tc : Thread Cert.DxIdeal.nD Cert.DxIdeal.τ).loc Cert.DxIdeal.main_v18_1)) (v2 : (c : Dev Cert.DxIdeal.nD) → Buf (Elt Ideal) ((c.tc : Thread Cert.DxIdeal.nD Cert.DxIdeal.τ).loc Cert.DxIdeal.main_v18_2)) (v3 : (c : Dev Cert.DxIdeal.nD) → Buf (Elt Ideal) ((c.tc : Thread Cert.DxIdeal.nD Cert.DxIdeal.τ).loc Cert.DxIdeal.main_v18_3)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v18_0) = v0 c
          ∧ r.2.mem ((c.tc : Thread Cert.DxIdeal.nD Cert.DxIdeal.τ).loc Cert.DxIdeal.main_v18_1) = v1 c
          ∧ r.2.mem ((c.tc : Thread Cert.DxIdeal.nD Cert.DxIdeal.τ).loc Cert.DxIdeal.main_v18_2) = v2 c
          ∧ r.2.mem ((c.tc : Thread Cert.DxIdeal.nD Cert.DxIdeal.τ).loc Cert.DxIdeal.main_v18_3) = v3 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v199) = v0 c
          ∧ r.2.mem ((c.tc : Thread Cert.DxRefIdeal.nD Cert.DxRefIdeal.τ).loc Cert.DxRefIdeal.main_v200) = v1 c
          ∧ r.2.mem ((c.tc : Thread Cert.DxRefIdeal.nD Cert.DxRefIdeal.τ).loc Cert.DxRefIdeal.main_v202) = v2 c
          ∧ r.2.mem ((c.tc : Thread Cert.DxRefIdeal.nD Cert.DxRefIdeal.τ).loc Cert.DxRefIdeal.main_v203) = v3 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)) (v5 : (c : Dev Cert.ProjIdeal.nD) → Buf (Elt Ideal) ((c.tc : Thread Cert.ProjIdeal.nD Cert.ProjIdeal.τ).loc Cert.ProjIdeal.main_v3_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_v3_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_v21) = v1 c
          ∧ r.2.mem ((c.tc : Thread Cert.ProjRefIdeal.nD Cert.ProjRefIdeal.τ).loc Cert.ProjRefIdeal.main_v22) = v2 c
          ∧ r.2.mem ((c.tc : Thread Cert.ProjRefIdeal.nD Cert.ProjRefIdeal.τ).loc Cert.ProjRefIdeal.main_v23) = v3 c
          ∧ r.2.mem ((c.tc : Thread Cert.ProjRefIdeal.nD Cert.ProjRefIdeal.τ).loc Cert.ProjRefIdeal.main_v24) = v4 c
          ∧ r.2.mem ((c.tc : Thread Cert.ProjRefIdeal.nD Cert.ProjRefIdeal.τ).loc Cert.ProjRefIdeal.main_v83) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Outf_OutfIdeal : Prop :=
  True

def algebraic_OutfIdeal_OutfRefIdeal [hOutfIdeal : Cert.OutfIdeal.Facts] [hOutfRefIdeal : Cert.OutfRefIdeal.Facts] : Prop :=
  ∀ (m : (ℓ : Loc Cert.OutfIdeal.nD Cert.OutfIdeal.τ Cert.OutfIdeal.sig) → Buf (Elt Ideal) ℓ) (g : Dev Cert.OutfIdeal.nD → PrngReg)
    (m' : (ℓ : Loc Cert.OutfRefIdeal.nD Cert.OutfRefIdeal.τ Cert.OutfRefIdeal.sig) → Buf (Elt Ideal) ℓ) (g' : Dev Cert.OutfRefIdeal.nD → PrngReg), Pre_OutfIdeal m →
    (∀ c : Dev Cert.OutfIdeal.nD,
      m' ((c.tc : Thread Cert.OutfRefIdeal.nD Cert.OutfRefIdeal.τ).loc Cert.OutfRefIdeal.main_arg0) = m ((c.tc : Thread Cert.OutfIdeal.nD Cert.OutfIdeal.τ).loc Cert.OutfIdeal.main_arg0)
      ∧ m' ((c.tc : Thread Cert.OutfRefIdeal.nD Cert.OutfRefIdeal.τ).loc Cert.OutfRefIdeal.main_arg1) = m ((c.tc : Thread Cert.OutfIdeal.nD Cert.OutfIdeal.τ).loc Cert.OutfIdeal.main_arg1)
      ∧ m' ((c.tc : Thread Cert.OutfRefIdeal.nD Cert.OutfRefIdeal.τ).loc Cert.OutfRefIdeal.main_arg2) = m ((c.tc : Thread Cert.OutfIdeal.nD Cert.OutfIdeal.τ).loc Cert.OutfIdeal.main_arg2)
      ∧ m' ((c.tc : Thread Cert.OutfRefIdeal.nD Cert.OutfRefIdeal.τ).loc Cert.OutfRefIdeal.main_arg3) = m ((c.tc : Thread Cert.OutfIdeal.nD Cert.OutfIdeal.τ).loc Cert.OutfIdeal.main_arg3)
      ∧ m' ((c.tc : Thread Cert.OutfRefIdeal.nD Cert.OutfRefIdeal.τ).loc Cert.OutfRefIdeal.main_arg4) = m ((c.tc : Thread Cert.OutfIdeal.nD Cert.OutfIdeal.τ).loc Cert.OutfIdeal.main_arg4)
      ∧ m' ((c.tc : Thread Cert.OutfRefIdeal.nD Cert.OutfRefIdeal.τ).loc Cert.OutfRefIdeal.main_arg5) = m ((c.tc : Thread Cert.OutfIdeal.nD Cert.OutfIdeal.τ).loc Cert.OutfIdeal.main_arg5)
      ∧ m' ((c.tc : Thread Cert.OutfRefIdeal.nD Cert.OutfRefIdeal.τ).loc Cert.OutfRefIdeal.main_arg6) = m ((c.tc : Thread Cert.OutfIdeal.nD Cert.OutfIdeal.τ).loc Cert.OutfIdeal.main_arg6)
      ∧ m' ((c.tc : Thread Cert.OutfRefIdeal.nD Cert.OutfRefIdeal.τ).loc Cert.OutfRefIdeal.main_arg7) = m ((c.tc : Thread Cert.OutfIdeal.nD Cert.OutfIdeal.τ).loc Cert.OutfIdeal.main_arg7)
      ∧ m' ((c.tc : Thread Cert.OutfRefIdeal.nD Cert.OutfRefIdeal.τ).loc Cert.OutfRefIdeal.main_arg8) = m ((c.tc : Thread Cert.OutfIdeal.nD Cert.OutfIdeal.τ).loc Cert.OutfIdeal.main_arg8)) →
    ∃ (v0 : (c : Dev Cert.OutfIdeal.nD) → Buf (Elt Ideal) ((c.tc : Thread Cert.OutfIdeal.nD Cert.OutfIdeal.τ).loc Cert.OutfIdeal.main_v5_0)) (v1 : (c : Dev Cert.OutfIdeal.nD) → Buf (Elt Ideal) ((c.tc : Thread Cert.OutfIdeal.nD Cert.OutfIdeal.τ).loc Cert.OutfIdeal.main_v5_1)) (v2 : (c : Dev Cert.OutfIdeal.nD) → Buf (Elt Ideal) ((c.tc : Thread Cert.OutfIdeal.nD Cert.OutfIdeal.τ).loc Cert.OutfIdeal.main_v5_2)),
      θ_run (Cert.OutfIdeal.defs (F := Ideal)) (onTc (τ := Cert.OutfIdeal.τ) (Cert.OutfIdeal.main (F := Ideal))) ⟨m, fun _ => 0, g⟩ (fun r => ∀ c : Dev Cert.OutfIdeal.nD,
          r.2.mem ((c.tc : Thread Cert.OutfIdeal.nD Cert.OutfIdeal.τ).loc Cert.OutfIdeal.main_v5_0) = v0 c
          ∧ r.2.mem ((c.tc : Thread Cert.OutfIdeal.nD Cert.OutfIdeal.τ).loc Cert.OutfIdeal.main_v5_1) = v1 c
          ∧ r.2.mem ((c.tc : Thread Cert.OutfIdeal.nD Cert.OutfIdeal.τ).loc Cert.OutfIdeal.main_v5_2) = v2 c
          ∧ r.2.mem ((c.tc : Thread Cert.OutfIdeal.nD Cert.OutfIdeal.τ).loc Cert.OutfIdeal.main_arg0) = m ((c.tc : Thread Cert.OutfIdeal.nD Cert.OutfIdeal.τ).loc Cert.OutfIdeal.main_arg0)
          ∧ r.2.mem ((c.tc : Thread Cert.OutfIdeal.nD Cert.OutfIdeal.τ).loc Cert.OutfIdeal.main_arg1) = m ((c.tc : Thread Cert.OutfIdeal.nD Cert.OutfIdeal.τ).loc Cert.OutfIdeal.main_arg1)
          ∧ r.2.mem ((c.tc : Thread Cert.OutfIdeal.nD Cert.OutfIdeal.τ).loc Cert.OutfIdeal.main_arg2) = m ((c.tc : Thread Cert.OutfIdeal.nD Cert.OutfIdeal.τ).loc Cert.OutfIdeal.main_arg2)
          ∧ r.2.mem ((c.tc : Thread Cert.OutfIdeal.nD Cert.OutfIdeal.τ).loc Cert.OutfIdeal.main_arg3) = m ((c.tc : Thread Cert.OutfIdeal.nD Cert.OutfIdeal.τ).loc Cert.OutfIdeal.main_arg3)
          ∧ r.2.mem ((c.tc : Thread Cert.OutfIdeal.nD Cert.OutfIdeal.τ).loc Cert.OutfIdeal.main_arg4) = m ((c.tc : Thread Cert.OutfIdeal.nD Cert.OutfIdeal.τ).loc Cert.OutfIdeal.main_arg4)
          ∧ r.2.mem ((c.tc : Thread Cert.OutfIdeal.nD Cert.OutfIdeal.τ).loc Cert.OutfIdeal.main_arg5) = m ((c.tc : Thread Cert.OutfIdeal.nD Cert.OutfIdeal.τ).loc Cert.OutfIdeal.main_arg5)
          ∧ r.2.mem ((c.tc : Thread Cert.OutfIdeal.nD Cert.OutfIdeal.τ).loc Cert.OutfIdeal.main_arg6) = m ((c.tc : Thread Cert.OutfIdeal.nD Cert.OutfIdeal.τ).loc Cert.OutfIdeal.main_arg6)
          ∧ r.2.mem ((c.tc : Thread Cert.OutfIdeal.nD Cert.OutfIdeal.τ).loc Cert.OutfIdeal.main_arg7) = m ((c.tc : Thread Cert.OutfIdeal.nD Cert.OutfIdeal.τ).loc Cert.OutfIdeal.main_arg7)
          ∧ r.2.mem ((c.tc : Thread Cert.OutfIdeal.nD Cert.OutfIdeal.τ).loc Cert.OutfIdeal.main_arg8) = m ((c.tc : Thread Cert.OutfIdeal.nD Cert.OutfIdeal.τ).loc Cert.OutfIdeal.main_arg8))
      ∧ θ_run (Cert.OutfRefIdeal.defs (F := Ideal)) (onTc (τ := Cert.OutfRefIdeal.τ) (Cert.OutfRefIdeal.main (F := Ideal))) ⟨m', fun _ => 0, g'⟩ (fun r => ∀ c : Dev Cert.OutfRefIdeal.nD,
          r.2.mem ((c.tc : Thread Cert.OutfRefIdeal.nD Cert.OutfRefIdeal.τ).loc Cert.OutfRefIdeal.main_v25) = v0 c
          ∧ r.2.mem ((c.tc : Thread Cert.OutfRefIdeal.nD Cert.OutfRefIdeal.τ).loc Cert.OutfRefIdeal.main_v2) = v1 c
          ∧ r.2.mem ((c.tc : Thread Cert.OutfRefIdeal.nD Cert.OutfRefIdeal.τ).loc Cert.OutfRefIdeal.main_v22) = v2 c
          ∧ r.2.mem ((c.tc : Thread Cert.OutfRefIdeal.nD Cert.OutfRefIdeal.τ).loc Cert.OutfRefIdeal.main_arg0) = m' ((c.tc : Thread Cert.OutfRefIdeal.nD Cert.OutfRefIdeal.τ).loc Cert.OutfRefIdeal.main_arg0)
          ∧ r.2.mem ((c.tc : Thread Cert.OutfRefIdeal.nD Cert.OutfRefIdeal.τ).loc Cert.OutfRefIdeal.main_arg1) = m' ((c.tc : Thread Cert.OutfRefIdeal.nD Cert.OutfRefIdeal.τ).loc Cert.OutfRefIdeal.main_arg1)
          ∧ r.2.mem ((c.tc : Thread Cert.OutfRefIdeal.nD Cert.OutfRefIdeal.τ).loc Cert.OutfRefIdeal.main_arg2) = m' ((c.tc : Thread Cert.OutfRefIdeal.nD Cert.OutfRefIdeal.τ).loc Cert.OutfRefIdeal.main_arg2)
          ∧ r.2.mem ((c.tc : Thread Cert.OutfRefIdeal.nD Cert.OutfRefIdeal.τ).loc Cert.OutfRefIdeal.main_arg3) = m' ((c.tc : Thread Cert.OutfRefIdeal.nD Cert.OutfRefIdeal.τ).loc Cert.OutfRefIdeal.main_arg3)
          ∧ r.2.mem ((c.tc : Thread Cert.OutfRefIdeal.nD Cert.OutfRefIdeal.τ).loc Cert.OutfRefIdeal.main_arg4) = m' ((c.tc : Thread Cert.OutfRefIdeal.nD Cert.OutfRefIdeal.τ).loc Cert.OutfRefIdeal.main_arg4)
          ∧ r.2.mem ((c.tc : Thread Cert.OutfRefIdeal.nD Cert.OutfRefIdeal.τ).loc Cert.OutfRefIdeal.main_arg5) = m' ((c.tc : Thread Cert.OutfRefIdeal.nD Cert.OutfRefIdeal.τ).loc Cert.OutfRefIdeal.main_arg5)
          ∧ r.2.mem ((c.tc : Thread Cert.OutfRefIdeal.nD Cert.OutfRefIdeal.τ).loc Cert.OutfRefIdeal.main_arg6) = m' ((c.tc : Thread Cert.OutfRefIdeal.nD Cert.OutfRefIdeal.τ).loc Cert.OutfRefIdeal.main_arg6)
          ∧ r.2.mem ((c.tc : Thread Cert.OutfRefIdeal.nD Cert.OutfRefIdeal.τ).loc Cert.OutfRefIdeal.main_arg7) = m' ((c.tc : Thread Cert.OutfRefIdeal.nD Cert.OutfRefIdeal.τ).loc Cert.OutfRefIdeal.main_arg7)
          ∧ r.2.mem ((c.tc : Thread Cert.OutfRefIdeal.nD Cert.OutfRefIdeal.τ).loc Cert.OutfRefIdeal.main_arg8) = m' ((c.tc : Thread Cert.OutfRefIdeal.nD Cert.OutfRefIdeal.τ).loc Cert.OutfRefIdeal.main_arg8))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)
      ∧ m' ((c.tc : Thread Cert.HeadRefIdeal.nD Cert.HeadRefIdeal.τ).loc Cert.HeadRefIdeal.main_arg10) = m ((c.tc : Thread Cert.HeadIdeal.nD Cert.HeadIdeal.τ).loc Cert.HeadIdeal.main_arg10)) →
    ∃ (v0 : (c : Dev Cert.HeadIdeal.nD) → Buf (Elt Ideal) ((c.tc : Thread Cert.HeadIdeal.nD Cert.HeadIdeal.τ).loc Cert.HeadIdeal.main_v9_0)) (v1 : (c : Dev Cert.HeadIdeal.nD) → Buf (Elt Ideal) ((c.tc : Thread Cert.HeadIdeal.nD Cert.HeadIdeal.τ).loc Cert.HeadIdeal.main_v9_1)) (v2 : (c : Dev Cert.HeadIdeal.nD) → Buf (Elt Ideal) ((c.tc : Thread Cert.HeadIdeal.nD Cert.HeadIdeal.τ).loc Cert.HeadIdeal.main_v9_2)) (v3 : (c : Dev Cert.HeadIdeal.nD) → Buf (Elt Ideal) ((c.tc : Thread Cert.HeadIdeal.nD Cert.HeadIdeal.τ).loc Cert.HeadIdeal.main_v9_3)) (v4 : (c : Dev Cert.HeadIdeal.nD) → Buf (Elt Ideal) ((c.tc : Thread Cert.HeadIdeal.nD Cert.HeadIdeal.τ).loc Cert.HeadIdeal.main_v9_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v9_0) = v0 c
          ∧ r.2.mem ((c.tc : Thread Cert.HeadIdeal.nD Cert.HeadIdeal.τ).loc Cert.HeadIdeal.main_v9_1) = v1 c
          ∧ r.2.mem ((c.tc : Thread Cert.HeadIdeal.nD Cert.HeadIdeal.τ).loc Cert.HeadIdeal.main_v9_2) = v2 c
          ∧ r.2.mem ((c.tc : Thread Cert.HeadIdeal.nD Cert.HeadIdeal.τ).loc Cert.HeadIdeal.main_v9_3) = v3 c
          ∧ r.2.mem ((c.tc : Thread Cert.HeadIdeal.nD Cert.HeadIdeal.τ).loc Cert.HeadIdeal.main_v9_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v88) = v0 c
          ∧ r.2.mem ((c.tc : Thread Cert.HeadRefIdeal.nD Cert.HeadRefIdeal.τ).loc Cert.HeadRefIdeal.main_v89) = v1 c
          ∧ r.2.mem ((c.tc : Thread Cert.HeadRefIdeal.nD Cert.HeadRefIdeal.τ).loc Cert.HeadRefIdeal.main_v90) = v2 c
          ∧ r.2.mem ((c.tc : Thread Cert.HeadRefIdeal.nD Cert.HeadRefIdeal.τ).loc Cert.HeadRefIdeal.main_v91) = v3 c
          ∧ r.2.mem ((c.tc : Thread Cert.HeadRefIdeal.nD Cert.HeadRefIdeal.τ).loc Cert.HeadRefIdeal.main_v92) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9)
          ∧ r.2.mem ((c.tc : Thread Cert.HeadRefIdeal.nD Cert.HeadRefIdeal.τ).loc Cert.HeadRefIdeal.main_arg10) = m' ((c.tc : Thread Cert.HeadRefIdeal.nD Cert.HeadRefIdeal.τ).loc Cert.HeadRefIdeal.main_arg10))

def Claim : Prop :=
  ∃ (hDw : Cert.Dw.Facts) (hDwIdeal : Cert.DwIdeal.Facts) (hDwRefIdeal : Cert.DwRefIdeal.Facts) (hOut : Cert.Out.Facts) (hOutIdeal : Cert.OutIdeal.Facts) (hOutRefIdeal : Cert.OutRefIdeal.Facts) (hDx : Cert.Dx.Facts) (hDxIdeal : Cert.DxIdeal.Facts) (hDxRefIdeal : Cert.DxRefIdeal.Facts) (hProj : Cert.Proj.Facts) (hProjIdeal : Cert.ProjIdeal.Facts) (hProjRefIdeal : Cert.ProjRefIdeal.Facts) (hOutf : Cert.Outf.Facts) (hOutfIdeal : Cert.OutfIdeal.Facts) (hOutfRefIdeal : Cert.OutfRefIdeal.Facts) (hHead : Cert.Head.Facts) (hHeadIdeal : Cert.HeadIdeal.Facts) (hHeadRefIdeal : Cert.HeadRefIdeal.Facts),
    quiescent_Dw (hDw := hDw)
    ∧ quiescent_DwIdeal (hDwIdeal := hDwIdeal)
    ∧ quiescent_DwRefIdeal (hDwRefIdeal := hDwRefIdeal)
    ∧ quiescent_Out (hOut := hOut)
    ∧ quiescent_OutIdeal (hOutIdeal := hOutIdeal)
    ∧ quiescent_OutRefIdeal (hOutRefIdeal := hOutRefIdeal)
    ∧ quiescent_Dx (hDx := hDx)
    ∧ quiescent_DxIdeal (hDxIdeal := hDxIdeal)
    ∧ quiescent_DxRefIdeal (hDxRefIdeal := hDxRefIdeal)
    ∧ quiescent_Proj (hProj := hProj)
    ∧ quiescent_ProjIdeal (hProjIdeal := hProjIdeal)
    ∧ quiescent_ProjRefIdeal (hProjRefIdeal := hProjRefIdeal)
    ∧ quiescent_Outf (hOutf := hOutf)
    ∧ quiescent_OutfIdeal (hOutfIdeal := hOutfIdeal)
    ∧ quiescent_OutfRefIdeal (hOutfRefIdeal := hOutfRefIdeal)
    ∧ quiescent_Head (hHead := hHead)
    ∧ quiescent_HeadIdeal (hHeadIdeal := hHeadIdeal)
    ∧ quiescent_HeadRefIdeal (hHeadRefIdeal := hHeadRefIdeal)
    ∧ preserves_Dw_DwIdeal
    ∧ algebraic_DwIdeal_DwRefIdeal (hDwIdeal := hDwIdeal) (hDwRefIdeal := hDwRefIdeal)
    ∧ preserves_Out_OutIdeal
    ∧ algebraic_OutIdeal_OutRefIdeal (hOutIdeal := hOutIdeal) (hOutRefIdeal := hOutRefIdeal)
    ∧ preserves_Dx_DxIdeal
    ∧ algebraic_DxIdeal_DxRefIdeal (hDxIdeal := hDxIdeal) (hDxRefIdeal := hDxRefIdeal)
    ∧ preserves_Proj_ProjIdeal
    ∧ algebraic_ProjIdeal_ProjRefIdeal (hProjIdeal := hProjIdeal) (hProjRefIdeal := hProjRefIdeal)
    ∧ preserves_Outf_OutfIdeal
    ∧ algebraic_OutfIdeal_OutfRefIdeal (hOutfIdeal := hOutfIdeal) (hOutfRefIdeal := hOutfRefIdeal)
    ∧ preserves_Head_HeadIdeal
    ∧ algebraic_HeadIdeal_HeadRefIdeal (hHeadIdeal := hHeadIdeal) (hHeadRefIdeal := hHeadRefIdeal)
-- ==== Dw.lean ====
abbrev S8192x1024 : Shape := ⟨2, ![8192, 1024]⟩
abbrev S1024 : Shape := ⟨1, ![1024]⟩
abbrev S1024x3456 : Shape := ⟨2, ![1024, 3456]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S1x1024 : Shape := ⟨2, ![1, 1024]⟩
abbrev S1024x512 : Shape := ⟨2, ![1024, 512]⟩
abbrev S1024x1536 : Shape := ⟨2, ![1024, 1536]⟩
abbrev S1024x768 : Shape := ⟨2, ![1024, 768]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .f32⟩
  | .hbm, ⟨3, _⟩ => ⟨S8192x512, .bf16⟩
  | .hbm, ⟨4, _⟩ => ⟨S8192x1536, .bf16⟩
  | .hbm, ⟨5, _⟩ => ⟨S8192x512, .bf16⟩
  | .hbm, ⟨6, _⟩ => ⟨S8192x768, .bf16⟩
  | .hbm, ⟨7, _⟩ => ⟨S8192x128, .bf16⟩
  | .hbm, ⟨8, _⟩ => ⟨S1x1024, .f32⟩
  | .hbm, ⟨9, _⟩ => ⟨S1024x512, .f32⟩
  | .hbm, ⟨10, _⟩ => ⟨S1024x1536, .f32⟩
  | .hbm, ⟨11, _⟩ => ⟨S1024x512, .f32⟩
  | .hbm, ⟨12, _⟩ => ⟨S1024x768, .f32⟩
  | .hbm, ⟨13, _⟩ => ⟨S1024x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1536, .bf16⟩
  | .local _ .vmem, ⟨6, _⟩ => ⟨S1024x1536, .bf16⟩
  | .local _ .vmem, ⟨7, _⟩ => ⟨S1024x512, .bf16⟩
  | .local _ .vmem, ⟨8, _⟩ => ⟨S1024x512, .bf16⟩
  | .local _ .vmem, ⟨9, _⟩ => ⟨S1024x768, .bf16⟩
  | .local _ .vmem, ⟨10, _⟩ => ⟨S1024x768, .bf16⟩
  | .local _ .vmem, ⟨11, _⟩ => ⟨S1024x128, .bf16⟩
  | .local _ .vmem, ⟨12, _⟩ => ⟨S1024x128, .bf16⟩
  | .local _ .vmem, ⟨13, _⟩ => ⟨S1024x512, .f32⟩
  | .local _ .vmem, ⟨14, _⟩ => ⟨S1024x1536, .f32⟩
  | .local _ .vmem, ⟨15, _⟩ => ⟨S1024x512, .f32⟩
  | .local _ .vmem, ⟨16, _⟩ => ⟨S1024x768, .f32⟩
  | .local _ .vmem, ⟨17, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DwRefIdeal.lean ====
abbrev S8192x1024 : Shape := ⟨2, ![8192, 1024]⟩
abbrev S1024 : Shape := ⟨1, ![1024]⟩
abbrev S1024x3456 : Shape := ⟨2, ![1024, 3456]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3456 : Shape := ⟨2, ![8192, 3456]⟩
abbrev S3456x1024 : Shape := ⟨2, ![3456, 1024]⟩
abbrev S1024x512 : Shape := ⟨2, ![1024, 512]⟩
abbrev S1024x1536 : Shape := ⟨2, ![1024, 1536]⟩
abbrev S1024x768 : Shape := ⟨2, ![1024, 768]⟩
abbrev S1024x128 : Shape := ⟨2, ![1024, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .f32⟩
  | .hbm, ⟨3, _⟩ => ⟨S8192x512, .bf16⟩
  | .hbm, ⟨4, _⟩ => ⟨S8192x1536, .bf16⟩
  | .hbm, ⟨5, _⟩ => ⟨S8192x512, .bf16⟩
  | .hbm, ⟨6, _⟩ => ⟨S8192x768, .bf16⟩
  | .hbm, ⟨7, _⟩ => ⟨S8192x128, .bf16⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x3456, .f32⟩
  | .hbm, ⟨25, _⟩ => ⟨S8192x512, .f32⟩
  | .hbm, ⟨26, _⟩ => ⟨S8192x1536, .f32⟩
  | .hbm, ⟨27, _⟩ => ⟨S8192x512, .f32⟩
  | .hbm, ⟨28, _⟩ => ⟨S8192x768, .f32⟩
  | .hbm, ⟨29, _⟩ => ⟨S8192x128, .f32⟩
  | .hbm, ⟨30, _⟩ => ⟨S8192x512, .f32⟩
  | .hbm, ⟨31, _⟩ => ⟨S8192x1536, .f32⟩
  | .hbm, ⟨32, _⟩ => ⟨S8192x512, .f32⟩
  | .hbm, ⟨33, _⟩ => ⟨S8192x768, .f32⟩
  | .hbm, ⟨34, _⟩ => ⟨S8192x128, .f32⟩
  | .hbm, ⟨35, _⟩ => ⟨S8192x3456, .f32⟩
  | .hbm, ⟨36, _⟩ => ⟨S3456x1024, .f32⟩
  | .hbm, ⟨37, _⟩ => ⟨S1024x3456, .f32⟩
  | .hbm, ⟨38, _⟩ => ⟨S1024x512, .f32⟩
  | .hbm, ⟨39, _⟩ => ⟨S1024x1536, .f32⟩
  | .hbm, ⟨40, _⟩ => ⟨S1024x512, .f32⟩
  | .hbm, ⟨41, _⟩ => ⟨S1024x768, .f32⟩
  | .hbm, ⟨42, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Out.lean ====
abbrev S8192x1024 : Shape := ⟨2, ![8192, 1024]⟩
abbrev S8192x256 : Shape := ⟨2, ![8192, 256]⟩
abbrev S8192x512 : Shape := ⟨2, ![8192, 512]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x256 : Shape := ⟨3, ![1, 8192, 256]⟩
abbrev S512x1024 : Shape := ⟨2, ![512, 1024]⟩
abbrev S512x256 : Shape := ⟨2, ![512, 256]⟩
abbrev S512x512 : Shape := ⟨2, ![512, 512]⟩
abbrev S1x512x256 : Shape := ⟨3, ![1, 512, 256]⟩
abbrev S512 : Shape := ⟨1, ![512]⟩
abbrev S512x1 : Shape := ⟨2, ![512, 1]⟩

abbrev nBuf : Space → Nat
  | .hbm => 51
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S8192x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1x8192x256, .f32⟩
  | .hbm, ⟨39, _⟩ => ⟨S1024x1024, .bf16⟩
  | .hbm, ⟨40, _⟩ => ⟨S1x1024, .f32⟩
  | .hbm, ⟨41, _⟩ => ⟨S1024x1024, .bf16⟩
  | .hbm, ⟨42, _⟩ => ⟨S256x1024, .bf16⟩
  | .hbm, ⟨43, _⟩ => ⟨S8192x1024, .f32⟩
  | .hbm, ⟨44, _⟩ => ⟨S8192x256, .f32⟩
  | .hbm, ⟨45, _⟩ => ⟨S8192x512, .f32⟩
  | .hbm, ⟨46, _⟩ => ⟨S8192x256, .f32⟩
  | .hbm, ⟨47, _⟩ => ⟨S1024x1024, .f32⟩
  | .hbm, ⟨48, _⟩ => ⟨S1x1024, .f32⟩
  | .hbm, ⟨49, _⟩ => ⟨S1024x1024, .f32⟩
  | .hbm, ⟨50, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1x512x256, .f32⟩
  | .local _ .vmem, ⟨11, _⟩ => ⟨S1x512x256, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S512x1024, .f32⟩
  | .local _ .vmem, ⟨19, _⟩ => ⟨S512x1024, .f32⟩
  | .local _ .vmem, ⟨20, _⟩ => ⟨S512x256, .f32⟩
  | .local _ .vmem, ⟨21, _⟩ => ⟨S512x256, .f32⟩
  | .local _ .vmem, ⟨22, _⟩ => ⟨S512x512, .f32⟩
  | .local _ .vmem, ⟨23, _⟩ => ⟨S512x512, .f32⟩
  | .local _ .vmem, ⟨24, _⟩ => ⟨S512x256, .f32⟩
  | .local _ .vmem, ⟨25, _⟩ => ⟨S512x256, .f32⟩
  | .local _ .vmem, ⟨26, _⟩ => ⟨S1024x1024, .f32⟩
  | .local _ .vmem, ⟨27, _⟩ => ⟨S1x1024, .f32⟩
  | .local _ .vmem, ⟨28, _⟩ => ⟨S1024x1024, .f32⟩
  | .local _ .vmem, ⟨29, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev main_v28_4 : Ref sig .tc := ⟨.hbm, 47, rfl⟩
abbrev main_v28_5 : Ref sig .tc := ⟨.hbm, 48, rfl⟩
abbrev main_v28_6 : Ref sig .tc := ⟨.hbm, 49, rfl⟩
abbrev main_v28_7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== OutRefIdeal.lean ====
abbrev S8192x1024 : Shape := ⟨2, ![8192, 1024]⟩
abbrev S8192x256 : Shape := ⟨2, ![8192, 256]⟩
abbrev S8192x512 : Shape := ⟨2, ![8192, 512]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S8192x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S256x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1024x256, .f32⟩
  | .hbm, ⟨54, _⟩ => ⟨S256x1024, .f32⟩
  | .hbm, ⟨55, _⟩ => ⟨S8192x1024, .f32⟩
  | .hbm, ⟨56, _⟩ => ⟨S1024x1024, .f32⟩
  | .hbm, ⟨57, _⟩ => ⟨S1024x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S1024x1024, .f32⟩
  | .hbm, ⟨86, _⟩ => ⟨S1024x1024, .f32⟩
  | .hbm, ⟨87, _⟩ => ⟨S8192x1024, .f32⟩
  | .hbm, ⟨88, _⟩ => ⟨S8192x256, .f32⟩
  | .hbm, ⟨89, _⟩ => ⟨S8192x512, .f32⟩
  | .hbm, ⟨90, _⟩ => ⟨S8192x256, .f32⟩
  | .hbm, ⟨91, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Dx.lean ====
abbrev S8192x1024 : Shape := ⟨2, ![8192, 1024]⟩
abbrev S1024 : Shape := ⟨1, ![1024]⟩
abbrev S1024x3456 : Shape := ⟨2, ![1024, 3456]⟩
abbrev S4x1536 : Shape := ⟨2, ![4, 1536]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1536 : Shape := ⟨2, ![1024, 1536]⟩
abbrev S8x1536 : Shape := ⟨2, ![8, 1536]⟩
abbrev S512x1024 : Shape := ⟨2, ![512, 1024]⟩
abbrev S512x512 : Shape := ⟨2, ![512, 512]⟩
abbrev S512x768 : Shape := ⟨2, ![512, 768]⟩
abbrev S512x128 : Shape := ⟨2, ![512, 128]⟩
abbrev S512x1536 : Shape := ⟨2, ![512, 1536]⟩
abbrev S512x1408 : Shape := ⟨2, ![512, 1408]⟩
abbrev S1024x512 : Shape := ⟨2, ![1024, 512]⟩
abbrev S1024x1408 : Shape := ⟨2, ![1024, 1408]⟩
abbrev S528x1536 : Shape := ⟨2, ![528, 1536]⟩
abbrev S1x1536 : Shape := ⟨2, ![1, 1536]⟩
abbrev S520x1536 : Shape := ⟨2, ![520, 1536]⟩
abbrev S520x128 : Shape := ⟨2, ![520, 128]⟩
abbrev S520 : Shape := ⟨1, ![520]⟩
abbrev S520x1 : Shape := ⟨2, ![520, 1]⟩
abbrev S520x1408 : Shape := ⟨2, ![520, 1408]⟩
abbrev S520x1280 : Shape := ⟨2, ![520, 1280]⟩
abbrev S520x1152 : Shape := ⟨2, ![520, 1152]⟩
abbrev S520x256 : Shape := ⟨2, ![520, 256]⟩
abbrev S520x1024 : Shape := ⟨2, ![520, 1024]⟩
abbrev S520x384 : Shape := ⟨2, ![520, 384]⟩
abbrev S520x896 : Shape := ⟨2, ![520, 896]⟩
abbrev S520x512 : Shape := ⟨2, ![520, 512]⟩
abbrev S520x768 : Shape := ⟨2, ![520, 768]⟩
abbrev S520x640 : Shape := ⟨2, ![520, 640]⟩
abbrev S1536 : Shape := ⟨1, ![1536]⟩
abbrev S512 : Shape := ⟨1, ![512]⟩
abbrev S512x1 : Shape := ⟨2, ![512, 1]⟩

abbrev nBuf : Space → Nat
  | .hbm => 37
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .f32⟩
  | .hbm, ⟨3, _⟩ => ⟨S4x1536, .f32⟩
  | .hbm, ⟨4, _⟩ => ⟨S8192x512, .bf16⟩
  | .hbm, ⟨5, _⟩ => ⟨S8192x1536, .f32⟩
  | .hbm, ⟨6, _⟩ => ⟨S8192x512, .bf16⟩
  | .hbm, ⟨7, _⟩ => ⟨S8192x768, .bf16⟩
  | .hbm, ⟨8, _⟩ => ⟨S8192x128, .bf16⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1536, .f32⟩
  | .hbm, ⟨27, _⟩ => ⟨S8192x1536, .f32⟩
  | .hbm, ⟨28, _⟩ => ⟨S1x1024, .f32⟩
  | .hbm, ⟨29, _⟩ => ⟨S1024x3456, .bf16⟩
  | .hbm, ⟨30, _⟩ => ⟨S_, .i32⟩
  | .hbm, ⟨31, _⟩ => ⟨S_, .f32⟩
  | .hbm, ⟨32, _⟩ => ⟨S8x1536, .f32⟩
  | .hbm, ⟨33, _⟩ => ⟨S8192x1024, .f32⟩
  | .hbm, ⟨34, _⟩ => ⟨S1x1024, .f32⟩
  | .hbm, ⟨35, _⟩ => ⟨S8192x1536, .bf16⟩
  | .hbm, ⟨36, _⟩ => ⟨S8x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S8x1536, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x768, .bf16⟩
  | .local _ .vmem, ⟨10, _⟩ => ⟨S512x768, .bf16⟩
  | .local _ .vmem, ⟨11, _⟩ => ⟨S512x128, .bf16⟩
  | .local _ .vmem, ⟨12, _⟩ => ⟨S512x128, .bf16⟩
  | .local _ .vmem, ⟨13, _⟩ => ⟨S512x1536, .f32⟩
  | .local _ .vmem, ⟨14, _⟩ => ⟨S512x1536, .f32⟩
  | .local _ .vmem, ⟨15, _⟩ => ⟨S8x1536, .f32⟩
  | .local _ .vmem, ⟨16, _⟩ => ⟨S8x1536, .f32⟩
  | .local _ .vmem, ⟨17, _⟩ => ⟨S8x1536, .f32⟩
  | .local _ .vmem, ⟨18, _⟩ => ⟨S8x1536, .f32⟩
  | .local _ .vmem, ⟨19, _⟩ => ⟨S512x1536, .f32⟩
  | .local _ .vmem, ⟨20, _⟩ => ⟨S512x1536, .f32⟩
  | .local _ .vmem, ⟨21, _⟩ => ⟨S8x1536, .f32⟩
  | .local _ .vmem, ⟨22, _⟩ => ⟨S8x1536, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S512x1536, .bf16⟩
  | .local _ .vmem, ⟨29, _⟩ => ⟨S512x1536, .bf16⟩
  | .local _ .vmem, ⟨30, _⟩ => ⟨S8x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== DxRefIdeal.lean ====
abbrev S8192x1024 : Shape := ⟨2, ![8192, 1024]⟩
abbrev S1024 : Shape := ⟨1, ![1024]⟩
abbrev S1024x3456 : Shape := ⟨2, ![1024, 3456]⟩
abbrev S4x1536 : Shape := ⟨2, ![4, 1536]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x3456 : Shape := ⟨3, ![2, 4096, 3456]⟩
abbrev S2x4096x512 : Shape := ⟨3, ![2, 4096, 512]⟩
abbrev S2x4096x1536 : Shape := ⟨3, ![2, 4096, 1536]⟩
abbrev S2x4096x768 : Shape := ⟨3, ![2, 4096, 768]⟩
abbrev S2x4096x128 : Shape := ⟨3, ![2, 4096, 128]⟩
abbrev S2x3x1536 : Shape := ⟨3, ![2, 3, 1536]⟩
abbrev S2x4099x1536 : Shape := ⟨3, ![2, 4099, 1536]⟩
abbrev S1x1536 : Shape := ⟨2, ![1, 1536]⟩
abbrev S1536 : Shape := ⟨1, ![1536]⟩
abbrev S1x1x1536 : Shape := ⟨3, ![1, 1, 1536]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩
abbrev S1x1024 : Shape := ⟨2, ![1, 1024]⟩
abbrev S8x1536 : Shape := ⟨2, ![8, 1536]⟩

abbrev nBuf : Space → Nat
  | .hbm => 271
  | .vmem => 0
  | .smem => 0
  | _ => 0

abbrev hbmTy0_0 (i : Nat) : BufTy := match i % 128 with
  | 0 => ⟨S8192x1024, .f32⟩
  | 1 => ⟨S1024, .f32⟩
  | 2 => ⟨S1024x3456, .f32⟩
  | 3 => ⟨S4x1536, .f32⟩
  | 4 => ⟨S8192x512, .bf16⟩
  | 5 => ⟨S8192x1536, .f32⟩
  | 6 => ⟨S8192x512, .bf16⟩
  | 7 => ⟨S8192x768, .bf16⟩
  | 8 => ⟨S8192x128, .bf16⟩
  | 9 => ⟨S8192x1024, .f32⟩
  | 10 => ⟨S2x4096x1024, .f32⟩
  | 11 => ⟨S2x4096x1024, .f32⟩
  | 12 => ⟨S_, .f32⟩
  | 13 => ⟨S2x4096, .f32⟩
  | 14 => ⟨S2x4096x1, .f32⟩
  | 15 => ⟨S_, .f32⟩
  | 16 => ⟨S2x4096x1, .f32⟩
  | 17 => ⟨S2x4096x1, .f32⟩
  | 18 => ⟨S_, .f32⟩
  | 19 => ⟨S2x4096x1, .f32⟩
  | 20 => ⟨S2x4096x1, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1024, .f32⟩
  | 27 => ⟨S2x4096x1024, .f32⟩
  | 28 => ⟨S1x1x1024, .f32⟩
  | 29 => ⟨S2x4096x1024, .f32⟩
  | 30 => ⟨S2x4096x1024, .f32⟩
  | 31 => ⟨S2x4096x3456, .f32⟩
  | 32 => ⟨S2x4096x512, .f32⟩
  | 33 => ⟨S2x4096x1536, .f32⟩
  | 34 => ⟨S2x4096x512, .f32⟩
  | 35 => ⟨S2x4096x768, .f32⟩
  | 36 => ⟨S2x4096x128, .f32⟩
  | 37 => ⟨S_, .f32⟩
  | 38 => ⟨S2x3x1536, .f32⟩
  | 39 => ⟨S2x4099x1536, .f32⟩
  | 40 => ⟨S_, .f32⟩
  | 41 => ⟨S2x3x1536, .f32⟩
  | 42 => ⟨S1x1536, .f32⟩
  | 43 => ⟨S1536, .f32⟩
  | 44 => ⟨S2x4096x1536, .f32⟩
  | 45 => ⟨S1x1x1536, .f32⟩
  | 46 => ⟨S2x4096x1536, .f32⟩
  | 47 => ⟨S2x4096x1536, .f32⟩
  | 48 => ⟨S_, .f32⟩
  | 49 => ⟨S2x4096x1536, .f32⟩
  | 50 => ⟨S2x4096x1536, .f32⟩
  | 51 => ⟨S1x1536, .f32⟩
  | 52 => ⟨S1536, .f32⟩
  | 53 => ⟨S2x4096x1536, .f32⟩
  | 54 => ⟨S1x1x1536, .f32⟩
  | 55 => ⟨S2x4096x1536, .f32⟩
  | 56 => ⟨S2x4096x1536, .f32⟩
  | 57 => ⟨S2x4096x1536, .f32⟩
  | 58 => ⟨S1x1536, .f32⟩
  | 59 => ⟨S1536, .f32⟩
  | 60 => ⟨S2x4096x1536, .f32⟩
  | 61 => ⟨S1x1x1536, .f32⟩
  | 62 => ⟨S2x4096x1536, .f32⟩
  | 63 => ⟨S2x4096x1536, .f32⟩
  | 64 => ⟨S2x4096x1536, .f32⟩
  | 65 => ⟨S1x1536, .f32⟩
  | 66 => ⟨S1536, .f32⟩
  | 67 => ⟨S2x4096x1536, .f32⟩
  | 68 => ⟨S1x1x1536, .f32⟩
  | 69 => ⟨S2x4096x1536, .f32⟩
  | 70 => ⟨S2x4096x1536, .f32⟩
  | 71 => ⟨S2x4096x1536, .f32⟩
  | 72 => ⟨S2x4096x1536, .f32⟩
  | 73 => ⟨S2x4096x1536, .f32⟩
  | 74 => ⟨S_, .f32⟩
  | 75 => ⟨S2x4096x1536, .f32⟩
  | 76 => ⟨S2x4096x1536, .f32⟩
  | 77 => ⟨S_, .f32⟩
  | 78 => ⟨S2x4096x1536, .f32⟩
  | 79 => ⟨S2x4096x1536, .f32⟩
  | 80 => ⟨S_, .f32⟩
  | 81 => ⟨S2x4096x1536, .f32⟩
  | 82 => ⟨S2x4096x1536, .f32⟩
  | 83 => ⟨S2x4096x1536, .f32⟩
  | 84 => ⟨S2x4096x1536, .f32⟩
  | 85 => ⟨S2x4096x512, .f32⟩
  | 86 => ⟨S2x4096x512, .f32⟩
  | 87 => ⟨S2x4096x512, .f32⟩
  | 88 => ⟨S2x4096x4x128, .f32⟩
  | 89 => ⟨S2x4096x4x128, .f32⟩
  | 90 => ⟨S_, .f32⟩
  | 91 => ⟨S2x4096x4, .f32⟩
  | 92 => ⟨S2x4096x4x1, .f32⟩
  | 93 => ⟨S_, .f32⟩
  | 94 => ⟨S2x4096x4x1, .f32⟩
  | 95 => ⟨S2x4096x4x1, .f32⟩
  | 96 => ⟨S2x4096x4x1, .f32⟩
  | 97 => ⟨S2x4096x4x1, .f32⟩
  | 98 => ⟨S_, .f32⟩
  | 99 => ⟨S2x4096x4x1, .f32⟩
  | 100 => ⟨S2x4096x4x1, .f32⟩
  | 101 => ⟨S2x4096x4x128, .f32⟩
  | 102 => ⟨S2x4096x4x128, .f32⟩
  | 103 => ⟨S_, .f32⟩
  | 104 => ⟨S2x4096x4x128, .f32⟩
  | 105 => ⟨S2x4096x4x128, .f32⟩
  | 106 => ⟨S2x4096x512, .f32⟩
  | 107 => ⟨S2x4096x4x128, .f32⟩
  | 108 => ⟨S2x4096x4x128, .f32⟩
  | 109 => ⟨S_, .f32⟩
  | 110 => ⟨S2x4096x4, .f32⟩
  | 111 => ⟨S2x4096x4x1, .f32⟩
  | 112 => ⟨S_, .f32⟩
  | 113 => ⟨S2x4096x4x1, .f32⟩
  | 114 => ⟨S2x4096x4x1, .f32⟩
  | 115 => ⟨S2x4096x4x1, .f32⟩
  | 116 => ⟨S2x4096x4x1, .f32⟩
  | 117 => ⟨S_, .f32⟩
  | 118 => ⟨S2x4096x4x1, .f32⟩
  | 119 => ⟨S2x4096x4x1, .f32⟩
  | 120 => ⟨S2x4096x4x128, .f32⟩
  | 121 => ⟨S2x4096x4x128, .f32⟩
  | 122 => ⟨S2x4096x512, .f32⟩
  | 123 => ⟨S2x4096x1536, .f32⟩
  | 124 => ⟨S2x4096x1536, .f32⟩
  | 125 => ⟨S2x4096x512, .f32⟩
  | 126 => ⟨S2x4096x512, .f32⟩
  | 127 => ⟨S2x4096x512, .f32⟩
  | _ => ⟨S8192x1024, .f32⟩

abbrev hbmTy0_1 (i : Nat) : BufTy := match i % 128 with
  | 0 => ⟨S2x4096x4x128, .f32⟩
  | 1 => ⟨S2x4096x4x128, .f32⟩
  | 2 => ⟨S_, .f32⟩
  | 3 => ⟨S2x4096x4, .f32⟩
  | 4 => ⟨S2x4096x4x1, .f32⟩
  | 5 => ⟨S2x4096x4x128, .f32⟩
  | 6 => ⟨S2x4096x4x128, .f32⟩
  | 7 => ⟨S2x4096x4x1, .f32⟩
  | 8 => ⟨S_, .f32⟩
  | 9 => ⟨S2x4096x4, .f32⟩
  | 10 => ⟨S2x4096x4x128, .f32⟩
  | 11 => ⟨S2x4096x4x128, .f32⟩
  | 12 => ⟨S2x4096x4x128, .f32⟩
  | 13 => ⟨S2x4096x4x128, .f32⟩
  | 14 => ⟨S2x4096x4x128, .f32⟩
  | 15 => ⟨S2x4096x512, .f32⟩
  | 16 => ⟨S2x4096x4x128, .f32⟩
  | 17 => ⟨S_, .f32⟩
  | 18 => ⟨S2x4096x4x128, .f32⟩
  | 19 => ⟨S2x4096x4x128, .f32⟩
  | 20 => ⟨S2x4096x4x128, .f32⟩
  | 21 => ⟨S_, .f32⟩
  | 22 => ⟨S2x4096x4, .f32⟩
  | 23 => ⟨S2x4096x4x1, .f32⟩
  | 24 => ⟨S2x4096x4x128, .f32⟩
  | 25 => ⟨S2x4096x4x128, .f32⟩
  | 26 => ⟨S2x4096x4x1, .f32⟩
  | 27 => ⟨S_, .f32⟩
  | 28 => ⟨S2x4096x4, .f32⟩
  | 29 => ⟨S2x4096x4x128, .f32⟩
  | 30 => ⟨S2x4096x4x128, .f32⟩
  | 31 => ⟨S2x4096x4x128, .f32⟩
  | 32 => ⟨S2x4096x4x128, .f32⟩
  | 33 => ⟨S2x4096x4x128, .f32⟩
  | 34 => ⟨S2x4096x512, .f32⟩
  | 35 => ⟨S2x4096x1536, .f32⟩
  | 36 => ⟨S2x4096x1536, .f32⟩
  | 37 => ⟨S2x4096x1536, .f32⟩
  | 38 => ⟨S2x4096x1536, .f32⟩
  | 39 => ⟨S2x4096x1536, .f32⟩
  | 40 => ⟨S2x4096x1536, .f32⟩
  | 41 => ⟨S2x4096x1536, .f32⟩
  | 42 => ⟨S2x4096x1536, .f32⟩
  | 43 => ⟨S_, .f32⟩
  | 44 => ⟨S1536, .f32⟩
  | 45 => ⟨S1x1x1536, .f32⟩
  | 46 => ⟨S_, .f32⟩
  | 47 => ⟨S1536, .f32⟩
  | 48 => ⟨S_, .f32⟩
  | 49 => ⟨S2x4099x1536, .f32⟩
  | 50 => ⟨S1x1536, .f32⟩
  | 51 => ⟨S_, .f32⟩
  | 52 => ⟨S4x1536, .f32⟩
  | 53 => ⟨S2x4096x1536, .f32⟩
  | 54 => ⟨S2x4096x1536, .f32⟩
  | 55 => ⟨S2x4096x1536, .f32⟩
  | 56 => ⟨S_, .f32⟩
  | 57 => ⟨S1536, .f32⟩
  | 58 => ⟨S1x1x1536, .f32⟩
  | 59 => ⟨S_, .f32⟩
  | 60 => ⟨S1536, .f32⟩
  | 61 => ⟨S_, .f32⟩
  | 62 => ⟨S2x4099x1536, .f32⟩
  | 63 => ⟨S2x4099x1536, .f32⟩
  | 64 => ⟨S1x1536, .f32⟩
  | 65 => ⟨S_, .f32⟩
  | 66 => ⟨S4x1536, .f32⟩
  | 67 => ⟨S4x1536, .f32⟩
  | 68 => ⟨S2x4096x1536, .f32⟩
  | 69 => ⟨S2x4096x1536, .f32⟩
  | 70 => ⟨S2x4096x1536, .f32⟩
  | 71 => ⟨S_, .f32⟩
  | 72 => ⟨S1536, .f32⟩
  | 73 => ⟨S1x1x1536, .f32⟩
  | 74 => ⟨S_, .f32⟩
  | 75 => ⟨S1536, .f32⟩
  | 76 => ⟨S_, .f32⟩
  | 77 => ⟨S2x4099x1536, .f32⟩
  | 78 => ⟨S2x4099x1536, .f32⟩
  | 79 => ⟨S1x1536, .f32⟩
  | 80 => ⟨S_, .f32⟩
  | 81 => ⟨S4x1536, .f32⟩
  | 82 => ⟨S4x1536, .f32⟩
  | 83 => ⟨S2x4096x1536, .f32⟩
  | 84 => ⟨S2x4096x1536, .f32⟩
  | 85 => ⟨S2x4096x1536, .f32⟩
  | 86 => ⟨S_, .f32⟩
  | 87 => ⟨S1536, .f32⟩
  | 88 => ⟨S1x1x1536, .f32⟩
  | 89 => ⟨S_, .f32⟩
  | 90 => ⟨S1536, .f32⟩
  | 91 => ⟨S_, .f32⟩
  | 92 => ⟨S2x4099x1536, .f32⟩
  | 93 => ⟨S2x4099x1536, .f32⟩
  | 94 => ⟨S1x1536, .f32⟩
  | 95 => ⟨S_, .f32⟩
  | 96 => ⟨S4x1536, .f32⟩
  | 97 => ⟨S4x1536, .f32⟩
  | 98 => ⟨S2x3x1536, .f32⟩
  | 99 => ⟨S2x4096x1536, .f32⟩
  | 100 => ⟨S8192x512, .f32⟩
  | 101 => ⟨S2x4096x512, .f32⟩
  | 102 => ⟨S8192x512, .f32⟩
  | 103 => ⟨S2x4096x512, .f32⟩
  | 104 => ⟨S8192x768, .f32⟩
  | 105 => ⟨S2x4096x768, .f32⟩
  | 106 => ⟨S8192x128, .f32⟩
  | 107 => ⟨S2x4096x128, .f32⟩
  | 108 => ⟨S2x4096x3456, .f32⟩
  | 109 => ⟨S2x4096x1024, .f32⟩
  | 110 => ⟨S2x4096x1024, .f32⟩
  | 111 => ⟨S_, .f32⟩
  | 112 => ⟨S1024, .f32⟩
  | 113 => ⟨S1x1x1024, .f32⟩
  | 114 => ⟨S2x4096x1024, .f32⟩
  | 115 => ⟨S2x4096x1024, .f32⟩
  | 116 => ⟨S_, .f32⟩
  | 117 => ⟨S1024, .f32⟩
  | 118 => ⟨S2x4096x1024, .f32⟩
  | 119 => ⟨S_, .f32⟩
  | 120 => ⟨S2x4096, .f32⟩
  | 121 => ⟨S2x4096x1, .f32⟩
  | 122 => ⟨S2x4096x1024, .f32⟩
  | 123 => ⟨S2x4096x1024, .f32⟩
  | 124 => ⟨S2x4096x1, .f32⟩
  | 125 => ⟨S_, .f32⟩
  | 126 => ⟨S2x4096x1, .f32⟩
  | 127 => ⟨S2x4096x1, .f32⟩
  | _ => ⟨S8192x1024, .f32⟩

abbrev hbmTy0_2 (i : Nat) : BufTy := match i % 128 with
  | 0 => ⟨S_, .f32⟩
  | 1 => ⟨S2x4096, .f32⟩
  | 2 => ⟨S2x4096x1024, .f32⟩
  | 3 => ⟨S2x4096x1024, .f32⟩
  | 4 => ⟨S2x4096x1024, .f32⟩
  | 5 => ⟨S2x4096x1024, .f32⟩
  | 6 => ⟨S2x4096x1024, .f32⟩
  | 7 => ⟨S8192x1024, .f32⟩
  | 8 => ⟨S8192x1024, .f32⟩
  | 9 => ⟨S1x1024, .f32⟩
  | 10 => ⟨S8192x1536, .f32⟩
  | 11 => ⟨S8192x1536, .bf16⟩
  | 12 => ⟨S_, .i32⟩
  | 13 => ⟨S_, .f32⟩
  | 14 => ⟨S8x1536, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_v55_2 : Ref sig .tc := ⟨.hbm, 79, rfl⟩
abbrev main_call0_cst_1 : Ref sig .tc := ⟨.hbm, 80, rfl⟩
abbrev main_call0_v6 : Ref sig .tc := ⟨.hbm, 81, rfl⟩
abbrev main_call0_v7 : Ref sig .tc := ⟨.hbm, 82, rfl⟩
abbrev main_v55_1 : Ref sig .tc := ⟨.hbm, 83, rfl⟩
abbrev main_v55_0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_10 : Ref sig .tc := ⟨.hbm, 109, rfl⟩
abbrev main_v76 : Ref sig .tc := ⟨.hbm, 110, rfl⟩
abbrev main_v77 : Ref sig .tc := ⟨.hbm, 111, rfl⟩
abbrev main_cst_11 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_12 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_13 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_14 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_15 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_16 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_17 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_call1_v0 : Ref sig .tc := ⟨.hbm, 164, rfl⟩
abbrev main_call1_v1 : Ref sig .tc := ⟨.hbm, 165, rfl⟩
abbrev main_call1_v2 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_18 : Ref sig .tc := ⟨.hbm, 171, rfl⟩
abbrev main_v127 : Ref sig .tc := ⟨.hbm, 172, rfl⟩
abbrev main_v128 : Ref sig .tc := ⟨.hbm, 173, rfl⟩
abbrev main_cst_19 : Ref sig .tc := ⟨.hbm, 174, rfl⟩
abbrev main_v129 : Ref sig .tc := ⟨.hbm, 175, rfl⟩
abbrev main_cst_20 : Ref sig .tc := ⟨.hbm, 176, rfl⟩
abbrev main_v130 : Ref sig .tc := ⟨.hbm, 177, rfl⟩
abbrev main_v131 : Ref sig .tc := ⟨.hbm, 178, rfl⟩
abbrev main_cst_21 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_22 : Ref sig .tc := ⟨.hbm, 184, rfl⟩
abbrev main_v136 : Ref sig .tc := ⟨.hbm, 185, rfl⟩
abbrev main_v137 : Ref sig .tc := ⟨.hbm, 186, rfl⟩
abbrev main_cst_23 : Ref sig .tc := ⟨.hbm, 187, rfl⟩
abbrev main_v138 : Ref sig .tc := ⟨.hbm, 188, rfl⟩
abbrev main_cst_24 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_25 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_cst_26 : Ref sig .tc := ⟨.hbm, 199, rfl⟩
abbrev main_v147 : Ref sig .tc := ⟨.hbm, 200, rfl⟩
abbrev main_v148 : Ref sig .tc := ⟨.hbm, 201, rfl⟩
abbrev main_cst_27 : Ref sig .tc := ⟨.hbm, 202, rfl⟩
abbrev main_v149 : Ref sig .tc := ⟨.hbm, 203, rfl⟩
abbrev main_cst_28 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_29 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_cst_30 : Ref sig .tc := ⟨.hbm, 214, rfl⟩
abbrev main_v158 : Ref sig .tc := ⟨.hbm, 215, rfl⟩
abbrev main_v159 : Ref sig .tc := ⟨.hbm, 216, rfl⟩
abbrev main_cst_31 : Ref sig .tc := ⟨.hbm, 217, rfl⟩
abbrev main_v160 : Ref sig .tc := ⟨.hbm, 218, rfl⟩
abbrev main_cst_32 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_33 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_34 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst_35 : Ref sig .tc := ⟨.hbm, 244, rfl⟩
abbrev main_v183 : Ref sig .tc := ⟨.hbm, 245, rfl⟩
abbrev main_v184 : Ref sig .tc := ⟨.hbm, 246, rfl⟩
abbrev main_cst_36 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_cst_37 : Ref sig .tc := ⟨.hbm, 253, rfl⟩
abbrev main_v190 : Ref sig .tc := ⟨.hbm, 254, rfl⟩
abbrev main_v191 : Ref sig .tc := ⟨.hbm, 255, rfl⟩
abbrev main_cst_38 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_c : Ref sig .tc := ⟨.hbm, 268, rfl⟩
abbrev main_call2_v0 : Ref sig .tc := ⟨.hbm, 269, rfl⟩
abbrev main_v203 : Ref sig .tc := ⟨.hbm, 270, rfl⟩

abbrev nD : Nat := 1
abbrev τ : Topo := Topo.v7x

variable {F : FTy → Type} [FloatOps F]
-- ==== Proj.lean ====
abbrev S8192x1024 : Shape := ⟨2, ![8192, 1024]⟩
abbrev S1024 : Shape := ⟨1, ![1024]⟩
abbrev S1024x3456 : Shape := ⟨2, ![1024, 3456]⟩
abbrev S4x1536 : Shape := ⟨2, ![4, 1536]⟩
abbrev S1x1024 : Shape := ⟨2, ![1, 1024]⟩
abbrev S_ : Shape := ⟨0, ![]⟩
abbrev S8x1536 : Shape := ⟨2, ![8, 1536]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S512x1024 : Shape := ⟨2, ![512, 1024]⟩
abbrev S512x512 : Shape := ⟨2, ![512, 512]⟩
abbrev S512x1536 : Shape := ⟨2, ![512, 1536]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1024x1536 : Shape := ⟨2, ![1024, 1536]⟩
abbrev S520x1536 : Shape := ⟨2, ![520, 1536]⟩
abbrev S1x1536 : Shape := ⟨2, ![1, 1536]⟩
abbrev S1024x512 : Shape := ⟨2, ![1024, 512]⟩
abbrev S1024x1408 : Shape := ⟨2, ![1024, 1408]⟩
abbrev S512x1408 : Shape := ⟨2, ![512, 1408]⟩

abbrev nBuf : Space → Nat
  | .hbm => 15
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .f32⟩
  | .hbm, ⟨3, _⟩ => ⟨S4x1536, .f32⟩
  | .hbm, ⟨4, _⟩ => ⟨S1x1024, .f32⟩
  | .hbm, ⟨5, _⟩ => ⟨S1024x3456, .bf16⟩
  | .hbm, ⟨6, _⟩ => ⟨S_, .i32⟩
  | .hbm, ⟨7, _⟩ => ⟨S_, .f32⟩
  | .hbm, ⟨8, _⟩ => ⟨S8x1536, .f32⟩
  | .hbm, ⟨9, _⟩ => ⟨S8192x512, .f32⟩
  | .hbm, ⟨10, _⟩ => ⟨S8192x1536, .f32⟩
  | .hbm, ⟨11, _⟩ => ⟨S8192x512, .f32⟩
  | .hbm, ⟨12, _⟩ => ⟨S8192x768, .f32⟩
  | .hbm, ⟨13, _⟩ => ⟨S8192x128, .f32⟩
  | .hbm, ⟨14, _⟩ => ⟨S8192x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S8x1536, .f32⟩
  | .local _ .vmem, ⟨5, _⟩ => ⟨S512x512, .f32⟩
  | .local _ .vmem, ⟨6, _⟩ => ⟨S512x512, .f32⟩
  | .local _ .vmem, ⟨7, _⟩ => ⟨S512x1536, .f32⟩
  | .local _ .vmem, ⟨8, _⟩ => ⟨S512x1536, .f32⟩
  | .local _ .vmem, ⟨9, _⟩ => ⟨S512x512, .f32⟩
  | .local _ .vmem, ⟨10, _⟩ => ⟨S512x512, .f32⟩
  | .local _ .vmem, ⟨11, _⟩ => ⟨S512x768, .f32⟩
  | .local _ .vmem, ⟨12, _⟩ => ⟨S512x768, .f32⟩
  | .local _ .vmem, ⟨13, _⟩ => ⟨S512x128, .f32⟩
  | .local _ .vmem, ⟨14, _⟩ => ⟨S512x128, .f32⟩
  | .local _ .vmem, ⟨15, _⟩ => ⟨S512x1536, .f32⟩
  | .local _ .vmem, ⟨16, _⟩ => ⟨S512x1536, .f32⟩
  | .local _ .vmem, ⟨17, _⟩ => ⟨S8x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S8192x1024 : Shape := ⟨2, ![8192, 1024]⟩
abbrev S1024 : Shape := ⟨1, ![1024]⟩
abbrev S1024x3456 : Shape := ⟨2, ![1024, 3456]⟩
abbrev S4x1536 : Shape := ⟨2, ![4, 1536]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x3456 : Shape := ⟨3, ![2, 4096, 3456]⟩
abbrev S2x4096x512 : Shape := ⟨3, ![2, 4096, 512]⟩
abbrev S2x4096x1536 : Shape := ⟨3, ![2, 4096, 1536]⟩
abbrev S2x4096x768 : Shape := ⟨3, ![2, 4096, 768]⟩
abbrev S2x4096x128 : Shape := ⟨3, ![2, 4096, 128]⟩
abbrev S8192x512 : Shape := ⟨2, ![8192, 512]⟩
abbrev S8192x1536 : Shape := ⟨2, ![8192, 1536]⟩
abbrev S8192x768 : Shape := ⟨2, ![8192, 768]⟩
abbrev S8192x128 : Shape := ⟨2, ![8192, 128]⟩
abbrev S2x3x1536 : Shape := ⟨3, ![2, 3, 1536]⟩
abbrev S2x4099x1536 : Shape := ⟨3, ![2, 4099, 1536]⟩
abbrev S1x1536 : Shape := ⟨2, ![1, 1536]⟩
abbrev S1536 : Shape := ⟨1, ![1536]⟩
abbrev S1x1x1536 : Shape := ⟨3, ![1, 1, 1536]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3456, .f32⟩
  | .hbm, ⟨3, _⟩ => ⟨S4x1536, .f32⟩
  | .hbm, ⟨4, _⟩ => ⟨S2x4096x1024, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S2x4096x3456, .f32⟩
  | .hbm, ⟨22, _⟩ => ⟨S2x4096x512, .f32⟩
  | .hbm, ⟨23, _⟩ => ⟨S2x4096x1536, .f32⟩
  | .hbm, ⟨24, _⟩ => ⟨S2x4096x512, .f32⟩
  | .hbm, ⟨25, _⟩ => ⟨S2x4096x768, .f32⟩
  | .hbm, ⟨26, _⟩ => ⟨S2x4096x128, .f32⟩
  | .hbm, ⟨27, _⟩ => ⟨S8192x512, .f32⟩
  | .hbm, ⟨28, _⟩ => ⟨S8192x1536, .f32⟩
  | .hbm, ⟨29, _⟩ => ⟨S8192x512, .f32⟩
  | .hbm, ⟨30, _⟩ => ⟨S8192x768, .f32⟩
  | .hbm, ⟨31, _⟩ => ⟨S8192x128, .f32⟩
  | .hbm, ⟨32, _⟩ => ⟨S_, .f32⟩
  | .hbm, ⟨33, _⟩ => ⟨S2x3x1536, .f32⟩
  | .hbm, ⟨34, _⟩ => ⟨S2x4099x1536, .f32⟩
  | .hbm, ⟨35, _⟩ => ⟨S1x1536, .f32⟩
  | .hbm, ⟨36, _⟩ => ⟨S1536, .f32⟩
  | .hbm, ⟨37, _⟩ => ⟨S2x4096x1536, .f32⟩
  | .hbm, ⟨38, _⟩ => ⟨S1x1x1536, .f32⟩
  | .hbm, ⟨39, _⟩ => ⟨S2x4096x1536, .f32⟩
  | .hbm, ⟨40, _⟩ => ⟨S2x4096x1536, .f32⟩
  | .hbm, ⟨41, _⟩ => ⟨S_, .f32⟩
  | .hbm, ⟨42, _⟩ => ⟨S2x4096x1536, .f32⟩
  | .hbm, ⟨43, _⟩ => ⟨S2x4096x1536, .f32⟩
  | .hbm, ⟨44, _⟩ => ⟨S1x1536, .f32⟩
  | .hbm, ⟨45, _⟩ => ⟨S1536, .f32⟩
  | .hbm, ⟨46, _⟩ => ⟨S2x4096x1536, .f32⟩
  | .hbm, ⟨47, _⟩ => ⟨S1x1x1536, .f32⟩
  | .hbm, ⟨48, _⟩ => ⟨S2x4096x1536, .f32⟩
  | .hbm, ⟨49, _⟩ => ⟨S2x4096x1536, .f32⟩
  | .hbm, ⟨50, _⟩ => ⟨S2x4096x1536, .f32⟩
  | .hbm, ⟨51, _⟩ => ⟨S1x1536, .f32⟩
  | .hbm, ⟨52, _⟩ => ⟨S1536, .f32⟩
  | .hbm, ⟨53, _⟩ => ⟨S2x4096x1536, .f32⟩
  | .hbm, ⟨54, _⟩ => ⟨S1x1x1536, .f32⟩
  | .hbm, ⟨55, _⟩ => ⟨S2x4096x1536, .f32⟩
  | .hbm, ⟨56, _⟩ => ⟨S2x4096x1536, .f32⟩
  | .hbm, ⟨57, _⟩ => ⟨S2x4096x1536, .f32⟩
  | .hbm, ⟨58, _⟩ => ⟨S1x1536, .f32⟩
  | .hbm, ⟨59, _⟩ => ⟨S1536, .f32⟩
  | .hbm, ⟨60, _⟩ => ⟨S2x4096x1536, .f32⟩
  | .hbm, ⟨61, _⟩ => ⟨S1x1x1536, .f32⟩
  | .hbm, ⟨62, _⟩ => ⟨S2x4096x1536, .f32⟩
  | .hbm, ⟨63, _⟩ => ⟨S2x4096x1536, .f32⟩
  | .hbm, ⟨64, _⟩ => ⟨S2x4096x1536, .f32⟩
  | .hbm, ⟨65, _⟩ => ⟨S2x4096x1536, .f32⟩
  | .hbm, ⟨66, _⟩ => ⟨S2x4096x1536, .f32⟩
  | .hbm, ⟨67, _⟩ => ⟨S_, .f32⟩
  | .hbm, ⟨68, _⟩ => ⟨S2x4096x1536, .f32⟩
  | .hbm, ⟨69, _⟩ => ⟨S2x4096x1536, .f32⟩
  | .hbm, ⟨70, _⟩ => ⟨S_, .f32⟩
  | .hbm, ⟨71, _⟩ => ⟨S2x4096x1536, .f32⟩
  | .hbm, ⟨72, _⟩ => ⟨S2x4096x1536, .f32⟩
  | .hbm, ⟨73, _⟩ => ⟨S2x4096x1536, .f32⟩
  | .hbm, ⟨74, _⟩ => ⟨S2x4096x512, .f32⟩
  | .hbm, ⟨75, _⟩ => ⟨S2x4096x512, .f32⟩
  | .hbm, ⟨76, _⟩ => ⟨S2x4096x512, .f32⟩
  | .hbm, ⟨77, _⟩ => ⟨S2x4096x4x128, .f32⟩
  | .hbm, ⟨78, _⟩ => ⟨S2x4096x4x128, .f32⟩
  | .hbm, ⟨79, _⟩ => ⟨S_, .f32⟩
  | .hbm, ⟨80, _⟩ => ⟨S2x4096x4, .f32⟩
  | .hbm, ⟨81, _⟩ => ⟨S2x4096x4x1, .f32⟩
  | .hbm, ⟨82, _⟩ => ⟨S_, .f32⟩
  | .hbm, ⟨83, _⟩ => ⟨S2x4096x4x1, .f32⟩
  | .hbm, ⟨84, _⟩ => ⟨S2x4096x4x1, .f32⟩
  | .hbm, ⟨85, _⟩ => ⟨S2x4096x4x1, .f32⟩
  | .hbm, ⟨86, _⟩ => ⟨S2x4096x4x128, .f32⟩
  | .hbm, ⟨87, _⟩ => ⟨S2x4096x4x128, .f32⟩
  | .hbm, ⟨88, _⟩ => ⟨S_, .f32⟩
  | .hbm, ⟨89, _⟩ => ⟨S2x4096x4x128, .f32⟩
  | .hbm, ⟨90, _⟩ => ⟨S2x4096x4x128, .f32⟩
  | .hbm, ⟨91, _⟩ => ⟨S2x4096x512, .f32⟩
  | .hbm, ⟨92, _⟩ => ⟨S2x4096x4x128, .f32⟩
  | .hbm, ⟨93, _⟩ => ⟨S2x4096x4x128, .f32⟩
  | .hbm, ⟨94, _⟩ => ⟨S_, .f32⟩
  | .hbm, ⟨95, _⟩ => ⟨S2x4096x4, .f32⟩
  | .hbm, ⟨96, _⟩ => ⟨S2x4096x4x1, .f32⟩
  | .hbm, ⟨97, _⟩ => ⟨S_, .f32⟩
  | .hbm, ⟨98, _⟩ => ⟨S2x4096x4x1, .f32⟩
  | .hbm, ⟨99, _⟩ => ⟨S2x4096x4x1, .f32⟩
  | .hbm, ⟨100, _⟩ => ⟨S2x4096x4x1, .f32⟩
  | .hbm, ⟨101, _⟩ => ⟨S2x4096x4x128, .f32⟩
  | .hbm, ⟨102, _⟩ => ⟨S2x4096x4x128, .f32⟩
  | .hbm, ⟨103, _⟩ => ⟨S2x4096x512, .f32⟩
  | .hbm, ⟨104, _⟩ => ⟨S2x4096x1536, .f32⟩
  | .hbm, ⟨105, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_4 : Ref sig .tc := ⟨.hbm, 79, rfl⟩
abbrev main_v62 : Ref sig .tc := ⟨.hbm, 80, rfl⟩
abbrev main_v63 : Ref sig .tc := ⟨.hbm, 81, rfl⟩
abbrev main_cst_5 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_cst_8 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Outf.lean ====
abbrev S8192x1024 : Shape := ⟨2, ![8192, 1024]⟩
abbrev S8192x256 : Shape := ⟨2, ![8192, 256]⟩
abbrev S8192x512 : Shape := ⟨2, ![8192, 512]⟩
abbrev S1024x1024 : Shape := ⟨2, ![1024, 1024]⟩
abbrev S1024 : Shape := ⟨1, ![1024]⟩
abbrev S256x1024 : Shape := ⟨2, ![256, 1024]⟩
abbrev S1x8192x256 : Shape := ⟨3, ![1, 8192, 256]⟩
abbrev S1x1024 : Shape := ⟨2, ![1, 1024]⟩
abbrev S512x1024 : Shape := ⟨2, ![512, 1024]⟩
abbrev S512x256 : Shape := ⟨2, ![512, 256]⟩
abbrev S512x512 : Shape := ⟨2, ![512, 512]⟩
abbrev S1x512x256 : Shape := ⟨3, ![1, 512, 256]⟩
abbrev S512 : Shape := ⟨1, ![512]⟩
abbrev S512x1 : Shape := ⟨2, ![512, 1]⟩

abbrev nBuf : Space → Nat
  | .hbm => 17
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1x8192x256, .f32⟩
  | .hbm, ⟨10, _⟩ => ⟨S1024x1024, .bf16⟩
  | .hbm, ⟨11, _⟩ => ⟨S1x1024, .f32⟩
  | .hbm, ⟨12, _⟩ => ⟨S1024x1024, .bf16⟩
  | .hbm, ⟨13, _⟩ => ⟨S256x1024, .bf16⟩
  | .hbm, ⟨14, _⟩ => ⟨S8192x1024, .f32⟩
  | .hbm, ⟨15, _⟩ => ⟨S8192x1024, .f32⟩
  | .hbm, ⟨16, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x512x256, .f32⟩
  | .local _ .vmem, ⟨9, _⟩ => ⟨S1x512x256, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutfRefIdeal.lean ====
abbrev S8192x1024 : Shape := ⟨2, ![8192, 1024]⟩
abbrev S8192x256 : Shape := ⟨2, ![8192, 256]⟩
abbrev S8192x512 : Shape := ⟨2, ![8192, 512]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Head.lean ====
abbrev S8192x1024 : Shape := ⟨2, ![8192, 1024]⟩
abbrev S8192x256 : Shape := ⟨2, ![8192, 256]⟩
abbrev S8192x512 : Shape := ⟨2, ![8192, 512]⟩
abbrev S1x8192x256 : Shape := ⟨3, ![1, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S1024x1024 : Shape := ⟨2, ![1024, 1024]⟩
abbrev S256x1024 : Shape := ⟨2, ![256, 1024]⟩
abbrev S1x128 : Shape := ⟨2, ![1, 128]⟩
abbrev S512x1024 : Shape := ⟨2, ![512, 1024]⟩
abbrev S512x256 : Shape := ⟨2, ![512, 256]⟩
abbrev S512x512 : Shape := ⟨2, ![512, 512]⟩
abbrev S1x512x256 : Shape := ⟨3, ![1, 512, 256]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 25
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1x8192x256, .f32⟩
  | .hbm, ⟨5, _⟩ => ⟨S1x1024x1024, .f32⟩
  | .hbm, ⟨6, _⟩ => ⟨S1x1024, .f32⟩
  | .hbm, ⟨7, _⟩ => ⟨S1x1024x1024, .f32⟩
  | .hbm, ⟨8, _⟩ => ⟨S1x256x1024, .f32⟩
  | .hbm, ⟨9, _⟩ => ⟨S1024, .f32⟩
  | .hbm, ⟨10, _⟩ => ⟨S8192x1024, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x512x256, .f32⟩
  | .local _ .vmem, ⟨9, _⟩ => ⟨S1x512x256, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== HeadRefIdeal.lean ====
abbrev S8192x1024 : Shape := ⟨2, ![8192, 1024]⟩
abbrev S8192x256 : Shape := ⟨2, ![8192, 256]⟩
abbrev S8192x512 : Shape := ⟨2, ![8192, 512]⟩
abbrev S1x8192x256 : Shape := ⟨3, ![1, 8192, 256]⟩
abbrev S1x1024x1024 : Shape := ⟨3, ![1, 1024, 1024]⟩
abbrev S1x1024 : Shape := ⟨2, ![1, 1024]⟩
abbrev S1x256x1024 : Shape := ⟨3, ![1, 256, 1024]⟩
abbrev S1024 : Shape := ⟨1, ![1024]⟩
abbrev S2x4096x1024 : Shape := ⟨3, ![2, 4096, 1024]⟩
abbrev S2x4096x256 : Shape := ⟨3, ![2, 4096, 256]⟩
abbrev S2x4096x512 : Shape := ⟨3, ![2, 4096, 512]⟩
abbrev S1024x1024 : Shape := ⟨2, ![1024, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S256x1024 : Shape := ⟨2, ![256, 1024]⟩
abbrev S1x128 : Shape := ⟨2, ![1, 128]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .f32⟩
  | .hbm, ⟨3, _⟩ => ⟨S8192x256, .f32⟩
  | .hbm, ⟨4, _⟩ => ⟨S1x8192x256, .f32⟩
  | .hbm, ⟨5, _⟩ => ⟨S1x1024x1024, .f32⟩
  | .hbm, ⟨6, _⟩ => ⟨S1x1024, .f32⟩
  | .hbm, ⟨7, _⟩ => ⟨S1x1024x1024, .f32⟩
  | .hbm, ⟨8, _⟩ => ⟨S1x256x1024, .f32⟩
  | .hbm, ⟨9, _⟩ => ⟨S1024, .f32⟩
  | .hbm, ⟨10, _⟩ => ⟨S8192x1024, .f32⟩
  | .hbm, ⟨11, _⟩ => ⟨S2x4096x1024, .f32⟩
  | .hbm, ⟨12, _⟩ => ⟨S2x4096x256, .f32⟩
  | .hbm, ⟨13, _⟩ => ⟨S2x4096x512, .f32⟩
  | .hbm, ⟨14, _⟩ => ⟨S2x4096x256, .f32⟩
  | .hbm, ⟨15, _⟩ => ⟨S2x4096x1024, .f32⟩
  | .hbm, ⟨16, _⟩ => ⟨S2x4096x1024, .f32⟩
  | .hbm, ⟨17, _⟩ => ⟨S1024x1024, .f32⟩
  | .hbm, ⟨18, _⟩ => ⟨S2x4096x1024, .f32⟩
  | .hbm, ⟨19, _⟩ => ⟨S2x4096x1024, .f32⟩
  | .hbm, ⟨20, _⟩ => ⟨S1024, .f32⟩
  | .hbm, ⟨21, _⟩ => ⟨S2x4096x1024, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x1024, .f32⟩
  | .hbm, ⟨33, _⟩ => ⟨S2x4096x1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S1024x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S_, .f32⟩
  | .hbm, ⟨42, _⟩ => ⟨S2x4096x1024, .f32⟩
  | .hbm, ⟨43, _⟩ => ⟨S2x4096x1024, .f32⟩
  | .hbm, ⟨44, _⟩ => ⟨S_, .f32⟩
  | .hbm, ⟨45, _⟩ => ⟨S2x4096x1024, .f32⟩
  | .hbm, ⟨46, _⟩ => ⟨S2x4096x1024, .f32⟩
  | .hbm, ⟨47, _⟩ => ⟨S8192x256, .f32⟩
  | .hbm, ⟨48, _⟩ => ⟨S2x4096x256, .f32⟩
  | .hbm, ⟨49, _⟩ => ⟨S256x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S_, .f32⟩
  | .hbm, ⟨55, _⟩ => ⟨S2x4096, .f32⟩
  | .hbm, ⟨56, _⟩ => ⟨S2x4096x1, .f32⟩
  | .hbm, ⟨57, _⟩ => ⟨S_, .f32⟩
  | .hbm, ⟨58, _⟩ => ⟨S2x4096x1, .f32⟩
  | .hbm, ⟨59, _⟩ => ⟨S2x4096x1, .f32⟩
  | .hbm, ⟨60, _⟩ => ⟨S_, .f32⟩
  | .hbm, ⟨61, _⟩ => ⟨S2x4096x1, .f32⟩
  | .hbm, ⟨62, _⟩ => ⟨S2x4096x1, .f32⟩
  | .hbm, ⟨63, _⟩ => ⟨S2x4096x1, .f32⟩
  | .hbm, ⟨64, _⟩ => ⟨S2x4096x1, .f32⟩
  | .hbm, ⟨65, _⟩ => ⟨S_, .f32⟩
  | .hbm, ⟨66, _⟩ => ⟨S2x4096x1, .f32⟩
  | .hbm, ⟨67, _⟩ => ⟨S2x4096x1, .f32⟩
  | .hbm, ⟨68, _⟩ => ⟨S2x4096x1024, .f32⟩
  | .hbm, ⟨69, _⟩ => ⟨S2x4096x1024, .f32⟩
  | .hbm, ⟨70, _⟩ => ⟨S1x1x1024, .f32⟩
  | .hbm, ⟨71, _⟩ => ⟨S2x4096x1024, .f32⟩
  | .hbm, ⟨72, _⟩ => ⟨S2x4096x1024, .f32⟩
  | .hbm, ⟨73, _⟩ => ⟨S2x4096x1024, .f32⟩
  | .hbm, ⟨74, _⟩ => ⟨S2x4096x1024, .f32⟩
  | .hbm, ⟨75, _⟩ => ⟨S_, .f32⟩
  | .hbm, ⟨76, _⟩ => ⟨S2x4096x1024, .f32⟩
  | .hbm, ⟨77, _⟩ => ⟨S2x4096x1024, .f32⟩
  | .hbm, ⟨78, _⟩ => ⟨S_, .f32⟩
  | .hbm, ⟨79, _⟩ => ⟨S2x4096, .f32⟩
  | .hbm, ⟨80, _⟩ => ⟨S_, .f32⟩
  | .hbm, ⟨81, _⟩ => ⟨S2x4096, .f32⟩
  | .hbm, ⟨82, _⟩ => ⟨S2x4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S2x4096, .f32⟩
  | .hbm, ⟨91, _⟩ => ⟨S_, .f32⟩
  | .hbm, ⟨92, _⟩ => ⟨S2x4096, .f32⟩
  | .hbm, ⟨93, _⟩ => ⟨S2x4096, .f32⟩
  | .hbm, ⟨94, _⟩ => ⟨S2x4096x1024, .f32⟩
  | .hbm, ⟨95, _⟩ => ⟨S2x4096x1024, .f32⟩
  | .hbm, ⟨96, _⟩ => ⟨S2x4096x1024, .f32⟩
  | .hbm, ⟨97, _⟩ => ⟨S_, .f32⟩
  | .hbm, ⟨98, _⟩ => ⟨S1024, .f32⟩
  | .hbm, ⟨99, _⟩ => ⟨S1x1x1024, .f32⟩
  | .hbm, ⟨100, _⟩ => ⟨S2x4096x1024, .f32⟩
  | .hbm, ⟨101, _⟩ => ⟨S2x4096x1024, .f32⟩
  | .hbm, ⟨102, _⟩ => ⟨S_, .f32⟩
  | .hbm, ⟨103, _⟩ => ⟨S1024, .f32⟩
  | .hbm, ⟨104, _⟩ => ⟨S2x4096x1024, .f32⟩
  | .hbm, ⟨105, _⟩ => ⟨S_, .f32⟩
  | .hbm, ⟨106, _⟩ => ⟨S2x4096, .f32⟩
  | .hbm, ⟨107, _⟩ => ⟨S2x4096x1, .f32⟩
  | .hbm, ⟨108, _⟩ => ⟨S2x4096x1024, .f32⟩
  | .hbm, ⟨109, _⟩ => ⟨S2x4096x1024, .f32⟩
  | .hbm, ⟨110, _⟩ => ⟨S2x4096x1, .f32⟩
  | .hbm, ⟨111, _⟩ => ⟨S_, .f32⟩
  | .hbm, ⟨112, _⟩ => ⟨S2x4096x1, .f32⟩
  | .hbm, ⟨113, _⟩ => ⟨S2x4096x1, .f32⟩
  | .hbm, ⟨114, _⟩ => ⟨S_, .f32⟩
  | .hbm, ⟨115, _⟩ => ⟨S2x4096, .f32⟩
  | .hbm, ⟨116, _⟩ => ⟨S2x4096x1024, .f32⟩
  | .hbm, ⟨117, _⟩ => ⟨S2x4096x1024, .f32⟩
  | .hbm, ⟨118, _⟩ => ⟨S2x4096x1024, .f32⟩
  | .hbm, ⟨119, _⟩ => ⟨S2x4096x1024, .f32⟩
  | .hbm, ⟨120, _⟩ => ⟨S2x4096x1024, .f32⟩
  | .hbm, ⟨121, _⟩ => ⟨S8192x1024, .f32⟩
  | .hbm, ⟨122, _⟩ => ⟨S8192x1024, .f32⟩
  | .hbm, ⟨123, _⟩ => ⟨S8192x1024, .f32⟩
  | .hbm, ⟨124, _⟩ => ⟨S1x1024, .f32⟩
  | .hbm, ⟨125, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_cst_13 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_17 : Ref sig .tc := ⟨.hbm, 102, rfl⟩
abbrev main_v73 : Ref sig .tc := ⟨.hbm, 103, rfl⟩
abbrev main_v74 : Ref sig .tc := ⟨.hbm, 104, rfl⟩
abbrev main_cst_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_cst_20 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]
-- ==== Proof.DwSums.lean ====
/-
  The gradient of the projection's weights: each of the five result arrays the kernel writes is the reference's
  result. The kernel adds one product per block of 1024 tokens; the reference takes one sum over all 8192 tokens.
-/
module

public import proofs.«01_k».proof.Proof.Gen.DwIdeal.Frame
public import proofs.«01_k».proof.Proof.Gen.DwRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DwIdeal.Sums

open Cert.DwIdeal Cert.DwIdeal.Gen Cert.DwRefIdeal.Read

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0]
    ∧ win0_9.index t = ![0, 0]
    ∧ win0_10.index t = ![0, 0]
    ∧ win0_11.index t = ![0, 0] :=
  (by decide +kernel : ∀ t : Fin grid0.N, _)

/-- The weight's row reaches the kernel as a one-row array. -/
theorem gain_row (c : Dev nD) (k : Fin 1024) :
    V m c main_v0 (ix2 0 k) = (m ((c : Thread nD τ).loc main_arg1) : FVec Ideal S1024 .f32) (ix1 k) := by
  entry_read
  pointwise

/-- The normalised token at one entry, as the reference computes it. -/
theorem ref_norm (a0 : FVec Ideal S8192x1024 .f32) (a1 : FVec Ideal S1024 .f32) (l : Fin 8192) (k : Fin 1024) :
    val_main_v12 (F := Ideal) a0 a1 (ix2 l k)
      = a0 (ix2 l k) * Ideal.rsqrt (Ideal.div (∑ q : Fin 1024, a0 (ix2 l q) * a0 (ix2 l q)) (Ideal.ofBits .f32 0x44800000#32)
          + Ideal.ofBits .f32 0x358637BD#32) * a1 (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The same entry as the kernel computes it from a block of tokens. -/
theorem pay_norm (x : Vec Ideal S1024x1024 .f32) (g : Vec Ideal S1x1024 .f32) (l k : Fin 1024) :
    k0_pay9 x g (ix2 l k)
      = x (ix2 l k) * Ideal.rsqrt (Ideal.div (∑ q : Fin 1024, x (ix2 l q) * x (ix2 l q)) (Ideal.ofBits .f32 0x44800000#32)
          + Ideal.ofBits .f32 0x358637BD#32) * g (ix2 0 k) := by
  pointwise [k0_pay9]

theorem zero_7 (j : S1024x512.Idx) : k0_pay4 (F := Ideal) j = 0 := by pointwise [k0_pay4]

/-- One grid point adds the product of the normalised block and the gradient's block. -/
theorem pay_7 (v3 : Vec Ideal S1024x1024 .f32) (v4 : Vec Ideal S1x1024 .f32) (acc : Vec Ideal S1024x512 .f32) (d : Vec Ideal S1024x512 .bf16) (j : S1024x512.Idx) :
    k0_pay10 v3 v4 acc d j = acc j + ∑ l : Fin 1024, (k0_pay9 v3 v4) (ix2 l (j 0)) * d (ix2 l (j 1)) := by
  pointwise [k0_pay10]

theorem zero_8 (j : S1024x1536.Idx) : k0_pay5 (F := Ideal) j = 0 := by pointwise [k0_pay5]

/-- One grid point adds the product of the normalised block and the gradient's block. -/
theorem pay_8 (v3 : Vec Ideal S1024x1024 .f32) (v4 : Vec Ideal S1x1024 .f32) (acc : Vec Ideal S1024x1536 .f32) (d : Vec Ideal S1024x1536 .bf16) (j : S1024x1536.Idx) :
    k0_pay11 v3 v4 acc d j = acc j + ∑ l : Fin 1024, (k0_pay9 v3 v4) (ix2 l (j 0)) * d (ix2 l (j 1)) := by
  pointwise [k0_pay11]

theorem zero_9 (j : S1024x512.Idx) : k0_pay6 (F := Ideal) j = 0 := by pointwise [k0_pay6]

/-- One grid point adds the product of the normalised block and the gradient's block. -/
theorem pay_9 (h : FVec Ideal S1024x1024 .bf16) (acc : Vec Ideal S1024x512 .f32) (d : Vec Ideal S1024x512 .bf16) (j : S1024x512.Idx) :
    k0_pay1 h acc d j = acc j + ∑ l : Fin 1024, (h) (ix2 l (j 0)) * d (ix2 l (j 1)) := by
  pointwise [k0_pay1]

theorem zero_10 (j : S1024x768.Idx) : k0_pay7 (F := Ideal) j = 0 := by pointwise [k0_pay7]

/-- One grid point adds the product of the normalised block and the gradient's block. -/
theorem pay_10 (h : FVec Ideal S1024x1024 .bf16) (acc : Vec Ideal S1024x768 .f32) (d : Vec Ideal S1024x768 .bf16) (j : S1024x768.Idx) :
    k0_pay2 h acc d j = acc j + ∑ l : Fin 1024, (h) (ix2 l (j 0)) * d (ix2 l (j 1)) := by
  pointwise [k0_pay2]

theorem zero_11 (j : S1024x128.Idx) : k0_pay8 (F := Ideal) j = 0 := by pointwise [k0_pay8]

/-- One grid point adds the product of the normalised block and the gradient's block. -/
theorem pay_11 (h : FVec Ideal S1024x1024 .bf16) (acc : Vec Ideal S1024x128 .f32) (d : Vec Ideal S1024x128 .bf16) (j : S1024x128.Idx) :
    k0_pay3 h acc d j = acc j + ∑ l : Fin 1024, (h) (ix2 l (j 0)) * d (ix2 l (j 1)) := by
  pointwise [k0_pay3]

/-- A token's block of the gradient's row, read at one entry. -/
theorem blk_x (c : Dev nD) (s : Fin cfg0.N) (l : Fin 1024) (hl : s.val * 1024 + l.val < 8192) (k : Fin 1024) :
    iblk m c 0 s (ix2 l k) = (m ((c : Thread nD τ).loc main_arg0) : FVec Ideal S8192x1024 .f32) (ix2 ⟨s.val * 1024 + l.val, hl⟩ k) := by
  blk_point [iblk, V, idx s]

theorem blk_g (c : Dev nD) (s : Fin cfg0.N) (k : Fin 1024) :
    iblk m c 1 s (ix2 0 k) = (m ((c : Thread nD τ).loc main_arg1) : FVec Ideal S1024 .f32) (ix1 k) := by
  refine Eq.trans ?_ (gain_row m c k)
  blk_point [iblk, idx s]

/-- The block's normalised tokens are the reference's. -/
theorem point_norm (c : Dev nD) (s : Fin cfg0.N) (l : Fin 1024) (hl : s.val * 1024 + l.val < 8192) (k : Fin 1024) :
    k0_pay9 (iblk m c 0 s) (iblk m c 1 s) (ix2 l k)
      = val_main_v12 (F := Ideal) (m ((c : Thread nD τ).loc main_arg0)) (m ((c : Thread nD τ).loc main_arg1)) (ix2 ⟨s.val * 1024 + l.val, hl⟩ k) := by
  rw [ref_norm, pay_norm, blk_g]
  simp only [blk_x m c s l hl]

/-- The reference's result at one entry, a sum over all tokens. -/
theorem ref_7 (a0 : FVec Ideal S8192x1024 .f32) (a1 : FVec Ideal S1024 .f32) (a3 : FVec Ideal S8192x512 .bf16) (a4 : FVec Ideal S8192x1536 .bf16)
    (a5 : FVec Ideal S8192x512 .bf16) (a6 : FVec Ideal S8192x768 .bf16) (a7 : FVec Ideal S8192x128 .bf16) (j : S1024x512.Idx) :
    val_main_v27 (F := Ideal) a0 a1 a3 a4 a5 a6 a7 j
      = ∑ l : Fin 8192, val_main_v12 (F := Ideal) a0 a1 (ix2 l (j 0)) * a3 (ix2 l (j 1)) := by
  pointwise [val_main_v27, val_main_v26, val_main_v25, val_main_v24, val_main_v19, val_main_v20, val_main_v21, val_main_v22, val_main_v23]
  have hj : (j 1).val < 512 := (j 1).isLt
  refine Finset.sum_congr rfl fun x _ => (congrArg₂ (· * ·) ?_ rfl).trans (EReal.mul_comm _ _)
  rfl

/-- The gradient's block, read at one entry. -/
theorem blk_7 (c : Dev nD) (s : Fin cfg0.N) (l : Fin 1024) (hl : s.val * 1024 + l.val < 8192) (k : Fin 512) :
    iblk m c 2 s (ix2 l k) = (m ((c : Thread nD τ).loc main_arg3) : FVec Ideal S8192x512 .bf16) (ix2 ⟨s.val * 1024 + l.val, hl⟩ k) := by
  blk_point [iblk, V, idx s]

/-- The result array. -/
theorem final_7 (c : Dev nD) : (dats m 0 c).arrAt 7 (cfgs 0).N = val_main_v27 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 7 t0_7 (by decide +kernel) _ fun j => ?_
  blk_simp
  rw [after0_7, Pipeline.eq_sum_fin_of_reset_step_apply_last (fun n h => (outsAt0 m c n h).1) 8 (fun _ => 0) _
    (fun t h j => by rw [outsAt0_A m c t h]; frame_out; rw [pay_7, zero_7])
    (fun t h j => by rw [outsAt0_B m c t h]; frame_out; rw [pay_7])
    (le_of_eq N_0) t0_7 rfl j, zero_add, ref_7]
  refine Fin.sum_mul_add_congr fun s k hl => ?_
  exact congrArg₂ (· * ·) (point_norm m c s k hl (j 0)) (blk_7 m c s k hl (j 1))

/-- The reference's result at one entry, a sum over all tokens. -/
theorem ref_8 (a0 : FVec Ideal S8192x1024 .f32) (a1 : FVec Ideal S1024 .f32) (a3 : FVec Ideal S8192x512 .bf16) (a4 : FVec Ideal S8192x1536 .bf16)
    (a5 : FVec Ideal S8192x512 .bf16) (a6 : FVec Ideal S8192x768 .bf16) (a7 : FVec Ideal S8192x128 .bf16) (j : S1024x1536.Idx) :
    val_main_v28 (F := Ideal) a0 a1 a3 a4 a5 a6 a7 j
      = ∑ l : Fin 8192, val_main_v12 (F := Ideal) a0 a1 (ix2 l (j 0)) * a4 (ix2 l (j 1)) := by
  pointwise [val_main_v28, val_main_v26, val_main_v25, val_main_v24, val_main_v19, val_main_v20, val_main_v21, val_main_v22, val_main_v23]
  have hj : (j 1).val < 1536 := (j 1).isLt
  refine Finset.sum_congr rfl fun x _ => (congrArg₂ (· * ·) ?_ rfl).trans (EReal.mul_comm _ _)
  rfl

/-- The gradient's block, read at one entry. -/
theorem blk_8 (c : Dev nD) (s : Fin cfg0.N) (l : Fin 1024) (hl : s.val * 1024 + l.val < 8192) (k : Fin 1536) :
    iblk m c 3 s (ix2 l k) = (m ((c : Thread nD τ).loc main_arg4) : FVec Ideal S8192x1536 .bf16) (ix2 ⟨s.val * 1024 + l.val, hl⟩ k) := by
  blk_point [iblk, V, idx s]

/-- The result array. -/
theorem final_8 (c : Dev nD) : (dats m 0 c).arrAt 8 (cfgs 0).N = val_main_v28 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 8 t0_7 (by decide +kernel) _ fun j => ?_
  blk_simp
  rw [after0_8, Pipeline.eq_sum_fin_of_reset_step_apply_last (fun n h => (outsAt0 m c n h).2.1) 8 (fun _ => 0) _
    (fun t h j => by rw [outsAt0_A m c t h]; frame_out; rw [pay_8, zero_8])
    (fun t h j => by rw [outsAt0_B m c t h]; frame_out; rw [pay_8])
    (le_of_eq N_0) t0_7 rfl j, zero_add, ref_8]
  refine Fin.sum_mul_add_congr fun s k hl => ?_
  exact congrArg₂ (· * ·) (point_norm m c s k hl (j 0)) (blk_8 m c s k hl (j 1))

/-- The reference's result at one entry, a sum over all tokens. -/
theorem ref_9 (a0 : FVec Ideal S8192x1024 .f32) (a1 : FVec Ideal S1024 .f32) (a3 : FVec Ideal S8192x512 .bf16) (a4 : FVec Ideal S8192x1536 .bf16)
    (a5 : FVec Ideal S8192x512 .bf16) (a6 : FVec Ideal S8192x768 .bf16) (a7 : FVec Ideal S8192x128 .bf16) (j : S1024x512.Idx) :
    val_main_v29 (F := Ideal) a0 a1 a3 a4 a5 a6 a7 j
      = ∑ l : Fin 8192, val_main_v12 (F := Ideal) a0 a1 (ix2 l (j 0)) * a5 (ix2 l (j 1)) := by
  pointwise [val_main_v29, val_main_v26, val_main_v25, val_main_v24, val_main_v19, val_main_v20, val_main_v21, val_main_v22, val_main_v23]
  have hj : (j 1).val < 512 := (j 1).isLt
  refine Finset.sum_congr rfl fun x _ => (congrArg₂ (· * ·) ?_ rfl).trans (EReal.mul_comm _ _)
  rw [dif_neg (by omega), dif_neg (by omega), dif_pos (by omega)]
  exact congrArg (fun z => a5 (ix2 x z)) (Fin.ext (by simp only []; omega))

/-- The gradient's block, read at one entry. -/
theorem blk_9 (c : Dev nD) (s : Fin cfg0.N) (l : Fin 1024) (hl : s.val * 1024 + l.val < 8192) (k : Fin 512) :
    iblk m c 4 s (ix2 l k) = (m ((c : Thread nD τ).loc main_arg5) : FVec Ideal S8192x512 .bf16) (ix2 ⟨s.val * 1024 + l.val, hl⟩ k) := by
  blk_point [iblk, V, idx s]

/-- The result array. -/
theorem final_9 (c : Dev nD) : (dats m 0 c).arrAt 9 (cfgs 0).N = val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0) _
    (fun t h j => by rw [outsAt0_A m c t h]; frame_out; rw [pay_9, zero_9])
    (fun t h j => by rw [outsAt0_B m c t h]; frame_out; rw [pay_9])
    (le_of_eq N_0) t0_7 rfl j, zero_add, ref_9]
  refine Fin.sum_mul_add_congr fun s k hl => ?_
  exact congrArg₂ (· * ·) (point_norm m c s k hl (j 0)) (blk_9 m c s k hl (j 1))

/-- The reference's result at one entry, a sum over all tokens. -/
theorem ref_10 (a0 : FVec Ideal S8192x1024 .f32) (a1 : FVec Ideal S1024 .f32) (a3 : FVec Ideal S8192x512 .bf16) (a4 : FVec Ideal S8192x1536 .bf16)
    (a5 : FVec Ideal S8192x512 .bf16) (a6 : FVec Ideal S8192x768 .bf16) (a7 : FVec Ideal S8192x128 .bf16) (j : S1024x768.Idx) :
    val_main_v30 (F := Ideal) a0 a1 a3 a4 a5 a6 a7 j
      = ∑ l : Fin 8192, val_main_v12 (F := Ideal) a0 a1 (ix2 l (j 0)) * a6 (ix2 l (j 1)) := by
  pointwise [val_main_v30, val_main_v26, val_main_v25, val_main_v24, val_main_v19, val_main_v20, val_main_v21, val_main_v22, val_main_v23]
  have hj : (j 1).val < 768 := (j 1).isLt
  refine Finset.sum_congr rfl fun x _ => (congrArg₂ (· * ·) ?_ rfl).trans (EReal.mul_comm _ _)
  rw [dif_neg (by omega), dif_neg (by omega), dif_neg (by omega), dif_pos (by omega)]
  exact congrArg (fun z => a6 (ix2 x z)) (Fin.ext (by simp only []; omega))

/-- The gradient's block, read at one entry. -/
theorem blk_10 (c : Dev nD) (s : Fin cfg0.N) (l : Fin 1024) (hl : s.val * 1024 + l.val < 8192) (k : Fin 768) :
    iblk m c 5 s (ix2 l k) = (m ((c : Thread nD τ).loc main_arg6) : FVec Ideal S8192x768 .bf16) (ix2 ⟨s.val * 1024 + l.val, hl⟩ k) := by
  blk_point [iblk, V, idx s]

/-- The result array. -/
theorem final_10 (c : Dev nD) : (dats m 0 c).arrAt 10 (cfgs 0).N = val_main_v30 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0) _
    (fun t h j => by rw [outsAt0_A m c t h]; frame_out; rw [pay_10, zero_10])
    (fun t h j => by rw [outsAt0_B m c t h]; frame_out; rw [pay_10])
    (le_of_eq N_0) t0_7 rfl j, zero_add, ref_10]
  refine Fin.sum_mul_add_congr fun s k hl => ?_
  exact congrArg₂ (· * ·) (point_norm m c s k hl (j 0)) (blk_10 m c s k hl (j 1))

/-- The reference's result at one entry, a sum over all tokens. -/
theorem ref_11 (a0 : FVec Ideal S8192x1024 .f32) (a1 : FVec Ideal S1024 .f32) (a3 : FVec Ideal S8192x512 .bf16) (a4 : FVec Ideal S8192x1536 .bf16)
    (a5 : FVec Ideal S8192x512 .bf16) (a6 : FVec Ideal S8192x768 .bf16) (a7 : FVec Ideal S8192x128 .bf16) (j : S1024x128.Idx) :
    val_main_v31 (F := Ideal) a0 a1 a3 a4 a5 a6 a7 j
      = ∑ l : Fin 8192, val_main_v12 (F := Ideal) a0 a1 (ix2 l (j 0)) * a7 (ix2 l (j 1)) := by
  pointwise [val_main_v31, val_main_v26, val_main_v25, val_main_v24, val_main_v19, val_main_v20, val_main_v21, val_main_v22, val_main_v23]
  have hj : (j 1).val < 128 := (j 1).isLt
  refine Finset.sum_congr rfl fun x _ => (congrArg₂ (· * ·) ?_ rfl).trans (EReal.mul_comm _ _)
  rw [dif_neg (by omega), dif_neg (by omega), dif_neg (by omega), dif_neg (by omega)]
  exact congrArg (fun z => a7 (ix2 x z)) (Fin.ext (by simp only []; omega))

/-- The gradient's block, read at one entry. -/
theorem blk_11 (c : Dev nD) (s : Fin cfg0.N) (l : Fin 1024) (hl : s.val * 1024 + l.val < 8192) (k : Fin 128) :
    iblk m c 6 s (ix2 l k) = (m ((c : Thread nD τ).loc main_arg7) : FVec Ideal S8192x128 .bf16) (ix2 ⟨s.val * 1024 + l.val, hl⟩ k) := by
  blk_point [iblk, V, idx s]

/-- The result array. -/
theorem final_11 (c : Dev nD) : (dats m 0 c).arrAt 11 (cfgs 0).N = val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 11 t0_7 (by decide +kernel) _ fun j => ?_
  blk_simp
  rw [after0_11, Pipeline.eq_sum_fin_of_reset_step_apply_last (fun n h => (outsAt0 m c n h).2.2.2.2) 8 (fun _ => 0) _
    (fun t h j => by rw [outsAt0_A m c t h]; frame_out; rw [pay_11, zero_11])
    (fun t h j => by rw [outsAt0_B m c t h]; frame_out; rw [pay_11])
    (le_of_eq N_0) t0_7 rfl j, zero_add, ref_11]
  refine Fin.sum_mul_add_congr fun s k hl => ?_
  exact congrArg₂ (· * ·) (point_norm m c s k hl (j 0)) (blk_11 m c s k hl (j 1))

end Cert.DwIdeal.Sums

end
-- ==== Proof.DwClaim.lean ====
/- The value claim of the projection's weight gradient. -/
module

public import proofs.«01_k».proof.Defs
public import proofs.«01_k».proof.Proof.Gen.DwIdeal.Frame
public import proofs.«01_k».proof.Proof.Gen.DwIdeal.Value
public import proofs.«01_k».proof.Proof.Gen.DwRefIdeal.Run
public import proofs.«01_k».proof.Proof.Gen.DwRefIdeal.Read
public import proofs.«01_k».proof.Proof.DwSums
public import Idealize.ShloMosaic.Lib.Claim

@[expose] public section

set_option maxRecDepth 16384

noncomputable section

namespace Cert.DwClaim

open Idealize.ShloMosaic Idealize.SL.Sem

/-- The reference leaves its arguments alone; it declares no semaphore. -/
theorem ref_frame : Cert.quiescent_DwRefIdeal := fun m ρ _ =>
  (θ_run Cert.DwRefIdeal.defs _ _).mono (fun r h => ⟨fun c => (h c).2.2.2.2.2, sem_eq_zero_of_no_sems (by decide) r.2⟩)
    (Cert.DwRefIdeal.Value.run (F := Ideal) m ρ)

set_option maxHeartbeats 1600000 in
/-- The kernel's results are the reference's. -/
theorem algebraic : Cert.algebraic_DwIdeal_DwRefIdeal := by
  pair_intro
  · run_from Cert.DwIdeal.Gen.run_main m g
  · have ha := PLift.up hagree
    clear hagree
    run_from Cert.DwRefIdeal.Value.run m' g'
    · refine (Cert.DwRefIdeal.Read.val_main_v27_eq ..).trans ?_
      simp only [ha.down c]
      exact (Cert.DwIdeal.Sums.final_7 m c).symm
    · refine (Cert.DwRefIdeal.Read.val_main_v28_eq ..).trans ?_
      simp only [ha.down c]
      exact (Cert.DwIdeal.Sums.final_8 m c).symm
    · refine (Cert.DwRefIdeal.Read.val_main_v29_eq ..).trans ?_
      simp only [ha.down c]
      exact (Cert.DwIdeal.Sums.final_9 m c).symm
    · refine (Cert.DwRefIdeal.Read.val_main_v30_eq ..).trans ?_
      simp only [ha.down c]
      exact (Cert.DwIdeal.Sums.final_10 m c).symm
    · refine (Cert.DwRefIdeal.Read.val_main_v31_eq ..).trans ?_
      simp only [ha.down c]
      exact (Cert.DwIdeal.Sums.final_11 m c).symm

end Cert.DwClaim

end
-- ==== Proof.OutRows.lean ====
/-
  The output projection's gradient, block by block: what the kernel computes from one block of 512 tokens is the
  reference's value at those tokens.
-/
module

public import proofs.«01_k».proof.Proof.Gen.OutIdeal.Frame
public import proofs.«01_k».proof.Proof.Gen.OutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutIdeal.Rows

open Cert.OutIdeal Cert.OutIdeal.Gen Cert.OutRefIdeal.Read

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, t.val, 0]
    ∧ win0_6.index t = ![t.val, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![0, 0]
    ∧ win0_16.index t = ![0, 0]
    ∧ win0_17.index t = ![0, 0]
    ∧ win0_18.index t = ![0, 0] :=
  (by decide +kernel : ∀ t : Fin grid0.N, _)

/-- The residual stream the host hands the kernel. -/
theorem host_x (c : Dev nD) : V m c main_v2 = val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  entry_read
  rfl

/-- The gate the host hands the kernel. -/
theorem host_gate (c : Dev nD) : V m c main_v22 = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  entry_read
  rfl

theorem blk_0 (c : Dev nD) (t : Fin cfg0.N) (l : Fin 512) (hl : t.val * 512 + l.val < 8192) (k : Fin 1024) : iblk m c 0 t (ix2 l k) = (val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (ix2 ⟨t.val * 512 + l.val, hl⟩ k) := by
  rw [← host_x]
  blk_point [iblk, idx t]

theorem blk_1 (c : Dev nD) (t : Fin cfg0.N) (l : Fin 512) (hl : t.val * 512 + l.val < 8192) (k : Fin 1024) : iblk m c 1 t (ix2 l k) = (val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (ix2 ⟨t.val * 512 + l.val, hl⟩ k) := by
  rw [← host_gate]
  blk_point [iblk, idx t]

theorem blk_2 (c : Dev nD) (t : Fin cfg0.N) (l : Fin 512) (hl : t.val * 512 + l.val < 8192) (k : Fin 256) : iblk m c 2 t (ix2 l k) = (m ((c : Thread nD τ).loc main_arg1) : FVec Ideal S8192x256 .f32) (ix2 ⟨t.val * 512 + l.val, hl⟩ k) := by
  blk_point [iblk, V, idx t]

theorem blk_3 (c : Dev nD) (t : Fin cfg0.N) (l : Fin 512) (hl : t.val * 512 + l.val < 8192) (k : Fin 512) : iblk m c 3 t (ix2 l k) = (m ((c : Thread nD τ).loc main_arg2) : FVec Ideal S8192x512 .f32) (ix2 ⟨t.val * 512 + l.val, hl⟩ k) := by
  blk_point [iblk, V, idx t]

theorem blk_4 (c : Dev nD) (t : Fin cfg0.N) (l : Fin 512) (hl : t.val * 512 + l.val < 8192) (k : Fin 256) : iblk m c 4 t (ix2 l k) = (m ((c : Thread nD τ).loc main_arg3) : FVec Ideal S8192x256 .f32) (ix2 ⟨t.val * 512 + l.val, hl⟩ k) := by
  blk_point [iblk, V, idx t]

theorem blk_5 (c : Dev nD) (t : Fin cfg0.N) (l : Fin 512) (hl : t.val * 512 + l.val < 8192) (k : Fin 256) : iblk m c 5 t (ix3 0 l k) = (m ((c : Thread nD τ).loc main_arg4) : FVec Ideal S8192x256 .f32) (ix2 ⟨t.val * 512 + l.val, hl⟩ k) := by
  refine Eq.trans (b := V m c main_v23 (ix3 0 ⟨t.val * 512 + l.val, hl⟩ k)) ?_ ?_
  · blk_point [iblk, idx t]
  · entry_read
    pointwise

theorem blk_6 (c : Dev nD) (t : Fin cfg0.N) (l : Fin 512) (hl : t.val * 512 + l.val < 8192) (k : Fin 1024) : iblk m c 6 t (ix2 l k) = (m ((c : Thread nD τ).loc main_arg5) : FVec Ideal S8192x1024 .f32) (ix2 ⟨t.val * 512 + l.val, hl⟩ k) := by
  blk_point [iblk, V, idx t]

theorem blk_7 (c : Dev nD) (t : Fin cfg0.N) (a : Fin 1024) (k : Fin 1024) : iblk m c 7 t (ix2 a k) = (m ((c : Thread nD τ).loc main_arg6) : FVec Ideal S1024x1024 .f32) (ix2 a k) := by
  refine Eq.trans (b := V m c main_v24 (ix2 a k)) ?_ ?_
  · blk_point [iblk, idx t]
  · entry_read
    pointwise

theorem blk_9 (c : Dev nD) (t : Fin cfg0.N) (a : Fin 1024) (k : Fin 1024) : iblk m c 9 t (ix2 a k) = (m ((c : Thread nD τ).loc main_arg8) : FVec Ideal S1024x1024 .f32) (ix2 a k) := by
  refine Eq.trans (b := V m c main_v26 (ix2 a k)) ?_ ?_
  · blk_point [iblk, idx t]
  · entry_read
    pointwise

theorem blk_10 (c : Dev nD) (t : Fin cfg0.N) (a : Fin 256) (k : Fin 1024) : iblk m c 10 t (ix2 a k) = (m ((c : Thread nD τ).loc main_arg9) : FVec Ideal S256x1024 .f32) (ix2 a k) := by
  refine Eq.trans (b := V m c main_v27 (ix2 a k)) ?_ ?_
  · blk_point [iblk, idx t]
  · entry_read
    pointwise

theorem blk_8 (c : Dev nD) (t : Fin cfg0.N) (k : Fin 1024) : iblk m c 8 t (ix2 0 k) = (m ((c : Thread nD τ).loc main_arg7) : FVec Ideal S1024 .f32) (ix1 k) := by
  refine Eq.trans (b := V m c main_v25 (ix2 0 k)) ?_ ?_
  · blk_point [iblk, idx t]
  · entry_read
    pointwise

/-- The reciprocal root of a token. -/
theorem row_inv (c : Dev nD) (t : Fin cfg0.N) (l : Fin 512) (hl : t.val * 512 + l.val < 8192) :
    (k0_pay17 (iblk m c 0 t)) (ix2 l 0)
      = (val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (ix2 ⟨t.val * 512 + l.val, hl⟩ 0) := by
  pointwise [k0_pay17, k0_pay16, k0_pay14, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, val_main_cst_8, val_main_cst_9, val_main_cst_10]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]

/-- Its derivative. -/
theorem row_slope (c : Dev nD) (t : Fin cfg0.N) (l : Fin 512) (hl : t.val * 512 + l.val < 8192) :
    (k0_pay18 (iblk m c 0 t)) (ix2 l 0)
      = (val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (ix2 ⟨t.val * 512 + l.val, hl⟩ 0) := by
  pointwise [k0_pay18, k0_pay16, k0_pay17, k0_pay14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, val_main_cst_8, val_main_cst_9, val_main_cst_10]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]

theorem row_slope_one (c : Dev nD) (t : Fin cfg0.N) (l : Fin 512) (hl : t.val * 512 + l.val < 8192) (k : Fin 1) :
    (k0_pay18 (iblk m c 0 t)) (ix2 l k)
      = (val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (ix2 ⟨t.val * 512 + l.val, hl⟩ k) := by
  obtain rfl : k = 0 := Subsingleton.elim _ _
  exact row_slope m c t l hl

/-- The token over its root. -/
theorem row_hat (c : Dev nD) (t : Fin cfg0.N) (l : Fin 512) (hl : t.val * 512 + l.val < 8192) (k : Fin 1024) :
    (k0_pay19 (iblk m c 0 t)) (ix2 l k)
      = (val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (ix2 ⟨t.val * 512 + l.val, hl⟩ k) := by
  pointwise [k0_pay19, k0_pay14, val_main_v15, val_main_v14]
  rw [row_inv m c t l hl]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]

/-- The normalised token. -/
theorem row_norm (c : Dev nD) (t : Fin cfg0.N) (l : Fin 512) (hl : t.val * 512 + l.val < 8192) (k : Fin 1024) :
    (k0_pay20 (iblk m c 0 t) (iblk m c 8 t)) (ix2 l k)
      = (val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (ix2 ⟨t.val * 512 + l.val, hl⟩ k) := by
  pointwise [k0_pay20, k0_pay15, val_main_v18, val_main_v17, val_main_v16]
  rw [row_hat m c t l hl]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]

/-- The concatenated branches. -/
theorem row_y (c : Dev nD) (t : Fin cfg0.N) (l : Fin 512) (hl : t.val * 512 + l.val < 8192) (k : Fin 1024) :
    (k0_pay13 (iblk m c 2 t) (iblk m c 3 t) (iblk m c 4 t)) (ix2 l k)
      = (val_main_v0 (F := Ideal) (m ((c : Thread nD τ).loc main_arg1)) (m ((c : Thread nD τ).loc main_arg2)) (m ((c : Thread nD τ).loc main_arg3))) (ix2 ⟨t.val * 512 + l.val, hl⟩ k) := by
  pointwise [k0_pay13, val_main_v0]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]

/-- The gradient of the gate before its sigmoid. -/
theorem row_dlog (c : Dev nD) (t : Fin cfg0.N) (l : Fin 512) (hl : t.val * 512 + l.val < 8192) (k : Fin 1024) :
    k0_pay24 (k0_pay21 (iblk m c 1 t)) (k0_pay22 (iblk m c 5 t)) (k0_pay23 (iblk m c 10 t)) (iblk m c 6 t) (ix2 l k)
      = (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  pointwise [k0_pay24, k0_pay21, k0_pay22, k0_pay23, val_main_v38, val_main_v35, val_main_v33, val_main_v29, val_main_v28, val_main_v27, val_main_v26, val_main_cst, val_main_cst_0, val_main_cst_1, val_main_cst_2, val_main_cst_3, val_main_cst_4, val_main_cst_5, val_main_cst_6, val_main_cst_7, val_main_cst_8, val_main_cst_9, val_main_cst_10]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]
  rw [mul_assoc]

/-- The gradient of the normalised token. -/
theorem row_dh (c : Dev nD) (t : Fin cfg0.N) (l : Fin 512) (hl : t.val * 512 + l.val < 8192) (k : Fin 1024) :
    k0_pay27 (k0_pay21 (iblk m c 1 t)) (k0_pay22 (iblk m c 5 t)) (k0_pay23 (iblk m c 10 t)) (iblk m c 6 t) (iblk m c 9 t) (ix2 l k)
      = (val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  pointwise [k0_pay27, val_main_v41]
  simp only [row_dlog m c t l hl, blk_9 m c t]

/-- The gradient of the token over its root. -/
theorem row_dhat (c : Dev nD) (t : Fin cfg0.N) (l : Fin 512) (hl : t.val * 512 + l.val < 8192) (k : Fin 1024) :
    k0_pay29 (k0_pay15 (iblk m c 8 t)) (k0_pay21 (iblk m c 1 t)) (k0_pay22 (iblk m c 5 t)) (k0_pay23 (iblk m c 10 t)) (iblk m c 6 t) (iblk m c 9 t) (ix2 l k)
      = (val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  pointwise [k0_pay29, k0_pay15, val_main_v46, val_main_v45, val_main_v16]
  rw [row_dh m c t l hl]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]

theorem row_a (c : Dev nD) (t : Fin cfg0.N) (l : Fin 512) (hl : t.val * 512 + l.val < 8192) (k : Fin 1024) :
    (k0_pay30 (k0_pay15 (iblk m c 8 t)) (k0_pay17 (iblk m c 0 t)) (k0_pay21 (iblk m c 1 t)) (k0_pay22 (iblk m c 5 t)) (k0_pay23 (iblk m c 10 t)) (iblk m c 6 t) (iblk m c 9 t)) (ix2 l k)
      = (val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  pointwise [k0_pay30, val_main_v52, val_main_v51]
  rw [row_dhat m c t l hl, row_inv m c t l hl]

/-- The weight of the token itself in its gradient. -/
theorem row_s (c : Dev nD) (t : Fin cfg0.N) (l : Fin 512) (hl : t.val * 512 + l.val < 8192) :
    (k0_pay31 (k0_pay14 (iblk m c 0 t)) (k0_pay15 (iblk m c 8 t)) (k0_pay18 (iblk m c 0 t)) (k0_pay21 (iblk m c 1 t)) (k0_pay22 (iblk m c 5 t)) (k0_pay23 (iblk m c 10 t)) (iblk m c 6 t) (iblk m c 9 t)) (ix1 l)
      = (val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix1 ⟨t.val * 512 + l.val, hl⟩) := by
  pointwise [k0_pay31, k0_pay14, val_main_v57, val_main_v56, val_main_v55, val_main_v54, val_main_v50, val_main_v49, val_main_v48, val_main_cst, val_main_cst_0, val_main_cst_1, val_main_cst_2, val_main_cst_3, val_main_cst_4, val_main_cst_5, val_main_cst_6, val_main_cst_7, val_main_cst_8, val_main_cst_9, val_main_cst_10]
  simp only [row_dhat m c t l hl, row_slope_one m c t l hl]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]

/-- The gradient of the residual stream. -/
theorem row_dx (c : Dev nD) (t : Fin cfg0.N) (l : Fin 512) (hl : t.val * 512 + l.val < 8192) (k : Fin 1024) :
    k0_pay2 (k0_pay14 (iblk m c 0 t)) (iblk m c 6 t) (k0_pay30 (k0_pay15 (iblk m c 8 t)) (k0_pay17 (iblk m c 0 t)) (k0_pay21 (iblk m c 1 t)) (k0_pay22 (iblk m c 5 t)) (k0_pay23 (iblk m c 10 t)) (iblk m c 6 t) (iblk m c 9 t)) (k0_pay31 (k0_pay14 (iblk m c 0 t)) (k0_pay15 (iblk m c 8 t)) (k0_pay18 (iblk m c 0 t)) (k0_pay21 (iblk m c 1 t)) (k0_pay22 (iblk m c 5 t)) (k0_pay23 (iblk m c 10 t)) (iblk m c 6 t) (iblk m c 9 t)) (ix2 l k)
      = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  have ha := row_a m c t l hl k
  have hs := row_s m c t l hl
  generalize (k0_pay30 (k0_pay15 (iblk m c 8 t)) (k0_pay17 (iblk m c 0 t)) (k0_pay21 (iblk m c 1 t)) (k0_pay22 (iblk m c 5 t)) (k0_pay23 (iblk m c 10 t)) (iblk m c 6 t) (iblk m c 9 t)) = A at ha ⊢
  generalize (k0_pay31 (k0_pay14 (iblk m c 0 t)) (k0_pay15 (iblk m c 8 t)) (k0_pay18 (iblk m c 0 t)) (k0_pay21 (iblk m c 1 t)) (k0_pay22 (iblk m c 5 t)) (k0_pay23 (iblk m c 10 t)) (iblk m c 6 t) (iblk m c 9 t)) = S at hs ⊢
  pointwise [k0_pay2, k0_pay14, val_main_v62, val_main_v61, val_main_v60, val_main_v59, val_main_v58, val_main_v53, val_main_v32]
  rw [ha, hs]
  simp only [blk_0 m c t l hl, blk_1 m c t l hl, blk_2 m c t l hl, blk_3 m c t l hl, blk_4 m c t l hl, blk_5 m c t l hl, blk_6 m c t l hl, blk_7 m c t, blk_8 m c t, blk_9 m c t, blk_10 m c t]
  simp only [add_assoc]

theorem row_dxb (c : Dev nD) (t : Fin cfg0.N) (l : Fin 512) (hl : t.val * 512 + l.val < 8192) (k : Fin 1024) :
    k0_pay3 (k0_pay14 (iblk m c 0 t)) (iblk m c 6 t) (k0_pay30 (k0_pay15 (iblk m c 8 t)) (k0_pay17 (iblk m c 0 t)) (k0_pay21 (iblk m c 1 t)) (k0_pay22 (iblk m c 5 t)) (k0_pay23 (iblk m c 10 t)) (iblk m c 6 t) (iblk m c 9 t)) (k0_pay31 (k0_pay14 (iblk m c 0 t)) (k0_pay15 (iblk m c 8 t)) (k0_pay18 (iblk m c 0 t)) (k0_pay21 (iblk m c 1 t)) (k0_pay22 (iblk m c 5 t)) (k0_pay23 (iblk m c 10 t)) (iblk m c 6 t) (iblk m c 9 t)) (ix2 l k)
      = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  rw [← row_dx m c t l hl]
  pointwise [k0_pay3]

/-- The gradient of the branches. -/
theorem row_dy (c : Dev nD) (t : Fin cfg0.N) (l : Fin 512) (hl : t.val * 512 + l.val < 8192) (k : Fin 1024) :
    k0_pay5 (k0_pay14 (iblk m c 0 t)) (iblk m c 6 t) (k0_pay30 (k0_pay15 (iblk m c 8 t)) (k0_pay17 (iblk m c 0 t)) (k0_pay21 (iblk m c 1 t)) (k0_pay22 (iblk m c 5 t)) (k0_pay23 (iblk m c 10 t)) (iblk m c 6 t) (iblk m c 9 t)) (k0_pay31 (k0_pay14 (iblk m c 0 t)) (k0_pay15 (iblk m c 8 t)) (k0_pay18 (iblk m c 0 t)) (k0_pay21 (iblk m c 1 t)) (k0_pay22 (iblk m c 5 t)) (k0_pay23 (iblk m c 10 t)) (iblk m c 6 t) (iblk m c 9 t)) (iblk m c 7 t) (ix2 l k)
      = (val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  pointwise [k0_pay5, val_main_v65]
  simp only [row_dxb m c t l hl, blk_7 m c t]

theorem row_dy0 (c : Dev nD) (t : Fin cfg0.N) (l : Fin 512) (hl : t.val * 512 + l.val < 8192) (k : Fin 256) :
    k0_pay6 (k0_pay14 (iblk m c 0 t)) (iblk m c 6 t) (k0_pay30 (k0_pay15 (iblk m c 8 t)) (k0_pay17 (iblk m c 0 t)) (k0_pay21 (iblk m c 1 t)) (k0_pay22 (iblk m c 5 t)) (k0_pay23 (iblk m c 10 t)) (iblk m c 6 t) (iblk m c 9 t)) (k0_pay31 (k0_pay14 (iblk m c 0 t)) (k0_pay15 (iblk m c 8 t)) (k0_pay18 (iblk m c 0 t)) (k0_pay21 (iblk m c 1 t)) (k0_pay22 (iblk m c 5 t)) (k0_pay23 (iblk m c 10 t)) (iblk m c 6 t) (iblk m c 9 t)) (iblk m c 7 t) (ix2 l k)
      = (val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  pointwise [k0_pay6, val_main_v66]
  exact row_dy m c t l hl _

theorem row_dy1 (c : Dev nD) (t : Fin cfg0.N) (l : Fin 512) (hl : t.val * 512 + l.val < 8192) (k : Fin 512) :
    k0_pay7 (k0_pay14 (iblk m c 0 t)) (iblk m c 6 t) (k0_pay30 (k0_pay15 (iblk m c 8 t)) (k0_pay17 (iblk m c 0 t)) (k0_pay21 (iblk m c 1 t)) (k0_pay22 (iblk m c 5 t)) (k0_pay23 (iblk m c 10 t)) (iblk m c 6 t) (iblk m c 9 t)) (k0_pay31 (k0_pay14 (iblk m c 0 t)) (k0_pay15 (iblk m c 8 t)) (k0_pay18 (iblk m c 0 t)) (k0_pay21 (iblk m c 1 t)) (k0_pay22 (iblk m c 5 t)) (k0_pay23 (iblk m c 10 t)) (iblk m c 6 t) (iblk m c 9 t)) (iblk m c 7 t) (ix2 l k)
      = (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  pointwise [k0_pay7, val_main_v67]
  exact row_dy m c t l hl _

theorem row_dy2 (c : Dev nD) (t : Fin cfg0.N) (l : Fin 512) (hl : t.val * 512 + l.val < 8192) (k : Fin 256) :
    k0_pay8 (k0_pay14 (iblk m c 0 t)) (iblk m c 6 t) (k0_pay30 (k0_pay15 (iblk m c 8 t)) (k0_pay17 (iblk m c 0 t)) (k0_pay21 (iblk m c 1 t)) (k0_pay22 (iblk m c 5 t)) (k0_pay23 (iblk m c 10 t)) (iblk m c 6 t) (iblk m c 9 t)) (k0_pay31 (k0_pay14 (iblk m c 0 t)) (k0_pay15 (iblk m c 8 t)) (k0_pay18 (iblk m c 0 t)) (k0_pay21 (iblk m c 1 t)) (k0_pay22 (iblk m c 5 t)) (k0_pay23 (iblk m c 10 t)) (iblk m c 6 t) (iblk m c 9 t)) (iblk m c 7 t) (ix2 l k)
      = (val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k) := by
  pointwise [k0_pay8, val_main_v68]
  exact row_dy m c t l hl _

theorem row_gate (c : Dev nD) (t : Fin cfg0.N) (l : Fin 512) (hl : t.val * 512 + l.val < 8192) (k : Fin 1024) :
    (k0_pay21 (iblk m c 1 t)) (ix2 l k)
      = (val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (ix2 ⟨t.val * 512 + l.val, hl⟩ k) := by
  rw [← blk_1 m c t l hl]
  pointwise [k0_pay21]

theorem row_p (c : Dev nD) (t : Fin cfg0.N) (l : Fin 512) (hl : t.val * 512 + l.val < 8192) (k : Fin 256) :
    (k0_pay22 (iblk m c 5 t)) (ix2 l k)
      = (m ((c : Thread nD τ).loc main_arg4) : FVec Ideal S8192x256 .f32) (ix2 ⟨t.val * 512 + l.val, hl⟩ k) := by
  rw [← blk_5 m c t l hl]
  pointwise [k0_pay22]

end Cert.OutIdeal.Rows

end
-- ==== Proof.OutSums.lean ====
/-
  The output projection's gradient: every result array of the kernel is the reference's.
-/
module

public import proofs.«01_k».proof.Proof.OutRows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutIdeal.Sums

open Cert.OutIdeal Cert.OutIdeal.Gen Cert.OutRefIdeal.Read Cert.OutIdeal.Rows

variable (m : (ℓ : Loc nD τ sig) → Buf (Elt Ideal) ℓ)

/-- The product of two numbers. -/
def times (a b : Ideal .f32) : Ideal .f32 := a * b

/-- A tiled result array. -/
theorem final_11 (c : Dev nD) : (dats m 0 c).arrAt 11 (cfgs 0).N = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t hf y => ?_
  have key : ∀ (l : Fin 512) (hl : t.val * 512 + l.val < 8192) k, _ := fun l hl k => row_dx m c t l hl k
  have at_place : ∀ (l : Fin 512) (hl : t.val * 512 + l.val < 8192) (k : Fin 1024),
      (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k)
        = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((View.whole main_v28_0).slice (win0_11.rect t)).emb (ix2 l k)) := by
    intro l hl k
    generalize val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = R
    refine Eq.symm ?_
    blk_point [idx t]
  blk_simp
  rw [after0_11]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

/-- A tiled result array. -/
theorem final_12 (c : Dev nD) : (dats m 0 c).arrAt 12 (cfgs 0).N = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t hf y => ?_
  have key : ∀ (l : Fin 512) (hl : t.val * 512 + l.val < 8192) k, _ := fun l hl k => row_dy0 m c t l hl k
  have at_place : ∀ (l : Fin 512) (hl : t.val * 512 + l.val < 8192) (k : Fin 256),
      (val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k)
        = (val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((View.whole main_v28_1).slice (win0_12.rect t)).emb (ix2 l k)) := by
    intro l hl k
    generalize val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = R
    refine Eq.symm ?_
    blk_point [idx t]
  blk_simp
  rw [after0_12]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

/-- A tiled result array. -/
theorem final_13 (c : Dev nD) : (dats m 0 c).arrAt 13 (cfgs 0).N = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  have key : ∀ (l : Fin 512) (hl : t.val * 512 + l.val < 8192) k, _ := fun l hl k => row_dy1 m c t l hl k
  have at_place : ∀ (l : Fin 512) (hl : t.val * 512 + l.val < 8192) (k : Fin 512),
      (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k)
        = (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((View.whole main_v28_2).slice (win0_13.rect t)).emb (ix2 l k)) := by
    intro l hl k
    generalize val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = R
    refine Eq.symm ?_
    blk_point [idx t]
  blk_simp
  rw [after0_13]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

/-- A tiled result array. -/
theorem final_14 (c : Dev nD) : (dats m 0 c).arrAt 14 (cfgs 0).N = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  have key : ∀ (l : Fin 512) (hl : t.val * 512 + l.val < 8192) k, _ := fun l hl k => row_dy2 m c t l hl k
  have at_place : ∀ (l : Fin 512) (hl : t.val * 512 + l.val < 8192) (k : Fin 256),
      (val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k)
        = (val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((View.whole main_v28_3).slice (win0_14.rect t)).emb (ix2 l k)) := by
    intro l hl k
    generalize val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = R
    refine Eq.symm ?_
    blk_point [idx t]
  blk_simp
  rw [after0_14]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

theorem zero_15 (j : S1024x1024.Idx) : k0_pay9 (F := Ideal) j = 0 := by pointwise [k0_pay9]

/-- What one grid point adds. -/
theorem pay_15 (v7 : FVec Ideal S512x1024 .bf16) (v9 d v67 : Vec Ideal S512x1024 .f32) (v71 : FVec Ideal S512 .f32) (acc : Vec Ideal S1024x1024 .f32) (j : S1024x1024.Idx) :
    k0_pay4 v7 v9 d v67 v71 acc j = acc j + ∑ l : Fin 512, v7 (ix2 l (j 0)) * k0_pay3 v9 d v67 v71 (ix2 l (j 1)) := by
  pointwise [k0_pay4]

theorem ref_15 (c : Dev nD) (j : S1024x1024.Idx) : (val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) j = ∑ l : Fin 8192, (val_main_v0 (F := Ideal) (m ((c : Thread nD τ).loc main_arg1)) (m ((c : Thread nD τ).loc main_arg2)) (m ((c : Thread nD τ).loc main_arg3))) (ix2 l (j 0)) * (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 l (j 1)) := by
  pointwise [val_main_v64, val_main_v63]
  exact Finset.sum_congr rfl fun x _ => EReal.mul_comm _ _

/-- An accumulated result array. -/
theorem final_15 (c : Dev nD) : (dats m 0 c).arrAt 15 (cfgs 0).N = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 15 t0_15 (by decide +kernel) _ fun j => ?_
  blk_simp
  rw [after0_15, Pipeline.eq_sum_fin_of_reset_step_apply_last (fun n h => (outsAt0 m c n h).2.2.2.2.1) 16 (fun _ => 0) _
    (fun t h j => by rw [outsAt0_A m c t h]; frame_out; rw [pay_15, zero_15])
    (fun t h j => by rw [outsAt0_B m c t h]; frame_out; rw [pay_15])
    (le_of_eq N_0) t0_15 rfl j, zero_add, ref_15]
  refine Fin.sum_mul_add_congr fun s l hl => ?_
  exact congrArg₂ (· * ·) (row_y m c s l hl (j 0)) (row_dxb m c s l hl (j 1))

theorem zero_16 (j : S1x1024.Idx) : k0_pay10 (F := Ideal) j = 0 := by pointwise [k0_pay10]

/-- What one grid point adds. -/
theorem pay_16 (v24 v29 : Vec Ideal S512x1024 .f32) (v32 : FVec Ideal S512x256 .bf16) (v34 : FVec Ideal S256x1024 .bf16) (d : Vec Ideal S512x1024 .f32) (wg : Vec Ideal S1024x1024 .bf16) (acc : Vec Ideal S1x1024 .f32) (j : S1x1024.Idx) :
    k0_pay1 (k0_pay28 v24 v29 v32 v34 d wg) acc j = acc j + ∑ l : Fin 512, v24 (ix2 l (j 1)) * k0_pay27 v29 v32 v34 d wg (ix2 l (j 1)) := by
  pointwise [k0_pay1, k0_pay28]

theorem ref_16 (c : Dev nD) (j : S1x1024.Idx) : (val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) j = ∑ l : Fin 8192, (val_main_v15 (F := Ideal) (m ((c : Thread nD τ).loc main_arg0)) (m ((c : Thread nD τ).loc main_arg1)) (m ((c : Thread nD τ).loc main_arg2)) (m ((c : Thread nD τ).loc main_arg3)) (m ((c : Thread nD τ).loc main_arg6))) (ix2 l (j 1)) * (val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 l (j 1)) := by
  pointwise [val_main_v69, val_main_v47, val_main_v44, val_main_v43, val_main_v42, val_main_cst, val_main_cst_0, val_main_cst_1, val_main_cst_2, val_main_cst_3, val_main_cst_4, val_main_cst_5, val_main_cst_6, val_main_cst_7, val_main_cst_8, val_main_cst_9, val_main_cst_10]
  exact Fin.sum_univ_one _

/-- An accumulated result array. -/
theorem final_16 (c : Dev nD) : (dats m 0 c).arrAt 16 (cfgs 0).N = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2.1) 16 (fun _ => 0) _
    (fun t h j => by rw [outsAt0_A m c t h]; frame_out; rw [pay_16, zero_16])
    (fun t h j => by rw [outsAt0_B m c t h]; frame_out; rw [pay_16])
    (le_of_eq N_0) t0_15 rfl j, zero_add, ref_16]
  refine Fin.sum_mul_add_congr fun s l hl => ?_
  exact congrArg₂ (· * ·) (row_hat m c s l hl (j 1)) (row_dh m c s l hl (j 1))

theorem zero_17 (j : S1024x1024.Idx) : k0_pay11 (F := Ideal) j = 0 := by pointwise [k0_pay11]

/-- What one grid point adds. -/
theorem pay_17 (v27 : FVec Ideal S512x1024 .bf16) (v29 : Vec Ideal S512x1024 .f32) (v32 : FVec Ideal S512x256 .bf16) (v34 : FVec Ideal S256x1024 .bf16) (d : Vec Ideal S512x1024 .f32) (acc : Vec Ideal S1024x1024 .f32) (j : S1024x1024.Idx) :
    k0_pay26 v27 v29 v32 v34 d acc j = acc j + ∑ l : Fin 512, v27 (ix2 l (j 0)) * k0_pay24 v29 v32 v34 d (ix2 l (j 1)) := by
  pointwise [k0_pay26]

theorem ref_17 (c : Dev nD) (j : S1024x1024.Idx) : (val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) j = ∑ l : Fin 8192, (val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (ix2 l (j 0)) * (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 l (j 1)) := by
  pointwise [val_main_v40, val_main_v39]
  exact Finset.sum_congr rfl fun x _ => EReal.mul_comm _ _

/-- An accumulated result array. -/
theorem final_17 (c : Dev nD) : (dats m 0 c).arrAt 17 (cfgs 0).N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.1) 16 (fun _ => 0) _
    (fun t h j => by rw [outsAt0_A m c t h]; frame_out; rw [pay_17, zero_17])
    (fun t h j => by rw [outsAt0_B m c t h]; frame_out; rw [pay_17])
    (le_of_eq N_0) t0_15 rfl j, zero_add, ref_17]
  refine Fin.sum_mul_add_congr fun s l hl => ?_
  exact congrArg₂ (· * ·) (row_norm m c s l hl (j 0)) (row_dlog m c s l hl (j 1))

theorem zero_18 (j : S256x1024.Idx) : k0_pay12 (F := Ideal) j = 0 := by pointwise [k0_pay12]

/-- What one grid point adds. -/
theorem pay_18 (v29 : Vec Ideal S512x1024 .f32) (v32 : FVec Ideal S512x256 .bf16) (d : Vec Ideal S512x1024 .f32) (acc : Vec Ideal S256x1024 .f32) (j : S256x1024.Idx) :
    k0_pay25 v29 v32 d acc j = acc j + ∑ l : Fin 512, times (v32 (ix2 l (j 0))) (times (d (ix2 l (j 1))) (v29 (ix2 l (j 1)))) := by
  pointwise [k0_pay25, times]

theorem ref_18 (c : Dev nD) (j : S256x1024.Idx) : (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) j = ∑ l : Fin 8192, times ((m ((c : Thread nD τ).loc main_arg4) : FVec Ideal S8192x256 .f32) (ix2 l (j 0))) (times ((m ((c : Thread nD τ).loc main_arg5) : FVec Ideal S8192x1024 .f32) (ix2 l (j 1))) ((val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) (ix2 l (j 1)))) := by
  pointwise [val_main_v37, val_main_v36, val_main_v34, val_main_v33, times]
  exact Finset.sum_congr rfl fun x _ => (EReal.mul_comm _ _).trans (congrArg₂ times rfl (EReal.mul_comm _ _))

/-- An accumulated result array. -/
theorem final_18 (c : Dev nD) : (dats m 0 c).arrAt 18 (cfgs 0).N = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 18 t0_15 (by decide +kernel) _ fun j => ?_
  blk_simp
  rw [after0_18, Pipeline.eq_sum_fin_of_reset_step_apply_last (fun n h => (outsAt0 m c n h).2.2.2.2.2.2.2) 16 (fun _ => 0) _
    (fun t h j => by rw [outsAt0_A m c t h]; frame_out; rw [pay_18, zero_18])
    (fun t h j => by rw [outsAt0_B m c t h]; frame_out; rw [pay_18])
    (le_of_eq N_0) t0_15 rfl j, zero_add, ref_18]
  refine Fin.sum_mul_add_congr fun s l hl => ?_
  exact congrArg₂ times (row_p m c s l hl (j 0)) (congrArg₂ times (blk_6 m c s l hl (j 1)) (row_gate m c s l hl (j 1)))

end Cert.OutIdeal.Sums

end
-- ==== Proof.OutClaim.lean ====
/- The output projection's gradient: the kernel's eight results are the reference's, and the reference's frame. -/
module

public import proofs.«01_k».proof.Defs
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.OutSums
public import Idealize.ShloMosaic.Lib.Claim

@[expose] public section

set_option maxRecDepth 16384

noncomputable section

namespace Cert.OutClaim

open Idealize.ShloMosaic Idealize.SL.Sem

/-- The reference leaves its arguments alone; it declares no semaphore. -/
theorem ref_frame : Cert.quiescent_OutRefIdeal := fun m ρ _ =>
  (θ_run Cert.OutRefIdeal.defs _ _).mono (fun r h => ⟨fun c => (h c).2.2.2.2.2.2.2.2, sem_eq_zero_of_no_sems (by decide) r.2⟩)
    (Cert.OutRefIdeal.Value.run (F := Ideal) m ρ)

set_option maxHeartbeats 1600000 in
/-- The kernel's results are the reference's. -/
theorem algebraic : Cert.algebraic_OutIdeal_OutRefIdeal := by
  intro m g m' g' hpre hagree
  refine ⟨fun c => (Cert.OutIdeal.Gen.dats m 0 c).arrAt 11 (Cert.OutIdeal.cfgs 0).N,
    fun c => (Cert.OutIdeal.Gen.dats m 0 c).arrAt 12 (Cert.OutIdeal.cfgs 0).N,
    fun c => (Cert.OutIdeal.Gen.dats m 0 c).arrAt 13 (Cert.OutIdeal.cfgs 0).N,
    fun c => (Cert.OutIdeal.Gen.dats m 0 c).arrAt 14 (Cert.OutIdeal.cfgs 0).N,
    fun c => (Cert.OutIdeal.Gen.dats m 0 c).arrAt 15 (Cert.OutIdeal.cfgs 0).N,
    fun c => (Cert.OutIdeal.Gen.dats m 0 c).arrAt 16 (Cert.OutIdeal.cfgs 0).N,
    fun c => (Cert.OutIdeal.Gen.dats m 0 c).arrAt 17 (Cert.OutIdeal.cfgs 0).N,
    fun c => (Cert.OutIdeal.Gen.dats m 0 c).arrAt 18 (Cert.OutIdeal.cfgs 0).N, ?_, ?_⟩
  · exact θ_run_mono (θ_run_and (Cert.OutIdeal.Gen.run_main m g) (Cert.OutIdeal.Gen.unchanged m g)) fun r hr c =>
      ⟨(hr.1 c).1 11, (hr.1 c).1 12, (hr.1 c).1 13, (hr.1 c).1 14, (hr.1 c).1 15, (hr.1 c).1 16, (hr.1 c).1 17, (hr.1 c).1 18, hr.2 c⟩
  · have ha := PLift.up hagree
    clear hagree
    run_from Cert.OutRefIdeal.Value.run m' g'
    · refine (Cert.OutRefIdeal.Read.val_main_v62_eq ..).trans ?_
      simp only [ha.down c]
      exact (Cert.OutIdeal.Sums.final_11 m c).symm
    · refine (Cert.OutRefIdeal.Read.val_main_v66_eq ..).trans ?_
      simp only [ha.down c]
      exact (Cert.OutIdeal.Sums.final_12 m c).symm
    · refine (Cert.OutRefIdeal.Read.val_main_v67_eq ..).trans ?_
      simp only [ha.down c]
      exact (Cert.OutIdeal.Sums.final_13 m c).symm
    · refine (Cert.OutRefIdeal.Read.val_main_v68_eq ..).trans ?_
      simp only [ha.down c]
      exact (Cert.OutIdeal.Sums.final_14 m c).symm
    · refine (Cert.OutRefIdeal.Read.val_main_v64_eq ..).trans ?_
      simp only [ha.down c]
      exact (Cert.OutIdeal.Sums.final_15 m c).symm
    · refine (Cert.OutRefIdeal.Read.val_main_v69_eq ..).trans ?_
      simp only [ha.down c]
      exact (Cert.OutIdeal.Sums.final_16 m c).symm
    · refine (Cert.OutRefIdeal.Read.val_main_v40_eq ..).trans ?_
      simp only [ha.down c]
      exact (Cert.OutIdeal.Sums.final_17 m c).symm
    · refine (Cert.OutRefIdeal.Read.val_main_v37_eq ..).trans ?_
      simp only [ha.down c]
      exact (Cert.OutIdeal.Sums.final_18 m c).symm

end Cert.OutClaim

end
-- ==== Proof.DxPost.lean ====
/-
  The gradient of the activation and of the heads' normalisation, as the kernel computes it for one row: head by head.
-/
module

public import proofs.«01_k».proof.Proof.Gen.DxIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DxIdeal.Post

open Cert.DxIdeal Cert.DxIdeal.Gen

/-- The sum of a head's squares, and the small constant. -/
def ssq (σ : Fin 128 → Ideal .f32) : Ideal .f32 := (∑ x, σ x * σ x) + Ideal.ofBits .f32 0x358637BD#32

/-- The derivative of the reciprocal root at that sum. -/
def rootSlope (σ : Fin 128 → Ideal .f32) : Ideal .f32 :=
  Ideal.ofBits .f32 0xBF000000#32 * Ideal.div (Ideal.rsqrt (ssq σ)) (ssq σ)

/-- The gradient of a normalised head `σ` from the gradient `δ` of the result. -/
def back (σ δ : Fin 128 → Ideal .f32) (e : Fin 128) : Ideal .f32 :=
  δ e * Ideal.rsqrt (ssq σ) + σ e * ((∑ x, σ x * δ x) * rootSlope σ) + (∑ x, σ x * δ x) * rootSlope σ * σ e

/-- The gradient of the convolution's result at every row of a block and of the eight rows after it: from the extended
    block, its rotations and the convolution's rows (first five), the gradient's block and the rows after it (last two). -/
def postK (v51 v54 : FVec Ideal S528x1536 .f32) (v65 : FVec Ideal S520x1536 .f32) (v66 v72 : Vec Ideal S1x1536 .f32)
    (v47 : Vec Ideal S512x1536 .f32) (v50 : FVec Ideal S8x1536 .f32) : FVec Ideal S520x1536 .f32 :=
  k0_pay64 (k0_pay12 v51 v54 v65 v66 v72) (k0_pay13 v51 v54 v65 v66 v72) (k0_pay14 v51 v54 v65 v66 v72)
    (k0_pay16 v51 v54 v65 v66 v72) (k0_pay18 v51 v54 v65 v66 v72) (k0_pay19 v51 v54 v65 v66 v72) (k0_pay20 v51 v54 v65 v66 v72)
    (k0_pay48 v47 v50)
    (k0_pay60 (k0_pay24 v51 v54 v65 v66 v72) (k0_pay26 v51 v54 v65 v66 v72) (k0_pay27 v51 v54 v65 v66 v72)
      (k0_pay28 v51 v54 v65 v66 v72) (k0_pay30 (k0_pay28 v51 v54 v65 v66 v72)) (k0_pay31 (k0_pay28 v51 v54 v65 v66 v72))
      (k0_pay50 v47 v50) (k0_pay51 v47 v50)
      (k0_pay57 (k0_pay36 (k0_pay15 v51 v54 v65 v66 v72)) (k0_pay38 (k0_pay15 v51 v54 v65 v66 v72))
        (k0_pay39 (k0_pay15 v51 v54 v65 v66 v72)) (k0_pay40 (k0_pay15 v51 v54 v65 v66 v72))
        (k0_pay42 (k0_pay15 v51 v54 v65 v66 v72)) (k0_pay43 (k0_pay15 v51 v54 v65 v66 v72)) (k0_pay53 v47 v50) (k0_pay54 v47 v50)
        (k0_pay55 v47 v50 (k0_pay44 (k0_pay15 v51 v54 v65 v66 v72)) (k0_pay45 (k0_pay15 v51 v54 v65 v66 v72))
          (k0_pay46 (k0_pay15 v51 v54 v65 v66 v72)))
        (k0_pay56 v47 v50 (k0_pay40 (k0_pay15 v51 v54 v65 v66 v72))))
      (k0_pay58 (k0_pay32 (k0_pay15 v51 v54 v65 v66 v72)) (k0_pay34 (k0_pay15 v51 v54 v65 v66 v72))
        (k0_pay35 (k0_pay15 v51 v54 v65 v66 v72)) (k0_pay52 v47 v50))
      k0_pay59)
    (k0_pay62 (k0_pay22 v51 v54 v65 v66 v72) (k0_pay49 v47 v50))
    (k0_pay63 (k0_pay20 v51 v54 v65 v66 v72) (k0_pay23 v51 v54 v65 v66 v72) (k0_pay49 v47 v50))

theorem row55_0 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨0 + e.val, by have := e.isLt; omega⟩) = 0 := by
  have he := e.isLt
  pointwise [k0_pay55]
  simp (disch := omega) only [dif_pos, dif_neg, zero_add, add_zero, Fin.sum_univ_one, Nat.add_sub_cancel_left]

theorem row57_0 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨0 + e.val, by have := e.isLt; omega⟩) = v210 (ix2 r ⟨0 + e.val, by have := e.isLt; omega⟩) := by
  have he := e.isLt
  pointwise [k0_pay57]
  simp (disch := omega) only [dif_pos, dif_neg, zero_add, add_zero, Fin.sum_univ_one, Nat.add_sub_cancel_left]

theorem row60_0 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨0 + e.val, by have := e.isLt; omega⟩) = v246 (ix2 r ⟨0 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_0 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨0 + e.val, by have := e.isLt; omega⟩)
      = (v304 (ix2 r ⟨0 + e.val, by have := e.isLt; omega⟩) + ((v164 (ix2 r e) * Ideal.ofBits .f32 0x3DB504F3#32) * v89 (ix2 r 0) + v83 (ix2 r e) * ((∑ x, v83 (ix2 r x) * (v164 (ix2 r x) * Ideal.ofBits .f32 0x3DB504F3#32)) * v92 (ix2 r 0)) + (∑ x, v83 (ix2 r x) * (v164 (ix2 r x) * Ideal.ofBits .f32 0x3DB504F3#32)) * v92 (ix2 r 0) * v83 (ix2 r e))) * v78 (ix2 r ⟨0 + e.val, by have := e.isLt; omega⟩) + v77 (ix2 r ⟨0 + e.val, by have := e.isLt; omega⟩) * (v304 (ix2 r ⟨0 + e.val, by have := e.isLt; omega⟩) + ((v164 (ix2 r e) * Ideal.ofBits .f32 0x3DB504F3#32) * v89 (ix2 r 0) + v83 (ix2 r e) * ((∑ x, v83 (ix2 r x) * (v164 (ix2 r x) * Ideal.ofBits .f32 0x3DB504F3#32)) * v92 (ix2 r 0)) + (∑ x, v83 (ix2 r x) * (v164 (ix2 r x) * Ideal.ofBits .f32 0x3DB504F3#32)) * v92 (ix2 r 0) * v83 (ix2 r e))) * v81 (ix2 r ⟨0 + e.val, by have := e.isLt; omega⟩) := by
  have he := e.isLt
  pointwise [k0_pay64]
  simp (disch := omega) only [dif_pos, dif_neg, zero_add, add_zero, Fin.sum_univ_one, Nat.add_sub_cancel_left]

theorem post_0 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨0 + e.val, by have := e.isLt; omega⟩)
      = back (fun x : Fin 128 => k0_pay15 v51 v54 v65 v66 v72 (ix2 r ⟨0 + x.val, by have := x.isLt; omega⟩)) (fun x : Fin 128 => k0_pay47 v47 v50 (ix2 r ⟨0 + x.val, by have := x.isLt; omega⟩) * Ideal.ofBits .f32 0x3DB504F3#32) e * k0_pay13 v51 v54 v65 v66 v72 (ix2 r ⟨0 + e.val, by have := e.isLt; omega⟩)
        + k0_pay12 v51 v54 v65 v66 v72 (ix2 r ⟨0 + e.val, by have := e.isLt; omega⟩) * back (fun x : Fin 128 => k0_pay15 v51 v54 v65 v66 v72 (ix2 r ⟨0 + x.val, by have := x.isLt; omega⟩)) (fun x : Fin 128 => k0_pay47 v47 v50 (ix2 r ⟨0 + x.val, by have := x.isLt; omega⟩) * Ideal.ofBits .f32 0x3DB504F3#32) e * k0_pay14 v51 v54 v65 v66 v72 (ix2 r ⟨0 + e.val, by have := e.isLt; omega⟩) := by
  unfold postK back rootSlope ssq
  rw [row64_0, row60_0, row57_0, row55_0]
  generalize k0_pay12 v51 v54 v65 v66 v72 = c2
  generalize k0_pay13 v51 v54 v65 v66 v72 = sg
  generalize k0_pay14 v51 v54 v65 v66 v72 = sl
  pointwise [k0_pay16, k0_pay17, k0_pay18, k0_pay19, k0_pay48]

theorem row55_1 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨128 + e.val, by have := e.isLt; omega⟩) = 0 := by
  have he := e.isLt
  pointwise [k0_pay55]
  simp (disch := omega) only [dif_pos, dif_neg, zero_add, add_zero, Fin.sum_univ_one, Nat.add_sub_cancel_left]

theorem row57_1 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨128 + e.val, by have := e.isLt; omega⟩) = v210 (ix2 r ⟨128 + e.val, by have := e.isLt; omega⟩) := by
  have he := e.isLt
  pointwise [k0_pay57]
  simp (disch := omega) only [dif_pos, dif_neg, zero_add, add_zero, Fin.sum_univ_one, Nat.add_sub_cancel_left]

theorem row60_1 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨128 + e.val, by have := e.isLt; omega⟩) = v246 (ix2 r ⟨128 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_1 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨128 + e.val, by have := e.isLt; omega⟩)
      = (v304 (ix2 r ⟨128 + e.val, by have := e.isLt; omega⟩) + (v311 (ix2 r e) + v93 (ix2 r e) * v312 (ix2 r 0) + v312 (ix2 r 0) * v93 (ix2 r e))) * v78 (ix2 r ⟨128 + e.val, by have := e.isLt; omega⟩) + v77 (ix2 r ⟨128 + e.val, by have := e.isLt; omega⟩) * (v304 (ix2 r ⟨128 + e.val, by have := e.isLt; omega⟩) + (v311 (ix2 r e) + v93 (ix2 r e) * v312 (ix2 r 0) + v312 (ix2 r 0) * v93 (ix2 r e))) * v81 (ix2 r ⟨128 + e.val, by have := e.isLt; omega⟩) := by
  have he := e.isLt
  pointwise [k0_pay64]
  simp (disch := omega) only [dif_pos, dif_neg, zero_add, add_zero, Fin.sum_univ_one, Nat.add_sub_cancel_left]

theorem post_1 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨128 + e.val, by have := e.isLt; omega⟩)
      = back (fun x : Fin 128 => k0_pay15 v51 v54 v65 v66 v72 (ix2 r ⟨128 + x.val, by have := x.isLt; omega⟩)) (fun x : Fin 128 => k0_pay47 v47 v50 (ix2 r ⟨128 + x.val, by have := x.isLt; omega⟩) * Ideal.ofBits .f32 0x3DB504F3#32) e * k0_pay13 v51 v54 v65 v66 v72 (ix2 r ⟨128 + e.val, by have := e.isLt; omega⟩)
        + k0_pay12 v51 v54 v65 v66 v72 (ix2 r ⟨128 + e.val, by have := e.isLt; omega⟩) * back (fun x : Fin 128 => k0_pay15 v51 v54 v65 v66 v72 (ix2 r ⟨128 + x.val, by have := x.isLt; omega⟩)) (fun x : Fin 128 => k0_pay47 v47 v50 (ix2 r ⟨128 + x.val, by have := x.isLt; omega⟩) * Ideal.ofBits .f32 0x3DB504F3#32) e * k0_pay14 v51 v54 v65 v66 v72 (ix2 r ⟨128 + e.val, by have := e.isLt; omega⟩) := by
  unfold postK back rootSlope ssq
  rw [row64_1, row60_1, row57_1, row55_1]
  generalize k0_pay12 v51 v54 v65 v66 v72 = c2
  generalize k0_pay13 v51 v54 v65 v66 v72 = sg
  generalize k0_pay14 v51 v54 v65 v66 v72 = sl
  pointwise [k0_pay20, k0_pay21, k0_pay22, k0_pay23, k0_pay49, k0_pay61, k0_pay62, k0_pay63]

theorem row55_2 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨256 + e.val, by have := e.isLt; omega⟩) = 0 := by
  have he := e.isLt
  pointwise [k0_pay55]
  simp (disch := omega) only [dif_pos, dif_neg, zero_add, add_zero, Fin.sum_univ_one, Nat.add_sub_cancel_left]

theorem row57_2 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨256 + e.val, by have := e.isLt; omega⟩) = v210 (ix2 r ⟨256 + e.val, by have := e.isLt; omega⟩) := by
  have he := e.isLt
  pointwise [k0_pay57]
  simp (disch := omega) only [dif_pos, dif_neg, zero_add, add_zero, Fin.sum_univ_one, Nat.add_sub_cancel_left]

theorem row60_2 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨256 + e.val, by have := e.isLt; omega⟩) = v246 (ix2 r ⟨256 + e.val, by have := e.isLt; omega⟩) + ((v166 (ix2 r e) * Ideal.ofBits .f32 0x3DB504F3#32) * v109 (ix2 r 0) + v103 (ix2 r e) * ((∑ x, v103 (ix2 r x) * (v166 (ix2 r x) * Ideal.ofBits .f32 0x3DB504F3#32)) * v112 (ix2 r 0)) + (∑ x, v103 (ix2 r x) * (v166 (ix2 r x) * Ideal.ofBits .f32 0x3DB504F3#32)) * v112 (ix2 r 0) * v103 (ix2 r e)) := by
  have he := e.isLt
  pointwise [k0_pay60, k0_pay58, k0_pay59]
  simp (disch := omega) only [dif_pos, dif_neg, zero_add, add_zero, Fin.sum_univ_one, Nat.add_sub_cancel_left]

theorem row64_2 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨256 + e.val, by have := e.isLt; omega⟩)
      = (v304 (ix2 r ⟨256 + e.val, by have := e.isLt; omega⟩)) * v78 (ix2 r ⟨256 + e.val, by have := e.isLt; omega⟩) + v77 (ix2 r ⟨256 + e.val, by have := e.isLt; omega⟩) * (v304 (ix2 r ⟨256 + e.val, by have := e.isLt; omega⟩)) * v81 (ix2 r ⟨256 + e.val, by have := e.isLt; omega⟩) := by
  have he := e.isLt
  pointwise [k0_pay64]
  simp (disch := omega) only [dif_pos, dif_neg, zero_add, add_zero, Fin.sum_univ_one, Nat.add_sub_cancel_left]

theorem post_2 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨256 + e.val, by have := e.isLt; omega⟩)
      = back (fun x : Fin 128 => k0_pay15 v51 v54 v65 v66 v72 (ix2 r ⟨256 + x.val, by have := x.isLt; omega⟩)) (fun x : Fin 128 => k0_pay47 v47 v50 (ix2 r ⟨256 + x.val, by have := x.isLt; omega⟩) * Ideal.ofBits .f32 0x3DB504F3#32) e * k0_pay13 v51 v54 v65 v66 v72 (ix2 r ⟨256 + e.val, by have := e.isLt; omega⟩)
        + k0_pay12 v51 v54 v65 v66 v72 (ix2 r ⟨256 + e.val, by have := e.isLt; omega⟩) * back (fun x : Fin 128 => k0_pay15 v51 v54 v65 v66 v72 (ix2 r ⟨256 + x.val, by have := x.isLt; omega⟩)) (fun x : Fin 128 => k0_pay47 v47 v50 (ix2 r ⟨256 + x.val, by have := x.isLt; omega⟩) * Ideal.ofBits .f32 0x3DB504F3#32) e * k0_pay14 v51 v54 v65 v66 v72 (ix2 r ⟨256 + e.val, by have := e.isLt; omega⟩) := by
  unfold postK back rootSlope ssq
  rw [row64_2, row60_2, row57_2, row55_2]
  generalize k0_pay12 v51 v54 v65 v66 v72 = c2
  generalize k0_pay13 v51 v54 v65 v66 v72 = sg
  generalize k0_pay14 v51 v54 v65 v66 v72 = sl
  pointwise [k0_pay24, k0_pay25, k0_pay26, k0_pay27, k0_pay50]

theorem row55_3 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨384 + e.val, by have := e.isLt; omega⟩) = 0 := by
  have he := e.isLt
  pointwise [k0_pay55]
  simp (disch := omega) only [dif_pos, dif_neg, zero_add, add_zero, Fin.sum_univ_one, Nat.add_sub_cancel_left]

theorem row57_3 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨384 + e.val, by have := e.isLt; omega⟩) = v210 (ix2 r ⟨384 + e.val, by have := e.isLt; omega⟩) := by
  have he := e.isLt
  pointwise [k0_pay57]
  simp (disch := omega) only [dif_pos, dif_neg, zero_add, add_zero, Fin.sum_univ_one, Nat.add_sub_cancel_left]

theorem row60_3 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨384 + e.val, by have := e.isLt; omega⟩) = v246 (ix2 r ⟨384 + e.val, by have := e.isLt; omega⟩) + ((v167 (ix2 r e) * Ideal.ofBits .f32 0x3DB504F3#32) * v119 (ix2 r 0) + v113 (ix2 r e) * ((∑ x, v113 (ix2 r x) * (v167 (ix2 r x) * Ideal.ofBits .f32 0x3DB504F3#32)) * v122 (ix2 r 0)) + (∑ x, v113 (ix2 r x) * (v167 (ix2 r x) * Ideal.ofBits .f32 0x3DB504F3#32)) * v122 (ix2 r 0) * v113 (ix2 r e)) := by
  have he := e.isLt
  pointwise [k0_pay60, k0_pay58, k0_pay59]
  simp (disch := omega) only [dif_pos, dif_neg, zero_add, add_zero, Fin.sum_univ_one, Nat.add_sub_cancel_left]

theorem row64_3 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨384 + e.val, by have := e.isLt; omega⟩)
      = (v304 (ix2 r ⟨384 + e.val, by have := e.isLt; omega⟩)) * v78 (ix2 r ⟨384 + e.val, by have := e.isLt; omega⟩) + v77 (ix2 r ⟨384 + e.val, by have := e.isLt; omega⟩) * (v304 (ix2 r ⟨384 + e.val, by have := e.isLt; omega⟩)) * v81 (ix2 r ⟨384 + e.val, by have := e.isLt; omega⟩) := by
  have he := e.isLt
  pointwise [k0_pay64]
  simp (disch := omega) only [dif_pos, dif_neg, zero_add, add_zero, Fin.sum_univ_one, Nat.add_sub_cancel_left]

theorem post_3 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨384 + e.val, by have := e.isLt; omega⟩)
      = back (fun x : Fin 128 => k0_pay15 v51 v54 v65 v66 v72 (ix2 r ⟨384 + x.val, by have := x.isLt; omega⟩)) (fun x : Fin 128 => k0_pay47 v47 v50 (ix2 r ⟨384 + x.val, by have := x.isLt; omega⟩) * Ideal.ofBits .f32 0x3DB504F3#32) e * k0_pay13 v51 v54 v65 v66 v72 (ix2 r ⟨384 + e.val, by have := e.isLt; omega⟩)
        + k0_pay12 v51 v54 v65 v66 v72 (ix2 r ⟨384 + e.val, by have := e.isLt; omega⟩) * back (fun x : Fin 128 => k0_pay15 v51 v54 v65 v66 v72 (ix2 r ⟨384 + x.val, by have := x.isLt; omega⟩)) (fun x : Fin 128 => k0_pay47 v47 v50 (ix2 r ⟨384 + x.val, by have := x.isLt; omega⟩) * Ideal.ofBits .f32 0x3DB504F3#32) e * k0_pay14 v51 v54 v65 v66 v72 (ix2 r ⟨384 + e.val, by have := e.isLt; omega⟩) := by
  unfold postK back rootSlope ssq
  rw [row64_3, row60_3, row57_3, row55_3]
  generalize k0_pay12 v51 v54 v65 v66 v72 = c2
  generalize k0_pay13 v51 v54 v65 v66 v72 = sg
  generalize k0_pay14 v51 v54 v65 v66 v72 = sl
  pointwise [k0_pay28, k0_pay29, k0_pay30, k0_pay31, k0_pay51]

theorem row55_4 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨512 + e.val, by have := e.isLt; omega⟩) = 0 := by
  have he := e.isLt
  pointwise [k0_pay55]
  simp (disch := omega) only [dif_pos, dif_neg, zero_add, add_zero, Fin.sum_univ_one, Nat.add_sub_cancel_left]

theorem row57_4 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨512 + e.val, by have := e.isLt; omega⟩) = v210 (ix2 r ⟨512 + e.val, by have := e.isLt; omega⟩) := by
  have he := e.isLt
  pointwise [k0_pay57]
  simp (disch := omega) only [dif_pos, dif_neg, zero_add, add_zero, Fin.sum_univ_one, Nat.add_sub_cancel_left]

theorem row60_4 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨512 + e.val, by have := e.isLt; omega⟩) = v246 (ix2 r ⟨512 + e.val, by have := e.isLt; omega⟩) + (v168 (ix2 r e) * v129 (ix2 r 0) + v123 (ix2 r e) * ((∑ x, v123 (ix2 r x) * v168 (ix2 r x)) * v132 (ix2 r 0)) + (∑ x, v123 (ix2 r x) * v168 (ix2 r x)) * v132 (ix2 r 0) * v123 (ix2 r e)) := by
  have he := e.isLt
  pointwise [k0_pay60, k0_pay58, k0_pay59]
  simp (disch := omega) only [dif_pos, dif_neg, zero_add, add_zero, Fin.sum_univ_one, Nat.add_sub_cancel_left]

theorem row64_4 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨512 + e.val, by have := e.isLt; omega⟩)
      = (v304 (ix2 r ⟨512 + e.val, by have := e.isLt; omega⟩)) * v78 (ix2 r ⟨512 + e.val, by have := e.isLt; omega⟩) + v77 (ix2 r ⟨512 + e.val, by have := e.isLt; omega⟩) * (v304 (ix2 r ⟨512 + e.val, by have := e.isLt; omega⟩)) * v81 (ix2 r ⟨512 + e.val, by have := e.isLt; omega⟩) := by
  have he := e.isLt
  pointwise [k0_pay64]
  simp (disch := omega) only [dif_pos, dif_neg, zero_add, add_zero, Fin.sum_univ_one, Nat.add_sub_cancel_left]

theorem post_4 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨512 + e.val, by have := e.isLt; omega⟩)
      = back (fun x : Fin 128 => k0_pay15 v51 v54 v65 v66 v72 (ix2 r ⟨512 + x.val, by have := x.isLt; omega⟩)) (fun x : Fin 128 => k0_pay47 v47 v50 (ix2 r ⟨512 + x.val, by have := x.isLt; omega⟩)) e * k0_pay13 v51 v54 v65 v66 v72 (ix2 r ⟨512 + e.val, by have := e.isLt; omega⟩)
        + k0_pay12 v51 v54 v65 v66 v72 (ix2 r ⟨512 + e.val, by have := e.isLt; omega⟩) * back (fun x : Fin 128 => k0_pay15 v51 v54 v65 v66 v72 (ix2 r ⟨512 + x.val, by have := x.isLt; omega⟩)) (fun x : Fin 128 => k0_pay47 v47 v50 (ix2 r ⟨512 + x.val, by have := x.isLt; omega⟩)) e * k0_pay14 v51 v54 v65 v66 v72 (ix2 r ⟨512 + e.val, by have := e.isLt; omega⟩) := by
  unfold postK back rootSlope ssq
  rw [row64_4, row60_4, row57_4, row55_4]
  generalize k0_pay12 v51 v54 v65 v66 v72 = c2
  generalize k0_pay13 v51 v54 v65 v66 v72 = sg
  generalize k0_pay14 v51 v54 v65 v66 v72 = sl
  pointwise [k0_pay32, k0_pay33, k0_pay34, k0_pay35, k0_pay52]

theorem row55_5 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨640 + e.val, by have := e.isLt; omega⟩) = 0 := by
  have he := e.isLt
  pointwise [k0_pay55]
  simp (disch := omega) only [dif_pos, dif_neg, zero_add, add_zero, Fin.sum_univ_one, Nat.add_sub_cancel_left]

theorem row57_5 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨640 + e.val, by have := e.isLt; omega⟩) = v210 (ix2 r ⟨640 + e.val, by have := e.isLt; omega⟩) + (v169 (ix2 r e) * v139 (ix2 r 0) + v133 (ix2 r e) * ((∑ x, v133 (ix2 r x) * v169 (ix2 r x)) * v142 (ix2 r 0)) + (∑ x, v133 (ix2 r x) * v169 (ix2 r x)) * v142 (ix2 r 0) * v133 (ix2 r e)) := by
  have he := e.isLt
  pointwise [k0_pay57]
  simp (disch := omega) only [dif_pos, dif_neg, zero_add, add_zero, Fin.sum_univ_one, Nat.add_sub_cancel_left]

theorem row60_5 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨640 + e.val, by have := e.isLt; omega⟩) = v246 (ix2 r ⟨640 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_5 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨640 + e.val, by have := e.isLt; omega⟩)
      = (v304 (ix2 r ⟨640 + e.val, by have := e.isLt; omega⟩)) * v78 (ix2 r ⟨640 + e.val, by have := e.isLt; omega⟩) + v77 (ix2 r ⟨640 + e.val, by have := e.isLt; omega⟩) * (v304 (ix2 r ⟨640 + e.val, by have := e.isLt; omega⟩)) * v81 (ix2 r ⟨640 + e.val, by have := e.isLt; omega⟩) := by
  have he := e.isLt
  pointwise [k0_pay64]
  simp (disch := omega) only [dif_pos, dif_neg, zero_add, add_zero, Fin.sum_univ_one, Nat.add_sub_cancel_left]

theorem post_5 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨640 + e.val, by have := e.isLt; omega⟩)
      = back (fun x : Fin 128 => k0_pay15 v51 v54 v65 v66 v72 (ix2 r ⟨640 + x.val, by have := x.isLt; omega⟩)) (fun x : Fin 128 => k0_pay47 v47 v50 (ix2 r ⟨640 + x.val, by have := x.isLt; omega⟩)) e * k0_pay13 v51 v54 v65 v66 v72 (ix2 r ⟨640 + e.val, by have := e.isLt; omega⟩)
        + k0_pay12 v51 v54 v65 v66 v72 (ix2 r ⟨640 + e.val, by have := e.isLt; omega⟩) * back (fun x : Fin 128 => k0_pay15 v51 v54 v65 v66 v72 (ix2 r ⟨640 + x.val, by have := x.isLt; omega⟩)) (fun x : Fin 128 => k0_pay47 v47 v50 (ix2 r ⟨640 + x.val, by have := x.isLt; omega⟩)) e * k0_pay14 v51 v54 v65 v66 v72 (ix2 r ⟨640 + e.val, by have := e.isLt; omega⟩) := by
  unfold postK back rootSlope ssq
  rw [row64_5, row60_5, row57_5, row55_5]
  generalize k0_pay12 v51 v54 v65 v66 v72 = c2
  generalize k0_pay13 v51 v54 v65 v66 v72 = sg
  generalize k0_pay14 v51 v54 v65 v66 v72 = sl
  pointwise [k0_pay36, k0_pay37, k0_pay38, k0_pay39, k0_pay53]

theorem row55_6 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨768 + e.val, by have := e.isLt; omega⟩) = 0 := by
  have he := e.isLt
  pointwise [k0_pay55]
  simp (disch := omega) only [dif_pos, dif_neg, zero_add, add_zero, Fin.sum_univ_one, Nat.add_sub_cancel_left]

theorem row57_6 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨768 + e.val, by have := e.isLt; omega⟩) = v210 (ix2 r ⟨768 + e.val, by have := e.isLt; omega⟩) + (v170 (ix2 r e) * v149 (ix2 r 0) + v143 (ix2 r e) * ((∑ x, v211 (ix2 r x)) * v152 (ix2 r 0)) + (∑ x, v211 (ix2 r x)) * v152 (ix2 r 0) * v143 (ix2 r e)) := by
  have he := e.isLt
  pointwise [k0_pay57]
  simp (disch := omega) only [dif_pos, dif_neg, zero_add, add_zero, Fin.sum_univ_one, Nat.add_sub_cancel_left]

theorem row60_6 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨768 + e.val, by have := e.isLt; omega⟩) = v246 (ix2 r ⟨768 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_6 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨768 + e.val, by have := e.isLt; omega⟩)
      = (v304 (ix2 r ⟨768 + e.val, by have := e.isLt; omega⟩)) * v78 (ix2 r ⟨768 + e.val, by have := e.isLt; omega⟩) + v77 (ix2 r ⟨768 + e.val, by have := e.isLt; omega⟩) * (v304 (ix2 r ⟨768 + e.val, by have := e.isLt; omega⟩)) * v81 (ix2 r ⟨768 + e.val, by have := e.isLt; omega⟩) := by
  have he := e.isLt
  pointwise [k0_pay64]
  simp (disch := omega) only [dif_pos, dif_neg, zero_add, add_zero, Fin.sum_univ_one, Nat.add_sub_cancel_left]

theorem post_6 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨768 + e.val, by have := e.isLt; omega⟩)
      = back (fun x : Fin 128 => k0_pay15 v51 v54 v65 v66 v72 (ix2 r ⟨768 + x.val, by have := x.isLt; omega⟩)) (fun x : Fin 128 => k0_pay47 v47 v50 (ix2 r ⟨768 + x.val, by have := x.isLt; omega⟩)) e * k0_pay13 v51 v54 v65 v66 v72 (ix2 r ⟨768 + e.val, by have := e.isLt; omega⟩)
        + k0_pay12 v51 v54 v65 v66 v72 (ix2 r ⟨768 + e.val, by have := e.isLt; omega⟩) * back (fun x : Fin 128 => k0_pay15 v51 v54 v65 v66 v72 (ix2 r ⟨768 + x.val, by have := x.isLt; omega⟩)) (fun x : Fin 128 => k0_pay47 v47 v50 (ix2 r ⟨768 + x.val, by have := x.isLt; omega⟩)) e * k0_pay14 v51 v54 v65 v66 v72 (ix2 r ⟨768 + e.val, by have := e.isLt; omega⟩) := by
  unfold postK back rootSlope ssq
  rw [row64_6, row60_6, row57_6, row55_6]
  generalize k0_pay12 v51 v54 v65 v66 v72 = c2
  generalize k0_pay13 v51 v54 v65 v66 v72 = sg
  generalize k0_pay14 v51 v54 v65 v66 v72 = sl
  pointwise [k0_pay40, k0_pay41, k0_pay42, k0_pay43, k0_pay54, k0_pay56]

theorem row55_7 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨896 + e.val, by have := e.isLt; omega⟩) = (k0_pay47 v47 v50 (ix2 r ⟨896 + e.val, by have := e.isLt; omega⟩) * v159 (ix2 r 0) + v153 (ix2 r e) * ((∑ x : Fin 128, v153 (ix2 r x) * k0_pay47 v47 v50 (ix2 r ⟨896 + x.val, by have := x.isLt; omega⟩)) * (Ideal.ofBits .f32 0xBF000000#32 * Ideal.div (v159 (ix2 r 0)) (v158 (ix2 r 0)))) + (∑ x : Fin 128, v153 (ix2 r x) * k0_pay47 v47 v50 (ix2 r ⟨896 + x.val, by have := x.isLt; omega⟩)) * (Ideal.ofBits .f32 0xBF000000#32 * Ideal.div (v159 (ix2 r 0)) (v158 (ix2 r 0))) * v153 (ix2 r e)) := by
  have he := e.isLt
  pointwise [k0_pay55]
  simp (disch := omega) only [dif_pos, dif_neg, zero_add, add_zero, Fin.sum_univ_one, Nat.add_sub_cancel_left]

theorem row57_7 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨896 + e.val, by have := e.isLt; omega⟩) = v210 (ix2 r ⟨896 + e.val, by have := e.isLt; omega⟩) := by
  have he := e.isLt
  pointwise [k0_pay57]
  simp (disch := omega) only [dif_pos, dif_neg, zero_add, add_zero, Fin.sum_univ_one, Nat.add_sub_cancel_left]

theorem row60_7 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨896 + e.val, by have := e.isLt; omega⟩) = v246 (ix2 r ⟨896 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_7 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨896 + e.val, by have := e.isLt; omega⟩)
      = (v304 (ix2 r ⟨896 + e.val, by have := e.isLt; omega⟩)) * v78 (ix2 r ⟨896 + e.val, by have := e.isLt; omega⟩) + v77 (ix2 r ⟨896 + e.val, by have := e.isLt; omega⟩) * (v304 (ix2 r ⟨896 + e.val, by have := e.isLt; omega⟩)) * v81 (ix2 r ⟨896 + e.val, by have := e.isLt; omega⟩) := by
  have he := e.isLt
  pointwise [k0_pay64]
  simp (disch := omega) only [dif_pos, dif_neg, zero_add, add_zero, Fin.sum_univ_one, Nat.add_sub_cancel_left]

theorem post_7 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨896 + e.val, by have := e.isLt; omega⟩)
      = back (fun x : Fin 128 => k0_pay15 v51 v54 v65 v66 v72 (ix2 r ⟨896 + x.val, by have := x.isLt; omega⟩)) (fun x : Fin 128 => k0_pay47 v47 v50 (ix2 r ⟨896 + x.val, by have := x.isLt; omega⟩)) e * k0_pay13 v51 v54 v65 v66 v72 (ix2 r ⟨896 + e.val, by have := e.isLt; omega⟩)
        + k0_pay12 v51 v54 v65 v66 v72 (ix2 r ⟨896 + e.val, by have := e.isLt; omega⟩) * back (fun x : Fin 128 => k0_pay15 v51 v54 v65 v66 v72 (ix2 r ⟨896 + x.val, by have := x.isLt; omega⟩)) (fun x : Fin 128 => k0_pay47 v47 v50 (ix2 r ⟨896 + x.val, by have := x.isLt; omega⟩)) e * k0_pay14 v51 v54 v65 v66 v72 (ix2 r ⟨896 + e.val, by have := e.isLt; omega⟩) := by
  unfold postK back rootSlope ssq
  rw [row64_7, row60_7, row57_7, row55_7]
  generalize k0_pay12 v51 v54 v65 v66 v72 = c2
  generalize k0_pay13 v51 v54 v65 v66 v72 = sg
  generalize k0_pay14 v51 v54 v65 v66 v72 = sl
  pointwise [k0_pay44, k0_pay45, k0_pay46]

theorem row55_8 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨1024 + e.val, by have := e.isLt; omega⟩) = k0_pay47 v47 v50 (ix2 r ⟨1024 + e.val, by have := e.isLt; omega⟩) := by
  have he := e.isLt
  pointwise [k0_pay55]
  simp (disch := omega) only [dif_pos, dif_neg, zero_add, add_zero, Fin.sum_univ_one, Nat.add_sub_cancel_left]

theorem row57_8 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨1024 + e.val, by have := e.isLt; omega⟩) = v210 (ix2 r ⟨1024 + e.val, by have := e.isLt; omega⟩) := by
  have he := e.isLt
  pointwise [k0_pay57]
  simp (disch := omega) only [dif_pos, dif_neg, zero_add, add_zero, Fin.sum_univ_one, Nat.add_sub_cancel_left]

theorem row60_8 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨1024 + e.val, by have := e.isLt; omega⟩) = v246 (ix2 r ⟨1024 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_8 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨1024 + e.val, by have := e.isLt; omega⟩)
      = (v304 (ix2 r ⟨1024 + e.val, by have := e.isLt; omega⟩)) * v78 (ix2 r ⟨1024 + e.val, by have := e.isLt; omega⟩) + v77 (ix2 r ⟨1024 + e.val, by have := e.isLt; omega⟩) * (v304 (ix2 r ⟨1024 + e.val, by have := e.isLt; omega⟩)) * v81 (ix2 r ⟨1024 + e.val, by have := e.isLt; omega⟩) := by
  have he := e.isLt
  pointwise [k0_pay64]
  simp (disch := omega) only [dif_pos, dif_neg, zero_add, add_zero, Fin.sum_univ_one, Nat.add_sub_cancel_left]

theorem post_8 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨1024 + e.val, by have := e.isLt; omega⟩)
      = k0_pay47 v47 v50 (ix2 r ⟨1024 + e.val, by have := e.isLt; omega⟩) * k0_pay13 v51 v54 v65 v66 v72 (ix2 r ⟨1024 + e.val, by have := e.isLt; omega⟩)
        + k0_pay12 v51 v54 v65 v66 v72 (ix2 r ⟨1024 + e.val, by have := e.isLt; omega⟩) * k0_pay47 v47 v50 (ix2 r ⟨1024 + e.val, by have := e.isLt; omega⟩) * k0_pay14 v51 v54 v65 v66 v72 (ix2 r ⟨1024 + e.val, by have := e.isLt; omega⟩) := by
  unfold postK
  rw [row64_8, row60_8, row57_8, row55_8]

theorem row55_9 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨1152 + e.val, by have := e.isLt; omega⟩) = k0_pay47 v47 v50 (ix2 r ⟨1152 + e.val, by have := e.isLt; omega⟩) := by
  have he := e.isLt
  pointwise [k0_pay55]
  simp (disch := omega) only [dif_pos, dif_neg, zero_add, add_zero, Fin.sum_univ_one, Nat.add_sub_cancel_left]

theorem row57_9 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨1152 + e.val, by have := e.isLt; omega⟩) = v210 (ix2 r ⟨1152 + e.val, by have := e.isLt; omega⟩) := by
  have he := e.isLt
  pointwise [k0_pay57]
  simp (disch := omega) only [dif_pos, dif_neg, zero_add, add_zero, Fin.sum_univ_one, Nat.add_sub_cancel_left]

theorem row60_9 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨1152 + e.val, by have := e.isLt; omega⟩) = v246 (ix2 r ⟨1152 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_9 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨1152 + e.val, by have := e.isLt; omega⟩)
      = (v304 (ix2 r ⟨1152 + e.val, by have := e.isLt; omega⟩)) * v78 (ix2 r ⟨1152 + e.val, by have := e.isLt; omega⟩) + v77 (ix2 r ⟨1152 + e.val, by have := e.isLt; omega⟩) * (v304 (ix2 r ⟨1152 + e.val, by have := e.isLt; omega⟩)) * v81 (ix2 r ⟨1152 + e.val, by have := e.isLt; omega⟩) := by
  have he := e.isLt
  pointwise [k0_pay64]
  simp (disch := omega) only [dif_pos, dif_neg, zero_add, add_zero, Fin.sum_univ_one, Nat.add_sub_cancel_left]

theorem post_9 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨1152 + e.val, by have := e.isLt; omega⟩)
      = k0_pay47 v47 v50 (ix2 r ⟨1152 + e.val, by have := e.isLt; omega⟩) * k0_pay13 v51 v54 v65 v66 v72 (ix2 r ⟨1152 + e.val, by have := e.isLt; omega⟩)
        + k0_pay12 v51 v54 v65 v66 v72 (ix2 r ⟨1152 + e.val, by have := e.isLt; omega⟩) * k0_pay47 v47 v50 (ix2 r ⟨1152 + e.val, by have := e.isLt; omega⟩) * k0_pay14 v51 v54 v65 v66 v72 (ix2 r ⟨1152 + e.val, by have := e.isLt; omega⟩) := by
  unfold postK
  rw [row64_9, row60_9, row57_9, row55_9]

theorem row55_10 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨1280 + e.val, by have := e.isLt; omega⟩) = k0_pay47 v47 v50 (ix2 r ⟨1280 + e.val, by have := e.isLt; omega⟩) := by
  have he := e.isLt
  pointwise [k0_pay55]
  simp (disch := omega) only [dif_pos, dif_neg, zero_add, add_zero, Fin.sum_univ_one, Nat.add_sub_cancel_left]

theorem row57_10 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨1280 + e.val, by have := e.isLt; omega⟩) = v210 (ix2 r ⟨1280 + e.val, by have := e.isLt; omega⟩) := by
  have he := e.isLt
  pointwise [k0_pay57]
  simp (disch := omega) only [dif_pos, dif_neg, zero_add, add_zero, Fin.sum_univ_one, Nat.add_sub_cancel_left]

theorem row60_10 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨1280 + e.val, by have := e.isLt; omega⟩) = v246 (ix2 r ⟨1280 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_10 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨1280 + e.val, by have := e.isLt; omega⟩)
      = (v304 (ix2 r ⟨1280 + e.val, by have := e.isLt; omega⟩)) * v78 (ix2 r ⟨1280 + e.val, by have := e.isLt; omega⟩) + v77 (ix2 r ⟨1280 + e.val, by have := e.isLt; omega⟩) * (v304 (ix2 r ⟨1280 + e.val, by have := e.isLt; omega⟩)) * v81 (ix2 r ⟨1280 + e.val, by have := e.isLt; omega⟩) := by
  have he := e.isLt
  pointwise [k0_pay64]
  simp (disch := omega) only [dif_pos, dif_neg, zero_add, add_zero, Fin.sum_univ_one, Nat.add_sub_cancel_left]

theorem post_10 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨1280 + e.val, by have := e.isLt; omega⟩)
      = k0_pay47 v47 v50 (ix2 r ⟨1280 + e.val, by have := e.isLt; omega⟩) * k0_pay13 v51 v54 v65 v66 v72 (ix2 r ⟨1280 + e.val, by have := e.isLt; omega⟩)
        + k0_pay12 v51 v54 v65 v66 v72 (ix2 r ⟨1280 + e.val, by have := e.isLt; omega⟩) * k0_pay47 v47 v50 (ix2 r ⟨1280 + e.val, by have := e.isLt; omega⟩) * k0_pay14 v51 v54 v65 v66 v72 (ix2 r ⟨1280 + e.val, by have := e.isLt; omega⟩) := by
  unfold postK
  rw [row64_10, row60_10, row57_10, row55_10]

theorem row55_11 (v47 : Vec Ideal S512x1536 .f32) (v50 : FVec Ideal S8x1536 .f32) (v153 : FVec Ideal S520x128 .f32) (v158 : FVec Ideal S520x1 .f32) (v159 : FVec Ideal S520x1 .f32) (r : Fin 520) (e : Fin 128) :
    k0_pay55 v47 v50 v153 v158 v159 (ix2 r ⟨1408 + e.val, by have := e.isLt; omega⟩) = k0_pay47 v47 v50 (ix2 r ⟨1408 + e.val, by have := e.isLt; omega⟩) := by
  have he := e.isLt
  pointwise [k0_pay55]
  simp (disch := omega) only [dif_pos, dif_neg, zero_add, add_zero, Fin.sum_univ_one, Nat.add_sub_cancel_left]

theorem row57_11 (v133 : FVec Ideal S520x128 .f32) (v139 : FVec Ideal S520x1 .f32) (v142 : FVec Ideal S520x1 .f32) (v143 : FVec Ideal S520x128 .f32) (v149 : FVec Ideal S520x1 .f32) (v152 : FVec Ideal S520x1 .f32) (v169 : FVec Ideal S520x128 .f32) (v170 : FVec Ideal S520x128 .f32) (v210 : FVec Ideal S520x1536 .f32) (v211 : FVec Ideal S520x128 .f32) (r : Fin 520) (e : Fin 128) :
    k0_pay57 v133 v139 v142 v143 v149 v152 v169 v170 v210 v211 (ix2 r ⟨1408 + e.val, by have := e.isLt; omega⟩) = v210 (ix2 r ⟨1408 + e.val, by have := e.isLt; omega⟩) := by
  have he := e.isLt
  pointwise [k0_pay57]
  simp (disch := omega) only [dif_pos, dif_neg, zero_add, add_zero, Fin.sum_univ_one, Nat.add_sub_cancel_left]

theorem row60_11 (v103 : FVec Ideal S520x128 .f32) (v109 : FVec Ideal S520x1 .f32) (v112 : FVec Ideal S520x1 .f32) (v113 : FVec Ideal S520x128 .f32) (v119 : FVec Ideal S520x1 .f32) (v122 : FVec Ideal S520x1 .f32) (v166 : FVec Ideal S520x128 .f32) (v167 : FVec Ideal S520x128 .f32) (v246 : FVec Ideal S520x1536 .f32) (v123 : FVec Ideal S520x128 .f32) (v129 : FVec Ideal S520x1 .f32) (v132 : FVec Ideal S520x1 .f32) (v168 : FVec Ideal S520x128 .f32) (r : Fin 520) (e : Fin 128) :
    k0_pay60 v103 v109 v112 v113 v119 v122 v166 v167 v246 (k0_pay58 v123 v129 v132 v168) k0_pay59 (ix2 r ⟨1408 + e.val, by have := e.isLt; omega⟩) = v246 (ix2 r ⟨1408 + e.val, by have := e.isLt; omega⟩) := by
  have he := e.isLt
  pointwise [k0_pay60, k0_pay58, k0_pay59]
  simp (disch := omega) only [dif_pos, dif_neg, zero_add, add_zero, Fin.sum_univ_one, Nat.add_sub_cancel_left]

theorem row64_11 (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (r : Fin 520) (e : Fin 128) :
    k0_pay64 v77 v78 v81 v83 v89 v92 v93 v164 v304 v311 v312 (ix2 r ⟨1408 + e.val, by have := e.isLt; omega⟩)
      = (v304 (ix2 r ⟨1408 + e.val, by have := e.isLt; omega⟩)) * v78 (ix2 r ⟨1408 + e.val, by have := e.isLt; omega⟩) + v77 (ix2 r ⟨1408 + e.val, by have := e.isLt; omega⟩) * (v304 (ix2 r ⟨1408 + e.val, by have := e.isLt; omega⟩)) * v81 (ix2 r ⟨1408 + e.val, by have := e.isLt; omega⟩) := by
  have he := e.isLt
  pointwise [k0_pay64]
  simp (disch := omega) only [dif_pos, dif_neg, zero_add, add_zero, Fin.sum_univ_one, Nat.add_sub_cancel_left]

theorem post_11 (v51 v54 : FVec Ideal S528x1536 .f32) (v65 : FVec Ideal S520x1536 .f32) (v66 v72 : Vec Ideal S1x1536 .f32)
    (v47 : Vec Ideal S512x1536 .f32) (v50 : FVec Ideal S8x1536 .f32) (r : Fin 520) (e : Fin 128) :
    postK v51 v54 v65 v66 v72 v47 v50 (ix2 r ⟨1408 + e.val, by have := e.isLt; omega⟩)
      = k0_pay47 v47 v50 (ix2 r ⟨1408 + e.val, by have := e.isLt; omega⟩) * k0_pay13 v51 v54 v65 v66 v72 (ix2 r ⟨1408 + e.val, by have := e.isLt; omega⟩)
        + k0_pay12 v51 v54 v65 v66 v72 (ix2 r ⟨1408 + e.val, by have := e.isLt; omega⟩) * k0_pay47 v47 v50 (ix2 r ⟨1408 + e.val, by have := e.isLt; omega⟩) * k0_pay14 v51 v54 v65 v66 v72 (ix2 r ⟨1408 + e.val, by have := e.isLt; omega⟩) := by
  unfold postK
  rw [row64_11, row60_11, row57_11, row55_11]

end Cert.DxIdeal.Post

end
-- ==== Proof.DxRef.lean ====
/-
  The reference's gradient of the activation and of the heads' normalisation at one token, head by head, in the form the
  kernel's rows take.
-/
module

public import proofs.«01_k».proof.Proof.DxPost
public import proofs.«01_k».proof.Proof.Gen.DxRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DxIdeal.Ref

open Cert.DxIdeal Cert.DxIdeal.Gen Cert.DxRefIdeal.Read Cert.DxIdeal.Post

variable (m : (ℓ : Loc nD τ sig) → Buf (Elt Ideal) ℓ)

/-- The sigmoid of the convolution's result, as the reference computes it. -/
theorem act_sig (c : Dev nD) (b : Fin 2) (s : Fin 4096) (q : Fin 1536) :
    (val_main_v55_2 (F := Ideal) (m ((c : Thread nD τ).loc main_arg0)) (m ((c : Thread nD τ).loc main_arg1)) (m ((c : Thread nD τ).loc main_arg2)) (m ((c : Thread nD τ).loc main_arg3))) (ix3 b s q) = Ideal.logistic ((val_main_v54 (F := Ideal) (m ((c : Thread nD τ).loc main_arg0)) (m ((c : Thread nD τ).loc main_arg1)) (m ((c : Thread nD τ).loc main_arg2)) (m ((c : Thread nD τ).loc main_arg3))) (ix3 b s q)) := by
  pointwise [val_main_v55_2, val_main_call0_v4, val_main_call0_v3, val_main_call0_v2, val_main_call0_v1, val_main_call0_v0, val_main_call0_cst, val_main_call0_cst_0]
  simp only [Ideal.logistic]

theorem act_slope (c : Dev nD) (b : Fin 2) (s : Fin 4096) (q : Fin 1536) :
    (val_main_v55_1 (F := Ideal) (m ((c : Thread nD τ).loc main_arg0)) (m ((c : Thread nD τ).loc main_arg1)) (m ((c : Thread nD τ).loc main_arg2)) (m ((c : Thread nD τ).loc main_arg3))) (ix3 b s q) = (val_main_v55_2 (F := Ideal) (m ((c : Thread nD τ).loc main_arg0)) (m ((c : Thread nD τ).loc main_arg1)) (m ((c : Thread nD τ).loc main_arg2)) (m ((c : Thread nD τ).loc main_arg3))) (ix3 b s q) * (Ideal.ofBits .f32 0x3F800000#32 - (val_main_v55_2 (F := Ideal) (m ((c : Thread nD τ).loc main_arg0)) (m ((c : Thread nD τ).loc main_arg1)) (m ((c : Thread nD τ).loc main_arg2)) (m ((c : Thread nD τ).loc main_arg3))) (ix3 b s q)) := by
  pointwise [val_main_v55_1, val_main_call0_v7, val_main_call0_v6, val_main_call0_cst_1]

theorem act_out (c : Dev nD) (b : Fin 2) (s : Fin 4096) (q : Fin 1536) :
    (val_main_v55_0 (F := Ideal) (m ((c : Thread nD τ).loc main_arg0)) (m ((c : Thread nD τ).loc main_arg1)) (m ((c : Thread nD τ).loc main_arg2)) (m ((c : Thread nD τ).loc main_arg3))) (ix3 b s q) = (val_main_v54 (F := Ideal) (m ((c : Thread nD τ).loc main_arg0)) (m ((c : Thread nD τ).loc main_arg1)) (m ((c : Thread nD τ).loc main_arg2)) (m ((c : Thread nD τ).loc main_arg3))) (ix3 b s q) * (val_main_v55_2 (F := Ideal) (m ((c : Thread nD τ).loc main_arg0)) (m ((c : Thread nD τ).loc main_arg1)) (m ((c : Thread nD τ).loc main_arg2)) (m ((c : Thread nD τ).loc main_arg3))) (ix3 b s q) := by
  pointwise [val_main_v55_0]

/-- The gradient of the convolution's result from that of the activation's. -/
theorem pre (c : Dev nD) (b : Fin 2) (s : Fin 4096) (q : Fin 1536) :
    (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q)
      = (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) * (val_main_v55_2 (F := Ideal) (m ((c : Thread nD τ).loc main_arg0)) (m ((c : Thread nD τ).loc main_arg1)) (m ((c : Thread nD τ).loc main_arg2)) (m ((c : Thread nD τ).loc main_arg3))) (ix3 b s q)
        + (val_main_v54 (F := Ideal) (m ((c : Thread nD τ).loc main_arg0)) (m ((c : Thread nD τ).loc main_arg1)) (m ((c : Thread nD τ).loc main_arg2)) (m ((c : Thread nD τ).loc main_arg3))) (ix3 b s q) * (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) * (val_main_v55_1 (F := Ideal) (m ((c : Thread nD τ).loc main_arg0)) (m ((c : Thread nD τ).loc main_arg1)) (m ((c : Thread nD τ).loc main_arg2)) (m ((c : Thread nD τ).loc main_arg3))) (ix3 b s q) := by
  pointwise [val_main_v123, val_main_call1_v0, val_main_call1_v1, val_main_call1_v2]

/-- The gradient of the heads. -/
def dq (c : Dev nD) : FVec Ideal S8192x1536 .f32 := m ((c : Thread nD τ).loc main_arg5)

theorem head_0 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨0 + e.val, by have := e.isLt; omega⟩) = back (fun x : Fin 128 => (val_main_v55_0 (F := Ideal) (m ((c : Thread nD τ).loc main_arg0)) (m ((c : Thread nD τ).loc main_arg1)) (m ((c : Thread nD τ).loc main_arg2)) (m ((c : Thread nD τ).loc main_arg3))) (ix3 b s ⟨0 + x.val, by have := x.isLt; omega⟩)) (fun x : Fin 128 => (dq m c (ix2 ⟨b.val * 4096 + s.val, by have := b.isLt; have := s.isLt; omega⟩ ⟨0 + x.val, by have := x.isLt; omega⟩) : Ideal .f32) * Ideal.ofBits .f32 0x3DB504F3#32) e := by
  unfold dq back rootSlope ssq
  have he := e.isLt
  have f0 : ∀ x : Fin 128, (0 + x.val) / 128 = 0 := fun x => by have := x.isLt; omega
  have f1 : ∀ x : Fin 128, x.val / 128 = 0 := fun x => by have := x.isLt; omega
  have f2 : ∀ x : Fin 128, x.val % 128 = x.val := fun x => by have := x.isLt; omega
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v89, val_main_v88, val_main_v71, val_main_v68, val_main_v67, val_main_v66, val_main_v65, val_main_v64, val_main_v63, val_main_v62, val_main_v61, val_main_v60, val_main_v59, val_main_v56, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0, f1, f2]

theorem head_1 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨128 + e.val, by have := e.isLt; omega⟩) = back (fun x : Fin 128 => (val_main_v55_0 (F := Ideal) (m ((c : Thread nD τ).loc main_arg0)) (m ((c : Thread nD τ).loc main_arg1)) (m ((c : Thread nD τ).loc main_arg2)) (m ((c : Thread nD τ).loc main_arg3))) (ix3 b s ⟨128 + x.val, by have := x.isLt; omega⟩)) (fun x : Fin 128 => (dq m c (ix2 ⟨b.val * 4096 + s.val, by have := b.isLt; have := s.isLt; omega⟩ ⟨128 + x.val, by have := x.isLt; omega⟩) : Ideal .f32) * Ideal.ofBits .f32 0x3DB504F3#32) e := by
  unfold dq back rootSlope ssq
  have he := e.isLt
  have f0 : ∀ x : Fin 128, (128 + x.val) / 128 = 1 := fun x => by have := x.isLt; omega
  have f1 : ∀ x : Fin 128, x.val / 128 = 0 := fun x => by have := x.isLt; omega
  have f2 : ∀ x : Fin 128, x.val % 128 = x.val := fun x => by have := x.isLt; omega
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v89, val_main_v88, val_main_v71, val_main_v68, val_main_v67, val_main_v66, val_main_v65, val_main_v64, val_main_v63, val_main_v62, val_main_v61, val_main_v60, val_main_v59, val_main_v56, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0, f1, f2]

theorem head_2 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨256 + e.val, by have := e.isLt; omega⟩) = back (fun x : Fin 128 => (val_main_v55_0 (F := Ideal) (m ((c : Thread nD τ).loc main_arg0)) (m ((c : Thread nD τ).loc main_arg1)) (m ((c : Thread nD τ).loc main_arg2)) (m ((c : Thread nD τ).loc main_arg3))) (ix3 b s ⟨256 + x.val, by have := x.isLt; omega⟩)) (fun x : Fin 128 => (dq m c (ix2 ⟨b.val * 4096 + s.val, by have := b.isLt; have := s.isLt; omega⟩ ⟨256 + x.val, by have := x.isLt; omega⟩) : Ideal .f32) * Ideal.ofBits .f32 0x3DB504F3#32) e := by
  unfold dq back rootSlope ssq
  have he := e.isLt
  have f0 : ∀ x : Fin 128, (256 + x.val) / 128 = 2 := fun x => by have := x.isLt; omega
  have f1 : ∀ x : Fin 128, x.val / 128 = 0 := fun x => by have := x.isLt; omega
  have f2 : ∀ x : Fin 128, x.val % 128 = x.val := fun x => by have := x.isLt; omega
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v89, val_main_v88, val_main_v71, val_main_v68, val_main_v67, val_main_v66, val_main_v65, val_main_v64, val_main_v63, val_main_v62, val_main_v61, val_main_v60, val_main_v59, val_main_v56, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0, f1, f2]

theorem head_3 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨384 + e.val, by have := e.isLt; omega⟩) = back (fun x : Fin 128 => (val_main_v55_0 (F := Ideal) (m ((c : Thread nD τ).loc main_arg0)) (m ((c : Thread nD τ).loc main_arg1)) (m ((c : Thread nD τ).loc main_arg2)) (m ((c : Thread nD τ).loc main_arg3))) (ix3 b s ⟨384 + x.val, by have := x.isLt; omega⟩)) (fun x : Fin 128 => (dq m c (ix2 ⟨b.val * 4096 + s.val, by have := b.isLt; have := s.isLt; omega⟩ ⟨384 + x.val, by have := x.isLt; omega⟩) : Ideal .f32) * Ideal.ofBits .f32 0x3DB504F3#32) e := by
  unfold dq back rootSlope ssq
  have he := e.isLt
  have f0 : ∀ x : Fin 128, (384 + x.val) / 128 = 3 := fun x => by have := x.isLt; omega
  have f1 : ∀ x : Fin 128, x.val / 128 = 0 := fun x => by have := x.isLt; omega
  have f2 : ∀ x : Fin 128, x.val % 128 = x.val := fun x => by have := x.isLt; omega
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v89, val_main_v88, val_main_v71, val_main_v68, val_main_v67, val_main_v66, val_main_v65, val_main_v64, val_main_v63, val_main_v62, val_main_v61, val_main_v60, val_main_v59, val_main_v56, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0, f1, f2]

theorem head_4 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨512 + e.val, by have := e.isLt; omega⟩) = back (fun x : Fin 128 => (val_main_v55_0 (F := Ideal) (m ((c : Thread nD τ).loc main_arg0)) (m ((c : Thread nD τ).loc main_arg1)) (m ((c : Thread nD τ).loc main_arg2)) (m ((c : Thread nD τ).loc main_arg3))) (ix3 b s ⟨512 + x.val, by have := x.isLt; omega⟩)) (fun x : Fin 128 => (dq m c (ix2 ⟨b.val * 4096 + s.val, by have := b.isLt; have := s.isLt; omega⟩ ⟨512 + x.val, by have := x.isLt; omega⟩) : Ideal .f32)) e := by
  unfold dq back rootSlope ssq
  have he := e.isLt
  have f0 : ∀ x : Fin 128, 512 + (512 + x.val - 512) = 512 + x.val := fun x => by have := x.isLt; omega
  have f1 : ∀ x : Fin 128, (512 + x.val - 512) / 128 = 0 := fun x => by have := x.isLt; omega
  have f2 : ∀ x : Fin 128, 512 + (0 + x.val) = 512 + x.val := fun x => by have := x.isLt; omega
  have f3 : ∀ x : Fin 128, x.val / 128 = 0 := fun x => by have := x.isLt; omega
  have f4 : ∀ x : Fin 128, x.val % 128 = x.val := fun x => by have := x.isLt; omega
  have f5 : ∀ x : Fin 128, (0 + x.val) / 128 = 0 := fun x => by have := x.isLt; omega
  have f6 : ∀ x : Fin 128, (512 + x.val - 512) % 128 = x.val := fun x => by have := x.isLt; omega
  have f7 : ∀ x : Fin 128, (0 + x.val) % 128 = x.val := fun x => by have := x.isLt; omega
  pointwise [val_main_v122, val_main_v105, val_main_v104, val_main_v103, val_main_v102, val_main_v101, val_main_v100, val_main_v99, val_main_v98, val_main_v97, val_main_v96, val_main_v95, val_main_v94, val_main_v93, val_main_v92, val_main_v90, val_main_v88, val_main_v83, val_main_v82, val_main_v81, val_main_v80, val_main_v79, val_main_v78, val_main_v77, val_main_v76, val_main_v75, val_main_v74, val_main_v57, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0, f1, f2, f3, f4, f5, f6, f7]

theorem head_5 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨640 + e.val, by have := e.isLt; omega⟩) = back (fun x : Fin 128 => (val_main_v55_0 (F := Ideal) (m ((c : Thread nD τ).loc main_arg0)) (m ((c : Thread nD τ).loc main_arg1)) (m ((c : Thread nD τ).loc main_arg2)) (m ((c : Thread nD τ).loc main_arg3))) (ix3 b s ⟨640 + x.val, by have := x.isLt; omega⟩)) (fun x : Fin 128 => (dq m c (ix2 ⟨b.val * 4096 + s.val, by have := b.isLt; have := s.isLt; omega⟩ ⟨640 + x.val, by have := x.isLt; omega⟩) : Ideal .f32)) e := by
  unfold dq back rootSlope ssq
  have he := e.isLt
  have f0 : ∀ x : Fin 128, 512 + (640 + x.val - 512) = 640 + x.val := fun x => by have := x.isLt; omega
  have f1 : ∀ x : Fin 128, (640 + x.val - 512) / 128 = 1 := fun x => by have := x.isLt; omega
  have f2 : ∀ x : Fin 128, 512 + (128 + x.val) = 640 + x.val := fun x => by have := x.isLt; omega
  have f3 : ∀ x : Fin 128, x.val / 128 = 0 := fun x => by have := x.isLt; omega
  have f4 : ∀ x : Fin 128, x.val % 128 = x.val := fun x => by have := x.isLt; omega
  have f5 : ∀ x : Fin 128, (128 + x.val) / 128 = 1 := fun x => by have := x.isLt; omega
  have f6 : ∀ x : Fin 128, (640 + x.val - 512) % 128 = x.val := fun x => by have := x.isLt; omega
  have f7 : ∀ x : Fin 128, (128 + x.val) % 128 = x.val := fun x => by have := x.isLt; omega
  pointwise [val_main_v122, val_main_v105, val_main_v104, val_main_v103, val_main_v102, val_main_v101, val_main_v100, val_main_v99, val_main_v98, val_main_v97, val_main_v96, val_main_v95, val_main_v94, val_main_v93, val_main_v92, val_main_v90, val_main_v88, val_main_v83, val_main_v82, val_main_v81, val_main_v80, val_main_v79, val_main_v78, val_main_v77, val_main_v76, val_main_v75, val_main_v74, val_main_v57, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0, f1, f2, f3, f4, f5, f6, f7]

theorem head_6 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨768 + e.val, by have := e.isLt; omega⟩) = back (fun x : Fin 128 => (val_main_v55_0 (F := Ideal) (m ((c : Thread nD τ).loc main_arg0)) (m ((c : Thread nD τ).loc main_arg1)) (m ((c : Thread nD τ).loc main_arg2)) (m ((c : Thread nD τ).loc main_arg3))) (ix3 b s ⟨768 + x.val, by have := x.isLt; omega⟩)) (fun x : Fin 128 => (dq m c (ix2 ⟨b.val * 4096 + s.val, by have := b.isLt; have := s.isLt; omega⟩ ⟨768 + x.val, by have := x.isLt; omega⟩) : Ideal .f32)) e := by
  unfold dq back rootSlope ssq
  have he := e.isLt
  have f0 : ∀ x : Fin 128, 512 + (768 + x.val - 512) = 768 + x.val := fun x => by have := x.isLt; omega
  have f1 : ∀ x : Fin 128, (768 + x.val - 512) / 128 = 2 := fun x => by have := x.isLt; omega
  have f2 : ∀ x : Fin 128, 512 + (256 + x.val) = 768 + x.val := fun x => by have := x.isLt; omega
  have f3 : ∀ x : Fin 128, x.val / 128 = 0 := fun x => by have := x.isLt; omega
  have f4 : ∀ x : Fin 128, x.val % 128 = x.val := fun x => by have := x.isLt; omega
  have f5 : ∀ x : Fin 128, (256 + x.val) / 128 = 2 := fun x => by have := x.isLt; omega
  have f6 : ∀ x : Fin 128, (768 + x.val - 512) % 128 = x.val := fun x => by have := x.isLt; omega
  have f7 : ∀ x : Fin 128, (256 + x.val) % 128 = x.val := fun x => by have := x.isLt; omega
  pointwise [val_main_v122, val_main_v105, val_main_v104, val_main_v103, val_main_v102, val_main_v101, val_main_v100, val_main_v99, val_main_v98, val_main_v97, val_main_v96, val_main_v95, val_main_v94, val_main_v93, val_main_v92, val_main_v90, val_main_v88, val_main_v83, val_main_v82, val_main_v81, val_main_v80, val_main_v79, val_main_v78, val_main_v77, val_main_v76, val_main_v75, val_main_v74, val_main_v57, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0, f1, f2, f3, f4, f5, f6, f7]

theorem head_7 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨896 + e.val, by have := e.isLt; omega⟩) = back (fun x : Fin 128 => (val_main_v55_0 (F := Ideal) (m ((c : Thread nD τ).loc main_arg0)) (m ((c : Thread nD τ).loc main_arg1)) (m ((c : Thread nD τ).loc main_arg2)) (m ((c : Thread nD τ).loc main_arg3))) (ix3 b s ⟨896 + x.val, by have := x.isLt; omega⟩)) (fun x : Fin 128 => (dq m c (ix2 ⟨b.val * 4096 + s.val, by have := b.isLt; have := s.isLt; omega⟩ ⟨896 + x.val, by have := x.isLt; omega⟩) : Ideal .f32)) e := by
  unfold dq back rootSlope ssq
  have he := e.isLt
  have f0 : ∀ x : Fin 128, 512 + (896 + x.val - 512) = 896 + x.val := fun x => by have := x.isLt; omega
  have f1 : ∀ x : Fin 128, (896 + x.val - 512) / 128 = 3 := fun x => by have := x.isLt; omega
  have f2 : ∀ x : Fin 128, 512 + (384 + x.val) = 896 + x.val := fun x => by have := x.isLt; omega
  have f3 : ∀ x : Fin 128, x.val / 128 = 0 := fun x => by have := x.isLt; omega
  have f4 : ∀ x : Fin 128, x.val % 128 = x.val := fun x => by have := x.isLt; omega
  have f5 : ∀ x : Fin 128, (384 + x.val) / 128 = 3 := fun x => by have := x.isLt; omega
  have f6 : ∀ x : Fin 128, (896 + x.val - 512) % 128 = x.val := fun x => by have := x.isLt; omega
  have f7 : ∀ x : Fin 128, (384 + x.val) % 128 = x.val := fun x => by have := x.isLt; omega
  pointwise [val_main_v122, val_main_v105, val_main_v104, val_main_v103, val_main_v102, val_main_v101, val_main_v100, val_main_v99, val_main_v98, val_main_v97, val_main_v96, val_main_v95, val_main_v94, val_main_v93, val_main_v92, val_main_v90, val_main_v88, val_main_v83, val_main_v82, val_main_v81, val_main_v80, val_main_v79, val_main_v78, val_main_v77, val_main_v76, val_main_v75, val_main_v74, val_main_v57, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0, f1, f2, f3, f4, f5, f6, f7]

theorem head_8 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨1024 + e.val, by have := e.isLt; omega⟩) = dq m c (ix2 ⟨b.val * 4096 + s.val, by have := b.isLt; have := s.isLt; omega⟩ ⟨1024 + e.val, by have := e.isLt; omega⟩) := by
  unfold dq
  have he := e.isLt
  have f0 : ∀ x : Fin 128, 1024 + (1024 + x.val - 512 - 512) = 1024 + x.val := fun x => by have := x.isLt; omega
  pointwise [val_main_v122, val_main_v91, val_main_v88, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0]

theorem head_9 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨1152 + e.val, by have := e.isLt; omega⟩) = dq m c (ix2 ⟨b.val * 4096 + s.val, by have := b.isLt; have := s.isLt; omega⟩ ⟨1152 + e.val, by have := e.isLt; omega⟩) := by
  unfold dq
  have he := e.isLt
  have f0 : ∀ x : Fin 128, 1024 + (1152 + x.val - 512 - 512) = 1152 + x.val := fun x => by have := x.isLt; omega
  pointwise [val_main_v122, val_main_v91, val_main_v88, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0]

theorem head_10 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨1280 + e.val, by have := e.isLt; omega⟩) = dq m c (ix2 ⟨b.val * 4096 + s.val, by have := b.isLt; have := s.isLt; omega⟩ ⟨1280 + e.val, by have := e.isLt; omega⟩) := by
  unfold dq
  have he := e.isLt
  have f0 : ∀ x : Fin 128, 1024 + (1280 + x.val - 512 - 512) = 1280 + x.val := fun x => by have := x.isLt; omega
  pointwise [val_main_v122, val_main_v91, val_main_v88, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0]

theorem head_11 (c : Dev nD) (b : Fin 2) (s : Fin 4096) (e : Fin 128) :
    (val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨1408 + e.val, by have := e.isLt; omega⟩) = dq m c (ix2 ⟨b.val * 4096 + s.val, by have := b.isLt; have := s.isLt; omega⟩ ⟨1408 + e.val, by have := e.isLt; omega⟩) := by
  unfold dq
  have he := e.isLt
  have f0 : ∀ x : Fin 128, 1024 + (1408 + x.val - 512 - 512) = 1408 + x.val := fun x => by have := x.isLt; omega
  pointwise [val_main_v122, val_main_v91, val_main_v88, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp (disch := omega) only [dif_pos, dif_neg, zero_add, add_zero, Fin.sum_univ_one, Nat.add_sub_cancel_left, Nat.div_add_mod', Nat.reduceMul, Nat.zero_mul, Nat.one_mul, f0]

end Cert.DxIdeal.Ref

end
-- ==== Proof.DxBlk.lean ====
/-
  The blocks the input projection's gradient reads, as entries of its arguments and of the reference's values; and the block
  of the middle columns extended by eight rows on both sides.
-/
module

public import proofs.«01_k».proof.Proof.DxRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DxIdeal.Blk

open Cert.DxIdeal Cert.DxIdeal.Gen Cert.DxRefIdeal.Read Cert.DxIdeal.Post Cert.DxIdeal.Ref

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![64 * t.val - 1, 0]
    ∧ win0_10.index t = ![min (64 * (t.val + 1)) 1023, 0]
    ∧ win0_11.index t = ![t.val, 0]
    ∧ win0_12.index t = ![min (64 * (t.val + 1)) 1023, 0]
    ∧ win0_13.index t = ![t.val, 0]
    ∧ win0_14.index t = ![t.val, 0]
    ∧ win0_15.index t = ![0, 0]
    ∧ win0_16.index t = ![t.val, 0]
    ∧ win0_17.index t = ![0, 0] :=
  (by decide +kernel : ∀ t : Fin grid0.N, _)

/-- The middle columns the host hands the kernel are the reference's. -/
theorem host_z (c : Dev nD) (b : Fin 2) (s : Fin 4096) (q : Fin 1536) (h : b.val * 4096 + s.val < 8192) :
    V m c main_v14 (ix2 ⟨b.val * 4096 + s.val, h⟩ q) = (val_main_v19 (F := Ideal) (m ((c : Thread nD τ).loc main_arg0)) (m ((c : Thread nD τ).loc main_arg1)) (m ((c : Thread nD τ).loc main_arg2))) (ix3 b s q) := by
  have hs := s.isLt
  simp only [V, hostOps0, hostOps0_1, List.flatten_cons, List.flatten_nil, List.append_nil, List.cons_append, List.nil_append]
  entry_read
  pointwise [val_main_v19, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]

theorem blk_0 (c : Dev nD) (t : Fin cfg0.N) (l : Fin 512) (hl : t.val * 512 + l.val < 8192) (k : Fin 1024) :
    iblk m c 0 t (ix2 l k) = (m ((c : Thread nD τ).loc main_arg0) : FVec Ideal S8192x1024 .f32) (ix2 ⟨t.val * 512 + l.val, hl⟩ k) := by
  blk_point [iblk, V, idx t]

theorem blk_4 (c : Dev nD) (t : Fin cfg0.N) (l : Fin 512) (hl : t.val * 512 + l.val < 8192) (k : Fin 512) :
    iblk m c 4 t (ix2 l k) = (m ((c : Thread nD τ).loc main_arg4) : FVec Ideal S8192x512 .bf16) (ix2 ⟨t.val * 512 + l.val, hl⟩ k) := by
  blk_point [iblk, V, idx t]

theorem blk_5 (c : Dev nD) (t : Fin cfg0.N) (l : Fin 512) (hl : t.val * 512 + l.val < 8192) (k : Fin 512) :
    iblk m c 5 t (ix2 l k) = (m ((c : Thread nD τ).loc main_arg6) : FVec Ideal S8192x512 .bf16) (ix2 ⟨t.val * 512 + l.val, hl⟩ k) := by
  blk_point [iblk, V, idx t]

theorem blk_6 (c : Dev nD) (t : Fin cfg0.N) (l : Fin 512) (hl : t.val * 512 + l.val < 8192) (k : Fin 768) :
    iblk m c 6 t (ix2 l k) = (m ((c : Thread nD τ).loc main_arg7) : FVec Ideal S8192x768 .bf16) (ix2 ⟨t.val * 512 + l.val, hl⟩ k) := by
  blk_point [iblk, V, idx t]

theorem blk_7 (c : Dev nD) (t : Fin cfg0.N) (l : Fin 512) (hl : t.val * 512 + l.val < 8192) (k : Fin 128) :
    iblk m c 7 t (ix2 l k) = (m ((c : Thread nD τ).loc main_arg8) : FVec Ideal S8192x128 .bf16) (ix2 ⟨t.val * 512 + l.val, hl⟩ k) := by
  blk_point [iblk, V, idx t]

theorem blk_13 (c : Dev nD) (t : Fin cfg0.N) (l : Fin 512) (hl : t.val * 512 + l.val < 8192) (k : Fin 1024) :
    iblk m c 13 t (ix2 l k) = (m ((c : Thread nD τ).loc main_arg9) : FVec Ideal S8192x1024 .f32) (ix2 ⟨t.val * 512 + l.val, hl⟩ k) := by
  blk_point [iblk, V, idx t]

theorem blk_11 (c : Dev nD) (t : Fin cfg0.N) (l : Fin 512) (hl : t.val * 512 + l.val < 8192) (k : Fin 1536) :
    iblk m c 11 t (ix2 l k) = dq m c (ix2 ⟨t.val * 512 + l.val, hl⟩ k) := by
  unfold dq
  blk_point [iblk, V, idx t]

theorem blk_12 (c : Dev nD) (t : Fin cfg0.N) (l : Fin 8) (ht : t.val < 15) (k : Fin 1536) :
    iblk m c 12 t (ix2 l k) = dq m c (ix2 ⟨(t.val + 1) * 512 + l.val, by have := l.isLt; omega⟩ k) := by
  unfold dq
  have h : min (64 * (t.val + 1)) 1023 = 64 * (t.val + 1) := by omega
  blk_point [iblk, V, idx t, h]

theorem blk_1 (c : Dev nD) (t : Fin cfg0.N) (k : Fin 1024) :
    iblk m c 1 t (ix2 0 k) = (m ((c : Thread nD τ).loc main_arg1) : FVec Ideal S1024 .f32) (ix1 k) := by
  refine Eq.trans (b := V m c main_v15 (ix2 0 k)) ?_ ?_
  · blk_point [iblk, idx t]
  · simp only [V, hostOps0, hostOps0_1, List.flatten_cons, List.flatten_nil, List.append_nil, List.cons_append, List.nil_append]
    entry_read
    pointwise

theorem blk_2 (c : Dev nD) (t : Fin cfg0.N) (a : Fin 1024) (k : Fin 3456) :
    iblk m c 2 t (ix2 a k) = (m ((c : Thread nD τ).loc main_arg2) : FVec Ideal S1024x3456 .f32) (ix2 a k) := by
  refine Eq.trans (b := V m c main_v16 (ix2 a k)) ?_ ?_
  · blk_point [iblk, idx t]
  · simp only [V, hostOps0, hostOps0_1, List.flatten_cons, List.flatten_nil, List.append_nil, List.cons_append, List.nil_append]
    entry_read
    pointwise

theorem blk_3 (c : Dev nD) (t : Fin cfg0.N) (j : Fin 8) (hj : j.val < 4) (k : Fin 1536) :
    iblk m c 3 t (ix2 j k) = (m ((c : Thread nD τ).loc main_arg3) : FVec Ideal S4x1536 .f32) (ix2 ⟨j.val, hj⟩ k) := by
  refine Eq.trans (b := V m c main_v17 (ix2 j k)) ?_ ?_
  · blk_point [iblk, idx t]
  · simp only [V, hostOps0, hostOps0_1, List.flatten_cons, List.flatten_nil, List.append_nil, List.cons_append, List.nil_append]
    entry_read
    simp -implicitDefEqProofs only [StableHlo.TRef.toBuf, StableHlo.TRef.ofBuf, cast_cast, cast_eq]
    pointwise
    simp (disch := omega) only [dif_pos, dif_neg]

theorem blk_8 (c : Dev nD) (t : Fin cfg0.N) (l : Fin 512) (b : Fin 2) (s : Fin 4096) (h : b.val * 4096 + s.val = t.val * 512 + l.val) (q : Fin 1536) :
    iblk m c 8 t (ix2 l q) = (val_main_v19 (F := Ideal) (m ((c : Thread nD τ).loc main_arg0)) (m ((c : Thread nD τ).loc main_arg1)) (m ((c : Thread nD τ).loc main_arg2))) (ix3 b s q) := by
  rw [← host_z m c b s q (by have := b.isLt; have := s.isLt; omega)]
  simp only [h]
  blk_point [iblk, idx t]

theorem blk_9 (c : Dev nD) (t : Fin cfg0.N) (l : Fin 8) (b : Fin 2) (s : Fin 4096) (h : b.val * 4096 + s.val + 8 = t.val * 512 + l.val) (q : Fin 1536) :
    iblk m c 9 t (ix2 l q) = (val_main_v19 (F := Ideal) (m ((c : Thread nD τ).loc main_arg0)) (m ((c : Thread nD τ).loc main_arg1)) (m ((c : Thread nD τ).loc main_arg2))) (ix3 b s q) := by
  rw [← host_z m c b s q (by have := b.isLt; have := s.isLt; omega)]
  have h' : b.val * 4096 + s.val = (64 * t.val - 1) * 8 + l.val := by have := l.isLt; omega
  simp only [h']
  blk_point [iblk, idx t]

theorem blk_10 (c : Dev nD) (t : Fin cfg0.N) (l : Fin 8) (b : Fin 2) (s : Fin 4096) (h : b.val * 4096 + s.val = (t.val + 1) * 512 + l.val) (q : Fin 1536) :
    iblk m c 10 t (ix2 l q) = (val_main_v19 (F := Ideal) (m ((c : Thread nD τ).loc main_arg0)) (m ((c : Thread nD τ).loc main_arg1)) (m ((c : Thread nD τ).loc main_arg2))) (ix3 b s q) := by
  rw [← host_z m c b s q (by have := b.isLt; have := s.isLt; omega)]
  have hm : min (64 * (t.val + 1)) 1023 = 64 * (t.val + 1) := by have := b.isLt; have := s.isLt; omega
  have h' : b.val * 4096 + s.val = 64 * (t.val + 1) * 8 + l.val := by omega
  simp only [h']
  blk_point [iblk, idx t, hm]

end Cert.DxIdeal.Blk

end
-- ==== Proof.DxExt.lean ====
/-
  The block of the middle columns extended by eight rows on both sides, and the short convolution over it.
-/
module

public import proofs.«01_k».proof.Proof.DxBlk
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DxIdeal.Ext

open Cert.DxIdeal Cert.DxIdeal.Gen Cert.DxRefIdeal.Read Cert.DxIdeal.Post Cert.DxIdeal.Ref Cert.DxIdeal.Blk

variable (m : (ℓ : Loc nD τ sig) → Buf (Elt Ideal) ℓ)

/-- The grid point within its sequence, as the kernel computes it. -/
def sRem (t : Fin cfg0.N) : BitVec 32 := Scalar.remsi (BitVec.ofNat 32 (grid0.coords t 0).val) 8#32

/-- Whether that is nonzero. -/
def sNz (t : Fin cfg0.N) : BitVec 1 := Scalar.cmpi .ne (sRem t) 0#32

/-- Whether the block is the first of its sequence. -/
def sFirst (t : Fin cfg0.N) : BitVec 1 :=
  Scalar.cmpi .eq (Scalar.select (Scalar.andi (Scalar.xori (Scalar.cmpi .slt (sRem t) 0#32) 0#1) (sNz t)) (Scalar.addi (sRem t) 8#32) (sRem t)) 0#32

theorem first_eq : ∀ t : Fin cfg0.N, sFirst t = if t.val % 8 = 0 then 1#1 else 0#1 :=
  (by decide +kernel : ∀ t : Fin grid0.N, _)

theorem last_eq : ∀ t : Fin cfg0.N,
    Scalar.cmpi .eq (Scalar.select (Scalar.andi (Scalar.xori (Scalar.cmpi .slt (sRem t) 0#32) (Scalar.cmpi .slt 8#32 0#32)) (sNz t)) (Scalar.addi (sRem t) 8#32) (sRem t)) 7#32
      = if t.val % 8 = 7 then 1#1 else 0#1 :=
  (by decide +kernel : ∀ t : Fin grid0.N, _)

theorem select_one {α : Type} (a b : α) : Scalar.select 1#1 a b = a := rfl
theorem select_zero {α : Type} (a b : α) : Scalar.select 0#1 a b = b := rfl

/-- The extended block. -/
def ext (c : Dev nD) (t : Fin cfg0.N) : FVec Ideal S528x1536 .f32 :=
  k0_pay7 (sFirst t) 8#32 (sRem t) (sNz t) 0#32 (iblk m c 9 t) (iblk m c 8 t) (iblk m c 10 t)

/-- Before a sequence's first token the extended block is zero. -/
theorem ext_lo (c : Dev nD) (t : Fin cfg0.N) (ht : t.val % 8 = 0) (i : Fin 528) (hi : i.val < 8) (q : Fin 1536) :
    ext m c t (ix2 i q) = 0 := by
  unfold ext
  have h1 : sFirst t = 1#1 := by rw [first_eq, if_pos ht]
  rw [h1]
  pointwise [k0_pay7, select_one]
  rw [dif_pos (by omega)]

/-- Within the sequence it is the reference's middle columns. -/
theorem ext_row (c : Dev nD) (t : Fin cfg0.N) (i : Fin 528) (b : Fin 2) (s : Fin 4096) (h : b.val * 4096 + s.val + 8 = t.val * 512 + i.val)
    (hlo : t.val % 8 ≠ 0 ∨ 8 ≤ i.val) (hhi : t.val % 8 ≠ 7 ∨ i.val < 520) (q : Fin 1536) :
    ext m c t (ix2 i q) = (val_main_v19 (F := Ideal) (m ((c : Thread nD τ).loc main_arg0)) (m ((c : Thread nD τ).loc main_arg1)) (m ((c : Thread nD τ).loc main_arg2))) (ix3 b s q) := by
  have hil := i.isLt
  unfold ext
  by_cases h8 : i.val < 8
  · have h1 : sFirst t = 0#1 := by rw [first_eq, if_neg (by omega)]
    rw [h1]
    pointwise [k0_pay7, select_zero]
    simp (disch := omega) only [dif_pos]
    rw [blk_9 m c t _ b s h q]
  · by_cases h5 : i.val < 520
    · pointwise [k0_pay7]
      simp (disch := omega) only [dif_pos, dif_neg]
      rw [blk_8 m c t _ b s (by simp only []; omega) q]
    · have h1 := last_eq t
      rw [if_neg (by omega)] at h1
      unfold k0_pay7
      simp only [h1, select_zero]
      pointwise []
      simp (disch := omega) only [dif_pos, dif_neg]
      rw [blk_10 m c t _ b s (by simp only []; omega) q]

/-- The four rows of the convolution's weights, as the kernel loads them. -/
def tap0 (c : Dev nD) (t : Fin cfg0.N) : Vec Ideal S1x1536 .f32 :=
  View.ld (iblk m c 3 t) (Rect.unit (s := S8x1536) ![0, 0] ![1, 1536] inb_S8x1536_S1x1536_0_0)

theorem tap0_eq (c : Dev nD) (t : Fin cfg0.N) (q : Fin 1536) :
    tap0 m c t (ix2 0 q) = (m ((c : Thread nD τ).loc main_arg3) : FVec Ideal S4x1536 .f32) (ix2 0 q) := by
  unfold tap0
  pointwise []
  exact blk_3 m c t (0 : Fin 8) (by decide) q

def tap1 (c : Dev nD) (t : Fin cfg0.N) : Vec Ideal S1x1536 .f32 :=
  View.ld (iblk m c 3 t) (Rect.unit (s := S8x1536) ![1, 0] ![1, 1536] inb_S8x1536_S1x1536_1_0)

theorem tap1_eq (c : Dev nD) (t : Fin cfg0.N) (q : Fin 1536) :
    tap1 m c t (ix2 0 q) = (m ((c : Thread nD τ).loc main_arg3) : FVec Ideal S4x1536 .f32) (ix2 1 q) := by
  unfold tap1
  pointwise []
  exact blk_3 m c t (1 : Fin 8) (by decide) q

def tap2 (c : Dev nD) (t : Fin cfg0.N) : Vec Ideal S1x1536 .f32 :=
  View.ld (iblk m c 3 t) (Rect.unit (s := S8x1536) ![2, 0] ![1, 1536] inb_S8x1536_S1x1536_2_0)

theorem tap2_eq (c : Dev nD) (t : Fin cfg0.N) (q : Fin 1536) :
    tap2 m c t (ix2 0 q) = (m ((c : Thread nD τ).loc main_arg3) : FVec Ideal S4x1536 .f32) (ix2 2 q) := by
  unfold tap2
  pointwise []
  exact blk_3 m c t (2 : Fin 8) (by decide) q

def tap3 (c : Dev nD) (t : Fin cfg0.N) : Vec Ideal S1x1536 .f32 :=
  View.ld (iblk m c 3 t) (Rect.unit (s := S8x1536) ![3, 0] ![1, 1536] inb_S8x1536_S1x1536_3_0)

theorem tap3_eq (c : Dev nD) (t : Fin cfg0.N) (q : Fin 1536) :
    tap3 m c t (ix2 0 q) = (m ((c : Thread nD τ).loc main_arg3) : FVec Ideal S4x1536 .f32) (ix2 3 q) := by
  unfold tap3
  pointwise []
  exact blk_3 m c t (3 : Fin 8) (by decide) q

theorem sh_0 (c : Dev nD) (t : Fin cfg0.N) (r : Fin 520) (b : Fin 2) (s : Fin 4096) (h : b.val * 4096 + s.val = t.val * 512 + r.val)
    (hv : r.val < 512 ∨ t.val % 8 ≠ 7) (q : Fin 1536) :
    ext m c t (ix2 ⟨8 + r.val, by have := r.isLt; omega⟩ q) = (val_main_v50 (F := Ideal) (m ((c : Thread nD τ).loc main_arg0)) (m ((c : Thread nD τ).loc main_arg1)) (m ((c : Thread nD τ).loc main_arg2))) (ix3 b s q) := by
  have hr := r.isLt
  have hb := b.isLt
  have hs := s.isLt
  have ht : t.val < 16 := lt_of_lt_of_eq t.isLt N_0
  rw [ext_row m c t _ b s (by simp only []; omega) (by simp only []; omega) (by simp only []; omega) q]
  pointwise [val_main_v50, val_main_v24]

/-- The extended block moved down by 1. -/
def ext1 (c : Dev nD) (t : Fin cfg0.N) : FVec Ideal S528x1536 .f32 :=
  k0_pay10 (sFirst t) 8#32 (sRem t) (sNz t) 0#32 (iblk m c 9 t) (iblk m c 8 t) (iblk m c 10 t)

theorem ext1_at (c : Dev nD) (t : Fin cfg0.N) (i j : Fin 528) (h : j.val + 1 = i.val) (q : Fin 1536) :
    ext1 m c t (ix2 i q) = ext m c t (ix2 j q) := by
  have hi := i.isLt
  unfold ext1 k0_pay10
  rw [show k0_pay7 (sFirst t) 8#32 (sRem t) (sNz t) 0#32 (iblk m c 9 t) (iblk m c 8 t) (iblk m c 10 t) = ext m c t from rfl]
  generalize ext m c t = E
  pointwise []
  have e : (i.val + 528 - 1) % 528 = j.val := by omega
  simp only [e]

theorem sh_1 (c : Dev nD) (t : Fin cfg0.N) (r : Fin 520) (b : Fin 2) (s : Fin 4096) (h : b.val * 4096 + s.val = t.val * 512 + r.val)
    (hv : r.val < 512 ∨ t.val % 8 ≠ 7) (q : Fin 1536) :
    ext1 m c t (ix2 ⟨8 + r.val, by have := r.isLt; omega⟩ q) = (val_main_v43 (F := Ideal) (m ((c : Thread nD τ).loc main_arg0)) (m ((c : Thread nD τ).loc main_arg1)) (m ((c : Thread nD τ).loc main_arg2))) (ix3 b s q) := by
  have hr := r.isLt
  have hb := b.isLt
  have hs := s.isLt
  have ht : t.val < 16 := lt_of_lt_of_eq t.isLt N_0
  rw [ext1_at m c t _ ⟨8 + r.val - 1, by omega⟩ (by simp only []; omega) q]
  by_cases hd : s.val < 1
  · rw [ext_lo m c t (by omega) _ (by simp only []; omega) q]
    pointwise [val_main_v43, val_main_v24, val_main_v23, val_main_cst_3]
    simp (disch := omega) only [dif_pos, dif_neg]
  · rw [ext_row m c t _ b ⟨s.val - 1, by omega⟩ (by simp only []; omega) (by simp only []; omega) (by simp only []; omega) q]
    pointwise [val_main_v43, val_main_v24]
    have e : 2 + s.val - 3 = s.val - 1 := by omega
    simp (disch := omega) only [dif_pos, dif_neg, e]

/-- The extended block moved down by 2. -/
def ext2 (c : Dev nD) (t : Fin cfg0.N) : FVec Ideal S528x1536 .f32 :=
  k0_pay9 (sFirst t) 8#32 (sRem t) (sNz t) 0#32 (iblk m c 9 t) (iblk m c 8 t) (iblk m c 10 t)

theorem ext2_at (c : Dev nD) (t : Fin cfg0.N) (i j : Fin 528) (h : j.val + 2 = i.val) (q : Fin 1536) :
    ext2 m c t (ix2 i q) = ext m c t (ix2 j q) := by
  have hi := i.isLt
  unfold ext2 k0_pay9
  rw [show k0_pay7 (sFirst t) 8#32 (sRem t) (sNz t) 0#32 (iblk m c 9 t) (iblk m c 8 t) (iblk m c 10 t) = ext m c t from rfl]
  generalize ext m c t = E
  pointwise []
  have e : (i.val + 528 - 2) % 528 = j.val := by omega
  simp only [e]

theorem sh_2 (c : Dev nD) (t : Fin cfg0.N) (r : Fin 520) (b : Fin 2) (s : Fin 4096) (h : b.val * 4096 + s.val = t.val * 512 + r.val)
    (hv : r.val < 512 ∨ t.val % 8 ≠ 7) (q : Fin 1536) :
    ext2 m c t (ix2 ⟨8 + r.val, by have := r.isLt; omega⟩ q) = (val_main_v36 (F := Ideal) (m ((c : Thread nD τ).loc main_arg0)) (m ((c : Thread nD τ).loc main_arg1)) (m ((c : Thread nD τ).loc main_arg2))) (ix3 b s q) := by
  have hr := r.isLt
  have hb := b.isLt
  have hs := s.isLt
  have ht : t.val < 16 := lt_of_lt_of_eq t.isLt N_0
  rw [ext2_at m c t _ ⟨8 + r.val - 2, by omega⟩ (by simp only []; omega) q]
  by_cases hd : s.val < 2
  · rw [ext_lo m c t (by omega) _ (by simp only []; omega) q]
    pointwise [val_main_v36, val_main_v24, val_main_v23, val_main_cst_3]
    simp (disch := omega) only [dif_pos, dif_neg]
  · rw [ext_row m c t _ b ⟨s.val - 2, by omega⟩ (by simp only []; omega) (by simp only []; omega) (by simp only []; omega) q]
    pointwise [val_main_v36, val_main_v24]
    have e : 1 + s.val - 3 = s.val - 2 := by omega
    simp (disch := omega) only [dif_pos, dif_neg, e]

/-- The extended block moved down by 3. -/
def ext3 (c : Dev nD) (t : Fin cfg0.N) : FVec Ideal S528x1536 .f32 :=
  k0_pay8 (sFirst t) 8#32 (sRem t) (sNz t) 0#32 (iblk m c 9 t) (iblk m c 8 t) (iblk m c 10 t)

theorem ext3_at (c : Dev nD) (t : Fin cfg0.N) (i j : Fin 528) (h : j.val + 3 = i.val) (q : Fin 1536) :
    ext3 m c t (ix2 i q) = ext m c t (ix2 j q) := by
  have hi := i.isLt
  unfold ext3 k0_pay8
  rw [show k0_pay7 (sFirst t) 8#32 (sRem t) (sNz t) 0#32 (iblk m c 9 t) (iblk m c 8 t) (iblk m c 10 t) = ext m c t from rfl]
  generalize ext m c t = E
  pointwise []
  have e : (i.val + 528 - 3) % 528 = j.val := by omega
  simp only [e]

theorem sh_3 (c : Dev nD) (t : Fin cfg0.N) (r : Fin 520) (b : Fin 2) (s : Fin 4096) (h : b.val * 4096 + s.val = t.val * 512 + r.val)
    (hv : r.val < 512 ∨ t.val % 8 ≠ 7) (q : Fin 1536) :
    ext3 m c t (ix2 ⟨8 + r.val, by have := r.isLt; omega⟩ q) = (val_main_v28 (F := Ideal) (m ((c : Thread nD τ).loc main_arg0)) (m ((c : Thread nD τ).loc main_arg1)) (m ((c : Thread nD τ).loc main_arg2))) (ix3 b s q) := by
  have hr := r.isLt
  have hb := b.isLt
  have hs := s.isLt
  have ht : t.val < 16 := lt_of_lt_of_eq t.isLt N_0
  rw [ext3_at m c t _ ⟨8 + r.val - 3, by omega⟩ (by simp only []; omega) q]
  by_cases hd : s.val < 3
  · rw [ext_lo m c t (by omega) _ (by simp only []; omega) q]
    pointwise [val_main_v28, val_main_v24, val_main_v23, val_main_cst_3]
    simp (disch := omega) only [dif_pos, dif_neg]
  · rw [ext_row m c t _ b ⟨s.val - 3, by omega⟩ (by simp only []; omega) (by simp only []; omega) (by simp only []; omega) q]
    pointwise [val_main_v28, val_main_v24]
    have e : 0 + s.val - 3 = s.val - 3 := by omega
    simp (disch := omega) only [dif_pos, dif_neg, e]

/-- The convolution's first two taps. -/
def taps (c : Dev nD) (t : Fin cfg0.N) : FVec Ideal S520x1536 .f32 :=
  k0_pay11 (sFirst t) 8#32 (sRem t) (sNz t) 0#32 (iblk m c 9 t) (iblk m c 8 t) (iblk m c 10 t) (tap0 m c t) (tap1 m c t)

theorem taps_at (c : Dev nD) (t : Fin cfg0.N) (r : Fin 520) (q : Fin 1536) :
    taps m c t (ix2 r q) = tap0 m c t (ix2 0 q) * ext3 m c t (ix2 ⟨8 + r.val, by have := r.isLt; omega⟩ q)
      + tap1 m c t (ix2 0 q) * ext2 m c t (ix2 ⟨8 + r.val, by have := r.isLt; omega⟩ q) := by
  unfold taps k0_pay11
  rw [show k0_pay8 (sFirst t) 8#32 (sRem t) (sNz t) 0#32 (iblk m c 9 t) (iblk m c 8 t) (iblk m c 10 t) = ext3 m c t from rfl, show k0_pay9 (sFirst t) 8#32 (sRem t) (sNz t) 0#32 (iblk m c 9 t) (iblk m c 8 t) (iblk m c 10 t) = ext2 m c t from rfl]
  generalize ext3 m c t = A
  generalize ext2 m c t = B
  generalize tap0 m c t = u
  generalize tap1 m c t = w
  pointwise []

/-- The convolution at a row of the block or of the eight rows after it, within the sequence. -/
theorem conv (c : Dev nD) (t : Fin cfg0.N) (r : Fin 520) (b : Fin 2) (s : Fin 4096) (h : b.val * 4096 + s.val = t.val * 512 + r.val)
    (hv : r.val < 512 ∨ t.val % 8 ≠ 7) (q : Fin 1536) :
    k0_pay12 (ext m c t) (ext1 m c t) (taps m c t) (tap2 m c t) (tap3 m c t) (ix2 r q) = (val_main_v54 (F := Ideal) (m ((c : Thread nD τ).loc main_arg0)) (m ((c : Thread nD τ).loc main_arg1)) (m ((c : Thread nD τ).loc main_arg2)) (m ((c : Thread nD τ).loc main_arg3))) (ix3 b s q) := by
  have h0 := sh_0 m c t r b s h hv q
  have h1 := sh_1 m c t r b s h hv q
  have h2 := sh_2 m c t r b s h hv q
  have h3 := sh_3 m c t r b s h hv q
  have ha := taps_at m c t r q
  have e0 := tap0_eq m c t q
  have e1 := tap1_eq m c t q
  have e2 := tap2_eq m c t q
  have e3 := tap3_eq m c t q
  generalize ext m c t = E at h0 ⊢
  generalize ext1 m c t = E1 at h1 ⊢
  generalize ext2 m c t = E2 at h2 ha
  generalize ext3 m c t = E3 at h3 ha
  generalize taps m c t = X at ha ⊢
  generalize tap2 m c t = T2 at e2 ⊢
  generalize tap3 m c t = T3 at e3 ⊢
  pointwise [k0_pay12, val_main_v54, val_main_v53, val_main_v52, val_main_v51, val_main_v49, val_main_v48, val_main_v47, val_main_v46, val_main_v45, val_main_v44, val_main_v42, val_main_v41, val_main_v40, val_main_v39, val_main_v38, val_main_v37, val_main_v35, val_main_v34, val_main_v33, val_main_v32, val_main_v31, val_main_v30, val_main_v29, val_main_v27, val_main_v26, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp only [ha, h0, h1, h2, h3, e0, e1, e2, e3, zero_add]

end Cert.DxIdeal.Ext

end
-- ==== Proof.DxRows.lean ====
/-
  The gradient of the convolution's result and of the middle columns, row by row: the kernel's rows are the reference's.
-/
module

public import proofs.«01_k».proof.Proof.DxExt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DxIdeal.Rows

open Cert.DxIdeal Cert.DxIdeal.Gen Cert.DxRefIdeal.Read Cert.DxIdeal.Post Cert.DxIdeal.Ref Cert.DxIdeal.Blk Cert.DxIdeal.Ext

variable (m : (ℓ : Loc nD τ sig) → Buf (Elt Ideal) ℓ)

theorem sig_row (c : Dev nD) (t : Fin cfg0.N) (r : Fin 520) (b : Fin 2) (s : Fin 4096) (h : b.val * 4096 + s.val = t.val * 512 + r.val)
    (hv : r.val < 512 ∨ t.val % 8 ≠ 7) (q : Fin 1536) :
    k0_pay13 (ext m c t) (ext1 m c t) (taps m c t) (tap2 m c t) (tap3 m c t) (ix2 r q) = (val_main_v55_2 (F := Ideal) (m ((c : Thread nD τ).loc main_arg0)) (m ((c : Thread nD τ).loc main_arg1)) (m ((c : Thread nD τ).loc main_arg2)) (m ((c : Thread nD τ).loc main_arg3))) (ix3 b s q) := by
  rw [act_sig]
  have hc := conv m c t r b s h hv q
  generalize ext m c t = E at hc ⊢
  generalize ext1 m c t = E1 at hc ⊢
  generalize taps m c t = X at hc ⊢
  generalize tap2 m c t = T2 at hc ⊢
  generalize tap3 m c t = T3 at hc ⊢
  rw [← hc]
  unfold k0_pay13
  generalize k0_pay12 E E1 X T2 T3 = W
  pointwise []

theorem slope_row (c : Dev nD) (t : Fin cfg0.N) (r : Fin 520) (b : Fin 2) (s : Fin 4096) (h : b.val * 4096 + s.val = t.val * 512 + r.val)
    (hv : r.val < 512 ∨ t.val % 8 ≠ 7) (q : Fin 1536) :
    k0_pay14 (ext m c t) (ext1 m c t) (taps m c t) (tap2 m c t) (tap3 m c t) (ix2 r q) = (val_main_v55_1 (F := Ideal) (m ((c : Thread nD τ).loc main_arg0)) (m ((c : Thread nD τ).loc main_arg1)) (m ((c : Thread nD τ).loc main_arg2)) (m ((c : Thread nD τ).loc main_arg3))) (ix3 b s q) := by
  rw [act_slope, ← sig_row m c t r b s h hv q]
  unfold k0_pay14
  generalize k0_pay13 (ext m c t) (ext1 m c t) (taps m c t) (tap2 m c t) (tap3 m c t) = W
  pointwise []

theorem silu_row (c : Dev nD) (t : Fin cfg0.N) (r : Fin 520) (b : Fin 2) (s : Fin 4096) (h : b.val * 4096 + s.val = t.val * 512 + r.val)
    (hv : r.val < 512 ∨ t.val % 8 ≠ 7) (q : Fin 1536) :
    k0_pay15 (ext m c t) (ext1 m c t) (taps m c t) (tap2 m c t) (tap3 m c t) (ix2 r q) = (val_main_v55_0 (F := Ideal) (m ((c : Thread nD τ).loc main_arg0)) (m ((c : Thread nD τ).loc main_arg1)) (m ((c : Thread nD τ).loc main_arg2)) (m ((c : Thread nD τ).loc main_arg3))) (ix3 b s q) := by
  rw [act_out, ← sig_row m c t r b s h hv q, ← conv m c t r b s h hv q]
  unfold k0_pay15
  generalize k0_pay13 (ext m c t) (ext1 m c t) (taps m c t) (tap2 m c t) (tap3 m c t) = W
  generalize k0_pay12 (ext m c t) (ext1 m c t) (taps m c t) (tap2 m c t) (tap3 m c t) = W'
  pointwise []

/-- The gradient's eight rows after the block, zero past the end of a sequence. -/
def tail (c : Dev nD) (t : Fin cfg0.N) : FVec Ideal S8x1536 .f32 :=
  k0_pay6 8#32 (sRem t) (sNz t) 0#32 (iblk m c 12 t)

theorem tail_zero (c : Dev nD) (t : Fin cfg0.N) (ht : t.val % 8 = 7) (i : Fin 8) (q : Fin 1536) : tail m c t (ix2 i q) = 0 := by
  have h1 := last_eq t
  rw [if_pos ht] at h1
  unfold tail k0_pay6
  simp only [h1, select_one]
  pointwise []

theorem tail_row (c : Dev nD) (t : Fin cfg0.N) (ht : t.val % 8 ≠ 7) (i : Fin 8) (q : Fin 1536) :
    tail m c t (ix2 i q) = dq m c (ix2 ⟨(t.val + 1) * 512 + i.val, by have := lt_of_lt_of_eq t.isLt N_0; have := i.isLt; omega⟩ q) := by
  have h1 := last_eq t
  rw [if_neg ht] at h1
  have h15 : t.val < 15 := by have := lt_of_lt_of_eq t.isLt N_0; omega
  rw [← blk_12 m c t i h15 q]
  unfold tail k0_pay6
  simp only [h1, select_zero]

theorem d_row (c : Dev nD) (t : Fin cfg0.N) (r : Fin 520) (b : Fin 2) (s : Fin 4096) (h : b.val * 4096 + s.val = t.val * 512 + r.val)
    (hv : r.val < 512 ∨ t.val % 8 ≠ 7) (q : Fin 1536) :
    k0_pay47 (iblk m c 11 t) (tail m c t) (ix2 r q) = dq m c (ix2 ⟨b.val * 4096 + s.val, by have := b.isLt; have := s.isLt; omega⟩ q) := by
  have hr := r.isLt
  have hb := b.isLt
  have hs := s.isLt
  have ht : t.val < 16 := lt_of_lt_of_eq t.isLt N_0
  simp only [h]
  by_cases h5 : r.val < 512
  · have hx := blk_11 m c t ⟨r.val, h5⟩ (by simp only []; omega) q
    generalize iblk m c 11 t = B at hx ⊢
    generalize tail m c t = T
    pointwise [k0_pay47]
    rw [dif_pos (by omega)]
    exact hx
  · have hx := tail_row m c t (by omega) ⟨r.val - 512, by omega⟩ q
    generalize iblk m c 11 t = B
    generalize tail m c t = T at hx ⊢
    pointwise [k0_pay47]
    rw [dif_neg (by omega)]
    refine hx.trans ?_
    congr 2
    exact Fin.ext (by simp only []; omega)

theorem d_zero (c : Dev nD) (t : Fin cfg0.N) (ht : t.val % 8 = 7) (r : Fin 520) (hr : 512 ≤ r.val) (q : Fin 1536) :
    k0_pay47 (iblk m c 11 t) (tail m c t) (ix2 r q) = 0 := by
  have hr' := r.isLt
  have hx := tail_zero m c t ht ⟨r.val - 512, by omega⟩ q
  generalize iblk m c 11 t = B
  generalize tail m c t = T at hx ⊢
  pointwise [k0_pay47]
  rw [dif_neg (by omega)]
  exact hx

/-- Every column is a head's. -/
theorem col (q : Fin 1536) : ∃ (j : Fin 12) (e : Fin 128), q = ⟨j.val * 128 + e.val, by have := j.isLt; have := e.isLt; omega⟩ :=
  ⟨⟨q.val / 128, by have := q.isLt; omega⟩, ⟨q.val % 128, by omega⟩, Fin.ext (by simp only []; omega)⟩

/-- The gradient of the convolution's result, over the block and the eight rows after it. -/
def post (c : Dev nD) (t : Fin cfg0.N) : FVec Ideal S520x1536 .f32 :=
  postK (ext m c t) (ext1 m c t) (taps m c t) (tap2 m c t) (tap3 m c t) (iblk m c 11 t) (tail m c t)

theorem back_zero (σ : Fin 128 → Ideal .f32) (δ : Fin 128 → Ideal .f32) (hδ : ∀ x, δ x = 0) (e : Fin 128) : back σ δ e = 0 := by
  unfold back
  simp only [hδ, zero_mul, mul_zero, Finset.sum_const_zero, add_zero]

theorem post_row_0 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨0 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨0 + e.val, by have := e.isLt; omega⟩) := by
  unfold post
  rw [post_0, pre, head_0]
  simp only [silu_row m c t r b s h hv, d_row m c t r b s h hv, conv m c t r b s h hv, sig_row m c t r b s h hv, slope_row m c t r b s h hv]

theorem post_zero_0 (c : Dev nD) (t : Fin cfg0.N) (ht : t.val % 8 = 7) (r : Fin 520) (hr : 512 ≤ r.val) (e : Fin 128) :
    post m c t (ix2 r ⟨0 + e.val, by have := e.isLt; omega⟩) = 0 := by
  unfold post
  rw [post_0]
  rw [back_zero _ _ (fun x => by simp only [d_zero m c t ht r hr, zero_mul])]
  simp only [zero_mul, mul_zero, add_zero]

theorem post_row_1 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨128 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨128 + e.val, by have := e.isLt; omega⟩) := by
  unfold post
  rw [post_1, pre, head_1]
  simp only [silu_row m c t r b s h hv, d_row m c t r b s h hv, conv m c t r b s h hv, sig_row m c t r b s h hv, slope_row m c t r b s h hv]

theorem post_zero_1 (c : Dev nD) (t : Fin cfg0.N) (ht : t.val % 8 = 7) (r : Fin 520) (hr : 512 ≤ r.val) (e : Fin 128) :
    post m c t (ix2 r ⟨128 + e.val, by have := e.isLt; omega⟩) = 0 := by
  unfold post
  rw [post_1]
  rw [back_zero _ _ (fun x => by simp only [d_zero m c t ht r hr, zero_mul])]
  simp only [zero_mul, mul_zero, add_zero]

theorem post_row_2 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨256 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨256 + e.val, by have := e.isLt; omega⟩) := by
  unfold post
  rw [post_2, pre, head_2]
  simp only [silu_row m c t r b s h hv, d_row m c t r b s h hv, conv m c t r b s h hv, sig_row m c t r b s h hv, slope_row m c t r b s h hv]

theorem post_zero_2 (c : Dev nD) (t : Fin cfg0.N) (ht : t.val % 8 = 7) (r : Fin 520) (hr : 512 ≤ r.val) (e : Fin 128) :
    post m c t (ix2 r ⟨256 + e.val, by have := e.isLt; omega⟩) = 0 := by
  unfold post
  rw [post_2]
  rw [back_zero _ _ (fun x => by simp only [d_zero m c t ht r hr, zero_mul])]
  simp only [zero_mul, mul_zero, add_zero]

theorem post_row_3 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨384 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨384 + e.val, by have := e.isLt; omega⟩) := by
  unfold post
  rw [post_3, pre, head_3]
  simp only [silu_row m c t r b s h hv, d_row m c t r b s h hv, conv m c t r b s h hv, sig_row m c t r b s h hv, slope_row m c t r b s h hv]

theorem post_zero_3 (c : Dev nD) (t : Fin cfg0.N) (ht : t.val % 8 = 7) (r : Fin 520) (hr : 512 ≤ r.val) (e : Fin 128) :
    post m c t (ix2 r ⟨384 + e.val, by have := e.isLt; omega⟩) = 0 := by
  unfold post
  rw [post_3]
  rw [back_zero _ _ (fun x => by simp only [d_zero m c t ht r hr, zero_mul])]
  simp only [zero_mul, mul_zero, add_zero]

theorem post_row_4 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨512 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨512 + e.val, by have := e.isLt; omega⟩) := by
  unfold post
  rw [post_4, pre, head_4]
  simp only [silu_row m c t r b s h hv, d_row m c t r b s h hv, conv m c t r b s h hv, sig_row m c t r b s h hv, slope_row m c t r b s h hv]

theorem post_zero_4 (c : Dev nD) (t : Fin cfg0.N) (ht : t.val % 8 = 7) (r : Fin 520) (hr : 512 ≤ r.val) (e : Fin 128) :
    post m c t (ix2 r ⟨512 + e.val, by have := e.isLt; omega⟩) = 0 := by
  unfold post
  rw [post_4]
  rw [back_zero _ _ (fun x => by simp only [d_zero m c t ht r hr, zero_mul])]
  simp only [zero_mul, mul_zero, add_zero]

theorem post_row_5 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨640 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨640 + e.val, by have := e.isLt; omega⟩) := by
  unfold post
  rw [post_5, pre, head_5]
  simp only [silu_row m c t r b s h hv, d_row m c t r b s h hv, conv m c t r b s h hv, sig_row m c t r b s h hv, slope_row m c t r b s h hv]

theorem post_zero_5 (c : Dev nD) (t : Fin cfg0.N) (ht : t.val % 8 = 7) (r : Fin 520) (hr : 512 ≤ r.val) (e : Fin 128) :
    post m c t (ix2 r ⟨640 + e.val, by have := e.isLt; omega⟩) = 0 := by
  unfold post
  rw [post_5]
  rw [back_zero _ _ (fun x => by simp only [d_zero m c t ht r hr, zero_mul])]
  simp only [zero_mul, mul_zero, add_zero]

theorem post_row_6 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨768 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨768 + e.val, by have := e.isLt; omega⟩) := by
  unfold post
  rw [post_6, pre, head_6]
  simp only [silu_row m c t r b s h hv, d_row m c t r b s h hv, conv m c t r b s h hv, sig_row m c t r b s h hv, slope_row m c t r b s h hv]

theorem post_zero_6 (c : Dev nD) (t : Fin cfg0.N) (ht : t.val % 8 = 7) (r : Fin 520) (hr : 512 ≤ r.val) (e : Fin 128) :
    post m c t (ix2 r ⟨768 + e.val, by have := e.isLt; omega⟩) = 0 := by
  unfold post
  rw [post_6]
  rw [back_zero _ _ (fun x => by simp only [d_zero m c t ht r hr, zero_mul])]
  simp only [zero_mul, mul_zero, add_zero]

theorem post_row_7 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨896 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨896 + e.val, by have := e.isLt; omega⟩) := by
  unfold post
  rw [post_7, pre, head_7]
  simp only [silu_row m c t r b s h hv, d_row m c t r b s h hv, conv m c t r b s h hv, sig_row m c t r b s h hv, slope_row m c t r b s h hv]

theorem post_zero_7 (c : Dev nD) (t : Fin cfg0.N) (ht : t.val % 8 = 7) (r : Fin 520) (hr : 512 ≤ r.val) (e : Fin 128) :
    post m c t (ix2 r ⟨896 + e.val, by have := e.isLt; omega⟩) = 0 := by
  unfold post
  rw [post_7]
  rw [back_zero _ _ (fun x => by simp only [d_zero m c t ht r hr, zero_mul])]
  simp only [zero_mul, mul_zero, add_zero]

theorem post_row_8 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨1024 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨1024 + e.val, by have := e.isLt; omega⟩) := by
  unfold post
  rw [post_8, pre, head_8]
  simp only [silu_row m c t r b s h hv, d_row m c t r b s h hv, conv m c t r b s h hv, sig_row m c t r b s h hv, slope_row m c t r b s h hv]

theorem post_zero_8 (c : Dev nD) (t : Fin cfg0.N) (ht : t.val % 8 = 7) (r : Fin 520) (hr : 512 ≤ r.val) (e : Fin 128) :
    post m c t (ix2 r ⟨1024 + e.val, by have := e.isLt; omega⟩) = 0 := by
  unfold post
  rw [post_8]
  simp only [d_zero m c t ht r hr]
  simp only [zero_mul, mul_zero, add_zero]

theorem post_row_9 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨1152 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨1152 + e.val, by have := e.isLt; omega⟩) := by
  unfold post
  rw [post_9, pre, head_9]
  simp only [silu_row m c t r b s h hv, d_row m c t r b s h hv, conv m c t r b s h hv, sig_row m c t r b s h hv, slope_row m c t r b s h hv]

theorem post_zero_9 (c : Dev nD) (t : Fin cfg0.N) (ht : t.val % 8 = 7) (r : Fin 520) (hr : 512 ≤ r.val) (e : Fin 128) :
    post m c t (ix2 r ⟨1152 + e.val, by have := e.isLt; omega⟩) = 0 := by
  unfold post
  rw [post_9]
  simp only [d_zero m c t ht r hr]
  simp only [zero_mul, mul_zero, add_zero]

theorem post_row_10 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨1280 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨1280 + e.val, by have := e.isLt; omega⟩) := by
  unfold post
  rw [post_10, pre, head_10]
  simp only [silu_row m c t r b s h hv, d_row m c t r b s h hv, conv m c t r b s h hv, sig_row m c t r b s h hv, slope_row m c t r b s h hv]

theorem post_zero_10 (c : Dev nD) (t : Fin cfg0.N) (ht : t.val % 8 = 7) (r : Fin 520) (hr : 512 ≤ r.val) (e : Fin 128) :
    post m c t (ix2 r ⟨1280 + e.val, by have := e.isLt; omega⟩) = 0 := by
  unfold post
  rw [post_10]
  simp only [d_zero m c t ht r hr]
  simp only [zero_mul, mul_zero, add_zero]

theorem post_row_11 (c : Dev nD) (t : Fin cfg0.N) (r : Fin 520) (b : Fin 2) (s : Fin 4096) (h : b.val * 4096 + s.val = t.val * 512 + r.val)
    (hv : r.val < 512 ∨ t.val % 8 ≠ 7) (e : Fin 128) :
    post m c t (ix2 r ⟨1408 + e.val, by have := e.isLt; omega⟩) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s ⟨1408 + e.val, by have := e.isLt; omega⟩) := by
  unfold post
  rw [post_11, pre, head_11]
  simp only [silu_row m c t r b s h hv, d_row m c t r b s h hv, conv m c t r b s h hv, sig_row m c t r b s h hv, slope_row m c t r b s h hv]

theorem post_zero_11 (c : Dev nD) (t : Fin cfg0.N) (ht : t.val % 8 = 7) (r : Fin 520) (hr : 512 ≤ r.val) (e : Fin 128) :
    post m c t (ix2 r ⟨1408 + e.val, by have := e.isLt; omega⟩) = 0 := by
  unfold post
  rw [post_11]
  simp only [d_zero m c t ht r hr]
  simp only [zero_mul, mul_zero, add_zero]

theorem post_row (c : Dev nD) (t : Fin cfg0.N) (r : Fin 520) (b : Fin 2) (s : Fin 4096) (h : b.val * 4096 + s.val = t.val * 512 + r.val)
    (hv : r.val < 512 ∨ t.val % 8 ≠ 7) (q : Fin 1536) : post m c t (ix2 r q) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) := by
  obtain ⟨j, e, rfl⟩ := col q
  fin_cases j
  · exact (post_row_0 m c t r b s h hv e)
  · exact (post_row_1 m c t r b s h hv e)
  · exact (post_row_2 m c t r b s h hv e)
  · exact (post_row_3 m c t r b s h hv e)
  · exact (post_row_4 m c t r b s h hv e)
  · exact (post_row_5 m c t r b s h hv e)
  · exact (post_row_6 m c t r b s h hv e)
  · exact (post_row_7 m c t r b s h hv e)
  · exact (post_row_8 m c t r b s h hv e)
  · exact (post_row_9 m c t r b s h hv e)
  · exact (post_row_10 m c t r b s h hv e)
  · exact (post_row_11 m c t r b s h hv e)

theorem post_zero (c : Dev nD) (t : Fin cfg0.N) (ht : t.val % 8 = 7) (r : Fin 520) (hr : 512 ≤ r.val) (q : Fin 1536) :
    post m c t (ix2 r q) = 0 := by
  obtain ⟨j, e, rfl⟩ := col q
  fin_cases j
  · exact (post_zero_0 m c t ht r hr e)
  · exact (post_zero_1 m c t ht r hr e)
  · exact (post_zero_2 m c t ht r hr e)
  · exact (post_zero_3 m c t ht r hr e)
  · exact (post_zero_4 m c t ht r hr e)
  · exact (post_zero_5 m c t ht r hr e)
  · exact (post_zero_6 m c t ht r hr e)
  · exact (post_zero_7 m c t ht r hr e)
  · exact (post_zero_8 m c t ht r hr e)
  · exact (post_zero_9 m c t ht r hr e)
  · exact (post_zero_10 m c t ht r hr e)
  · exact (post_zero_11 m c t ht r hr e)

end Cert.DxIdeal.Rows

end
-- ==== Proof.DxGrad.lean ====
/-
  The gradient of the projection's columns, of its normalised input and of the token stream, row by row: the kernel's rows
  are the reference's.
-/
module

public import proofs.«01_k».proof.Proof.DxRows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DxIdeal.Grad

open Cert.DxIdeal Cert.DxIdeal.Gen Cert.DxRefIdeal.Read Cert.DxIdeal.Post Cert.DxIdeal.Ref Cert.DxIdeal.Blk Cert.DxIdeal.Ext Cert.DxIdeal.Rows

variable (m : (ℓ : Loc nD τ sig) → Buf (Elt Ideal) ℓ)

theorem pay65_at (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (w : Vec Ideal S1x1536 .f32) (l : Fin 512) (q : Fin 1536) :
    k0_pay65 v77 v78 v81 v83 v89 v92 v93 v164 v304 v311 v312 w (ix2 l q) = w (ix2 0 q) * k0_pay64 v77 v78 v81 v83 v89 v92 v93 v164 v304 v311 v312 (ix2 ⟨l.val + 3, by have := l.isLt; omega⟩ q) := by
  have hl := l.isLt
  unfold k0_pay65
  generalize k0_pay64 v77 v78 v81 v83 v89 v92 v93 v164 v304 v311 v312 = P
  pointwise []
  have e : (l.val + 520 - 517) % 520 = l.val + 3 := by omega
  simp only [e]

theorem pay67_at (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (l : Fin 520) (q : Fin 1536) (hl : l.val < 512) :
    k0_pay67 v77 v78 v81 v83 v89 v92 v93 v164 v304 v311 v312 (ix2 l q) = k0_pay64 v77 v78 v81 v83 v89 v92 v93 v164 v304 v311 v312 (ix2 ⟨l.val + 2, by omega⟩ q) := by
  unfold k0_pay67
  generalize k0_pay64 v77 v78 v81 v83 v89 v92 v93 v164 v304 v311 v312 = P
  pointwise []
  have e : (l.val + 520 - 518) % 520 = l.val + 2 := by omega
  simp only [e]

/-- The convolution's gradient with respect to its input, block by block. -/
def dz (c : Dev nD) (t : Fin cfg0.N) : FVec Ideal S512x1536 .f32 :=
  k0_pay69 (post m c t) (k0_pay65 (k0_pay12 (ext m c t) (ext1 m c t) (taps m c t) (tap2 m c t) (tap3 m c t)) (k0_pay13 (ext m c t) (ext1 m c t) (taps m c t) (tap2 m c t) (tap3 m c t)) (k0_pay14 (ext m c t) (ext1 m c t) (taps m c t) (tap2 m c t) (tap3 m c t)) (k0_pay16 (ext m c t) (ext1 m c t) (taps m c t) (tap2 m c t) (tap3 m c t)) (k0_pay18 (ext m c t) (ext1 m c t) (taps m c t) (tap2 m c t) (tap3 m c t)) (k0_pay19 (ext m c t) (ext1 m c t) (taps m c t) (tap2 m c t) (tap3 m c t)) (k0_pay20 (ext m c t) (ext1 m c t) (taps m c t) (tap2 m c t) (tap3 m c t)) (k0_pay48 (iblk m c 11 t) (tail m c t)) (k0_pay60 (k0_pay24 (ext m c t) (ext1 m c t) (taps m c t) (tap2 m c t) (tap3 m c t)) (k0_pay26 (ext m c t) (ext1 m c t) (taps m c t) (tap2 m c t) (tap3 m c t)) (k0_pay27 (ext m c t) (ext1 m c t) (taps m c t) (tap2 m c t) (tap3 m c t)) (k0_pay28 (ext m c t) (ext1 m c t) (taps m c t) (tap2 m c t) (tap3 m c t)) (k0_pay30 (k0_pay28 (ext m c t) (ext1 m c t) (taps m c t) (tap2 m c t) (tap3 m c t))) (k0_pay31 (k0_pay28 (ext m c t) (ext1 m c t) (taps m c t) (tap2 m c t) (tap3 m c t))) (k0_pay50 (iblk m c 11 t) (tail m c t)) (k0_pay51 (iblk m c 11 t) (tail m c t)) (k0_pay57 (k0_pay36 (k0_pay15 (ext m c t) (ext1 m c t) (taps m c t) (tap2 m c t) (tap3 m c t))) (k0_pay38 (k0_pay15 (ext m c t) (ext1 m c t) (taps m c t) (tap2 m c t) (tap3 m c t))) (k0_pay39 (k0_pay15 (ext m c t) (ext1 m c t) (taps m c t) (tap2 m c t) (tap3 m c t))) (k0_pay40 (k0_pay15 (ext m c t) (ext1 m c t) (taps m c t) (tap2 m c t) (tap3 m c t))) (k0_pay42 (k0_pay15 (ext m c t) (ext1 m c t) (taps m c t) (tap2 m c t) (tap3 m c t))) (k0_pay43 (k0_pay15 (ext m c t) (ext1 m c t) (taps m c t) (tap2 m c t) (tap3 m c t))) (k0_pay53 (iblk m c 11 t) (tail m c t)) (k0_pay54 (iblk m c 11 t) (tail m c t)) (k0_pay55 (iblk m c 11 t) (tail m c t) (k0_pay44 (k0_pay15 (ext m c t) (ext1 m c t) (taps m c t) (tap2 m c t) (tap3 m c t))) (k0_pay45 (k0_pay15 (ext m c t) (ext1 m c t) (taps m c t) (tap2 m c t) (tap3 m c t))) (k0_pay46 (k0_pay15 (ext m c t) (ext1 m c t) (taps m c t) (tap2 m c t) (tap3 m c t)))) (k0_pay56 (iblk m c 11 t) (tail m c t) (k0_pay40 (k0_pay15 (ext m c t) (ext1 m c t) (taps m c t) (tap2 m c t) (tap3 m c t))))) (k0_pay58 (k0_pay32 (k0_pay15 (ext m c t) (ext1 m c t) (taps m c t) (tap2 m c t) (tap3 m c t))) (k0_pay34 (k0_pay15 (ext m c t) (ext1 m c t) (taps m c t) (tap2 m c t) (tap3 m c t))) (k0_pay35 (k0_pay15 (ext m c t) (ext1 m c t) (taps m c t) (tap2 m c t) (tap3 m c t))) (k0_pay52 (iblk m c 11 t) (tail m c t))) k0_pay59) (k0_pay62 (k0_pay22 (ext m c t) (ext1 m c t) (taps m c t) (tap2 m c t) (tap3 m c t)) (k0_pay49 (iblk m c 11 t) (tail m c t))) (k0_pay63 (k0_pay20 (ext m c t) (ext1 m c t) (taps m c t) (tap2 m c t) (tap3 m c t)) (k0_pay23 (ext m c t) (ext1 m c t) (taps m c t) (tap2 m c t) (tap3 m c t)) (k0_pay49 (iblk m c 11 t) (tail m c t))) (tap0 m c t)) (k0_pay67 (k0_pay12 (ext m c t) (ext1 m c t) (taps m c t) (tap2 m c t) (tap3 m c t)) (k0_pay13 (ext m c t) (ext1 m c t) (taps m c t) (tap2 m c t) (tap3 m c t)) (k0_pay14 (ext m c t) (ext1 m c t) (taps m c t) (tap2 m c t) (tap3 m c t)) (k0_pay16 (ext m c t) (ext1 m c t) (taps m c t) (tap2 m c t) (tap3 m c t)) (k0_pay18 (ext m c t) (ext1 m c t) (taps m c t) (tap2 m c t) (tap3 m c t)) (k0_pay19 (ext m c t) (ext1 m c t) (taps m c t) (tap2 m c t) (tap3 m c t)) (k0_pay20 (ext m c t) (ext1 m c t) (taps m c t) (tap2 m c t) (tap3 m c t)) (k0_pay48 (iblk m c 11 t) (tail m c t)) (k0_pay60 (k0_pay24 (ext m c t) (ext1 m c t) (taps m c t) (tap2 m c t) (tap3 m c t)) (k0_pay26 (ext m c t) (ext1 m c t) (taps m c t) (tap2 m c t) (tap3 m c t)) (k0_pay27 (ext m c t) (ext1 m c t) (taps m c t) (tap2 m c t) (tap3 m c t)) (k0_pay28 (ext m c t) (ext1 m c t) (taps m c t) (tap2 m c t) (tap3 m c t)) (k0_pay30 (k0_pay28 (ext m c t) (ext1 m c t) (taps m c t) (tap2 m c t) (tap3 m c t))) (k0_pay31 (k0_pay28 (ext m c t) (ext1 m c t) (taps m c t) (tap2 m c t) (tap3 m c t))) (k0_pay50 (iblk m c 11 t) (tail m c t)) (k0_pay51 (iblk m c 11 t) (tail m c t)) (k0_pay57 (k0_pay36 (k0_pay15 (ext m c t) (ext1 m c t) (taps m c t) (tap2 m c t) (tap3 m c t))) (k0_pay38 (k0_pay15 (ext m c t) (ext1 m c t) (taps m c t) (tap2 m c t) (tap3 m c t))) (k0_pay39 (k0_pay15 (ext m c t) (ext1 m c t) (taps m c t) (tap2 m c t) (tap3 m c t))) (k0_pay40 (k0_pay15 (ext m c t) (ext1 m c t) (taps m c t) (tap2 m c t) (tap3 m c t))) (k0_pay42 (k0_pay15 (ext m c t) (ext1 m c t) (taps m c t) (tap2 m c t) (tap3 m c t))) (k0_pay43 (k0_pay15 (ext m c t) (ext1 m c t) (taps m c t) (tap2 m c t) (tap3 m c t))) (k0_pay53 (iblk m c 11 t) (tail m c t)) (k0_pay54 (iblk m c 11 t) (tail m c t)) (k0_pay55 (iblk m c 11 t) (tail m c t) (k0_pay44 (k0_pay15 (ext m c t) (ext1 m c t) (taps m c t) (tap2 m c t) (tap3 m c t))) (k0_pay45 (k0_pay15 (ext m c t) (ext1 m c t) (taps m c t) (tap2 m c t) (tap3 m c t))) (k0_pay46 (k0_pay15 (ext m c t) (ext1 m c t) (taps m c t) (tap2 m c t) (tap3 m c t)))) (k0_pay56 (iblk m c 11 t) (tail m c t) (k0_pay40 (k0_pay15 (ext m c t) (ext1 m c t) (taps m c t) (tap2 m c t) (tap3 m c t))))) (k0_pay58 (k0_pay32 (k0_pay15 (ext m c t) (ext1 m c t) (taps m c t) (tap2 m c t) (tap3 m c t))) (k0_pay34 (k0_pay15 (ext m c t) (ext1 m c t) (taps m c t) (tap2 m c t) (tap3 m c t))) (k0_pay35 (k0_pay15 (ext m c t) (ext1 m c t) (taps m c t) (tap2 m c t) (tap3 m c t))) (k0_pay52 (iblk m c 11 t) (tail m c t))) k0_pay59) (k0_pay62 (k0_pay22 (ext m c t) (ext1 m c t) (taps m c t) (tap2 m c t) (tap3 m c t)) (k0_pay49 (iblk m c 11 t) (tail m c t))) (k0_pay63 (k0_pay20 (ext m c t) (ext1 m c t) (taps m c t) (tap2 m c t) (tap3 m c t)) (k0_pay23 (ext m c t) (ext1 m c t) (taps m c t) (tap2 m c t) (tap3 m c t)) (k0_pay49 (iblk m c 11 t) (tail m c t)))) (tap1 m c t) (tap2 m c t) (tap3 m c t)

theorem dz_at (c : Dev nD) (t : Fin cfg0.N) (l : Fin 512) (q : Fin 1536) :
    dz m c t (ix2 l q) = tap0 m c t (ix2 0 q) * post m c t (ix2 ⟨l.val + 3, by have := l.isLt; omega⟩ q) + tap1 m c t (ix2 0 q) * post m c t (ix2 ⟨l.val + 2, by have := l.isLt; omega⟩ q)
      + tap2 m c t (ix2 0 q) * post m c t (ix2 ⟨l.val + 1, by have := l.isLt; omega⟩ q) + tap3 m c t (ix2 0 q) * post m c t (ix2 ⟨l.val, by have := l.isLt; omega⟩ q) := by
  have hl := l.isLt
  have h3 := pay65_at (k0_pay12 (ext m c t) (ext1 m c t) (taps m c t) (tap2 m c t) (tap3 m c t)) (k0_pay13 (ext m c t) (ext1 m c t) (taps m c t) (tap2 m c t) (tap3 m c t)) (k0_pay14 (ext m c t) (ext1 m c t) (taps m c t) (tap2 m c t) (tap3 m c t)) (k0_pay16 (ext m c t) (ext1 m c t) (taps m c t) (tap2 m c t) (tap3 m c t)) (k0_pay18 (ext m c t) (ext1 m c t) (taps m c t) (tap2 m c t) (tap3 m c t)) (k0_pay19 (ext m c t) (ext1 m c t) (taps m c t) (tap2 m c t) (tap3 m c t)) (k0_pay20 (ext m c t) (ext1 m c t) (taps m c t) (tap2 m c t) (tap3 m c t)) (k0_pay48 (iblk m c 11 t) (tail m c t)) (k0_pay60 (k0_pay24 (ext m c t) (ext1 m c t) (taps m c t) (tap2 m c t) (tap3 m c t)) (k0_pay26 (ext m c t) (ext1 m c t) (taps m c t) (tap2 m c t) (tap3 m c t)) (k0_pay27 (ext m c t) (ext1 m c t) (taps m c t) (tap2 m c t) (tap3 m c t)) (k0_pay28 (ext m c t) (ext1 m c t) (taps m c t) (tap2 m c t) (tap3 m c t)) (k0_pay30 (k0_pay28 (ext m c t) (ext1 m c t) (taps m c t) (tap2 m c t) (tap3 m c t))) (k0_pay31 (k0_pay28 (ext m c t) (ext1 m c t) (taps m c t) (tap2 m c t) (tap3 m c t))) (k0_pay50 (iblk m c 11 t) (tail m c t)) (k0_pay51 (iblk m c 11 t) (tail m c t)) (k0_pay57 (k0_pay36 (k0_pay15 (ext m c t) (ext1 m c t) (taps m c t) (tap2 m c t) (tap3 m c t))) (k0_pay38 (k0_pay15 (ext m c t) (ext1 m c t) (taps m c t) (tap2 m c t) (tap3 m c t))) (k0_pay39 (k0_pay15 (ext m c t) (ext1 m c t) (taps m c t) (tap2 m c t) (tap3 m c t))) (k0_pay40 (k0_pay15 (ext m c t) (ext1 m c t) (taps m c t) (tap2 m c t) (tap3 m c t))) (k0_pay42 (k0_pay15 (ext m c t) (ext1 m c t) (taps m c t) (tap2 m c t) (tap3 m c t))) (k0_pay43 (k0_pay15 (ext m c t) (ext1 m c t) (taps m c t) (tap2 m c t) (tap3 m c t))) (k0_pay53 (iblk m c 11 t) (tail m c t)) (k0_pay54 (iblk m c 11 t) (tail m c t)) (k0_pay55 (iblk m c 11 t) (tail m c t) (k0_pay44 (k0_pay15 (ext m c t) (ext1 m c t) (taps m c t) (tap2 m c t) (tap3 m c t))) (k0_pay45 (k0_pay15 (ext m c t) (ext1 m c t) (taps m c t) (tap2 m c t) (tap3 m c t))) (k0_pay46 (k0_pay15 (ext m c t) (ext1 m c t) (taps m c t) (tap2 m c t) (tap3 m c t)))) (k0_pay56 (iblk m c 11 t) (tail m c t) (k0_pay40 (k0_pay15 (ext m c t) (ext1 m c t) (taps m c t) (tap2 m c t) (tap3 m c t))))) (k0_pay58 (k0_pay32 (k0_pay15 (ext m c t) (ext1 m c t) (taps m c t) (tap2 m c t) (tap3 m c t))) (k0_pay34 (k0_pay15 (ext m c t) (ext1 m c t) (taps m c t) (tap2 m c t) (tap3 m c t))) (k0_pay35 (k0_pay15 (ext m c t) (ext1 m c t) (taps m c t) (tap2 m c t) (tap3 m c t))) (k0_pay52 (iblk m c 11 t) (tail m c t))) k0_pay59) (k0_pay62 (k0_pay22 (ext m c t) (ext1 m c t) (taps m c t) (tap2 m c t) (tap3 m c t)) (k0_pay49 (iblk m c 11 t) (tail m c t))) (k0_pay63 (k0_pay20 (ext m c t) (ext1 m c t) (taps m c t) (tap2 m c t) (tap3 m c t)) (k0_pay23 (ext m c t) (ext1 m c t) (taps m c t) (tap2 m c t) (tap3 m c t)) (k0_pay49 (iblk m c 11 t) (tail m c t))) (tap0 m c t) l q
  have h2 := pay67_at (k0_pay12 (ext m c t) (ext1 m c t) (taps m c t) (tap2 m c t) (tap3 m c t)) (k0_pay13 (ext m c t) (ext1 m c t) (taps m c t) (tap2 m c t) (tap3 m c t)) (k0_pay14 (ext m c t) (ext1 m c t) (taps m c t) (tap2 m c t) (tap3 m c t)) (k0_pay16 (ext m c t) (ext1 m c t) (taps m c t) (tap2 m c t) (tap3 m c t)) (k0_pay18 (ext m c t) (ext1 m c t) (taps m c t) (tap2 m c t) (tap3 m c t)) (k0_pay19 (ext m c t) (ext1 m c t) (taps m c t) (tap2 m c t) (tap3 m c t)) (k0_pay20 (ext m c t) (ext1 m c t) (taps m c t) (tap2 m c t) (tap3 m c t)) (k0_pay48 (iblk m c 11 t) (tail m c t)) (k0_pay60 (k0_pay24 (ext m c t) (ext1 m c t) (taps m c t) (tap2 m c t) (tap3 m c t)) (k0_pay26 (ext m c t) (ext1 m c t) (taps m c t) (tap2 m c t) (tap3 m c t)) (k0_pay27 (ext m c t) (ext1 m c t) (taps m c t) (tap2 m c t) (tap3 m c t)) (k0_pay28 (ext m c t) (ext1 m c t) (taps m c t) (tap2 m c t) (tap3 m c t)) (k0_pay30 (k0_pay28 (ext m c t) (ext1 m c t) (taps m c t) (tap2 m c t) (tap3 m c t))) (k0_pay31 (k0_pay28 (ext m c t) (ext1 m c t) (taps m c t) (tap2 m c t) (tap3 m c t))) (k0_pay50 (iblk m c 11 t) (tail m c t)) (k0_pay51 (iblk m c 11 t) (tail m c t)) (k0_pay57 (k0_pay36 (k0_pay15 (ext m c t) (ext1 m c t) (taps m c t) (tap2 m c t) (tap3 m c t))) (k0_pay38 (k0_pay15 (ext m c t) (ext1 m c t) (taps m c t) (tap2 m c t) (tap3 m c t))) (k0_pay39 (k0_pay15 (ext m c t) (ext1 m c t) (taps m c t) (tap2 m c t) (tap3 m c t))) (k0_pay40 (k0_pay15 (ext m c t) (ext1 m c t) (taps m c t) (tap2 m c t) (tap3 m c t))) (k0_pay42 (k0_pay15 (ext m c t) (ext1 m c t) (taps m c t) (tap2 m c t) (tap3 m c t))) (k0_pay43 (k0_pay15 (ext m c t) (ext1 m c t) (taps m c t) (tap2 m c t) (tap3 m c t))) (k0_pay53 (iblk m c 11 t) (tail m c t)) (k0_pay54 (iblk m c 11 t) (tail m c t)) (k0_pay55 (iblk m c 11 t) (tail m c t) (k0_pay44 (k0_pay15 (ext m c t) (ext1 m c t) (taps m c t) (tap2 m c t) (tap3 m c t))) (k0_pay45 (k0_pay15 (ext m c t) (ext1 m c t) (taps m c t) (tap2 m c t) (tap3 m c t))) (k0_pay46 (k0_pay15 (ext m c t) (ext1 m c t) (taps m c t) (tap2 m c t) (tap3 m c t)))) (k0_pay56 (iblk m c 11 t) (tail m c t) (k0_pay40 (k0_pay15 (ext m c t) (ext1 m c t) (taps m c t) (tap2 m c t) (tap3 m c t))))) (k0_pay58 (k0_pay32 (k0_pay15 (ext m c t) (ext1 m c t) (taps m c t) (tap2 m c t) (tap3 m c t))) (k0_pay34 (k0_pay15 (ext m c t) (ext1 m c t) (taps m c t) (tap2 m c t) (tap3 m c t))) (k0_pay35 (k0_pay15 (ext m c t) (ext1 m c t) (taps m c t) (tap2 m c t) (tap3 m c t))) (k0_pay52 (iblk m c 11 t) (tail m c t))) k0_pay59) (k0_pay62 (k0_pay22 (ext m c t) (ext1 m c t) (taps m c t) (tap2 m c t) (tap3 m c t)) (k0_pay49 (iblk m c 11 t) (tail m c t))) (k0_pay63 (k0_pay20 (ext m c t) (ext1 m c t) (taps m c t) (tap2 m c t) (tap3 m c t)) (k0_pay23 (ext m c t) (ext1 m c t) (taps m c t) (tap2 m c t) (tap3 m c t)) (k0_pay49 (iblk m c 11 t) (tail m c t))) ⟨l.val, by omega⟩ q hl
  rw [show k0_pay64 (k0_pay12 (ext m c t) (ext1 m c t) (taps m c t) (tap2 m c t) (tap3 m c t)) (k0_pay13 (ext m c t) (ext1 m c t) (taps m c t) (tap2 m c t) (tap3 m c t)) (k0_pay14 (ext m c t) (ext1 m c t) (taps m c t) (tap2 m c t) (tap3 m c t)) (k0_pay16 (ext m c t) (ext1 m c t) (taps m c t) (tap2 m c t) (tap3 m c t)) (k0_pay18 (ext m c t) (ext1 m c t) (taps m c t) (tap2 m c t) (tap3 m c t)) (k0_pay19 (ext m c t) (ext1 m c t) (taps m c t) (tap2 m c t) (tap3 m c t)) (k0_pay20 (ext m c t) (ext1 m c t) (taps m c t) (tap2 m c t) (tap3 m c t)) (k0_pay48 (iblk m c 11 t) (tail m c t)) (k0_pay60 (k0_pay24 (ext m c t) (ext1 m c t) (taps m c t) (tap2 m c t) (tap3 m c t)) (k0_pay26 (ext m c t) (ext1 m c t) (taps m c t) (tap2 m c t) (tap3 m c t)) (k0_pay27 (ext m c t) (ext1 m c t) (taps m c t) (tap2 m c t) (tap3 m c t)) (k0_pay28 (ext m c t) (ext1 m c t) (taps m c t) (tap2 m c t) (tap3 m c t)) (k0_pay30 (k0_pay28 (ext m c t) (ext1 m c t) (taps m c t) (tap2 m c t) (tap3 m c t))) (k0_pay31 (k0_pay28 (ext m c t) (ext1 m c t) (taps m c t) (tap2 m c t) (tap3 m c t))) (k0_pay50 (iblk m c 11 t) (tail m c t)) (k0_pay51 (iblk m c 11 t) (tail m c t)) (k0_pay57 (k0_pay36 (k0_pay15 (ext m c t) (ext1 m c t) (taps m c t) (tap2 m c t) (tap3 m c t))) (k0_pay38 (k0_pay15 (ext m c t) (ext1 m c t) (taps m c t) (tap2 m c t) (tap3 m c t))) (k0_pay39 (k0_pay15 (ext m c t) (ext1 m c t) (taps m c t) (tap2 m c t) (tap3 m c t))) (k0_pay40 (k0_pay15 (ext m c t) (ext1 m c t) (taps m c t) (tap2 m c t) (tap3 m c t))) (k0_pay42 (k0_pay15 (ext m c t) (ext1 m c t) (taps m c t) (tap2 m c t) (tap3 m c t))) (k0_pay43 (k0_pay15 (ext m c t) (ext1 m c t) (taps m c t) (tap2 m c t) (tap3 m c t))) (k0_pay53 (iblk m c 11 t) (tail m c t)) (k0_pay54 (iblk m c 11 t) (tail m c t)) (k0_pay55 (iblk m c 11 t) (tail m c t) (k0_pay44 (k0_pay15 (ext m c t) (ext1 m c t) (taps m c t) (tap2 m c t) (tap3 m c t))) (k0_pay45 (k0_pay15 (ext m c t) (ext1 m c t) (taps m c t) (tap2 m c t) (tap3 m c t))) (k0_pay46 (k0_pay15 (ext m c t) (ext1 m c t) (taps m c t) (tap2 m c t) (tap3 m c t)))) (k0_pay56 (iblk m c 11 t) (tail m c t) (k0_pay40 (k0_pay15 (ext m c t) (ext1 m c t) (taps m c t) (tap2 m c t) (tap3 m c t))))) (k0_pay58 (k0_pay32 (k0_pay15 (ext m c t) (ext1 m c t) (taps m c t) (tap2 m c t) (tap3 m c t))) (k0_pay34 (k0_pay15 (ext m c t) (ext1 m c t) (taps m c t) (tap2 m c t) (tap3 m c t))) (k0_pay35 (k0_pay15 (ext m c t) (ext1 m c t) (taps m c t) (tap2 m c t) (tap3 m c t))) (k0_pay52 (iblk m c 11 t) (tail m c t))) k0_pay59) (k0_pay62 (k0_pay22 (ext m c t) (ext1 m c t) (taps m c t) (tap2 m c t) (tap3 m c t)) (k0_pay49 (iblk m c 11 t) (tail m c t))) (k0_pay63 (k0_pay20 (ext m c t) (ext1 m c t) (taps m c t) (tap2 m c t) (tap3 m c t)) (k0_pay23 (ext m c t) (ext1 m c t) (taps m c t) (tap2 m c t) (tap3 m c t)) (k0_pay49 (iblk m c 11 t) (tail m c t))) = post m c t from rfl] at h3 h2
  unfold dz
  generalize k0_pay65 (k0_pay12 (ext m c t) (ext1 m c t) (taps m c t) (tap2 m c t) (tap3 m c t)) (k0_pay13 (ext m c t) (ext1 m c t) (taps m c t) (tap2 m c t) (tap3 m c t)) (k0_pay14 (ext m c t) (ext1 m c t) (taps m c t) (tap2 m c t) (tap3 m c t)) (k0_pay16 (ext m c t) (ext1 m c t) (taps m c t) (tap2 m c t) (tap3 m c t)) (k0_pay18 (ext m c t) (ext1 m c t) (taps m c t) (tap2 m c t) (tap3 m c t)) (k0_pay19 (ext m c t) (ext1 m c t) (taps m c t) (tap2 m c t) (tap3 m c t)) (k0_pay20 (ext m c t) (ext1 m c t) (taps m c t) (tap2 m c t) (tap3 m c t)) (k0_pay48 (iblk m c 11 t) (tail m c t)) (k0_pay60 (k0_pay24 (ext m c t) (ext1 m c t) (taps m c t) (tap2 m c t) (tap3 m c t)) (k0_pay26 (ext m c t) (ext1 m c t) (taps m c t) (tap2 m c t) (tap3 m c t)) (k0_pay27 (ext m c t) (ext1 m c t) (taps m c t) (tap2 m c t) (tap3 m c t)) (k0_pay28 (ext m c t) (ext1 m c t) (taps m c t) (tap2 m c t) (tap3 m c t)) (k0_pay30 (k0_pay28 (ext m c t) (ext1 m c t) (taps m c t) (tap2 m c t) (tap3 m c t))) (k0_pay31 (k0_pay28 (ext m c t) (ext1 m c t) (taps m c t) (tap2 m c t) (tap3 m c t))) (k0_pay50 (iblk m c 11 t) (tail m c t)) (k0_pay51 (iblk m c 11 t) (tail m c t)) (k0_pay57 (k0_pay36 (k0_pay15 (ext m c t) (ext1 m c t) (taps m c t) (tap2 m c t) (tap3 m c t))) (k0_pay38 (k0_pay15 (ext m c t) (ext1 m c t) (taps m c t) (tap2 m c t) (tap3 m c t))) (k0_pay39 (k0_pay15 (ext m c t) (ext1 m c t) (taps m c t) (tap2 m c t) (tap3 m c t))) (k0_pay40 (k0_pay15 (ext m c t) (ext1 m c t) (taps m c t) (tap2 m c t) (tap3 m c t))) (k0_pay42 (k0_pay15 (ext m c t) (ext1 m c t) (taps m c t) (tap2 m c t) (tap3 m c t))) (k0_pay43 (k0_pay15 (ext m c t) (ext1 m c t) (taps m c t) (tap2 m c t) (tap3 m c t))) (k0_pay53 (iblk m c 11 t) (tail m c t)) (k0_pay54 (iblk m c 11 t) (tail m c t)) (k0_pay55 (iblk m c 11 t) (tail m c t) (k0_pay44 (k0_pay15 (ext m c t) (ext1 m c t) (taps m c t) (tap2 m c t) (tap3 m c t))) (k0_pay45 (k0_pay15 (ext m c t) (ext1 m c t) (taps m c t) (tap2 m c t) (tap3 m c t))) (k0_pay46 (k0_pay15 (ext m c t) (ext1 m c t) (taps m c t) (tap2 m c t) (tap3 m c t)))) (k0_pay56 (iblk m c 11 t) (tail m c t) (k0_pay40 (k0_pay15 (ext m c t) (ext1 m c t) (taps m c t) (tap2 m c t) (tap3 m c t))))) (k0_pay58 (k0_pay32 (k0_pay15 (ext m c t) (ext1 m c t) (taps m c t) (tap2 m c t) (tap3 m c t))) (k0_pay34 (k0_pay15 (ext m c t) (ext1 m c t) (taps m c t) (tap2 m c t) (tap3 m c t))) (k0_pay35 (k0_pay15 (ext m c t) (ext1 m c t) (taps m c t) (tap2 m c t) (tap3 m c t))) (k0_pay52 (iblk m c 11 t) (tail m c t))) k0_pay59) (k0_pay62 (k0_pay22 (ext m c t) (ext1 m c t) (taps m c t) (tap2 m c t) (tap3 m c t)) (k0_pay49 (iblk m c 11 t) (tail m c t))) (k0_pay63 (k0_pay20 (ext m c t) (ext1 m c t) (taps m c t) (tap2 m c t) (tap3 m c t)) (k0_pay23 (ext m c t) (ext1 m c t) (taps m c t) (tap2 m c t) (tap3 m c t)) (k0_pay49 (iblk m c 11 t) (tail m c t))) (tap0 m c t) = P3 at h3 ⊢
  generalize k0_pay67 (k0_pay12 (ext m c t) (ext1 m c t) (taps m c t) (tap2 m c t) (tap3 m c t)) (k0_pay13 (ext m c t) (ext1 m c t) (taps m c t) (tap2 m c t) (tap3 m c t)) (k0_pay14 (ext m c t) (ext1 m c t) (taps m c t) (tap2 m c t) (tap3 m c t)) (k0_pay16 (ext m c t) (ext1 m c t) (taps m c t) (tap2 m c t) (tap3 m c t)) (k0_pay18 (ext m c t) (ext1 m c t) (taps m c t) (tap2 m c t) (tap3 m c t)) (k0_pay19 (ext m c t) (ext1 m c t) (taps m c t) (tap2 m c t) (tap3 m c t)) (k0_pay20 (ext m c t) (ext1 m c t) (taps m c t) (tap2 m c t) (tap3 m c t)) (k0_pay48 (iblk m c 11 t) (tail m c t)) (k0_pay60 (k0_pay24 (ext m c t) (ext1 m c t) (taps m c t) (tap2 m c t) (tap3 m c t)) (k0_pay26 (ext m c t) (ext1 m c t) (taps m c t) (tap2 m c t) (tap3 m c t)) (k0_pay27 (ext m c t) (ext1 m c t) (taps m c t) (tap2 m c t) (tap3 m c t)) (k0_pay28 (ext m c t) (ext1 m c t) (taps m c t) (tap2 m c t) (tap3 m c t)) (k0_pay30 (k0_pay28 (ext m c t) (ext1 m c t) (taps m c t) (tap2 m c t) (tap3 m c t))) (k0_pay31 (k0_pay28 (ext m c t) (ext1 m c t) (taps m c t) (tap2 m c t) (tap3 m c t))) (k0_pay50 (iblk m c 11 t) (tail m c t)) (k0_pay51 (iblk m c 11 t) (tail m c t)) (k0_pay57 (k0_pay36 (k0_pay15 (ext m c t) (ext1 m c t) (taps m c t) (tap2 m c t) (tap3 m c t))) (k0_pay38 (k0_pay15 (ext m c t) (ext1 m c t) (taps m c t) (tap2 m c t) (tap3 m c t))) (k0_pay39 (k0_pay15 (ext m c t) (ext1 m c t) (taps m c t) (tap2 m c t) (tap3 m c t))) (k0_pay40 (k0_pay15 (ext m c t) (ext1 m c t) (taps m c t) (tap2 m c t) (tap3 m c t))) (k0_pay42 (k0_pay15 (ext m c t) (ext1 m c t) (taps m c t) (tap2 m c t) (tap3 m c t))) (k0_pay43 (k0_pay15 (ext m c t) (ext1 m c t) (taps m c t) (tap2 m c t) (tap3 m c t))) (k0_pay53 (iblk m c 11 t) (tail m c t)) (k0_pay54 (iblk m c 11 t) (tail m c t)) (k0_pay55 (iblk m c 11 t) (tail m c t) (k0_pay44 (k0_pay15 (ext m c t) (ext1 m c t) (taps m c t) (tap2 m c t) (tap3 m c t))) (k0_pay45 (k0_pay15 (ext m c t) (ext1 m c t) (taps m c t) (tap2 m c t) (tap3 m c t))) (k0_pay46 (k0_pay15 (ext m c t) (ext1 m c t) (taps m c t) (tap2 m c t) (tap3 m c t)))) (k0_pay56 (iblk m c 11 t) (tail m c t) (k0_pay40 (k0_pay15 (ext m c t) (ext1 m c t) (taps m c t) (tap2 m c t) (tap3 m c t))))) (k0_pay58 (k0_pay32 (k0_pay15 (ext m c t) (ext1 m c t) (taps m c t) (tap2 m c t) (tap3 m c t))) (k0_pay34 (k0_pay15 (ext m c t) (ext1 m c t) (taps m c t) (tap2 m c t) (tap3 m c t))) (k0_pay35 (k0_pay15 (ext m c t) (ext1 m c t) (taps m c t) (tap2 m c t) (tap3 m c t))) (k0_pay52 (iblk m c 11 t) (tail m c t))) k0_pay59) (k0_pay62 (k0_pay22 (ext m c t) (ext1 m c t) (taps m c t) (tap2 m c t) (tap3 m c t)) (k0_pay49 (iblk m c 11 t) (tail m c t))) (k0_pay63 (k0_pay20 (ext m c t) (ext1 m c t) (taps m c t) (tap2 m c t) (tap3 m c t)) (k0_pay23 (ext m c t) (ext1 m c t) (taps m c t) (tap2 m c t) (tap3 m c t)) (k0_pay49 (iblk m c 11 t) (tail m c t))) = P2 at h2 ⊢
  generalize post m c t = P at h3 h2 ⊢
  generalize tap0 m c t = T0 at h3 ⊢
  generalize tap1 m c t = T1
  generalize tap2 m c t = T2
  generalize tap3 m c t = T3
  have e : (l.val + 520 - 519) % 520 = l.val + 1 := by omega
  pointwise [k0_pay69]
  simp only [h3, h2, e]

theorem rev4 (a b c d : Ideal .f32) : a + b + c + d = d + c + b + a := by
  simp only [add_comm, add_left_comm]

theorem dz_row (c : Dev nD) (t : Fin cfg0.N) (l : Fin 512) (b : Fin 2) (s : Fin 4096) (h : b.val * 4096 + s.val = t.val * 512 + l.val) (q : Fin 1536) :
    dz m c t (ix2 l q) = (val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) := by
  have hl := l.isLt
  have hb := b.isLt
  have hs := s.isLt
  have ht : t.val < 16 := lt_of_lt_of_eq t.isLt N_0
  rw [dz_at m c t l q, tap0_eq, tap1_eq, tap2_eq, tap3_eq, post_row m c t ⟨l.val, by omega⟩ b s h (.inl hl) q]
  have hin : ∀ d : ℕ, d ≤ 3 → ∀ hd : s.val + d < 4096, ∀ hx : l.val + d < 520, post m c t (ix2 ⟨l.val + d, hx⟩ q) = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b ⟨s.val + d, hd⟩ q) :=
    fun d h3 hd hx => post_row m c t ⟨l.val + d, hx⟩ b ⟨s.val + d, hd⟩ (by simp only []; omega) (by simp only []; omega) q
  have hout : ∀ d : ℕ, d ≤ 3 → ¬ s.val + d < 4096 → ∀ hx : l.val + d < 520, post m c t (ix2 ⟨l.val + d, hx⟩ q) = 0 :=
    fun d h3 hd hx => post_zero m c t (by omega) ⟨l.val + d, hx⟩ (by simp only []; omega) q
  generalize post m c t = P at hin hout ⊢
  rw [rev4]
  have e0 : s.val + 3 - 3 = s.val := by omega
  have e1 : s.val + 3 - 2 = s.val + 1 := by omega
  have e2 : s.val + 3 - 1 = s.val + 2 := by omega
  have e3 : 3 + s.val = s.val + 3 := by omega
  by_cases h3 : s.val + 3 < 4096
  · rw [hin 1 (by omega) (by omega) (by omega), hin 2 (by omega) (by omega) (by omega), hin 3 (by omega) (by omega) (by omega)]
    pointwise [val_main_v167, val_main_v162, val_main_v161, val_main_v156, val_main_v155, val_main_v151, val_main_v150, val_main_v145, val_main_v144, val_main_v140, val_main_v139, val_main_v134, val_main_v133, val_main_v130, val_main_v125, val_main_v124, val_main_v51, val_main_v49, val_main_v48, val_main_v44, val_main_v42, val_main_v41, val_main_v37, val_main_v35, val_main_v34, val_main_v29, val_main_v27, val_main_v26, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
    simp (disch := omega) only [dif_pos, dif_neg, mul_zero, add_zero, e0, e1, e2, e3]
  by_cases h2 : s.val + 2 < 4096
  · rw [hin 1 (by omega) (by omega) (by omega), hin 2 (by omega) (by omega) (by omega), hout 3 (by omega) (by omega) (by omega)]
    pointwise [val_main_v167, val_main_v162, val_main_v161, val_main_v156, val_main_v155, val_main_v151, val_main_v150, val_main_v145, val_main_v144, val_main_v140, val_main_v139, val_main_v134, val_main_v133, val_main_v130, val_main_v125, val_main_v124, val_main_v51, val_main_v49, val_main_v48, val_main_v44, val_main_v42, val_main_v41, val_main_v37, val_main_v35, val_main_v34, val_main_v29, val_main_v27, val_main_v26, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
    simp (disch := omega) only [dif_pos, dif_neg, mul_zero, add_zero, e0, e1, e2, e3]
  by_cases h1 : s.val + 1 < 4096
  · rw [hin 1 (by omega) (by omega) (by omega), hout 2 (by omega) (by omega) (by omega), hout 3 (by omega) (by omega) (by omega)]
    pointwise [val_main_v167, val_main_v162, val_main_v161, val_main_v156, val_main_v155, val_main_v151, val_main_v150, val_main_v145, val_main_v144, val_main_v140, val_main_v139, val_main_v134, val_main_v133, val_main_v130, val_main_v125, val_main_v124, val_main_v51, val_main_v49, val_main_v48, val_main_v44, val_main_v42, val_main_v41, val_main_v37, val_main_v35, val_main_v34, val_main_v29, val_main_v27, val_main_v26, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
    simp (disch := omega) only [dif_pos, dif_neg, mul_zero, add_zero, e0, e1, e2, e3]
  · rw [hout 1 (by omega) (by omega) (by omega), hout 2 (by omega) (by omega) (by omega), hout 3 (by omega) (by omega) (by omega)]
    pointwise [val_main_v167, val_main_v162, val_main_v161, val_main_v156, val_main_v155, val_main_v151, val_main_v150, val_main_v145, val_main_v144, val_main_v140, val_main_v139, val_main_v134, val_main_v133, val_main_v130, val_main_v125, val_main_v124, val_main_v51, val_main_v49, val_main_v48, val_main_v44, val_main_v42, val_main_v41, val_main_v37, val_main_v35, val_main_v34, val_main_v29, val_main_v27, val_main_v26, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
    simp (disch := omega) only [dif_pos, dif_neg, mul_zero, add_zero, e0, e1, e2, e3]

end Cert.DxIdeal.Grad

end
-- ==== Proof.DxBack.lean ====
/-
  The gradient of the projection's normalised input and of the token stream, row by row: the kernel's rows are the
  reference's.
-/
module

public import proofs.«01_k».proof.Proof.DxGrad
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DxIdeal.Back

open Cert.DxIdeal Cert.DxIdeal.Gen Cert.DxRefIdeal.Read Cert.DxIdeal.Post Cert.DxIdeal.Ref Cert.DxIdeal.Blk Cert.DxIdeal.Ext Cert.DxIdeal.Rows Cert.DxIdeal.Grad

variable (m : (ℓ : Loc nD τ sig) → Buf (Elt Ideal) ℓ)

/-- A product of two entries. -/
def times (a b : Ideal .f32) : Ideal .f32 := a * b

/-- A sum over the columns of the projection is the sum over its three parts. -/
theorem split3 (f : Fin 3456 → Ideal .f32) :
    ∑ x, f x = (∑ x : Fin 512, f ⟨x.val, by have := x.isLt; omega⟩) + (∑ x : Fin 1536, f ⟨512 + x.val, by have := x.isLt; omega⟩)
      + ∑ x : Fin 1408, f ⟨2048 + x.val, by have := x.isLt; omega⟩ := by
  have h1 := Fin.sum_univ_add (a := 512 + 1536) (b := 1408) f
  have h2 := Fin.sum_univ_add (a := 512) (b := 1536) fun x => f (Fin.castAdd 1408 x)
  rw [h2] at h1
  exact h1

/-- Columns of the projection's weights, as the kernel loads them. -/
def wLo (c : Dev nD) (t : Fin cfg0.N) : Vec Ideal S1024x512 .bf16 :=
  View.ld (iblk m c 2 t) (Rect.unit (s := S1024x3456) ![0, 0] ![1024, 512] inb_S1024x3456_S1024x512_0_0)

theorem wLo_eq (c : Dev nD) (t : Fin cfg0.N) (k : Fin 1024) (x : Fin 512) :
    wLo m c t (ix2 k x) = (m ((c : Thread nD τ).loc main_arg2) : FVec Ideal S1024x3456 .f32) (ix2 k ⟨x.val, by have := x.isLt; omega⟩) := by
  unfold wLo
  pointwise []
  rw [blk_2 m c t]

/-- Columns of the projection's weights, as the kernel loads them. -/
def wMid (c : Dev nD) (t : Fin cfg0.N) : Vec Ideal S1024x1536 .bf16 :=
  View.ld (iblk m c 2 t) (Rect.unit (s := S1024x3456) ![0, 512] ![1024, 1536] inb_S1024x3456_S1024x1536_0_512)

theorem wMid_eq (c : Dev nD) (t : Fin cfg0.N) (k : Fin 1024) (x : Fin 1536) :
    wMid m c t (ix2 k x) = (m ((c : Thread nD τ).loc main_arg2) : FVec Ideal S1024x3456 .f32) (ix2 k ⟨512 + x.val, by have := x.isLt; omega⟩) := by
  unfold wMid
  pointwise []
  rw [blk_2 m c t]

/-- Columns of the projection's weights, as the kernel loads them. -/
def wHi (c : Dev nD) (t : Fin cfg0.N) : Vec Ideal S1024x1408 .bf16 :=
  View.ld (iblk m c 2 t) (Rect.unit (s := S1024x3456) ![0, 2048] ![1024, 1408] inb_S1024x3456_S1024x1408_0_2048)

theorem wHi_eq (c : Dev nD) (t : Fin cfg0.N) (k : Fin 1024) (x : Fin 1408) :
    wHi m c t (ix2 k x) = (m ((c : Thread nD τ).loc main_arg2) : FVec Ideal S1024x3456 .f32) (ix2 k ⟨2048 + x.val, by have := x.isLt; omega⟩) := by
  unfold wHi
  pointwise []
  rw [blk_2 m c t]

/-- The part of the gradient from the columns kept. -/
def dhOuter (c : Dev nD) (t : Fin cfg0.N) : FVec Ideal S512x1024 .f32 :=
  k0_pay5 (iblk m c 5 t) (iblk m c 6 t) (iblk m c 7 t) (iblk m c 4 t) (wLo m c t) (wHi m c t)

/-- The gradient of the normalised tokens. -/
def dh (c : Dev nD) (t : Fin cfg0.N) : FVec Ideal S512x1024 .f32 :=
  k0_pay76 (dhOuter m c t) (dz m c t) (wMid m c t)

theorem cols_lo (c : Dev nD) (t : Fin cfg0.N) (l : Fin 512) (b : Fin 2) (s : Fin 4096) (h : b.val * 4096 + s.val = t.val * 512 + l.val) (x : Fin 512) :
    (iblk m c 4 t : FVec Ideal S512x512 .bf16) (ix2 l x) = (val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s ⟨x.val, by have := x.isLt; omega⟩) := by
  have hl := l.isLt
  have hb := b.isLt
  have hs := s.isLt
  have ht : t.val < 16 := lt_of_lt_of_eq t.isLt N_0
  have hx := x.isLt
  rw [blk_4 m c t l (by omega) x]
  simp only [← h]
  pointwise [val_main_v176, val_main_v169, val_main_v168]

theorem cols_mid (c : Dev nD) (t : Fin cfg0.N) (l : Fin 512) (b : Fin 2) (s : Fin 4096) (h : b.val * 4096 + s.val = t.val * 512 + l.val) (x : Fin 1536) :
    dz m c t (ix2 l x) = (val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s ⟨512 + x.val, by have := x.isLt; omega⟩) := by
  have hl := l.isLt
  have hb := b.isLt
  have hs := s.isLt
  have ht : t.val < 16 := lt_of_lt_of_eq t.isLt N_0
  have hx := x.isLt
  rw [dz_row m c t l b s h x]
  pointwise [val_main_v176]

theorem cols_hi (c : Dev nD) (t : Fin cfg0.N) (l : Fin 512) (b : Fin 2) (s : Fin 4096) (h : b.val * 4096 + s.val = t.val * 512 + l.val) (x : Fin 1408) (k : Fin 1024) :
    concatenate S512x1408 1 [⟨S512x512, (iblk m c 5 t : FVec Ideal S512x512 .bf16)⟩, ⟨S512x768, (iblk m c 6 t : FVec Ideal S512x768 .bf16)⟩, ⟨S512x128, (iblk m c 7 t : FVec Ideal S512x128 .bf16)⟩] concatenates_S512x512_S512x768_S512x128_S512x1408_d1 (ix2 l x)
      = (val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s ⟨2048 + x.val, by have := x.isLt; omega⟩) := by
  have hl := l.isLt
  have hb := b.isLt
  have hs := s.isLt
  have ht : t.val < 16 := lt_of_lt_of_eq t.isLt N_0
  have hx := x.isLt
  have e5 := blk_5 m c t l (by omega)
  have e6 := blk_6 m c t l (by omega)
  have e7 := blk_7 m c t l (by omega)
  simp only [← h] at e5 e6 e7
  generalize iblk m c 5 t = B5 at e5 ⊢
  generalize iblk m c 6 t = B6 at e6 ⊢
  generalize iblk m c 7 t = B7 at e7 ⊢
  have f0 : 2048 + x.val - 512 - 1536 = x.val := by omega
  have f1 : 2048 + x.val - 512 - 1536 - 512 = x.val - 512 := by omega
  have f2 : 2048 + x.val - 512 - 1536 - 512 - 768 = x.val - 512 - 768 := by omega
  by_cases h1 : x.val < 512
  · pointwise [val_main_v176, val_main_v171, val_main_v170]
    simp (disch := omega) only [dif_pos, dif_neg, e5, f0]
  by_cases h2 : x.val < 1280
  · pointwise [val_main_v176, val_main_v173, val_main_v172]
    simp (disch := omega) only [dif_pos, dif_neg, e6, f1, f2]
  · pointwise [val_main_v176, val_main_v175, val_main_v174]
    simp (disch := omega) only [dif_pos, dif_neg, e7, f1, f2]

theorem dh_row (c : Dev nD) (t : Fin cfg0.N) (l : Fin 512) (b : Fin 2) (s : Fin 4096) (h : b.val * 4096 + s.val = t.val * 512 + l.val) (k : Fin 1024) :
    dh m c t (ix2 l k) = (val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k) := by
  have hlo := cols_lo m c t l b s h
  have hmid := cols_mid m c t l b s h
  have hhi := fun x => cols_hi m c t l b s h x k
  have elo := wLo_eq m c t k
  have emid := wMid_eq m c t k
  have ehi := wHi_eq m c t k
  have hD : dh m c t (ix2 l k) = (∑ x : Fin 512, times ((iblk m c 4 t : FVec Ideal S512x512 .bf16) (ix2 l x)) (wLo m c t (ix2 k x)))
      + (∑ x : Fin 1408, times (concatenate S512x1408 1 [⟨S512x512, (iblk m c 5 t : FVec Ideal S512x512 .bf16)⟩, ⟨S512x768, (iblk m c 6 t : FVec Ideal S512x768 .bf16)⟩, ⟨S512x128, (iblk m c 7 t : FVec Ideal S512x128 .bf16)⟩] concatenates_S512x512_S512x768_S512x128_S512x1408_d1 (ix2 l x)) (wHi m c t (ix2 k x)))
      + ∑ x : Fin 1536, times (dz m c t (ix2 l x)) (wMid m c t (ix2 k x)) := by
    unfold times dh dhOuter k0_pay76 k0_pay75 k0_pay5
    generalize concatenate S512x1408 1 _ _ = Q
    generalize dz m c t = Z
    generalize iblk m c 4 t = B4
    generalize wLo m c t = W0
    generalize wMid m c t = W1
    generalize wHi m c t = W2
    pointwise []
  rw [hD]
  simp only [hlo, hmid, hhi, elo, emid, ehi]
  refine Eq.trans ?_ (b := ∑ x : Fin 3456, times ((val_main_v176 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s x)) ((m ((c : Thread nD τ).loc main_arg2) : FVec Ideal S1024x3456 .f32) (ix2 k x))) ?_
  · rw [split3]
    exact add_right_comm _ _ _
  · unfold times
    pointwise [val_main_v177]

theorem x_row (c : Dev nD) (t : Fin cfg0.N) (l : Fin 512) (b : Fin 2) (s : Fin 4096) (h : b.val * 4096 + s.val = t.val * 512 + l.val) (k : Fin 1024) :
    (iblk m c 0 t : FVec Ideal S512x1024 .f32) (ix2 l k)
      = (val_main_v0 (F := Ideal) (m ((c : Thread nD τ).loc main_arg0))) (ix3 b s k) := by
  have hl := l.isLt
  have hb := b.isLt
  have hs := s.isLt
  have ht : t.val < 16 := lt_of_lt_of_eq t.isLt N_0
  rw [blk_0 m c t l (by omega) k]
  simp only [← h]
  pointwise [val_main_v0]

theorem inv_row (c : Dev nD) (t : Fin cfg0.N) (l : Fin 512) (b : Fin 2) (s : Fin 4096) (h : b.val * 4096 + s.val = t.val * 512 + l.val) :
    k0_pay78 (iblk m c 0 t) (ix2 l 0)
      = (val_main_v8 (F := Ideal) (m ((c : Thread nD τ).loc main_arg0))) (ix3 b s 0) := by
  have hl := l.isLt
  have hb := b.isLt
  have hs := s.isLt
  have ht : t.val < 16 := lt_of_lt_of_eq t.isLt N_0
  have hx := x_row m c t l b s h
  generalize iblk m c 0 t = X at hx ⊢
  pointwise [k0_pay78, k0_pay77, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp only [hx]

theorem root_row (c : Dev nD) (t : Fin cfg0.N) (l : Fin 512) (b : Fin 2) (s : Fin 4096) (h : b.val * 4096 + s.val = t.val * 512 + l.val) (k : Fin 1) :
    k0_pay79 (iblk m c 0 t) (ix2 l k)
      = (val_main_v11 (F := Ideal) (m ((c : Thread nD τ).loc main_arg0))) (ix3 b s k) := by
  have hl := l.isLt
  have hb := b.isLt
  have hs := s.isLt
  have ht : t.val < 16 := lt_of_lt_of_eq t.isLt N_0
  obtain rfl : k = 0 := Subsingleton.elim _ _
  have hx := x_row m c t l b s h
  generalize iblk m c 0 t = X at hx ⊢
  pointwise [k0_pay79, k0_pay78, k0_pay77, val_main_v11, val_main_v10, val_main_v9, val_main_v8, val_main_v7, val_main_v6, val_main_v5, val_main_v4, val_main_v3, val_main_v2, val_main_v1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp only [hx]

theorem dhat_row (c : Dev nD) (t : Fin cfg0.N) (l : Fin 512) (b : Fin 2) (s : Fin 4096) (h : b.val * 4096 + s.val = t.val * 512 + l.val) (k : Fin 1024) :
    k0_pay81 (dhOuter m c t) (dz m c t) (wMid m c t) (iblk m c 1 t) (ix2 l k)
      = (val_main_v182 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k) := by
  have hl := l.isLt
  have hb := b.isLt
  have hs := s.isLt
  have ht : t.val < 16 := lt_of_lt_of_eq t.isLt N_0
  have hd := dh_row m c t l b s h k
  have hg := blk_1 m c t k
  generalize iblk m c 1 t = B1 at hg ⊢
  unfold k0_pay81
  rw [show k0_pay76 (dhOuter m c t) (dz m c t) (wMid m c t) = dh m c t from rfl]
  generalize dh m c t = D at hd ⊢
  pointwise [val_main_v182, val_main_v181, val_main_v14]
  rw [hd, hg]

theorem xdhat_row (c : Dev nD) (t : Fin cfg0.N) (l : Fin 512) (b : Fin 2) (s : Fin 4096) (h : b.val * 4096 + s.val = t.val * 512 + l.val) (k : Fin 1024) :
    k0_pay82 (dhOuter m c t) (dz m c t) (wMid m c t) (iblk m c 0 t) (iblk m c 1 t) (ix2 l k)
      = (val_main_v184 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k) := by
  have hl := l.isLt
  have hb := b.isLt
  have hs := s.isLt
  have ht : t.val < 16 := lt_of_lt_of_eq t.isLt N_0
  have hd := dhat_row m c t l b s h k
  have hx := x_row m c t l b s h k
  unfold k0_pay82
  generalize k0_pay81 (dhOuter m c t) (dz m c t) (wMid m c t) (iblk m c 1 t) = E at hd ⊢
  generalize iblk m c 0 t = X at hx ⊢
  pointwise [val_main_v184]
  rw [hd, hx]

/-- The gradient of the token stream. -/
theorem dx_row (c : Dev nD) (t : Fin cfg0.N) (l : Fin 512) (b : Fin 2) (s : Fin 4096) (h : b.val * 4096 + s.val = t.val * 512 + l.val) (k : Fin 1024) :
    k0_pay1 (iblk m c 0 t) (k0_pay78 (iblk m c 0 t)) (k0_pay79 (iblk m c 0 t)) (k0_pay81 (dhOuter m c t) (dz m c t) (wMid m c t) (iblk m c 1 t)) (k0_pay82 (dhOuter m c t) (dz m c t) (wMid m c t) (iblk m c 0 t) (iblk m c 1 t)) (iblk m c 13 t) (ix2 l k)
      = (val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨b.val * 4096 + s.val, by have := b.isLt; have := s.isLt; omega⟩ k) := by
  have hl := l.isLt
  have hb := b.isLt
  have hs := s.isLt
  have ht : t.val < 16 := lt_of_lt_of_eq t.isLt N_0
  have hd := dhat_row m c t l b s h k
  have hx := x_row m c t l b s h k
  have hxd := xdhat_row m c t l b s h
  have hi := inv_row m c t l b s h
  have hr := root_row m c t l b s h
  have h13 := blk_13 m c t l (by omega) k
  simp only [← h] at h13
  generalize k0_pay81 (dhOuter m c t) (dz m c t) (wMid m c t) (iblk m c 1 t) = E at hd ⊢
  generalize k0_pay82 (dhOuter m c t) (dz m c t) (wMid m c t) (iblk m c 0 t) (iblk m c 1 t) = F at hxd ⊢
  generalize k0_pay78 (iblk m c 0 t) = I at hi ⊢
  generalize k0_pay79 (iblk m c 0 t) = R at hr ⊢
  generalize iblk m c 13 t = B13 at h13 ⊢
  generalize iblk m c 0 t = X at hx ⊢
  pointwise [k0_pay1, val_main_v199, val_main_v198, val_main_v197, val_main_v196, val_main_v195, val_main_v194, val_main_v193, val_main_v192, val_main_v191, val_main_v190, val_main_v189, val_main_v188, val_main_v187, val_main_v186, val_main_v185, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  simp only [hd, hx, hxd, hi, hr, h13]

/-- The gradient of the middle columns. -/
theorem dzq_row (c : Dev nD) (t : Fin cfg0.N) (l : Fin 512) (b : Fin 2) (s : Fin 4096) (h : b.val * 4096 + s.val = t.val * 512 + l.val) (q : Fin 1536) :
    k0_pay75 (dz m c t) (ix2 l q)
      = (val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 ⟨b.val * 4096 + s.val, by have := b.isLt; have := s.isLt; omega⟩ q) := by
  have hl := l.isLt
  have hb := b.isLt
  have hs := s.isLt
  have ht : t.val < 16 := lt_of_lt_of_eq t.isLt N_0
  have hd := dz_row m c t l b s h q
  generalize dz m c t = D at hd ⊢
  pointwise [k0_pay75, val_main_v202, val_main_v201]
  rw [hd]

end Cert.DxIdeal.Back

end
-- ==== Proof.DxRefSums.lean ====
/-
  The reference's two accumulated gradients as sums over all tokens.
-/
module

public import proofs.«01_k».proof.Proof.DxBack
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.DxIdeal.RefSums

open Cert.DxIdeal Cert.DxIdeal.Gen Cert.DxRefIdeal.Read Cert.DxIdeal.Post Cert.DxIdeal.Ref Cert.DxIdeal.Blk Cert.DxIdeal.Ext Cert.DxIdeal.Rows Cert.DxIdeal.Grad Cert.DxIdeal.Back

variable (m : (ℓ : Loc nD τ sig) → Buf (Elt Ideal) ℓ)

/-- The sequence of a token, and its place in it. -/
def seqOf (T : Fin 8192) : Fin 2 := ⟨T.val / 4096, by have := T.isLt; omega⟩
def posOf (T : Fin 8192) : Fin 4096 := ⟨T.val % 4096, Nat.mod_lt _ (by decide)⟩

theorem seq_pos (T : Fin 8192) : (seqOf T).val * 4096 + (posOf T).val = T.val := by
  show T.val / 4096 * 4096 + T.val % 4096 = T.val
  omega

/-- A sum over sequences and places is a sum over tokens. -/
theorem tokens (f : Fin 2 → Fin 4096 → Ideal .f32) : ∑ b, ∑ s, f b s = ∑ T : Fin 8192, f (seqOf T) (posOf T) := by
  refine Fin.sum_mul_add_congr fun b s hl => ?_
  have h1 : seqOf ⟨b.val * 4096 + s.val, hl⟩ = b := Fin.ext (by show (b.val * 4096 + s.val) / 4096 = b.val; have := s.isLt; omega)
  have h2 : posOf ⟨b.val * 4096 + s.val, hl⟩ = s := Fin.ext (by show (b.val * 4096 + s.val) % 4096 = s.val; have := s.isLt; omega)
  rw [h1, h2]

/-- A sum over the two leading axes of an array of three axes. -/
theorem sum_leading {n0 n1 n2 : Nat} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  have hd : ∀ i : (⟨3, ![n0, n1, n2]⟩ : Shape).Idx, ((h.drop i) 0).val = (i 2).val := fun _ => rfl
  unfold Ideal.hostReduceAdd
  rw [← Fintype.sum_prod_type' fun (a : Fin n0) (b : Fin n1) => v (ix3 a b k)]
  refine congrArg (init + ·) ?_
  refine Finset.sum_bij' (fun i _ => ((i 0, i 1) : Fin n0 × Fin n1)) (fun p _ => ix3 p.1 p.2 k)
    (fun _ _ => Finset.mem_univ _) ?_ ?_ (fun _ _ => rfl) ?_
  · intro p _
    refine Finset.mem_filter.mpr ⟨Finset.mem_univ _, ?_⟩
    funext a
    match a with
    | ⟨0, _⟩ => exact Fin.ext (hd _)
  · intro i hi
    have e := congrArg Fin.val (congrFun (Finset.mem_filter.mp hi).2 0)
    rw [hd] at e
    funext a
    match a with
    | ⟨0, _⟩ => rfl
    | ⟨1, _⟩ => rfl
    | ⟨2, _⟩ => exact Fin.ext e.symm
  · intro i hi
    have e := congrArg Fin.val (congrFun (Finset.mem_filter.mp hi).2 0)
    rw [hd] at e
    refine congrArg v ?_
    funext a
    match a with
    | ⟨0, _⟩ => rfl
    | ⟨1, _⟩ => rfl
    | ⟨2, _⟩ => exact Fin.ext e

theorem ref_dg (c : Dev nD) (k : Fin 1024) :
    (val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 0 k) = ∑ T : Fin 8192, (val_main_v13 (F := Ideal) (m ((c : Thread nD τ).loc main_arg0))) (ix3 (seqOf T) (posOf T) k) * (val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 (seqOf T) (posOf T) k) := by
  refine Eq.trans ?_ (tokens fun b s => (val_main_v13 (F := Ideal) (m ((c : Thread nD τ).loc main_arg0))) (ix3 b s k) * (val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k))
  pointwise [val_main_v200, val_main_v183, val_main_v180, val_main_v179, val_main_v178, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading, zero_add, Fin.sum_univ_one, Fin.sum_univ_one]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]

theorem ref_dcw_0 (c : Dev nD) (q : Fin 1536) :
    (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 0 q) = ∑ T : Fin 8192, (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 (seqOf T) (posOf T) q) * (val_main_v28 (F := Ideal) (m ((c : Thread nD τ).loc main_arg0)) (m ((c : Thread nD τ).loc main_arg1)) (m ((c : Thread nD τ).loc main_arg2))) (ix3 (seqOf T) (posOf T) q) := by
  refine Eq.trans ?_ (tokens fun b s => (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) * (val_main_v28 (F := Ideal) (m ((c : Thread nD τ).loc main_arg0)) (m ((c : Thread nD τ).loc main_arg1)) (m ((c : Thread nD τ).loc main_arg2))) (ix3 b s q))
  pointwise [val_main_v203, val_main_v165, val_main_v164, val_main_v154, val_main_v153, val_main_v143, val_main_v142, val_main_v132, val_main_v163, val_main_v160, val_main_v159, val_main_v158, val_main_v157, val_main_v152, val_main_v149, val_main_v148, val_main_v147, val_main_v146, val_main_v141, val_main_v138, val_main_v137, val_main_v136, val_main_v135, val_main_v131, val_main_v129, val_main_v128, val_main_v127, val_main_v126, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading, zero_add, Fin.sum_univ_one, Fin.sum_univ_one]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]

theorem ref_dcw_1 (c : Dev nD) (q : Fin 1536) :
    (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 1 q) = ∑ T : Fin 8192, (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 (seqOf T) (posOf T) q) * (val_main_v36 (F := Ideal) (m ((c : Thread nD τ).loc main_arg0)) (m ((c : Thread nD τ).loc main_arg1)) (m ((c : Thread nD τ).loc main_arg2))) (ix3 (seqOf T) (posOf T) q) := by
  refine Eq.trans ?_ (tokens fun b s => (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) * (val_main_v36 (F := Ideal) (m ((c : Thread nD τ).loc main_arg0)) (m ((c : Thread nD τ).loc main_arg1)) (m ((c : Thread nD τ).loc main_arg2))) (ix3 b s q))
  pointwise [val_main_v203, val_main_v165, val_main_v164, val_main_v154, val_main_v153, val_main_v143, val_main_v142, val_main_v132, val_main_v163, val_main_v160, val_main_v159, val_main_v158, val_main_v157, val_main_v152, val_main_v149, val_main_v148, val_main_v147, val_main_v146, val_main_v141, val_main_v138, val_main_v137, val_main_v136, val_main_v135, val_main_v131, val_main_v129, val_main_v128, val_main_v127, val_main_v126, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading, zero_add, Fin.sum_univ_one, Fin.sum_univ_one]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]

theorem ref_dcw_2 (c : Dev nD) (q : Fin 1536) :
    (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 2 q) = ∑ T : Fin 8192, (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 (seqOf T) (posOf T) q) * (val_main_v43 (F := Ideal) (m ((c : Thread nD τ).loc main_arg0)) (m ((c : Thread nD τ).loc main_arg1)) (m ((c : Thread nD τ).loc main_arg2))) (ix3 (seqOf T) (posOf T) q) := by
  refine Eq.trans ?_ (tokens fun b s => (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) * (val_main_v43 (F := Ideal) (m ((c : Thread nD τ).loc main_arg0)) (m ((c : Thread nD τ).loc main_arg1)) (m ((c : Thread nD τ).loc main_arg2))) (ix3 b s q))
  pointwise [val_main_v203, val_main_v165, val_main_v164, val_main_v154, val_main_v153, val_main_v143, val_main_v142, val_main_v132, val_main_v163, val_main_v160, val_main_v159, val_main_v158, val_main_v157, val_main_v152, val_main_v149, val_main_v148, val_main_v147, val_main_v146, val_main_v141, val_main_v138, val_main_v137, val_main_v136, val_main_v135, val_main_v131, val_main_v129, val_main_v128, val_main_v127, val_main_v126, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading, zero_add, Fin.sum_univ_one, Fin.sum_univ_one]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]

theorem ref_dcw_3 (c : Dev nD) (q : Fin 1536) :
    (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 3 q) = ∑ T : Fin 8192, (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 (seqOf T) (posOf T) q) * (val_main_v50 (F := Ideal) (m ((c : Thread nD τ).loc main_arg0)) (m ((c : Thread nD τ).loc main_arg1)) (m ((c : Thread nD τ).loc main_arg2))) (ix3 (seqOf T) (posOf T) q) := by
  refine Eq.trans ?_ (tokens fun b s => (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) * (val_main_v50 (F := Ideal) (m ((c : Thread nD τ).loc main_arg0)) (m ((c : Thread nD τ).loc main_arg1)) (m ((c : Thread nD τ).loc main_arg2))) (ix3 b s q))
  pointwise [val_main_v203, val_main_v165, val_main_v164, val_main_v154, val_main_v153, val_main_v143, val_main_v142, val_main_v132, val_main_v163, val_main_v160, val_main_v159, val_main_v158, val_main_v157, val_main_v152, val_main_v149, val_main_v148, val_main_v147, val_main_v146, val_main_v141, val_main_v138, val_main_v137, val_main_v136, val_main_v135, val_main_v131, val_main_v129, val_main_v128, val_main_v127, val_main_v126, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading, zero_add, Fin.sum_univ_one, Fin.sum_univ_one]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]
  rw [sum_leading]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, val_main_cst_31, val_main_cst_32, val_main_cst_33, val_main_cst_34, val_main_cst_35, val_main_cst_36, val_main_cst_37, val_main_cst_38]

theorem ref_dcw_rest (c : Dev nD) (a : Fin 8) (ha : 4 ≤ a.val) (q : Fin 1536) : (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 a q) = 0 := by
  pointwise [val_main_v203, val_main_call2_v0, val_main_c]
  rw [dif_neg (by omega)]
  exact Idealize.ShloMosaic.sitofp_zero (φ := .f32)

end Cert.DxIdeal.RefSums

end
-- ==== Proof.DxStore.lean ====
/-
  The four rows of the filter's gradient: what one grid point stores.
-/
module

public import proofs.«01_k».proof.Proof.DxBack
public import Idealize.ShloMosaic.Lib.Pipeline.ValueKit
public import Idealize.ShloMosaic.Lib.Pipeline.ReadBack
public import Idealize.ShloMosaic.Lib.WritesUnit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.DxIdeal.Store

open Cert.DxIdeal Cert.DxIdeal.Gen Cert.DxIdeal.Ext Cert.DxIdeal.Rows

/-- A row of products summed over the block's rows. -/
def addRow (P : FVec Ideal S520x1536 .f32) (E : FVec Ideal S528x1536 .f32) (q : Fin 1536) : Ideal .f32 :=
  ∑ l : Fin 512, P (ix2 ⟨l.val, by have := l.isLt; omega⟩ q) * E (ix2 ⟨8 + l.val, by have := l.isLt; omega⟩ q)

/-- What a grid point adds to the eight stored rows. -/
def addend (P : FVec Ideal S520x1536 .f32) (E0 E1 E2 E3 : FVec Ideal S528x1536 .f32) (j : S8x1536.Idx) : Ideal .f32 :=
  if (j 0).val = 3 then addRow P E0 (j 1) else if (j 0).val = 2 then addRow P E1 (j 1)
  else if (j 0).val = 1 then addRow P E2 (j 1) else if (j 0).val = 0 then addRow P E3 (j 1) else 0

theorem at_row_0 (E : FVec Ideal S528x1536 .f32) (v77 : FVec Ideal S520x1536 .f32) (v78 : FVec Ideal S520x1536 .f32) (v81 : FVec Ideal S520x1536 .f32) (v83 : FVec Ideal S520x128 .f32) (v89 : FVec Ideal S520x1 .f32) (v92 : FVec Ideal S520x1 .f32) (v93 : FVec Ideal S520x128 .f32) (v164 : FVec Ideal S520x128 .f32) (v304 : FVec Ideal S520x1536 .f32) (v311 : FVec Ideal S520x128 .f32) (v312 : FVec Ideal S520x1 .f32) (q : Fin 1536) :
    k0_pay66 E v77 v78 v81 v83 v89 v92 v93 v164 v304 v311 v312 (ix2 0 q) = addRow (k0_pay64 v77 v78 v81 v83 v89 v92 v93 v164 v304 v311 v312) E q := by
  unfold k0_pay66
  generalize k0_pay64 v77 v78 v81 v83 v89 v92 v93 v164 v304 v311 v312 = P
  pointwise [addRow]

theorem at_row_1 (P : FVec Ideal S520x1536 .f32) (E : FVec Ideal S528x1536 .f32) (a : Vec Ideal S1x1536 .f32) (q : Fin 1536) :
    k0_pay72 E P a (ix2 0 q) = a (ix2 0 q) + addRow P E q := by
  pointwise [k0_pay72, addRow]

theorem at_row_2 (P : FVec Ideal S520x1536 .f32) (E : FVec Ideal S528x1536 .f32) (a : Vec Ideal S1x1536 .f32) (q : Fin 1536) :
    k0_pay73 (k0_pay68 E P) a (ix2 0 q) = a (ix2 0 q) + addRow P E q := by
  pointwise [k0_pay73, k0_pay68, addRow]

theorem at_row_3 (P : FVec Ideal S520x1536 .f32) (E : FVec Ideal S528x1536 .f32) (a : Vec Ideal S1x1536 .f32) (q : Fin 1536) :
    k0_pay74 (k0_pay70 E P) a (ix2 0 q) = a (ix2 0 q) + addRow P E q := by
  pointwise [k0_pay74, k0_pay70, addRow]

theorem add_row_0 (w a : Vec Ideal S1x1536 .f32) (q : Fin 1536) :
    k0_pay71 w a (ix2 0 q) = a (ix2 0 q) + w (ix2 0 q) := by
  pointwise [k0_pay71]

theorem row_place {o : ℕ} (inb : ∀ a : Fin 2, (![o, 0] : Fin 2 → ℕ) a + S1x1536.size a ≤ S8x1536.size a) (a : Fin 8) (q : Fin 1536) (h : a.val = o) :
    (Rect.unit (s := S8x1536) ![o, 0] S1x1536.size inb).emb (ix2 0 q : S1x1536.Idx) = (ix2 a q : S8x1536.Idx) := by
  subst h
  funext x
  match x with
  | ⟨0, _⟩ => exact Fin.ext (by show a.val + 1 * 0 = a.val; omega)
  | ⟨1, _⟩ => exact Fin.ext (by show 0 + 1 * q.val = q.val; omega)

theorem load_row {o : ℕ} (inb : ∀ a : Fin 2, (![o, 0] : Fin 2 → ℕ) a + S1x1536.size a ≤ S8x1536.size a) (X : S8x1536.Idx → Ideal .f32) (a : Fin 8) (q : Fin 1536) (h : a.val = o) :
    (View.ld (Val := Elt Ideal) (e' := .f32) X (Rect.unit (s := S8x1536) ![o, 0] S1x1536.size inb) : S1x1536.Idx → Ideal .f32) (ix2 0 q) = X (ix2 a q) :=
  congrArg X (row_place inb a q h)

theorem not_row {o : ℕ} (inb : ∀ a : Fin 2, (![o, 0] : Fin 2 → ℕ) a + S1x1536.size a ≤ S8x1536.size a) (a : Fin 8) (q : Fin 1536) (h : ¬a.val = o) :
    (ix2 a q : S8x1536.Idx) ∉ (Rect.unit (s := S8x1536) ![o, 0] S1x1536.size inb).set := by
  rw [Rect.mem_set_unit]
  intro hall
  have h0 : o ≤ a.val ∧ a.val < o + 1 := hall 0
  omega

theorem read_row {sig : RefSig} {κ : Kind} {sp : Space} (v : View sig κ sp S8x1536 .f32) (f : v.ty.Contents (Elt Ideal)) {o : ℕ}
    (inb : ∀ a : Fin 2, (![o, 0] : Fin 2 → ℕ) a + S1x1536.size a ≤ S8x1536.size a) (w : S1x1536.Idx → Ideal .f32)
    (L : List (View.Piece (Elt Ideal) S8x1536 .f32)) (a : Fin 8) (q : Fin 1536) :
    v.read (Elt Ideal) (v.writes (Elt Ideal) f ((⟨Rect.unit (s := S8x1536) ![o, 0] S1x1536.size inb, w⟩ : View.Piece (Elt Ideal) S8x1536 .f32) :: L)) (ix2 a q)
      = if a.val = o then w (ix2 0 q) else v.read (Elt Ideal) (v.writes (Elt Ideal) f L) (ix2 a q) := by
  by_cases h : a.val = o
  · rw [if_pos h]
    exact View.read_writes_cons_rows_of_mem v f inb w L (ix2 a q) (ix2 0 q) rfl (by show a.val = o + 0; omega) rfl
  · rw [if_neg h]
    exact View.read_writes_cons_rows_of_not_mem (W := 1) v f inb w L (ix2 a q) rfl rfl (by show a.val < o ∨ o + 1 ≤ a.val; omega)

/-- A buffer stored as a whole, read. -/
theorem read_whole {sig : RefSig} {κ : Kind} {sp : Space} {d : Fin 2 → ℕ} (v : View sig κ sp (⟨2, d⟩ : Shape) .f32) (f : v.ty.Contents (Elt Ideal)) {off : Fin 2 → ℕ}
    (hoff : off = ![0, 0]) (Z : (⟨2, d⟩ : Shape).Idx → Ideal .f32) (inb : ∀ a : Fin 2, off a + d a ≤ d a) (y : (⟨2, d⟩ : Shape).Idx) :
    v.read (Elt Ideal) (v.writes (Elt Ideal) f [(⟨Rect.unit (s := ⟨2, d⟩) off d inb, Z⟩ : View.Piece (Elt Ideal) (⟨2, d⟩ : Shape) .f32)]) y = Z y :=
  View.read_writes_cons_unit_of_mem v f inb Z [] y y hoff (Fin.forall_fin_two.mpr ⟨(Nat.zero_add _).symm, (Nat.zero_add _).symm⟩)

/-- The cleared buffer, read. -/
theorem read_clear {sig : RefSig} {κ : Kind} {sp : Space} (v : View sig κ sp S8x1536 .f32) (Z : S8x1536.Idx → Ideal .f32)
    (inb : ∀ a : Fin 2, (![0, 0] : Fin 2 → ℕ) a + S8x1536.size a ≤ S8x1536.size a) (a : Fin 8) (q : Fin 1536) :
    v.read (Elt Ideal) (v.writes (Elt Ideal) v.junk [(⟨Rect.unit (s := S8x1536) ![0, 0] S8x1536.size inb, Z⟩ : View.Piece (Elt Ideal) S8x1536 .f32)]) (ix2 a q) = Z (ix2 a q) := by
  exact read_whole (d := ![8, 1536]) v v.junk rfl Z inb (ix2 a q)

/-- The rows picked one after another, and what each adds. -/
theorem pick (P : FVec Ideal S520x1536 .f32) (E0 E1 E2 E3 : FVec Ideal S528x1536 .f32) (X : S8x1536.Idx → Ideal .f32) (w3 w2 w1 w0 : Ideal .f32)
    (a : Fin 8) (q : Fin 1536) (h3 : a.val = 3 → w3 = X (ix2 a q) + addRow P E0 q) (h2 : a.val = 2 → w2 = X (ix2 a q) + addRow P E1 q)
    (h1 : a.val = 1 → w1 = X (ix2 a q) + addRow P E2 q) (h0 : a.val = 0 → w0 = X (ix2 a q) + addRow P E3 q) :
    (if a.val = 3 then w3 else if a.val = 2 then w2 else if a.val = 1 then w1 else if a.val = 0 then w0 else X (ix2 a q))
      = X (ix2 a q) + addend P E0 E1 E2 E3 (ix2 a q) := by
  show _ = _ + (if a.val = 3 then addRow P E0 q else if a.val = 2 then addRow P E1 q else if a.val = 1 then addRow P E2 q else if a.val = 0 then addRow P E3 q else 0)
  split_ifs with c3 c2 c1 c0
  · exact h3 c3
  · exact h2 c2
  · exact h1 c1
  · exact h0 c0
  · exact (add_zero _).symm

/-- A later grid point adds to the rows it finds. -/
theorem step_later {sig : RefSig} {κ : Kind} {sp : Space} (v : View sig κ sp S8x1536 .f32) (f : v.ty.Contents (Elt Ideal)) (X : S8x1536.Idx → Ideal .f32)
    (hX : v.read (Elt Ideal) f = X) (P : FVec Ideal S520x1536 .f32) (E0 E1 E2 E3 : FVec Ideal S528x1536 .f32) (W : FVec Ideal S1x1536 .f32)
    (hW : ∀ q, W (ix2 0 q) = addRow P E3 q) (j : S8x1536.Idx) :
    v.read (Elt Ideal) (v.writes (Elt Ideal) f [⟨Rect.unit (s := S8x1536) ![3, 0] S1x1536.size inb_S8x1536_S1x1536_3_0, k0_pay74 (k0_pay70 E0 P) (View.ld (Val := Elt Ideal) (e' := .f32) X (Rect.unit (s := S8x1536) ![3, 0] S1x1536.size inb_S8x1536_S1x1536_3_0))⟩, ⟨Rect.unit (s := S8x1536) ![2, 0] S1x1536.size inb_S8x1536_S1x1536_2_0, k0_pay73 (k0_pay68 E1 P) (View.ld (Val := Elt Ideal) (e' := .f32) X (Rect.unit (s := S8x1536) ![2, 0] S1x1536.size inb_S8x1536_S1x1536_2_0))⟩, ⟨Rect.unit (s := S8x1536) ![1, 0] S1x1536.size inb_S8x1536_S1x1536_1_0, k0_pay72 E2 P (View.ld (Val := Elt Ideal) (e' := .f32) X (Rect.unit (s := S8x1536) ![1, 0] S1x1536.size inb_S8x1536_S1x1536_1_0))⟩, ⟨Rect.unit (s := S8x1536) ![0, 0] S1x1536.size inb_S8x1536_S1x1536_0_0, k0_pay71 W (View.ld (Val := Elt Ideal) (e' := .f32) X (Rect.unit (s := S8x1536) ![0, 0] S1x1536.size inb_S8x1536_S1x1536_0_0))⟩]) j
      = X j + addend P E0 E1 E2 E3 j := by
  obtain ⟨a, q, rfl⟩ : ∃ (a : Fin 8) (q : Fin 1536), j = ix2 a q := ⟨j 0, j 1, by funext x; match x with | ⟨0, _⟩ => rfl | ⟨1, _⟩ => rfl⟩
  rw [read_row, read_row, read_row, read_row]
  have hz : v.read (Elt Ideal) (v.writes (Elt Ideal) f []) = X := hX
  rw [hz]
  refine pick P E0 E1 E2 E3 X _ _ _ _ a q (fun h => ?_) (fun h => ?_) (fun h => ?_) (fun h => ?_)
  · rw [at_row_3, load_row _ X a q h]
  · rw [at_row_2, load_row _ X a q h]
  · rw [at_row_1, load_row _ X a q h]
  · rw [add_row_0, load_row _ X a q h, hW]

/-- The first grid point clears the rows and adds to them. -/
theorem step_first {sig : RefSig} {κ : Kind} {sp : Space} (v : View sig κ sp S8x1536 .f32) (Z : S8x1536.Idx → Ideal .f32)
    (inb : ∀ a : Fin 2, (![0, 0] : Fin 2 → ℕ) a + S8x1536.size a ≤ S8x1536.size a)
    (P : FVec Ideal S520x1536 .f32) (E0 E1 E2 E3 : FVec Ideal S528x1536 .f32) (W : FVec Ideal S1x1536 .f32)
    (hW : ∀ q, W (ix2 0 q) = addRow P E3 q) (j : S8x1536.Idx) :
    View.canon (Val := Elt Ideal) (s := S8x1536) (e := .f32) [⟨Rect.unit (s := S8x1536) ![3, 0] S1x1536.size inb_S8x1536_S1x1536_3_0, k0_pay74 (k0_pay70 E0 P) (View.ld (Val := Elt Ideal) (e' := .f32) Z (Rect.unit (s := S8x1536) ![3, 0] S1x1536.size inb_S8x1536_S1x1536_3_0))⟩, ⟨Rect.unit (s := S8x1536) ![2, 0] S1x1536.size inb_S8x1536_S1x1536_2_0, k0_pay73 (k0_pay68 E1 P) (View.ld (Val := Elt Ideal) (e' := .f32) Z (Rect.unit (s := S8x1536) ![2, 0] S1x1536.size inb_S8x1536_S1x1536_2_0))⟩, ⟨Rect.unit (s := S8x1536) ![1, 0] S1x1536.size inb_S8x1536_S1x1536_1_0, k0_pay72 E2 P (View.ld (Val := Elt Ideal) (e' := .f32) Z (Rect.unit (s := S8x1536) ![1, 0] S1x1536.size inb_S8x1536_S1x1536_1_0))⟩, ⟨Rect.unit (s := S8x1536) ![0, 0] S1x1536.size inb_S8x1536_S1x1536_0_0, k0_pay71 W (View.ld (Val := Elt Ideal) (e' := .f32) Z (Rect.unit (s := S8x1536) ![0, 0] S1x1536.size inb_S8x1536_S1x1536_0_0))⟩, ⟨Rect.unit (s := S8x1536) ![0, 0] S8x1536.size inb, Z⟩] j
      = Z j + addend P E0 E1 E2 E3 j := by
  obtain ⟨a, q, rfl⟩ : ∃ (a : Fin 8) (q : Fin 1536), j = ix2 a q := ⟨j 0, j 1, by funext x; match x with | ⟨0, _⟩ => rfl | ⟨1, _⟩ => rfl⟩
  rw [← View.read_writes_junk_apply_eq_canon v, read_row, read_row, read_row, read_row, read_clear]
  refine pick P E0 E1 E2 E3 Z _ _ _ _ a q (fun h => ?_) (fun h => ?_) (fun h => ?_) (fun h => ?_)
  · rw [at_row_3, load_row _ Z a q h]
  · rw [at_row_2, load_row _ Z a q h]
  · rw [at_row_1, load_row _ Z a q h]
  · rw [add_row_0, load_row _ Z a q h, hW]

/-- A row loaded from a buffer that still holds another array's row there. -/
theorem back_row {sig : RefSig} {κ : Kind} {sp : Space} (v : View sig κ sp S8x1536 .f32) (Z : S8x1536.Idx → Ideal .f32)
    (L : List (View.Piece (Elt Ideal) S8x1536 .f32)) {o : ℕ} (inb : ∀ a : Fin 2, (![o, 0] : Fin 2 → ℕ) a + S1x1536.size a ≤ S8x1536.size a) (a : Fin 8) (h : a.val = o)
    (hL : ∀ q, v.read (Elt Ideal) (v.writes (Elt Ideal) v.junk L) (ix2 a q) = Z (ix2 a q)) :
    v.readCov (Val := Elt Ideal) L (Rect.unit (s := S8x1536) ![o, 0] S1x1536.size inb).toLoadRect
      = View.ld (Val := Elt Ideal) (e' := .f32) Z (Rect.unit (s := S8x1536) ![o, 0] S1x1536.size inb) := by
  funext j
  obtain ⟨q, rfl⟩ : ∃ q : Fin 1536, j = (ix2 0 q : S1x1536.Idx) := ⟨j 1, by funext x; match x with | ⟨0, _⟩ => exact Subsingleton.elim (α := Fin 1) _ _ | ⟨1, _⟩ => rfl⟩
  show v.read (Elt Ideal) (v.writes (Elt Ideal) v.junk L) ((Rect.unit (s := S8x1536) ![o, 0] S1x1536.size inb).emb (ix2 0 q : S1x1536.Idx))
    = Z ((Rect.unit (s := S8x1536) ![o, 0] S1x1536.size inb).emb (ix2 0 q : S1x1536.Idx))
  rw [row_place inb a q h]
  exact hL q

/-- A row read after other rows were stored over a cleared buffer is the cleared row. -/
theorem back_0 {sig : RefSig} {κ : Kind} {sp : Space} (v : View sig κ sp S8x1536 .f32) (Z : S8x1536.Idx → Ideal .f32)
    (inb : ∀ a : Fin 2, (![0, 0] : Fin 2 → ℕ) a + S8x1536.size a ≤ S8x1536.size a) :
    v.readCov (Val := Elt Ideal) [⟨Rect.unit (s := S8x1536) ![0, 0] S8x1536.size inb, Z⟩] (Rect.unit (s := S8x1536) ![0, 0] S1x1536.size inb_S8x1536_S1x1536_0_0).toLoadRect
      = View.ld (Val := Elt Ideal) (e' := .f32) Z (Rect.unit (s := S8x1536) ![0, 0] S1x1536.size inb_S8x1536_S1x1536_0_0) := by
  refine back_row v Z _ _ ⟨0, by decide⟩ rfl fun q => ?_
  show _ = _
  exact read_clear v Z inb _ q

theorem back_1 {sig : RefSig} {κ : Kind} {sp : Space} (v : View sig κ sp S8x1536 .f32) (Z : S8x1536.Idx → Ideal .f32)
    (inb : ∀ a : Fin 2, (![0, 0] : Fin 2 → ℕ) a + S8x1536.size a ≤ S8x1536.size a) (w0 : S1x1536.Idx → Ideal .f32) :
    v.readCov (Val := Elt Ideal) [⟨Rect.unit (s := S8x1536) ![0, 0] S1x1536.size inb_S8x1536_S1x1536_0_0, w0⟩, ⟨Rect.unit (s := S8x1536) ![0, 0] S8x1536.size inb, Z⟩] (Rect.unit (s := S8x1536) ![1, 0] S1x1536.size inb_S8x1536_S1x1536_1_0).toLoadRect
      = View.ld (Val := Elt Ideal) (e' := .f32) Z (Rect.unit (s := S8x1536) ![1, 0] S1x1536.size inb_S8x1536_S1x1536_1_0) := by
  refine back_row v Z _ _ ⟨1, by decide⟩ rfl fun q => ?_
  rw [read_row, if_neg (by decide)]
  exact read_clear v Z inb _ q

theorem back_2 {sig : RefSig} {κ : Kind} {sp : Space} (v : View sig κ sp S8x1536 .f32) (Z : S8x1536.Idx → Ideal .f32)
    (inb : ∀ a : Fin 2, (![0, 0] : Fin 2 → ℕ) a + S8x1536.size a ≤ S8x1536.size a) (w1 w0 : S1x1536.Idx → Ideal .f32) :
    v.readCov (Val := Elt Ideal) [⟨Rect.unit (s := S8x1536) ![1, 0] S1x1536.size inb_S8x1536_S1x1536_1_0, w1⟩, ⟨Rect.unit (s := S8x1536) ![0, 0] S1x1536.size inb_S8x1536_S1x1536_0_0, w0⟩, ⟨Rect.unit (s := S8x1536) ![0, 0] S8x1536.size inb, Z⟩] (Rect.unit (s := S8x1536) ![2, 0] S1x1536.size inb_S8x1536_S1x1536_2_0).toLoadRect
      = View.ld (Val := Elt Ideal) (e' := .f32) Z (Rect.unit (s := S8x1536) ![2, 0] S1x1536.size inb_S8x1536_S1x1536_2_0) := by
  refine back_row v Z _ _ ⟨2, by decide⟩ rfl fun q => ?_
  rw [read_row, if_neg (by decide), read_row, if_neg (by decide)]
  exact read_clear v Z inb _ q

theorem back_3 {sig : RefSig} {κ : Kind} {sp : Space} (v : View sig κ sp S8x1536 .f32) (Z : S8x1536.Idx → Ideal .f32)
    (inb : ∀ a : Fin 2, (![0, 0] : Fin 2 → ℕ) a + S8x1536.size a ≤ S8x1536.size a) (w2 w1 w0 : S1x1536.Idx → Ideal .f32) :
    v.readCov (Val := Elt Ideal) [⟨Rect.unit (s := S8x1536) ![2, 0] S1x1536.size inb_S8x1536_S1x1536_2_0, w2⟩, ⟨Rect.unit (s := S8x1536) ![1, 0] S1x1536.size inb_S8x1536_S1x1536_1_0, w1⟩, ⟨Rect.unit (s := S8x1536) ![0, 0] S1x1536.size inb_S8x1536_S1x1536_0_0, w0⟩, ⟨Rect.unit (s := S8x1536) ![0, 0] S8x1536.size inb, Z⟩] (Rect.unit (s := S8x1536) ![3, 0] S1x1536.size inb_S8x1536_S1x1536_3_0).toLoadRect
      = View.ld (Val := Elt Ideal) (e' := .f32) Z (Rect.unit (s := S8x1536) ![3, 0] S1x1536.size inb_S8x1536_S1x1536_3_0) := by
  refine back_row v Z _ _ ⟨3, by decide⟩ rfl fun q => ?_
  rw [read_row, if_neg (by decide), read_row, if_neg (by decide), read_row, if_neg (by decide)]
  exact read_clear v Z inb _ q

end Cert.DxIdeal.Store

end
-- ==== Proof.DxSums.lean ====
/-
  The input projection's data gradient: every result array of the kernel is the reference's.
-/
module

public import proofs.«01_k».proof.Proof.DxRefSums
public import proofs.«01_k».proof.Proof.DxStore
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.DxIdeal.Sums

open Cert.DxIdeal Cert.DxIdeal.Gen Cert.DxRefIdeal.Read Cert.DxIdeal.Post Cert.DxIdeal.Ref Cert.DxIdeal.Blk Cert.DxIdeal.Ext Cert.DxIdeal.Rows Cert.DxIdeal.Grad Cert.DxIdeal.Back Cert.DxIdeal.RefSums Cert.DxIdeal.Store

variable (m : (ℓ : Loc nD τ sig) → Buf (Elt Ideal) ℓ)

/-- The sequence of a tile's row, and its place in it. -/
def tileSeq (t : Fin cfg0.N) : Fin 2 := ⟨t.val / 8, by have := lt_of_lt_of_eq t.isLt N_0; omega⟩
def tilePos (t : Fin cfg0.N) (l : Fin 512) : Fin 4096 := ⟨t.val % 8 * 512 + l.val, by have := l.isLt; omega⟩

theorem tile_at (t : Fin cfg0.N) (l : Fin 512) : (tileSeq t).val * 4096 + (tilePos t l).val = t.val * 512 + l.val := by
  show t.val / 8 * 4096 + (t.val % 8 * 512 + l.val) = t.val * 512 + l.val
  omega

theorem seq_tile (t : Fin cfg0.N) (l : Fin 512) (hl : t.val * 512 + l.val < 8192) : seqOf ⟨t.val * 512 + l.val, hl⟩ = tileSeq t :=
  Fin.ext (by show (t.val * 512 + l.val) / 4096 = t.val / 8; have := l.isLt; omega)

theorem pos_tile (t : Fin cfg0.N) (l : Fin 512) (hl : t.val * 512 + l.val < 8192) : posOf ⟨t.val * 512 + l.val, hl⟩ = tilePos t l :=
  Fin.ext (by show (t.val * 512 + l.val) % 4096 = t.val % 8 * 512 + l.val; have := l.isLt; omega)

theorem place_eq (t : Fin cfg0.N) (l : Fin 512) (hl : t.val * 512 + l.val < 8192) (h : (tileSeq t).val * 4096 + (tilePos t l).val < 8192) :
    (⟨(tileSeq t).val * 4096 + (tilePos t l).val, h⟩ : Fin 8192) = ⟨t.val * 512 + l.val, hl⟩ := Fin.ext (tile_at t l)

/-- A tiled result array. -/
theorem final_14 (c : Dev nD) : (dats m 0 c).arrAt 14 (cfgs 0).N = val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  have key : ∀ (l : Fin 512) (hl : t.val * 512 + l.val < 8192) k, _ := fun l hl k =>
    (dx_row m c t l (tileSeq t) (tilePos t l) (tile_at t l) k).trans (congrArg (fun x => (val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 x k)) (place_eq t l hl _))
  have at_place : ∀ (l : Fin 512) (hl : t.val * 512 + l.val < 8192) (k : Fin 1024),
      (val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (ix2 ⟨t.val * 512 + l.val, hl⟩ k)
        = (val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((View.whole main_v18_0).slice (win0_14.rect t)).emb (ix2 l k)) := by
    intro l hl k
    generalize val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = R
    refine Eq.symm ?_
    blk_point [idx t]
  blk_simp
  rw [after0_14]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

/-- A tiled result array. -/
theorem final_16 (c : Dev nD) : (dats m 0 c).arrAt 16 (cfgs 0).N = val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 16 _ (by decide +kernel) fun t hf y => ?_
  have key : ∀ (l : Fin 512) (hl : t.val * 512 + l.val < 8192) k, _ := fun l hl k =>
    (dzq_row m c t l (tileSeq t) (tilePos t l) (tile_at t l) k).trans (congrArg (fun x => (val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 x k)) (place_eq t l hl _))
  have at_place : ∀ (l : Fin 512) (hl : t.val * 512 + l.val < 8192) (k : Fin 1536),
      (val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 ⟨t.val * 512 + l.val, hl⟩ k)
        = (val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (((View.whole main_v18_2).slice (win0_16.rect t)).emb (ix2 l k)) := by
    intro l hl k
    generalize val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = R
    refine Eq.symm ?_
    blk_point [idx t]
  blk_simp
  rw [after0_16]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

theorem zero_15 (j : S1x1024.Idx) : k0_pay3 (F := Ideal) j = 0 := by pointwise [k0_pay3]

/-- What one grid point adds. -/
theorem pay_15 (d : FVec Ideal S512x1024 .f32) (z : FVec Ideal S512x1536 .f32) (w : Vec Ideal S1024x1536 .bf16) (x : Vec Ideal S512x1024 .f32) (acc : Vec Ideal S1x1024 .f32) (j : S1x1024.Idx) :
    k0_pay2 (k0_pay80 d z w x) acc j = acc j + ∑ l : Fin 512, times (times (x (ix2 l (j 1))) (k0_pay78 x (ix2 l 0))) (k0_pay76 d z w (ix2 l (j 1))) := by
  unfold k0_pay80
  generalize k0_pay76 d z w = g
  generalize k0_pay78 x = i
  pointwise [k0_pay2, times]

theorem hat_row (c : Dev nD) (t : Fin cfg0.N) (l : Fin 512) (b : Fin 2) (s : Fin 4096) (h : b.val * 4096 + s.val = t.val * 512 + l.val) (k : Fin 1024) :
    times ((iblk m c 0 t : FVec Ideal S512x1024 .f32) (ix2 l k)) (k0_pay78 (iblk m c 0 t) (ix2 l 0)) = (val_main_v13 (F := Ideal) (m ((c : Thread nD τ).loc main_arg0))) (ix3 b s k) := by
  rw [x_row m c t l b s h k, inv_row m c t l b s h]
  generalize e : val_main_v0 (F := Ideal) (m ((c : Thread nD τ).loc main_arg0)) = x
  generalize e8 : val_main_v8 (F := Ideal) (m ((c : Thread nD τ).loc main_arg0)) = i
  pointwise [val_main_v13, val_main_v12, times, e, e8]

/-- An accumulated result array. -/
theorem final_15 (c : Dev nD) : (dats m 0 c).arrAt 15 (cfgs 0).N = val_main_v200 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 15 t0_15 (by decide +kernel) _ fun j => ?_
  blk_simp
  obtain ⟨k, rfl⟩ : ∃ k : Fin 1024, j = (ix2 0 k : S1x1024.Idx) := ⟨j 1, by funext x; match x with | ⟨0, _⟩ => exact Subsingleton.elim (α := Fin 1) _ _ | ⟨1, _⟩ => rfl⟩
  rw [after0_15, Pipeline.eq_sum_fin_of_reset_step_apply_last (fun n h => (outsAt0 m c n h).2.1) 16 (fun _ => 0)
    (fun t j => ∑ l : Fin 512, times (times ((iblk m c 0 t : FVec Ideal S512x1024 .f32) (ix2 l (j 1))) (k0_pay78 (iblk m c 0 t) (ix2 l 0))) (dh m c t (ix2 l (j 1))))
    (fun t h j => by rw [outsAt0_A m c t h]; frame_out; exact (pay_15 _ _ _ _ _ j).trans (congrArg (· + _) (zero_15 j)))
    (fun t h j => by rw [outsAt0_B m c t h]; frame_out; exact pay_15 _ _ _ _ _ j)
    (le_of_eq N_0) t0_15 rfl (ix2 0 k), zero_add, ref_dg]
  refine Fin.sum_mul_add_congr fun t l hl => ?_
  rw [seq_tile t l hl, pos_tile t l hl]
  exact congrArg₂ times (hat_row m c t l _ _ (tile_at t l) k) (dh_row m c t l _ _ (tile_at t l) k)

theorem zero_17 (j : S8x1536.Idx) : k0_pay4 (F := Ideal) j = 0 := by pointwise [k0_pay4]

/-- A row that no grid point writes. -/
theorem addend_rest (P : FVec Ideal S520x1536 .f32) (E0 E1 E2 E3 : FVec Ideal S528x1536 .f32) (a : Fin 8) (ha : 4 ≤ a.val) (q : Fin 1536) :
    addend P E0 E1 E2 E3 (ix2 a q) = 0 := by
  have h3 : ¬a.val = 3 := by omega
  have h2 : ¬a.val = 2 := by omega
  have h1 : ¬a.val = 1 := by omega
  have h0 : ¬a.val = 0 := by omega
  show (if a.val = 3 then _ else if a.val = 2 then _ else if a.val = 1 then _ else if a.val = 0 then _ else 0) = _
  rw [if_neg h3, if_neg h2, if_neg h1, if_neg h0]

theorem sum_row_0 (c : Dev nD) (q : Fin 1536) :
    ∑ t : Fin cfg0.N, addRow (post m c t) (ext3 m c t) q = (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 0 q) := by
  rw [ref_dcw_0]
  refine Fin.sum_mul_add_congr fun t l hl => ?_
  rw [seq_tile t l hl, pos_tile t l hl]
  exact congrArg₂ times (post_row m c t ⟨l.val, by have := l.isLt; omega⟩ _ _ (tile_at t l) (.inl l.isLt) q)
    (sh_3 m c t ⟨l.val, by have := l.isLt; omega⟩ _ _ (tile_at t l) (.inl l.isLt) q)

theorem sum_row_1 (c : Dev nD) (q : Fin 1536) :
    ∑ t : Fin cfg0.N, addRow (post m c t) (ext2 m c t) q = (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 1 q) := by
  rw [ref_dcw_1]
  refine Fin.sum_mul_add_congr fun t l hl => ?_
  rw [seq_tile t l hl, pos_tile t l hl]
  exact congrArg₂ times (post_row m c t ⟨l.val, by have := l.isLt; omega⟩ _ _ (tile_at t l) (.inl l.isLt) q)
    (sh_2 m c t ⟨l.val, by have := l.isLt; omega⟩ _ _ (tile_at t l) (.inl l.isLt) q)

theorem sum_row_2 (c : Dev nD) (q : Fin 1536) :
    ∑ t : Fin cfg0.N, addRow (post m c t) (ext1 m c t) q = (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 2 q) := by
  rw [ref_dcw_2]
  refine Fin.sum_mul_add_congr fun t l hl => ?_
  rw [seq_tile t l hl, pos_tile t l hl]
  exact congrArg₂ times (post_row m c t ⟨l.val, by have := l.isLt; omega⟩ _ _ (tile_at t l) (.inl l.isLt) q)
    (sh_1 m c t ⟨l.val, by have := l.isLt; omega⟩ _ _ (tile_at t l) (.inl l.isLt) q)

theorem sum_row_3 (c : Dev nD) (q : Fin 1536) :
    ∑ t : Fin cfg0.N, addRow (post m c t) (ext m c t) q = (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 3 q) := by
  rw [ref_dcw_3]
  refine Fin.sum_mul_add_congr fun t l hl => ?_
  rw [seq_tile t l hl, pos_tile t l hl]
  exact congrArg₂ times (post_row m c t ⟨l.val, by have := l.isLt; omega⟩ _ _ (tile_at t l) (.inl l.isLt) q)
    (sh_0 m c t ⟨l.val, by have := l.isLt; omega⟩ _ _ (tile_at t l) (.inl l.isLt) q)

theorem sum_rows (c : Dev nD) (a : Fin 8) (q : Fin 1536) :
    ∑ t : Fin cfg0.N, addend (post m c t) (ext m c t) (ext1 m c t) (ext2 m c t) (ext3 m c t) (ix2 a q) = (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 a q) := by
  by_cases ha : 4 ≤ a.val
  · rw [ref_dcw_rest m c a ha q]
    exact Finset.sum_eq_zero fun t _ => addend_rest _ _ _ _ _ a ha q
  · obtain rfl | rfl | rfl | rfl : a = 0 ∨ a = 1 ∨ a = 2 ∨ a = 3 := by omega
    · exact sum_row_0 m c q
    · exact sum_row_1 m c q
    · exact sum_row_2 m c q
    · exact sum_row_3 m c q

/-- An accumulated result array: the filter's gradient. -/
theorem final_17 (c : Dev nD) : (dats m 0 c).arrAt 17 (cfgs 0).N = val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_after_last 17 t0_15 (by decide +kernel) _ fun j => ?_
  blk_simp
  obtain ⟨a, q, rfl⟩ : ∃ (a : Fin 8) (q : Fin 1536), j = (ix2 a q : S8x1536.Idx) := ⟨j 0, j 1, by funext x; match x with | ⟨0, _⟩ => rfl | ⟨1, _⟩ => rfl⟩
  rw [after0_17, Pipeline.eq_sum_fin_of_reset_step_apply_last (fun n h => (outsAt0 m c n h).2.2.2) 16 (fun _ => 0)
    (fun t j => addend (post m c t) (ext m c t) (ext1 m c t) (ext2 m c t) (ext3 m c t) j)
    (fun t h j => by
      rw [outsAt0_A m c t h]
      frame_out
      rw [back_3, back_2, back_1, back_0]
      exact (step_first (ms0_17 t).view _ _ _ _ _ _ _ _ (at_row_0 _ _ _ _ _ _ _ _ _ _ _ _) j).trans (congrArg (· + _) (zero_17 j)))
    (fun t h j => by
      rw [outsAt0_B m c t h]
      frame_out
      exact step_later _ _ _ (Memref.IsWhole.read_unread _ _) _ _ _ _ _ _ (at_row_0 _ _ _ _ _ _ _ _ _ _ _ _) j)
    (le_of_eq N_0) t0_15 rfl (ix2 a q), zero_add]
  exact sum_rows m c a q

end Cert.DxIdeal.Sums

end
-- ==== Proof.DxClaim.lean ====
/- The input projection's data gradient: the kernel's four results are the reference's, and the reference's frame. -/
module

public import proofs.«01_k».proof.Defs
public import proofs.«01_k».proof.Proof.Gen.DxIdeal.Frame
public import proofs.«01_k».proof.Proof.Gen.DxIdeal.Value
public import proofs.«01_k».proof.Proof.Gen.DxRefIdeal.Run
public import proofs.«01_k».proof.Proof.Gen.DxRefIdeal.Read
public import proofs.«01_k».proof.Proof.DxSums
public import Idealize.ShloMosaic.Lib.Claim

@[expose] public section

set_option maxRecDepth 16384

noncomputable section

namespace Cert.DxClaim

open Idealize.ShloMosaic Idealize.SL.Sem

/-- The reference leaves its arguments alone; it declares no semaphore. -/
theorem ref_frame : Cert.quiescent_DxRefIdeal := fun m ρ _ =>
  (θ_run Cert.DxRefIdeal.defs _ _).mono (fun r h => ⟨fun c => (h c).2.2.2.2, sem_eq_zero_of_no_sems (by decide) r.2⟩)
    (Cert.DxRefIdeal.Value.run (F := Ideal) m ρ)

set_option maxHeartbeats 1600000 in
/-- The kernel's results are the reference's. -/
theorem algebraic : Cert.algebraic_DxIdeal_DxRefIdeal := by
  intro m g m' g' hpre hagree
  refine ⟨fun c => (Cert.DxIdeal.Gen.dats m 0 c).arrAt 14 (Cert.DxIdeal.cfgs 0).N,
    fun c => (Cert.DxIdeal.Gen.dats m 0 c).arrAt 15 (Cert.DxIdeal.cfgs 0).N,
    fun c => (Cert.DxIdeal.Gen.dats m 0 c).arrAt 16 (Cert.DxIdeal.cfgs 0).N,
    fun c => (Cert.DxIdeal.Gen.dats m 0 c).arrAt 17 (Cert.DxIdeal.cfgs 0).N, ?_, ?_⟩
  · exact θ_run_mono (θ_run_and (Cert.DxIdeal.Gen.run_main m g) (Cert.DxIdeal.Gen.unchanged m g)) fun r hr c =>
      ⟨(hr.1 c).1 14, (hr.1 c).1 15, (hr.1 c).1 16, (hr.1 c).1 17, hr.2 c⟩
  · have ha := PLift.up hagree
    clear hagree
    run_from Cert.DxRefIdeal.Value.run m' g'
    · refine (Cert.DxRefIdeal.Read.val_main_v199_eq ..).trans ?_
      simp only [ha.down c]
      exact (Cert.DxIdeal.Sums.final_14 m c).symm
    · refine (Cert.DxRefIdeal.Read.val_main_v200_eq ..).trans ?_
      simp only [ha.down c]
      exact (Cert.DxIdeal.Sums.final_15 m c).symm
    · refine (Cert.DxRefIdeal.Read.val_main_v202_eq ..).trans ?_
      simp only [ha.down c]
      exact (Cert.DxIdeal.Sums.final_16 m c).symm
    · refine (Cert.DxRefIdeal.Read.val_main_v203_eq ..).trans ?_
      simp only [ha.down c]
      exact (Cert.DxIdeal.Sums.final_17 m c).symm

end Cert.DxClaim

end
-- ==== Proof.ProjRun.lean ====
/- One run of the projection kernel's body: what each of its stores leaves behind, whatever the carried rows hold. -/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ProjIdeal.Body

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The whole body at one grid point, on whole staging buffers: the four inputs at given contents, the six outputs at
    anything, the carried rows at `xs0`. It ends with the inputs as they were and, in every buffer it stores into, the
    stored pieces (last first); the lists of pieces are part of the statement's witness. -/
noncomputable def wholeRun (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S8x1536 .f32) (harg4 : arg4.IsWhole) (arg5 : Memref sig .tc .vmem S512x512 .f32) (harg5 : arg5.IsWhole) (arg6 : Memref sig .tc .vmem S512x1536 .f32) (harg6 : arg6.IsWhole) (arg7 : Memref sig .tc .vmem S512x512 .f32) (harg7 : arg7.IsWhole) (arg8 : Memref sig .tc .vmem S512x768 .f32) (harg8 : arg8.IsWhole) (arg9 : Memref sig .tc .vmem S512x128 .f32) (harg9 : arg9.IsWhole) (arg10 : Memref sig .tc .vmem S512x1536 .f32) (harg10 : arg10.IsWhole) (arg11 : Memref sig .tc .vmem S8x1536 .f32) (harg11 : arg11.IsWhole)
    (x0 : Vec F S512x1024 .f32) (x1 : Vec F S1x1024 .f32) (x2 : Vec F S1024x3456 .bf16) (x3 : Vec F S8x1536 .f32) (xs0 : Vec F S8x1536 .f32) :
    Σ' (L4 : List (View.Piece (Elt F) S512x512 .f32)), Σ' (L5 : List (View.Piece (Elt F) S512x1536 .f32)), Σ' (L6 : List (View.Piece (Elt F) S512x512 .f32)), Σ' (L7 : List (View.Piece (Elt F) S512x768 .f32)), Σ' (L8 : List (View.Piece (Elt F) S512x128 .f32)), Σ' (L9 : List (View.Piece (Elt F) S512x1536 .f32)), { LS0 : List (View.Piece (Elt F) S8x1536 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, fun E K => ?run⟩
  case run =>
    simp only [cc0_in_proj_eq_skeleton]; unfold cc0_in_proj_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg11.eq_unread hfs0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact HS0

end Cert.ProjIdeal.Body

end
-- ==== Proof.ProjFrame.lean ====
/- The projection kernel's loop: what its staging buffers and its carried rows hold after each grid point, the obligation of
   the body at a generic point, and the run of the whole program with its frame. -/
module

public import proofs.«01_k».proof.Proof.Gen.ProjIdeal.Frame
public import Idealize.ShloMosaic.Lib.Pipeline.ValueKit
public import proofs.«01_k».proof.Proof.ProjRun

@[expose] public section

set_option maxRecDepth 16384

noncomputable section

namespace Cert.ProjIdeal.Body

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Staging buffers at a point -/

abbrev st0 (t : Fin cfg0.N) : Memref sig .tc .vmem S512x1024 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S1x1024 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1024x3456 .bf16 := win0_2.stage (cfg0.slots t 2)
abbrev wh2 (t : Fin cfg0.N) : (st2 t).IsWhole := hstage0_2 ((cfg0.slots t 2).cast nbuf0_2)
abbrev st3 (t : Fin cfg0.N) : Memref sig .tc .vmem S8x1536 .f32 := win0_3.stage (cfg0.slots t 3)
abbrev wh3 (t : Fin cfg0.N) : (st3 t).IsWhole := hstage0_3 ((cfg0.slots t 3).cast nbuf0_3)
abbrev st4 (t : Fin cfg0.N) : Memref sig .tc .vmem S512x512 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S512x1536 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S512x512 .f32 := win0_6.stage (cfg0.slots t 6)
abbrev wh6 (t : Fin cfg0.N) : (st6 t).IsWhole := hstage0_6 ((cfg0.slots t 6).cast nbuf0_6)
abbrev st7 (t : Fin cfg0.N) : Memref sig .tc .vmem S512x768 .f32 := win0_7.stage (cfg0.slots t 7)
abbrev wh7 (t : Fin cfg0.N) : (st7 t).IsWhole := hstage0_7 ((cfg0.slots t 7).cast nbuf0_7)
abbrev st8 (t : Fin cfg0.N) : Memref sig .tc .vmem S512x128 .f32 := win0_8.stage (cfg0.slots t 8)
abbrev wh8 (t : Fin cfg0.N) : (st8 t).IsWhole := hstage0_8 ((cfg0.slots t 8).cast nbuf0_8)
abbrev st9 (t : Fin cfg0.N) : Memref sig .tc .vmem S512x1536 .f32 := win0_9.stage (cfg0.slots t 9)
abbrev wh9 (t : Fin cfg0.N) : (st9 t).IsWhole := hstage0_9 ((cfg0.slots t 9).cast nbuf0_9)
abbrev vw4 : View sig .tc .vmem S512x512 .f32 := (Memref.whole cc0_stg4_0 : Memref sig .tc .vmem S512x512 .f32).view
abbrev vw5 : View sig .tc .vmem S512x1536 .f32 := (Memref.whole cc0_stg5_0 : Memref sig .tc .vmem S512x1536 .f32).view
abbrev vw6 : View sig .tc .vmem S512x512 .f32 := (Memref.whole cc0_stg6_0 : Memref sig .tc .vmem S512x512 .f32).view
abbrev vw7 : View sig .tc .vmem S512x768 .f32 := (Memref.whole cc0_stg7_0 : Memref sig .tc .vmem S512x768 .f32).view
abbrev vw8 : View sig .tc .vmem S512x128 .f32 := (Memref.whole cc0_stg8_0 : Memref sig .tc .vmem S512x128 .f32).view
abbrev vw9 : View sig .tc .vmem S512x1536 .f32 := (Memref.whole cc0_stg9_0 : Memref sig .tc .vmem S512x1536 .f32).view
/-- The buffer of the rows carried from one point to the next, -/
abbrev rows : Memref sig .tc .vmem S8x1536 .f32 := Memref.whole cc0_scratch0
/-- and its view. -/
abbrev vwR : View sig .tc .vmem S8x1536 .f32 := rows.view

/-- The invariant the loop starts from: the carried rows at anything, the generator at some state. -/
theorem start_eq (c : Dev nD) :
    (Pipeline.ΦA spec0 c : sProp 𝕄) = iprop(iprop((∃ d, owns (c : Thread nD τ) rows fullShare d)) ∗ (∃ r, prngReg c r)) := by
  unfold Pipeline.ΦA; rw [scopedRest0_eq]
  simp only [rows, owns_whole]
  try rfl

/-! ## One point -/

/-- The body's run at point `t` of the grid, the carried rows at `xs`. -/
def at_ (c : Dev nD) (t : Fin cfg0.N) (xs : Vec F S8x1536 .f32) :=
  wholeRun (F := F) c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) rows (Memref.isWhole_whole _)
    (iblk m c 0 t) (iblk m c 1 t) (iblk m c 2 t) (iblk m c 3 t) xs

theorem full4 (c : Dev nD) (t : Fin cfg0.N) (xs : Vec F S8x1536 .f32) (y : S512x512.Idx) :
    ∃ pc : View.Piece (Elt F) S512x512 .f32, pc ∈ (at_ m c t xs).1 ∧ y ∈ pc.1.set :=
  View.cover_of_tiledL (at_ m c t xs).1 S512x512.size (by sl_kernel_rfl) y
/-- What point `t` leaves in output 4's staging buffer. -/
def left4 (c : Dev nD) (t : Fin cfg0.N) (xs : Vec F S8x1536 .f32) : Vec F S512x512 .f32 :=
  vw4.read (Elt F) (vw4.writes (Elt F) vw4.junk (at_ m c t xs).1)

theorem full5 (c : Dev nD) (t : Fin cfg0.N) (xs : Vec F S8x1536 .f32) (y : S512x1536.Idx) :
    ∃ pc : View.Piece (Elt F) S512x1536 .f32, pc ∈ (at_ m c t xs).2.1 ∧ y ∈ pc.1.set :=
  View.cover_of_tiledL (at_ m c t xs).2.1 S512x1536.size (by sl_kernel_rfl) y
/-- What point `t` leaves in output 5's staging buffer. -/
def left5 (c : Dev nD) (t : Fin cfg0.N) (xs : Vec F S8x1536 .f32) : Vec F S512x1536 .f32 :=
  vw5.read (Elt F) (vw5.writes (Elt F) vw5.junk (at_ m c t xs).2.1)

theorem full6 (c : Dev nD) (t : Fin cfg0.N) (xs : Vec F S8x1536 .f32) (y : S512x512.Idx) :
    ∃ pc : View.Piece (Elt F) S512x512 .f32, pc ∈ (at_ m c t xs).2.2.1 ∧ y ∈ pc.1.set :=
  View.cover_of_tiledL (at_ m c t xs).2.2.1 S512x512.size (by sl_kernel_rfl) y
/-- What point `t` leaves in output 6's staging buffer. -/
def left6 (c : Dev nD) (t : Fin cfg0.N) (xs : Vec F S8x1536 .f32) : Vec F S512x512 .f32 :=
  vw6.read (Elt F) (vw6.writes (Elt F) vw6.junk (at_ m c t xs).2.2.1)

theorem full7 (c : Dev nD) (t : Fin cfg0.N) (xs : Vec F S8x1536 .f32) (y : S512x768.Idx) :
    ∃ pc : View.Piece (Elt F) S512x768 .f32, pc ∈ (at_ m c t xs).2.2.2.1 ∧ y ∈ pc.1.set :=
  View.cover_of_tiledL (at_ m c t xs).2.2.2.1 S512x768.size (by sl_kernel_rfl) y
/-- What point `t` leaves in output 7's staging buffer. -/
def left7 (c : Dev nD) (t : Fin cfg0.N) (xs : Vec F S8x1536 .f32) : Vec F S512x768 .f32 :=
  vw7.read (Elt F) (vw7.writes (Elt F) vw7.junk (at_ m c t xs).2.2.2.1)

theorem full8 (c : Dev nD) (t : Fin cfg0.N) (xs : Vec F S8x1536 .f32) (y : S512x128.Idx) :
    ∃ pc : View.Piece (Elt F) S512x128 .f32, pc ∈ (at_ m c t xs).2.2.2.2.1 ∧ y ∈ pc.1.set :=
  View.cover_of_tiledL (at_ m c t xs).2.2.2.2.1 S512x128.size (by sl_kernel_rfl) y
/-- What point `t` leaves in output 8's staging buffer. -/
def left8 (c : Dev nD) (t : Fin cfg0.N) (xs : Vec F S8x1536 .f32) : Vec F S512x128 .f32 :=
  vw8.read (Elt F) (vw8.writes (Elt F) vw8.junk (at_ m c t xs).2.2.2.2.1)

theorem full9 (c : Dev nD) (t : Fin cfg0.N) (xs : Vec F S8x1536 .f32) (y : S512x1536.Idx) :
    ∃ pc : View.Piece (Elt F) S512x1536 .f32, pc ∈ (at_ m c t xs).2.2.2.2.2.1 ∧ y ∈ pc.1.set :=
  View.cover_of_tiledL (at_ m c t xs).2.2.2.2.2.1 S512x1536.size (by sl_kernel_rfl) y
/-- What point `t` leaves in output 9's staging buffer. -/
def left9 (c : Dev nD) (t : Fin cfg0.N) (xs : Vec F S8x1536 .f32) : Vec F S512x1536 .f32 :=
  vw9.read (Elt F) (vw9.writes (Elt F) vw9.junk (at_ m c t xs).2.2.2.2.2.1)

theorem fullR (c : Dev nD) (t : Fin cfg0.N) (xs : Vec F S8x1536 .f32) (y : S8x1536.Idx) :
    ∃ pc : View.Piece (Elt F) S8x1536 .f32, pc ∈ (at_ m c t xs).2.2.2.2.2.2.1 ∧ y ∈ pc.1.set :=
  View.cover_of_tiledL (at_ m c t xs).2.2.2.2.2.2.1 S8x1536.size (by sl_kernel_rfl) y
/-- What point `t` leaves in the carried rows. -/
def leftR (c : Dev nD) (t : Fin cfg0.N) (xs : Vec F S8x1536 .f32) : Vec F S8x1536 .f32 :=
  vwR.read (Elt F) (vwR.writes (Elt F) vwR.junk (at_ m c t xs).2.2.2.2.2.2.1)

/-! ## The contents in the body's own payloads -/

/-- The columns of the weights for the convolved channels, -/
def wMid (c : Dev nD) (t : Fin cfg0.N) : Vec F S1024x1536 .bf16 :=
  View.ld (iblk m c 2 t) (Rect.unit (s := S1024x3456) ![0, 512] ![1024, 1536] inb_S1024x3456_S1024x1536_0_512)
/-- for the first output, -/
def wLow (c : Dev nD) (t : Fin cfg0.N) : Vec F S1024x512 .bf16 :=
  View.ld (iblk m c 2 t) (Rect.unit (s := S1024x3456) ![0, 0] ![1024, 512] inb_S1024x3456_S1024x512_0_0)
/-- and for the remaining three. -/
def wTop (c : Dev nD) (t : Fin cfg0.N) : Vec F S1024x1408 .bf16 :=
  View.ld (iblk m c 2 t) (Rect.unit (s := S1024x3456) ![0, 2048] ![1024, 1408] inb_S1024x3456_S1024x1408_0_2048)
/-- The point's product for the convolved channels. -/
def prod (c : Dev nD) (t : Fin cfg0.N) : FVec F S512x1536 .f32 :=
  k0_pay3 (iblk m c 0 t) (iblk m c 1 t) (wMid m c t)
/-- The normalised rows. -/
def rowsN (c : Dev nD) (t : Fin cfg0.N) : FVec F S512x1024 .bf16 := k0_pay2 (iblk m c 0 t) (iblk m c 1 t)
/-- The product with the eight rows before it (zero at the start of a sequence, else the rows found). -/
def ext (c : Dev nD) (t : Fin cfg0.N) (xs : Vec F S8x1536 .f32) : FVec F S520x1536 .f32 :=
  k0_pay4 (grid0.coords t) (iblk m c 0 t) (iblk m c 1 t) (wMid m c t) xs
/-- The four taps of the convolution. -/
def tap0 (c : Dev nD) (t : Fin cfg0.N) : Vec F S1x1536 .f32 :=
  View.ld (iblk m c 3 t) (Rect.unit (s := S8x1536) ![0, 0] ![1, 1536] inb_S8x1536_S1x1536_0_0)
def tap1 (c : Dev nD) (t : Fin cfg0.N) : Vec F S1x1536 .f32 :=
  View.ld (iblk m c 3 t) (Rect.unit (s := S8x1536) ![1, 0] ![1, 1536] inb_S8x1536_S1x1536_1_0)
def tap2 (c : Dev nD) (t : Fin cfg0.N) : Vec F S1x1536 .f32 :=
  View.ld (iblk m c 3 t) (Rect.unit (s := S8x1536) ![2, 0] ![1, 1536] inb_S8x1536_S1x1536_2_0)
def tap3 (c : Dev nD) (t : Fin cfg0.N) : Vec F S1x1536 .f32 :=
  View.ld (iblk m c 3 t) (Rect.unit (s := S8x1536) ![3, 0] ![1, 1536] inb_S8x1536_S1x1536_3_0)
/-- The convolved and gated channels. -/
def act (c : Dev nD) (t : Fin cfg0.N) (xs : Vec F S8x1536 .f32) : FVec F S512x1536 .f32 :=
  k0_pay5 (ext m c t xs) 3#32 (tap0 m c t) (tap1 m c t) (tap2 m c t) (tap3 m c t)
/-- The block of the last output. -/
def heads (c : Dev nD) (t : Fin cfg0.N) (xs : Vec F S8x1536 .f32) : FVec F S512x1536 .f32 :=
  k0_pay16 (act m c t xs)
    (k0_pay6 (ext m c t xs) 3#32 (tap0 m c t) (tap1 m c t) (tap2 m c t) (tap3 m c t))
    (k0_pay9 (k0_pay7 (ext m c t xs) 3#32 (tap0 m c t) (tap1 m c t) (tap2 m c t) (tap3 m c t))
      (k0_pay8 (ext m c t xs) 3#32 (tap0 m c t) (tap1 m c t) (tap2 m c t) (tap3 m c t)))
    (k0_pay10 (act m c t xs)) (k0_pay11 (act m c t xs)) (k0_pay12 (act m c t xs))
    (k0_pay13 (act m c t xs)) (k0_pay14 (act m c t xs)) (k0_pay15 (act m c t xs))
/-- The rows a point carries on: the last eight of its product. -/
def tail (c : Dev nD) (t : Fin cfg0.N) : Vec F S8x1536 .f32 := k0_pay17 (prod m c t)

theorem left4_eq (c : Dev nD) (t : Fin cfg0.N) (xs : Vec F S8x1536 .f32) : left4 m c t xs = k0_pay18 (rowsN m c t) (wLow m c t) := by
  unfold left4 at_ rowsN wLow
  frame_out
  rfl
theorem left5_eq (c : Dev nD) (t : Fin cfg0.N) (xs : Vec F S8x1536 .f32) : left5 m c t xs = prod m c t := by
  unfold left5 at_ prod wMid
  frame_out
  rfl
theorem left6_eq (c : Dev nD) (t : Fin cfg0.N) (xs : Vec F S8x1536 .f32) : left6 m c t xs = k0_pay20 (rowsN m c t) (wTop m c t) := by
  unfold left6 at_ rowsN wTop
  frame_out
  rfl
theorem left7_eq (c : Dev nD) (t : Fin cfg0.N) (xs : Vec F S8x1536 .f32) : left7 m c t xs = k0_pay21 (rowsN m c t) (wTop m c t) := by
  unfold left7 at_ rowsN wTop
  frame_out
  rfl
theorem left8_eq (c : Dev nD) (t : Fin cfg0.N) (xs : Vec F S8x1536 .f32) : left8 m c t xs = k0_pay1 (k0_pay19 (rowsN m c t) (wTop m c t)) := by
  unfold left8 at_ rowsN wTop
  frame_out
  rfl
theorem leftR_eq (c : Dev nD) (t : Fin cfg0.N) (xs : Vec F S8x1536 .f32) : leftR m c t xs = tail m c t := by
  unfold leftR at_ tail prod wMid
  frame_out
  rfl
theorem read_rows (xs : Vec F S8x1536 .f32) :
    View.read (Elt F) (View.whole cc0_scratch0) ((Memref.isWhole_whole (cc0_scratch0 : Ref sig .tc) : rows.IsWhole).unread xs) = xs :=
  (Memref.isWhole_whole (cc0_scratch0 : Ref sig .tc) : rows.IsWhole).read_unread xs
theorem left9_eq (c : Dev nD) (t : Fin cfg0.N) (xs : Vec F S8x1536 .f32) : left9 m c t xs = heads m c t xs := by
  unfold left9 at_ heads act ext wMid tap0 tap1 tap2 tap3
  frame_out
  try rw [read_rows]
  rfl

/-! ## The rows found -/

/-- Whether a point is the first of its sequence, as the body computes it. -/
def isFirst (t : Fin cfg0.N) : BitVec 1 :=
  let r := Scalar.remsi (BitVec.ofNat 32 (grid0.coords t 0).val) (Scalar.select (Scalar.cmpi .eq 8#32 0#32) 1#32 8#32)
  Scalar.cmpi .eq (Scalar.select (Scalar.andi (Scalar.xori (Scalar.cmpi .slt r 0#32) (Scalar.cmpi .slt (Scalar.select (Scalar.cmpi .eq 8#32 0#32) 1#32 8#32) 0#32)) (Scalar.cmpi .ne r 0#32))
    (Scalar.addi r (Scalar.select (Scalar.cmpi .eq 8#32 0#32) 1#32 8#32)) r) 0#32

theorem isFirst_eq : ∀ t : Fin cfg0.N, isFirst t = if t.val % 8 = 0 then 1#1 else 0#1 :=
  (by decide +kernel : ∀ t : Fin grid0.N, _)

theorem ext_eq (c : Dev nD) (t : Fin cfg0.N) (xs : Vec F S8x1536 .f32) :
    ext m c t xs = concatenate S520x1536 0 [⟨S8x1536, Scalar.select (isFirst t) (broadcast S8x1536 (Scalar.ofBits .f32 0x00000000#32) : FVec F S8x1536 .f32) xs⟩, ⟨S512x1536, prod m c t⟩]
      concatenates_S8x1536_S512x1536_S520x1536_d0 := rfl

/-- At the start of a sequence the rows found do not matter. -/
theorem ext_first (c : Dev nD) (t : Fin cfg0.N) (ht : t.val % 8 = 0) (xs ys : Vec F S8x1536 .f32) :
    ext m c t xs = ext m c t ys := by
  rw [ext_eq, ext_eq, isFirst_eq, if_pos ht]
  rfl

theorem heads_first (c : Dev nD) (t : Fin cfg0.N) (ht : t.val % 8 = 0) (xs ys : Vec F S8x1536 .f32) :
    heads m c t xs = heads m c t ys := by
  unfold heads act
  rw [ext_first m c t ht xs ys]

/-- What a point finds in the carried rows; at the very first point anything will do. -/
def found (c : Dev nD) (t : Fin cfg0.N) : Vec F S8x1536 .f32 :=
  if h : t.val = 0 then tail m c t else tail m c ⟨t.val - 1, Nat.lt_of_le_of_lt (Nat.sub_le _ _) t.isLt⟩

/-- The invariant before position `n`: at the start the carried rows hold anything, afterwards the last rows of the
    point before. -/
def inv (c : Dev nD) : (n : ℕ) → n ≤ cfg0.N → sProp 𝕄
  | 0, _ => Pipeline.ΦA spec0 c
  | n + 1, hn => iprop(iprop(owns (c : Thread nD τ) rows fullShare (tail m c ⟨n, hn⟩)) ∗ (∃ r, prngReg c r))

theorem inv_zero (c : Dev nD) (n : ℕ) (h : n ≤ cfg0.N) (hz : n = 0) : inv m c n h = Pipeline.ΦA spec0 c := by
  subst hz; rfl
theorem inv_succ (c : Dev nD) (n : ℕ) (hn : n < cfg0.N) :
    inv m c (n + 1) hn = iprop(iprop(owns (c : Thread nD τ) rows fullShare (tail m c ⟨n, hn⟩)) ∗ (∃ r, prngReg c r)) := rfl
theorem inv_pos (c : Dev nD) (t : Fin cfg0.N) (hz : t.val ≠ 0) :
    inv m c t.val (Nat.le_of_lt t.isLt) = iprop(iprop(owns (c : Thread nD τ) rows fullShare (found m c t)) ∗ (∃ r, prngReg c r)) := by
  obtain ⟨n, hn⟩ := t
  cases n with
  | zero => exact absurd rfl hz
  | succ n => unfold found; rw [dif_neg (by exact Nat.succ_ne_zero n)]; rfl
theorem inv_any (c : Dev nD) (n : ℕ) (h : n ≤ cfg0.N) (hz : n ≠ 0) : inv m c n h ⊢ Pipeline.ΦA spec0 c := by
  cases n with
  | zero => exact absurd rfl hz
  | succ n =>
    rw [inv_succ, start_eq]
    iintro ⟨HS0, Hg⟩
    isplitl [HS0]
    · iexists _; iexact HS0
    iexact Hg

/-! ## The loop's proof data -/

/-- The arrays as the loop finds them; after a point each input's buffer at its block, each output's at its payload. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay18 (rowsN m c t) (wLow m c t)
    | ⟨5, _⟩ => prod m c t
    | ⟨6, _⟩ => k0_pay20 (rowsN m c t) (wTop m c t)
    | ⟨7, _⟩ => k0_pay21 (rowsN m c t) (wTop m c t)
    | ⟨8, _⟩ => k0_pay1 (k0_pay19 (rowsN m c t) (wTop m c t))
    | ⟨9, _⟩ => heads m c t (found m c t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; exact Pipeline.Dat.Φ_castSucc (inv m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay18 (rowsN m c t) (wLow m c t) := by dsimp only [dats]
theorem after5 (c : Dev nD) (t : Fin cfg0.N) : (dats m 0 c).after 5 t = prod m c t := by dsimp only [dats]
theorem after6 (c : Dev nD) (t : Fin cfg0.N) : (dats m 0 c).after 6 t = k0_pay20 (rowsN m c t) (wTop m c t) := by dsimp only [dats]
theorem after7 (c : Dev nD) (t : Fin cfg0.N) : (dats m 0 c).after 7 t = k0_pay21 (rowsN m c t) (wTop m c t) := by dsimp only [dats]
theorem after8 (c : Dev nD) (t : Fin cfg0.N) : (dats m 0 c).after 8 t = k0_pay1 (k0_pay19 (rowsN m c t) (wTop m c t)) := by dsimp only [dats]
theorem after9 (c : Dev nD) (t : Fin cfg0.N) : (dats m 0 c).after 9 t = heads m c t (found m c t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a generic point -/

/-- What the body is called with besides the invariant, -/
def given (c : Dev nD) (t : Fin cfg0.N) : sProp 𝕄 :=
  iprop((dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d)))

/-- and what it returns. -/
def returned (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t))

set_option maxHeartbeats 6400000 in
/-- The body from any contents of the carried rows that give the stated block of the last output. -/
theorem sound_from (c : Dev nD) (t : Fin cfg0.N) (xs : Vec F S8x1536 .f32) (hx : heads m c t (found m c t) = heads m c t xs) :
    iprop(iprop(owns (c : Thread nD τ) rows fullShare xs ∗ (∃ r, prngReg c r)) ∗ given m c t)
      ⊢ wp frame (wpE (defs₀ (F := F)) Variants.none c none) Set.univ (bodyAt0 t) (fun _ => returned m c t) := by
  unfold given returned bodyAt0
  simp only [before0, before1, before2, before3]
  rw [show (dats m 0 c).owesAt () t.succ = (dats m 0 c).owesAt () t.castSucc from rfl,
    after0, after1, after2, after3, after4, after5, after6, after7, after8, after9, hx]
  rw [show (dats m 0 c).Φ t.succ = inv m c (t.val + 1) t.isLt from rfl, inv_succ]
  rw [← left4_eq m c t xs, ← left5_eq m c t xs, ← left6_eq m c t xs, ← left7_eq m c t xs, ← left8_eq m c t xs, ← left9_eq m c t xs]
  rw [show tail m c ⟨t.val, t.isLt⟩ = leftR m c t xs from (leftR_eq m c t xs).symm]
  unfold left4 left5 left6 left7 left8 left9 leftR
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((at_ m c t xs).2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, ⟨%e4, H4⟩, ⟨%e5, H5⟩, ⟨%e6, H6⟩, ⟨%e7, H7⟩, ⟨%e8, H8⟩, ⟨%e9, H9⟩, ⟨%es0, HS0⟩⟩
  isplitl [HS0 Hg]
  · isplitl [HS0]
    · unfold owns; iexists _; isplitr
      swap; · iexact HS0
      ipureintro; exact View.read_writes_of_cover _ _ _ _ _ (fullR m c t xs)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (full4 m c t xs)
  isplitl [H5]
  · unfold owns; iexists _; isplitr
    swap; · iexact H5
    ipureintro; exact View.read_writes_of_cover _ _ _ _ _ (full5 m c t xs)
  isplitl [H6]
  · unfold owns; iexists _; isplitr
    swap; · iexact H6
    ipureintro; exact View.read_writes_of_cover _ _ _ _ _ (full6 m c t xs)
  isplitl [H7]
  · unfold owns; iexists _; isplitr
    swap; · iexact H7
    ipureintro; exact View.read_writes_of_cover _ _ _ _ _ (full7 m c t xs)
  isplitl [H8]
  · unfold owns; iexists _; isplitr
    swap; · iexact H8
    ipureintro; exact View.read_writes_of_cover _ _ _ _ _ (full8 m c t xs)
  unfold owns; iexists _; isplitr
  swap; · iexact H9
  ipureintro; exact View.read_writes_of_cover _ _ _ _ _ (full9 m c t xs)

/-- The body at any point: at the first the carried rows hold anything, and do not matter; afterwards they hold the
    last rows of the point before. -/
theorem sound_body (c : Dev nD) (t : Fin cfg0.N) :
    iprop((dats m 0 c).Φ t.castSucc ∗ given m c t)
      ⊢ wp frame (wpE (defs₀ (F := F)) Variants.none c none) Set.univ (bodyAt0 t) (fun _ => returned m c t) := by
  rw [inv_castSucc]
  by_cases hz : t.val = 0
  · rw [inv_zero m c _ _ hz, start_eq]
    iintro ⟨⟨⟨%d, HS0⟩, Hg⟩, Hr⟩
    iapply (sound_from m c t d (heads_first m c t (by rw [hz]) _ _))
    isplitl [HS0 Hg]
    · isplitl [HS0]; · iexact HS0
      iexact Hg
    iexact Hr
  · rw [inv_pos m c t hz]
    exact sound_from m c t _ rfl

theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl]
  exact inv_any m c _ _ (by rw [Fin.val_last]; have : cfg0.N = 16 := N_0; omega)

/-! ## The run and the frame -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- Every run of the program ends with the arrays at what the loop's proof data says. -/
theorem run_main : θ_run defs (onTc (τ := τ) (main (F := F))) (s₀ m ρ) (Pipeline.FramePost cfgs (dats m) 0 (V m)) :=
  (θ_run defs _ _).mono (fun _ h => h.1) (run_quiet m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- Every run ends, leaves the arguments as they were and no signal behind. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_quiet m ρ))

end Cert.ProjIdeal.Body

end
-- ==== Proof.ProjBlk.lean ====
/-
  The blocks the projection kernel reads, its products, and the rows before each block, in terms of the reference.
-/
module

public import proofs.«01_k».proof.Proof.Gen.ProjIdeal.Frame
public import proofs.«01_k».proof.Proof.Gen.ProjRefIdeal.Read
public import proofs.«01_k».proof.Proof.ProjFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ProjIdeal.Blk

open Cert.ProjIdeal Cert.ProjIdeal.Gen Cert.ProjRefIdeal.Read Cert.ProjIdeal.Body

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

theorem blk_0 (c : Dev nD) (t : Fin cfg0.N) (l : Fin 512) (hl : t.val * 512 + l.val < 8192) (k : Fin 1024) :
    iblk m c 0 t (ix2 l k) = (m ((c : Thread nD τ).loc main_arg0) : FVec Ideal S8192x1024 .f32) (ix2 ⟨t.val * 512 + l.val, hl⟩ k) := by
  blk_point [iblk, V, idx t]

theorem blk_1 (c : Dev nD) (t : Fin cfg0.N) (k : Fin 1024) :
    iblk m c 1 t (ix2 0 k) = (m ((c : Thread nD τ).loc main_arg1) : FVec Ideal S1024 .f32) (ix1 k) := by
  refine Eq.trans (b := V m c main_v0 (ix2 0 k)) ?_ ?_
  · blk_point [iblk, idx t]
  · simp only [V, hostOps0, hostOps0_1, List.flatten_cons, List.flatten_nil, List.append_nil, List.cons_append, List.nil_append]
    entry_read
    pointwise

theorem blk_2 (c : Dev nD) (t : Fin cfg0.N) (a : Fin 1024) (k : Fin 3456) :
    iblk m c 2 t (ix2 a k) = (m ((c : Thread nD τ).loc main_arg2) : FVec Ideal S1024x3456 .f32) (ix2 a k) := by
  refine Eq.trans (b := V m c main_v1 (ix2 a k)) ?_ ?_
  · blk_point [iblk, idx t]
  · simp only [V, hostOps0, hostOps0_1, List.flatten_cons, List.flatten_nil, List.append_nil, List.cons_append, List.nil_append]
    entry_read
    pointwise

theorem blk_3 (c : Dev nD) (t : Fin cfg0.N) (j : Fin 8) (hj : j.val < 4) (k : Fin 1536) :
    iblk m c 3 t (ix2 j k) = (m ((c : Thread nD τ).loc main_arg3) : FVec Ideal S4x1536 .f32) (ix2 ⟨j.val, hj⟩ k) := by
  refine Eq.trans (b := V m c main_v2 (ix2 j k)) ?_ ?_
  · blk_point [iblk, idx t]
  · simp only [V, hostOps0, hostOps0_1, List.flatten_cons, List.flatten_nil, List.append_nil, List.cons_append, List.nil_append]
    entry_read
    simp -implicitDefEqProofs only [StableHlo.TRef.toBuf, StableHlo.TRef.ofBuf, cast_cast, cast_eq]
    pointwise
    simp (disch := omega) only [dif_pos, dif_neg]

/-- The normalised rows are the reference's. -/
theorem rows_eq (c : Dev nD) (t : Fin cfg0.N) (l : Fin 512) (b : Fin 2) (s : Fin 4096) (h : b.val * 4096 + s.val = t.val * 512 + l.val) (k : Fin 1024) :
    rowsN m c t (ix2 l k) = (val_main_v13 (F := Ideal) (m ((c : Thread nD τ).loc main_arg0)) (m ((c : Thread nD τ).loc main_arg1))) (ix3 b s k) := by
  have hl : t.val * 512 + l.val < 8192 := by have := b.isLt; have := s.isLt; omega
  unfold rowsN
  pointwise [k0_pay2, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [blk_0 m c t l hl, blk_1 m c t, h]

/-- A product's columns are the reference's. -/
theorem prod_eq (c : Dev nD) (t : Fin cfg0.N) (l : Fin 512) (b : Fin 2) (s : Fin 4096) (h : b.val * 4096 + s.val = t.val * 512 + l.val) (q : Fin 1536) :
    prod m c t (ix2 l q) = (val_main_v16 (F := Ideal) (m ((c : Thread nD τ).loc main_arg0)) (m ((c : Thread nD τ).loc main_arg1)) (m ((c : Thread nD τ).loc main_arg2))) (ix3 b s q) := by
  unfold prod wMid
  have hr := fun k => rows_eq m c t l b s h k
  unfold rowsN at hr
  unfold k0_pay3
  generalize k0_pay2 (iblk m c 0 t) (iblk m c 1 t) = N at hr ⊢
  pointwise [val_main_v16, val_main_v14]
  simp only [hr, blk_2 m c t]

/-- A product's columns are the reference's. -/
theorem low_eq (c : Dev nD) (t : Fin cfg0.N) (l : Fin 512) (b : Fin 2) (s : Fin 4096) (h : b.val * 4096 + s.val = t.val * 512 + l.val) (q : Fin 512) :
    k0_pay18 (rowsN m c t) (wLow m c t) (ix2 l q) = (val_main_v15 (F := Ideal) (m ((c : Thread nD τ).loc main_arg0)) (m ((c : Thread nD τ).loc main_arg1)) (m ((c : Thread nD τ).loc main_arg2))) (ix3 b s q) := by
  unfold wLow
  have hr := fun k => rows_eq m c t l b s h k
  generalize rowsN m c t = N at hr ⊢
  pointwise [k0_pay18, val_main_v15, val_main_v14]
  simp only [hr, blk_2 m c t]

/-- A product's columns are the reference's. -/
theorem gate_eq (c : Dev nD) (t : Fin cfg0.N) (l : Fin 512) (b : Fin 2) (s : Fin 4096) (h : b.val * 4096 + s.val = t.val * 512 + l.val) (q : Fin 512) :
    k0_pay20 (rowsN m c t) (wTop m c t) (ix2 l q) = (val_main_v17 (F := Ideal) (m ((c : Thread nD τ).loc main_arg0)) (m ((c : Thread nD τ).loc main_arg1)) (m ((c : Thread nD τ).loc main_arg2))) (ix3 b s q) := by
  unfold wTop
  have hr := fun k => rows_eq m c t l b s h k
  generalize rowsN m c t = N at hr ⊢
  pointwise [k0_pay20, k0_pay19, val_main_v17, val_main_v14]
  simp only [hr, blk_2 m c t]

/-- A product's columns are the reference's. -/
theorem side_eq (c : Dev nD) (t : Fin cfg0.N) (l : Fin 512) (b : Fin 2) (s : Fin 4096) (h : b.val * 4096 + s.val = t.val * 512 + l.val) (q : Fin 768) :
    k0_pay21 (rowsN m c t) (wTop m c t) (ix2 l q) = (val_main_v18 (F := Ideal) (m ((c : Thread nD τ).loc main_arg0)) (m ((c : Thread nD τ).loc main_arg1)) (m ((c : Thread nD τ).loc main_arg2))) (ix3 b s q) := by
  unfold wTop
  have hr := fun k => rows_eq m c t l b s h k
  generalize rowsN m c t = N at hr ⊢
  pointwise [k0_pay21, k0_pay19, val_main_v18, val_main_v14]
  simp only [hr, blk_2 m c t, fun x : Fin 768 => (by omega : 2048 + (512 + x.val) = 2560 + x.val)]

/-- A product's columns are the reference's. -/
theorem last_eq (c : Dev nD) (t : Fin cfg0.N) (l : Fin 512) (b : Fin 2) (s : Fin 4096) (h : b.val * 4096 + s.val = t.val * 512 + l.val) (q : Fin 128) :
    k0_pay1 (k0_pay19 (rowsN m c t) (wTop m c t)) (ix2 l q) = (val_main_v19 (F := Ideal) (m ((c : Thread nD τ).loc main_arg0)) (m ((c : Thread nD τ).loc main_arg1)) (m ((c : Thread nD τ).loc main_arg2))) (ix3 b s q) := by
  unfold wTop
  have hr := fun k => rows_eq m c t l b s h k
  generalize rowsN m c t = N at hr ⊢
  pointwise [k0_pay1, k0_pay19, val_main_v19, val_main_v14]
  simp only [hr, blk_2 m c t, fun x : Fin 128 => (by omega : 2048 + (1280 + x.val) = 3328 + x.val)]

/-- Before a sequence's first token the extended block is zero. -/
theorem ext_lo (c : Dev nD) (t : Fin cfg0.N) (ht : t.val % 8 = 0) (xs : Vec Ideal S8x1536 .f32) (i : Fin 520) (hi : i.val < 8) (q : Fin 1536) :
    ext m c t xs (ix2 i q) = 0 := by
  rw [ext_eq, isFirst_eq, if_pos ht]
  rw [show ∀ (a b : FVec Ideal S8x1536 .f32), Scalar.select 1#1 a b = a from fun _ _ => rfl]
  pointwise []
  rw [dif_pos (by omega)]

/-- Within the sequence it is the reference's middle columns: the rows found are the last of the block before. -/
theorem ext_row (c : Dev nD) (t : Fin cfg0.N) (i : Fin 520) (b : Fin 2) (s : Fin 4096) (h : b.val * 4096 + s.val + 8 = t.val * 512 + i.val)
    (hlo : t.val % 8 ≠ 0 ∨ 8 ≤ i.val) (q : Fin 1536) :
    ext m c t (found m c t) (ix2 i q) = (val_main_v16 (F := Ideal) (m ((c : Thread nD τ).loc main_arg0)) (m ((c : Thread nD τ).loc main_arg1)) (m ((c : Thread nD τ).loc main_arg2))) (ix3 b s q) := by
  have hil := i.isLt
  rw [ext_eq]
  by_cases h8 : i.val < 8
  · have hne : t.val ≠ 0 := by intro h0; rw [h0] at hlo; omega
    rw [isFirst_eq, if_neg (by omega)]
    rw [show ∀ (a b : FVec Ideal S8x1536 .f32), Scalar.select 0#1 a b = b from fun _ _ => rfl]
    unfold found
    rw [dif_neg hne]
    have hp := prod_eq m c ⟨t.val - 1, Nat.lt_of_le_of_lt (Nat.sub_le _ _) t.isLt⟩ ⟨504 + i.val, by omega⟩ b s (by simp only []; omega) q
    unfold tail
    generalize prod m c ⟨t.val - 1, Nat.lt_of_le_of_lt (Nat.sub_le _ _) t.isLt⟩ = P at hp ⊢
    rw [← hp]
    pointwise [k0_pay17]
    simp (disch := omega) only [dif_pos]
  · have hp := prod_eq m c t ⟨i.val - 8, by omega⟩ b s (by simp only []; omega) q
    generalize prod m c t = P at hp ⊢
    rw [← hp]
    pointwise []
    simp (disch := omega) only [dif_pos, dif_neg]

theorem tap0_eq (c : Dev nD) (t : Fin cfg0.N) (q : Fin 1536) :
    tap0 m c t (ix2 0 q) = (m ((c : Thread nD τ).loc main_arg3) : FVec Ideal S4x1536 .f32) (ix2 0 q) := by
  unfold tap0
  pointwise []
  exact blk_3 m c t (0 : Fin 8) (by decide) q

theorem tap1_eq (c : Dev nD) (t : Fin cfg0.N) (q : Fin 1536) :
    tap1 m c t (ix2 0 q) = (m ((c : Thread nD τ).loc main_arg3) : FVec Ideal S4x1536 .f32) (ix2 1 q) := by
  unfold tap1
  pointwise []
  exact blk_3 m c t (1 : Fin 8) (by decide) q

theorem tap2_eq (c : Dev nD) (t : Fin cfg0.N) (q : Fin 1536) :
    tap2 m c t (ix2 0 q) = (m ((c : Thread nD τ).loc main_arg3) : FVec Ideal S4x1536 .f32) (ix2 2 q) := by
  unfold tap2
  pointwise []
  exact blk_3 m c t (2 : Fin 8) (by decide) q

theorem tap3_eq (c : Dev nD) (t : Fin cfg0.N) (q : Fin 1536) :
    tap3 m c t (ix2 0 q) = (m ((c : Thread nD τ).loc main_arg3) : FVec Ideal S4x1536 .f32) (ix2 3 q) := by
  unfold tap3
  pointwise []
  exact blk_3 m c t (3 : Fin 8) (by decide) q

/-- The rows 0 before a block's are the reference's columns moved by 0 tokens. -/
theorem sh_0 (c : Dev nD) (t : Fin cfg0.N) (l : Fin 512) (b : Fin 2) (s : Fin 4096) (h : b.val * 4096 + s.val = t.val * 512 + l.val) (q : Fin 1536) :
    ext m c t (found m c t) (ix2 ⟨8 + l.val, by have := l.isLt; omega⟩ q) = (val_main_v51 (F := Ideal) (m ((c : Thread nD τ).loc main_arg0)) (m ((c : Thread nD τ).loc main_arg1)) (m ((c : Thread nD τ).loc main_arg2))) (ix3 b s q) := by
  have hr := l.isLt
  have hb := b.isLt
  have hs := s.isLt
  have ht : t.val < 16 := lt_of_lt_of_eq t.isLt N_0
  rw [ext_row m c t _ b s (by simp only []; omega) (by simp only []; omega) q]
  pointwise [val_main_v51, val_main_v26]

/-- The rows 1 before a block's are the reference's columns moved by 1 tokens. -/
theorem sh_1 (c : Dev nD) (t : Fin cfg0.N) (l : Fin 512) (b : Fin 2) (s : Fin 4096) (h : b.val * 4096 + s.val = t.val * 512 + l.val) (q : Fin 1536) :
    ext m c t (found m c t) (ix2 ⟨7 + l.val, by have := l.isLt; omega⟩ q) = (val_main_v44 (F := Ideal) (m ((c : Thread nD τ).loc main_arg0)) (m ((c : Thread nD τ).loc main_arg1)) (m ((c : Thread nD τ).loc main_arg2))) (ix3 b s q) := by
  have hr := l.isLt
  have hb := b.isLt
  have hs := s.isLt
  have ht : t.val < 16 := lt_of_lt_of_eq t.isLt N_0
  by_cases hd : s.val < 1
  · rw [ext_lo m c t (by omega) _ _ (by simp only []; omega) q]
    pointwise [val_main_v44, val_main_v26, val_main_v25, val_main_cst_2]
    simp (disch := omega) only [dif_pos, dif_neg]
  · rw [ext_row m c t _ b ⟨s.val - 1, by omega⟩ (by simp only []; omega) (by simp only []; omega) q]
    pointwise [val_main_v44, val_main_v26]
    have e : 2 + s.val - 3 = s.val - 1 := by omega
    simp (disch := omega) only [dif_pos, dif_neg, e]

/-- The rows 2 before a block's are the reference's columns moved by 2 tokens. -/
theorem sh_2 (c : Dev nD) (t : Fin cfg0.N) (l : Fin 512) (b : Fin 2) (s : Fin 4096) (h : b.val * 4096 + s.val = t.val * 512 + l.val) (q : Fin 1536) :
    ext m c t (found m c t) (ix2 ⟨6 + l.val, by have := l.isLt; omega⟩ q) = (val_main_v37 (F := Ideal) (m ((c : Thread nD τ).loc main_arg0)) (m ((c : Thread nD τ).loc main_arg1)) (m ((c : Thread nD τ).loc main_arg2))) (ix3 b s q) := by
  have hr := l.isLt
  have hb := b.isLt
  have hs := s.isLt
  have ht : t.val < 16 := lt_of_lt_of_eq t.isLt N_0
  by_cases hd : s.val < 2
  · rw [ext_lo m c t (by omega) _ _ (by simp only []; omega) q]
    pointwise [val_main_v37, val_main_v26, val_main_v25, val_main_cst_2]
    simp (disch := omega) only [dif_pos, dif_neg]
  · rw [ext_row m c t _ b ⟨s.val - 2, by omega⟩ (by simp only []; omega) (by simp only []; omega) q]
    pointwise [val_main_v37, val_main_v26]
    have e : 1 + s.val - 3 = s.val - 2 := by omega
    simp (disch := omega) only [dif_pos, dif_neg, e]

/-- The rows 3 before a block's are the reference's columns moved by 3 tokens. -/
theorem sh_3 (c : Dev nD) (t : Fin cfg0.N) (l : Fin 512) (b : Fin 2) (s : Fin 4096) (h : b.val * 4096 + s.val = t.val * 512 + l.val) (q : Fin 1536) :
    ext m c t (found m c t) (ix2 ⟨5 + l.val, by have := l.isLt; omega⟩ q) = (val_main_v29 (F := Ideal) (m ((c : Thread nD τ).loc main_arg0)) (m ((c : Thread nD τ).loc main_arg1)) (m ((c : Thread nD τ).loc main_arg2))) (ix3 b s q) := by
  have hr := l.isLt
  have hb := b.isLt
  have hs := s.isLt
  have ht : t.val < 16 := lt_of_lt_of_eq t.isLt N_0
  by_cases hd : s.val < 3
  · rw [ext_lo m c t (by omega) _ _ (by simp only []; omega) q]
    pointwise [val_main_v29, val_main_v26, val_main_v25, val_main_cst_2]
    simp (disch := omega) only [dif_pos, dif_neg]
  · rw [ext_row m c t _ b ⟨s.val - 3, by omega⟩ (by simp only []; omega) (by simp only []; omega) q]
    pointwise [val_main_v29, val_main_v26]
    have e : 0 + s.val - 3 = s.val - 3 := by omega
    simp (disch := omega) only [dif_pos, dif_neg, e]

/-- The convolution over an extended block, gated, at a row. -/
theorem conv_at (E : FVec Ideal S520x1536 .f32) (w0 w1 w2 w3 : Vec Ideal S1x1536 .f32) (l : Fin 512) (q : Fin 1536) (z : EReal)
    (hz : z = ((w0 (ix2 0 q) * E (ix2 ⟨5 + l.val, by have := l.isLt; omega⟩ q) + w1 (ix2 0 q) * E (ix2 ⟨6 + l.val, by have := l.isLt; omega⟩ q))
      + w2 (ix2 0 q) * E (ix2 ⟨7 + l.val, by have := l.isLt; omega⟩ q)) + w3 (ix2 0 q) * E (ix2 ⟨8 + l.val, by have := l.isLt; omega⟩ q)) :
    k0_pay5 E 3#32 w0 w1 w2 w3 (ix2 l q) = z * Ideal.logistic z := by
  have hl := l.isLt
  pointwise [k0_pay5]
  have e3 : (8 + l.val + 520 - 3) % 520 = 5 + l.val := by omega
  have e2 : (8 + l.val + 520 - 2) % 520 = 6 + l.val := by omega
  have e1 : (8 + l.val + 520 - 1) % 520 = 7 + l.val := by omega
  simp only [e3, e2, e1]
  rw [hz]

/-- A product of two extended reals. -/
def times (x y : EReal) : EReal := x * y

/-- The reference's convolution at a token. -/
theorem conv_ref (c : Dev nD) (b : Fin 2) (s : Fin 4096) (q : Fin 1536) :
    (val_main_v55 (F := Ideal) (m ((c : Thread nD τ).loc main_arg0)) (m ((c : Thread nD τ).loc main_arg1)) (m ((c : Thread nD τ).loc main_arg2)) (m ((c : Thread nD τ).loc main_arg3))) (ix3 b s q)
      = ((times ((m ((c : Thread nD τ).loc main_arg3) : FVec Ideal S4x1536 .f32) (ix2 0 q)) ((val_main_v29 (F := Ideal) (m ((c : Thread nD τ).loc main_arg0)) (m ((c : Thread nD τ).loc main_arg1)) (m ((c : Thread nD τ).loc main_arg2))) (ix3 b s q)) + times ((m ((c : Thread nD τ).loc main_arg3) : FVec Ideal S4x1536 .f32) (ix2 1 q)) ((val_main_v37 (F := Ideal) (m ((c : Thread nD τ).loc main_arg0)) (m ((c : Thread nD τ).loc main_arg1)) (m ((c : Thread nD τ).loc main_arg2))) (ix3 b s q)))
        + times ((m ((c : Thread nD τ).loc main_arg3) : FVec Ideal S4x1536 .f32) (ix2 2 q)) ((val_main_v44 (F := Ideal) (m ((c : Thread nD τ).loc main_arg0)) (m ((c : Thread nD τ).loc main_arg1)) (m ((c : Thread nD τ).loc main_arg2))) (ix3 b s q))) + times ((m ((c : Thread nD τ).loc main_arg3) : FVec Ideal S4x1536 .f32) (ix2 3 q)) ((val_main_v51 (F := Ideal) (m ((c : Thread nD τ).loc main_arg0)) (m ((c : Thread nD τ).loc main_arg1)) (m ((c : Thread nD τ).loc main_arg2))) (ix3 b s q)) := by
  generalize hA : (val_main_v29 (F := Ideal) (m ((c : Thread nD τ).loc main_arg0)) (m ((c : Thread nD τ).loc main_arg1)) (m ((c : Thread nD τ).loc main_arg2))) = X0
  generalize hB : (val_main_v37 (F := Ideal) (m ((c : Thread nD τ).loc main_arg0)) (m ((c : Thread nD τ).loc main_arg1)) (m ((c : Thread nD τ).loc main_arg2))) = X1
  generalize hC : (val_main_v44 (F := Ideal) (m ((c : Thread nD τ).loc main_arg0)) (m ((c : Thread nD τ).loc main_arg1)) (m ((c : Thread nD τ).loc main_arg2))) = X2
  generalize hD : (val_main_v51 (F := Ideal) (m ((c : Thread nD τ).loc main_arg0)) (m ((c : Thread nD τ).loc main_arg1)) (m ((c : Thread nD τ).loc main_arg2))) = X3
  unfold val_main_v55 val_main_v54 val_main_v48 val_main_v47 val_main_v41 val_main_v40 val_main_v34 val_main_v32
  rw [hA, hB, hC, hD]
  unfold times
  pointwise [val_main_v33, val_main_cst_3, val_main_v31, val_main_v30, val_main_v28, val_main_v27, val_main_v39, val_main_v38, val_main_v36, val_main_v35, val_main_v46, val_main_v45, val_main_v43, val_main_v42, val_main_v53, val_main_v52, val_main_v50, val_main_v49]

/-- The gated channels are the reference's. -/
theorem act_eq (c : Dev nD) (t : Fin cfg0.N) (l : Fin 512) (b : Fin 2) (s : Fin 4096) (h : b.val * 4096 + s.val = t.val * 512 + l.val) (q : Fin 1536) :
    act m c t (found m c t) (ix2 l q) = (val_main_v56 (F := Ideal) (m ((c : Thread nD τ).loc main_arg0)) (m ((c : Thread nD τ).loc main_arg1)) (m ((c : Thread nD τ).loc main_arg2)) (m ((c : Thread nD τ).loc main_arg3))) (ix3 b s q) := by
  unfold act
  rw [conv_at _ _ _ _ _ l q ((val_main_v55 (F := Ideal) (m ((c : Thread nD τ).loc main_arg0)) (m ((c : Thread nD τ).loc main_arg1)) (m ((c : Thread nD τ).loc main_arg2)) (m ((c : Thread nD τ).loc main_arg3))) (ix3 b s q)) (by
    rw [tap0_eq, tap1_eq, tap2_eq, tap3_eq, sh_0 m c t l b s h q, sh_1 m c t l b s h q, sh_2 m c t l b s h q, sh_3 m c t l b s h q]
    exact conv_ref m c b s q)]
  unfold val_main_v56
  generalize hX : (val_main_v55 (F := Ideal) (m ((c : Thread nD τ).loc main_arg0)) (m ((c : Thread nD τ).loc main_arg1)) (m ((c : Thread nD τ).loc main_arg2)) (m ((c : Thread nD τ).loc main_arg3))) = X
  pointwise [val_main_call0_v5, val_main_call0_v4, val_main_call0_v3, val_main_call0_v2, val_main_call0_v1, val_main_call0_v0, val_main_call0_cst, val_main_call0_cst_0]
  simp only [Ideal.logistic, hX]

end Cert.ProjIdeal.Blk

end
-- ==== Proof.ProjHeads.lean ====
/-
  The heads of the projection kernel's last output, scaled to unit length, are the reference's.
-/
module

public import proofs.«01_k».proof.Proof.ProjBlk
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ProjIdeal.Heads

open Cert.ProjIdeal Cert.ProjIdeal.Gen Cert.ProjRefIdeal.Read Cert.ProjIdeal.Body Cert.ProjIdeal.Blk

variable (m : (ℓ : Loc nD τ sig) → Buf (Elt Ideal) ℓ)

theorem head_0 (c : Dev nD) (t : Fin cfg0.N) (l : Fin 512) (b : Fin 2) (s : Fin 4096) (h : b.val * 4096 + s.val = t.val * 512 + l.val) (e : Fin 128) :
    heads m c t (found m c t) (ix2 l ⟨0 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨0 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, x.val / 128 = 0 := fun x => by have := x.isLt; omega
  have f1 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v71 val_main_v70 val_main_v69 val_main_v68 val_main_v67 val_main_v66 val_main_v65 val_main_v64 val_main_v63 val_main_v62 val_main_v61 val_main_v60 val_main_v57
  rw [hB]
  pointwise [k0_pay16, k0_pay9, k0_pay10, k0_pay11, k0_pay12, k0_pay13, k0_pay14, k0_pay15, val_main_cst_4, val_main_cst_5, val_main_cst_6]
  simp (disch := omega) only [dif_pos, dif_neg, zero_add, Nat.add_sub_cancel_left, Nat.reduceMul, Nat.zero_mul, Nat.one_mul, add_zero, f0, f1, hA]
  try simp only [f0, f1]

theorem head_1 (c : Dev nD) (t : Fin cfg0.N) (l : Fin 512) (b : Fin 2) (s : Fin 4096) (h : b.val * 4096 + s.val = t.val * 512 + l.val) (e : Fin 128) :
    heads m c t (found m c t) (ix2 l ⟨128 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨128 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 128 + (128 + x.val - 128) = 128 + x.val := fun x => by have := x.isLt; omega
  have f1 : ∀ x : Fin 128, (128 + x.val) / 128 = 1 := fun x => by have := x.isLt; omega
  have f2 : ∀ x : Fin 128, (128 + x.val) % 128 = x.val := fun x => by have := x.isLt; omega
  have f3 : ∀ x : Fin 128, x.val / 128 = 0 := fun x => by have := x.isLt; omega
  have f4 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v71 val_main_v70 val_main_v69 val_main_v68 val_main_v67 val_main_v66 val_main_v65 val_main_v64 val_main_v63 val_main_v62 val_main_v61 val_main_v60 val_main_v57
  rw [hB]
  pointwise [k0_pay16, k0_pay9, k0_pay10, k0_pay11, k0_pay12, k0_pay13, k0_pay14, k0_pay15, val_main_cst_4, val_main_cst_5, val_main_cst_6]
  simp (disch := omega) only [dif_pos, dif_neg, zero_add, Nat.add_sub_cancel_left, Nat.reduceMul, Nat.zero_mul, Nat.one_mul, add_zero, f0, f1, f2, f3, f4, hA]
  try simp only [f0, f1, f2, f3, f4]

theorem head_2 (c : Dev nD) (t : Fin cfg0.N) (l : Fin 512) (b : Fin 2) (s : Fin 4096) (h : b.val * 4096 + s.val = t.val * 512 + l.val) (e : Fin 128) :
    heads m c t (found m c t) (ix2 l ⟨256 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨256 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 256 + (256 + x.val - 128 - 128) = 256 + x.val := fun x => by have := x.isLt; omega
  have f1 : ∀ x : Fin 128, (256 + x.val) / 128 = 2 := fun x => by have := x.isLt; omega
  have f2 : ∀ x : Fin 128, (256 + x.val) % 128 = x.val := fun x => by have := x.isLt; omega
  have f3 : ∀ x : Fin 128, x.val / 128 = 0 := fun x => by have := x.isLt; omega
  have f4 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v71 val_main_v70 val_main_v69 val_main_v68 val_main_v67 val_main_v66 val_main_v65 val_main_v64 val_main_v63 val_main_v62 val_main_v61 val_main_v60 val_main_v57
  rw [hB]
  pointwise [k0_pay16, k0_pay9, k0_pay10, k0_pay11, k0_pay12, k0_pay13, k0_pay14, k0_pay15, val_main_cst_4, val_main_cst_5, val_main_cst_6]
  simp (disch := omega) only [dif_pos, dif_neg, zero_add, Nat.add_sub_cancel_left, Nat.reduceMul, Nat.zero_mul, Nat.one_mul, add_zero, f0, f1, f2, f3, f4, hA]
  try simp only [f0, f1, f2, f3, f4]

theorem head_3 (c : Dev nD) (t : Fin cfg0.N) (l : Fin 512) (b : Fin 2) (s : Fin 4096) (h : b.val * 4096 + s.val = t.val * 512 + l.val) (e : Fin 128) :
    heads m c t (found m c t) (ix2 l ⟨384 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨384 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 384 + (384 + x.val - 128 - 128 - 128) = 384 + x.val := fun x => by have := x.isLt; omega
  have f1 : ∀ x : Fin 128, (384 + x.val) / 128 = 3 := fun x => by have := x.isLt; omega
  have f2 : ∀ x : Fin 128, (384 + x.val) % 128 = x.val := fun x => by have := x.isLt; omega
  have f3 : ∀ x : Fin 128, x.val / 128 = 0 := fun x => by have := x.isLt; omega
  have f4 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v71 val_main_v70 val_main_v69 val_main_v68 val_main_v67 val_main_v66 val_main_v65 val_main_v64 val_main_v63 val_main_v62 val_main_v61 val_main_v60 val_main_v57
  rw [hB]
  pointwise [k0_pay16, k0_pay9, k0_pay10, k0_pay11, k0_pay12, k0_pay13, k0_pay14, k0_pay15, val_main_cst_4, val_main_cst_5, val_main_cst_6]
  simp (disch := omega) only [dif_pos, dif_neg, zero_add, Nat.add_sub_cancel_left, Nat.reduceMul, Nat.zero_mul, Nat.one_mul, add_zero, f0, f1, f2, f3, f4, hA]
  try simp only [f0, f1, f2, f3, f4]

theorem head_4 (c : Dev nD) (t : Fin cfg0.N) (l : Fin 512) (b : Fin 2) (s : Fin 4096) (h : b.val * 4096 + s.val = t.val * 512 + l.val) (e : Fin 128) :
    heads m c t (found m c t) (ix2 l ⟨512 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨512 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 512 + (512 + x.val - 128 - 128 - 128 - 128) = 512 + x.val := fun x => by have := x.isLt; omega
  have f1 : ∀ x : Fin 128, (512 + x.val - 512) / 128 = 0 := fun x => by have := x.isLt; omega
  have f2 : ∀ x : Fin 128, (512 + x.val - 512) % 128 = x.val := fun x => by have := x.isLt; omega
  have f3 : ∀ x : Fin 128, 512 + (0 + x.val) = 512 + x.val := fun x => by have := x.isLt; omega
  have f4 : ∀ x : Fin 128, 512 + (512 + x.val - 512) = 512 + x.val := fun x => by have := x.isLt; omega
  have f5 : ∀ x : Fin 128, x.val / 128 = 0 := fun x => by have := x.isLt; omega
  have f6 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v81 val_main_v80 val_main_v79 val_main_v78 val_main_v77 val_main_v76 val_main_v75 val_main_v74 val_main_v73 val_main_v72 val_main_v58
  rw [hB]
  pointwise [k0_pay16, k0_pay9, k0_pay10, k0_pay11, k0_pay12, k0_pay13, k0_pay14, k0_pay15, val_main_cst_7, val_main_cst_8]
  simp (disch := omega) only [dif_pos, dif_neg, zero_add, Nat.add_sub_cancel_left, Nat.reduceMul, Nat.zero_mul, Nat.one_mul, add_zero, f0, f1, f2, f3, f4, f5, f6, hA]
  try simp only [f0, f1, f2, f3, f4, f5, f6]

theorem head_5 (c : Dev nD) (t : Fin cfg0.N) (l : Fin 512) (b : Fin 2) (s : Fin 4096) (h : b.val * 4096 + s.val = t.val * 512 + l.val) (e : Fin 128) :
    heads m c t (found m c t) (ix2 l ⟨640 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨640 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 640 + (640 + x.val - 128 - 128 - 128 - 128 - 128) = 640 + x.val := fun x => by have := x.isLt; omega
  have f1 : ∀ x : Fin 128, (640 + x.val - 512) / 128 = 1 := fun x => by have := x.isLt; omega
  have f2 : ∀ x : Fin 128, (640 + x.val - 512) % 128 = x.val := fun x => by have := x.isLt; omega
  have f3 : ∀ x : Fin 128, 512 + (128 + x.val) = 640 + x.val := fun x => by have := x.isLt; omega
  have f4 : ∀ x : Fin 128, 512 + (640 + x.val - 512) = 640 + x.val := fun x => by have := x.isLt; omega
  have f5 : ∀ x : Fin 128, (128 + x.val) / 128 = 1 := fun x => by have := x.isLt; omega
  have f6 : ∀ x : Fin 128, (128 + x.val) % 128 = x.val := fun x => by have := x.isLt; omega
  have f7 : ∀ x : Fin 128, x.val / 128 = 0 := fun x => by have := x.isLt; omega
  have f8 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v81 val_main_v80 val_main_v79 val_main_v78 val_main_v77 val_main_v76 val_main_v75 val_main_v74 val_main_v73 val_main_v72 val_main_v58
  rw [hB]
  pointwise [k0_pay16, k0_pay9, k0_pay10, k0_pay11, k0_pay12, k0_pay13, k0_pay14, k0_pay15, val_main_cst_7, val_main_cst_8]
  simp (disch := omega) only [dif_pos, dif_neg, zero_add, Nat.add_sub_cancel_left, Nat.reduceMul, Nat.zero_mul, Nat.one_mul, add_zero, f0, f1, f2, f3, f4, f5, f6, f7, f8, hA]
  try simp only [f0, f1, f2, f3, f4, f5, f6, f7, f8]

theorem head_6 (c : Dev nD) (t : Fin cfg0.N) (l : Fin 512) (b : Fin 2) (s : Fin 4096) (h : b.val * 4096 + s.val = t.val * 512 + l.val) (e : Fin 128) :
    heads m c t (found m c t) (ix2 l ⟨768 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨768 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 768 + (768 + x.val - 128 - 128 - 128 - 128 - 128 - 128) = 768 + x.val := fun x => by have := x.isLt; omega
  have f1 : ∀ x : Fin 128, (768 + x.val - 512) / 128 = 2 := fun x => by have := x.isLt; omega
  have f2 : ∀ x : Fin 128, (768 + x.val - 512) % 128 = x.val := fun x => by have := x.isLt; omega
  have f3 : ∀ x : Fin 128, 512 + (256 + x.val) = 768 + x.val := fun x => by have := x.isLt; omega
  have f4 : ∀ x : Fin 128, 512 + (768 + x.val - 512) = 768 + x.val := fun x => by have := x.isLt; omega
  have f5 : ∀ x : Fin 128, (256 + x.val) / 128 = 2 := fun x => by have := x.isLt; omega
  have f6 : ∀ x : Fin 128, (256 + x.val) % 128 = x.val := fun x => by have := x.isLt; omega
  have f7 : ∀ x : Fin 128, x.val / 128 = 0 := fun x => by have := x.isLt; omega
  have f8 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v81 val_main_v80 val_main_v79 val_main_v78 val_main_v77 val_main_v76 val_main_v75 val_main_v74 val_main_v73 val_main_v72 val_main_v58
  rw [hB]
  pointwise [k0_pay16, k0_pay9, k0_pay10, k0_pay11, k0_pay12, k0_pay13, k0_pay14, k0_pay15, val_main_cst_7, val_main_cst_8]
  simp (disch := omega) only [dif_pos, dif_neg, zero_add, Nat.add_sub_cancel_left, Nat.reduceMul, Nat.zero_mul, Nat.one_mul, add_zero, f0, f1, f2, f3, f4, f5, f6, f7, f8, hA]
  try simp only [f0, f1, f2, f3, f4, f5, f6, f7, f8]

theorem head_7 (c : Dev nD) (t : Fin cfg0.N) (l : Fin 512) (b : Fin 2) (s : Fin 4096) (h : b.val * 4096 + s.val = t.val * 512 + l.val) (e : Fin 128) :
    heads m c t (found m c t) (ix2 l ⟨896 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨896 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 896 + (896 + x.val - 128 - 128 - 128 - 128 - 128 - 128 - 128) = 896 + x.val := fun x => by have := x.isLt; omega
  have f1 : ∀ x : Fin 128, (896 + x.val - 512) / 128 = 3 := fun x => by have := x.isLt; omega
  have f2 : ∀ x : Fin 128, (896 + x.val - 512) % 128 = x.val := fun x => by have := x.isLt; omega
  have f3 : ∀ x : Fin 128, 512 + (384 + x.val) = 896 + x.val := fun x => by have := x.isLt; omega
  have f4 : ∀ x : Fin 128, 512 + (896 + x.val - 512) = 896 + x.val := fun x => by have := x.isLt; omega
  have f5 : ∀ x : Fin 128, (384 + x.val) / 128 = 3 := fun x => by have := x.isLt; omega
  have f6 : ∀ x : Fin 128, (384 + x.val) % 128 = x.val := fun x => by have := x.isLt; omega
  have f7 : ∀ x : Fin 128, x.val / 128 = 0 := fun x => by have := x.isLt; omega
  have f8 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v81 val_main_v80 val_main_v79 val_main_v78 val_main_v77 val_main_v76 val_main_v75 val_main_v74 val_main_v73 val_main_v72 val_main_v58
  rw [hB]
  pointwise [k0_pay16, k0_pay9, k0_pay10, k0_pay11, k0_pay12, k0_pay13, k0_pay14, k0_pay15, val_main_cst_7, val_main_cst_8]
  simp (disch := omega) only [dif_pos, dif_neg, zero_add, Nat.add_sub_cancel_left, Nat.reduceMul, Nat.zero_mul, Nat.one_mul, add_zero, f0, f1, f2, f3, f4, f5, f6, f7, f8, hA]
  try simp only [f0, f1, f2, f3, f4, f5, f6, f7, f8]

theorem head_8 (c : Dev nD) (t : Fin cfg0.N) (l : Fin 512) (b : Fin 2) (s : Fin 4096) (h : b.val * 4096 + s.val = t.val * 512 + l.val) (e : Fin 128) :
    heads m c t (found m c t) (ix2 l ⟨1024 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨1024 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 1024 + (1024 + x.val - 128 - 128 - 128 - 128 - 128 - 128 - 128 - 128) = 1024 + x.val := fun x => by have := x.isLt; omega
  have f1 : ∀ x : Fin 128, 1024 + (1024 + x.val - 512 - 512) = 1024 + x.val := fun x => by have := x.isLt; omega
  have f2 : ∀ x : Fin 128, x.val / 128 = 0 := fun x => by have := x.isLt; omega
  have f3 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v59
  rw [hB]
  pointwise [k0_pay16, k0_pay9, k0_pay10, k0_pay11, k0_pay12, k0_pay13, k0_pay14, k0_pay15, val_main_cst]
  simp (disch := omega) only [dif_pos, dif_neg, zero_add, Nat.add_sub_cancel_left, Nat.reduceMul, Nat.zero_mul, Nat.one_mul, add_zero, f0, f1, f2, f3, hA]
  try simp only [f0, f1, f2, f3]

theorem head_9 (c : Dev nD) (t : Fin cfg0.N) (l : Fin 512) (b : Fin 2) (s : Fin 4096) (h : b.val * 4096 + s.val = t.val * 512 + l.val) (e : Fin 128) :
    heads m c t (found m c t) (ix2 l ⟨1152 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨1152 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 1152 + (1152 + x.val - 128 - 128 - 128 - 128 - 128 - 128 - 128 - 128 - 128) = 1152 + x.val := fun x => by have := x.isLt; omega
  have f1 : ∀ x : Fin 128, 1024 + (1152 + x.val - 512 - 512) = 1152 + x.val := fun x => by have := x.isLt; omega
  have f2 : ∀ x : Fin 128, x.val / 128 = 0 := fun x => by have := x.isLt; omega
  have f3 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v59
  rw [hB]
  pointwise [k0_pay16, k0_pay9, k0_pay10, k0_pay11, k0_pay12, k0_pay13, k0_pay14, k0_pay15, val_main_cst]
  simp (disch := omega) only [dif_pos, dif_neg, zero_add, Nat.add_sub_cancel_left, Nat.reduceMul, Nat.zero_mul, Nat.one_mul, add_zero, f0, f1, f2, f3, hA]
  try simp only [f0, f1, f2, f3]

theorem head_10 (c : Dev nD) (t : Fin cfg0.N) (l : Fin 512) (b : Fin 2) (s : Fin 4096) (h : b.val * 4096 + s.val = t.val * 512 + l.val) (e : Fin 128) :
    heads m c t (found m c t) (ix2 l ⟨1280 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨1280 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 1280 + (1280 + x.val - 128 - 128 - 128 - 128 - 128 - 128 - 128 - 128 - 128 - 128) = 1280 + x.val := fun x => by have := x.isLt; omega
  have f1 : ∀ x : Fin 128, 1024 + (1280 + x.val - 512 - 512) = 1280 + x.val := fun x => by have := x.isLt; omega
  have f2 : ∀ x : Fin 128, x.val / 128 = 0 := fun x => by have := x.isLt; omega
  have f3 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v59
  rw [hB]
  pointwise [k0_pay16, k0_pay9, k0_pay10, k0_pay11, k0_pay12, k0_pay13, k0_pay14, k0_pay15, val_main_cst]
  simp (disch := omega) only [dif_pos, dif_neg, zero_add, Nat.add_sub_cancel_left, Nat.reduceMul, Nat.zero_mul, Nat.one_mul, add_zero, f0, f1, f2, f3, hA]
  try simp only [f0, f1, f2, f3]

theorem head_11 (c : Dev nD) (t : Fin cfg0.N) (l : Fin 512) (b : Fin 2) (s : Fin 4096) (h : b.val * 4096 + s.val = t.val * 512 + l.val) (e : Fin 128) :
    heads m c t (found m c t) (ix2 l ⟨1408 + e.val, by have := e.isLt; omega⟩) = (val_main_v82 (F := Ideal) (m ((c : Thread nD τ).loc main_arg0)) (m ((c : Thread nD τ).loc main_arg1)) (m ((c : Thread nD τ).loc main_arg2)) (m ((c : Thread nD τ).loc main_arg3))) (ix3 b s ⟨1408 + e.val, by have := e.isLt; omega⟩) := by
  have he := e.isLt
  have hA := fun q => act_eq m c t l b s h q
  unfold heads k0_pay6 k0_pay8 k0_pay7
  rw [show k0_pay5 (ext m c t (found m c t)) 3#32 (tap0 m c t) (tap1 m c t) (tap2 m c t) (tap3 m c t) = act m c t (found m c t) from rfl]
  generalize act m c t (found m c t) = A at hA ⊢
  have f0 : ∀ x : Fin 128, 1408 + (1408 + x.val - 128 - 128 - 128 - 128 - 128 - 128 - 128 - 128 - 128 - 128 - 128) = 1408 + x.val := fun x => by have := x.isLt; omega
  have f1 : ∀ x : Fin 128, 1024 + (1408 + x.val - 512 - 512) = 1408 + x.val := fun x => by have := x.isLt; omega
  have f2 : ∀ x : Fin 128, x.val / 128 = 0 := fun x => by have := x.isLt; omega
  have f3 : ∀ x : Fin 128, x.val % 128 = x.val := fun x => by have := x.isLt; omega
  generalize hB : (val_main_v56 (F := Ideal) (m ((c : Thread nD τ).loc main_arg0)) (m ((c : Thread nD τ).loc main_arg1)) (m ((c : Thread nD τ).loc main_arg2)) (m ((c : Thread nD τ).loc main_arg3))) = B at hA
  unfold val_main_v82 val_main_v59
  rw [hB]
  pointwise [k0_pay16, k0_pay9, k0_pay10, k0_pay11, k0_pay12, k0_pay13, k0_pay14, k0_pay15, val_main_cst]
  simp (disch := omega) only [dif_pos, dif_neg, zero_add, Nat.add_sub_cancel_left, Nat.reduceMul, Nat.zero_mul, Nat.one_mul, add_zero, f0, f1, f2, f3, hA]
  try simp only [f0, f1, f2, f3]

end Cert.ProjIdeal.Heads

end
-- ==== Proof.ProjSums.lean ====
/-
  The projection kernel's six result arrays are the reference's.
-/
module

public import proofs.«01_k».proof.Proof.ProjHeads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.ProjIdeal.Sums

open Cert.ProjIdeal Cert.ProjIdeal.Gen Cert.ProjRefIdeal.Read Cert.ProjIdeal.Body Cert.ProjIdeal.Blk Cert.ProjIdeal.Heads

variable (m : (ℓ : Loc nD τ sig) → Buf (Elt Ideal) ℓ)

theorem heads_eq (c : Dev nD) (t : Fin cfg0.N) (l : Fin 512) (b : Fin 2) (s : Fin 4096) (h : b.val * 4096 + s.val = t.val * 512 + l.val) (q : Fin 1536) :
    heads m c t (found m c t) (ix2 l q) = (val_main_v82 (F := Ideal) (m ((c : Thread nD τ).loc main_arg0)) (m ((c : Thread nD τ).loc main_arg1)) (m ((c : Thread nD τ).loc main_arg2)) (m ((c : Thread nD τ).loc main_arg3))) (ix3 b s q) := by
  have hq := q.isLt
  by_cases h0 : q.val < 128
  · have e : q = ⟨0 + (⟨q.val - 0, by omega⟩ : Fin 128).val, by simp only []; omega⟩ := Fin.ext (by simp only []; omega)
    rw [e]
    exact head_0 m c t l b s h _
  by_cases h1 : q.val < 256
  · have e : q = ⟨128 + (⟨q.val - 128, by omega⟩ : Fin 128).val, by simp only []; omega⟩ := Fin.ext (by simp only []; omega)
    rw [e]
    exact head_1 m c t l b s h _
  by_cases h2 : q.val < 384
  · have e : q = ⟨256 + (⟨q.val - 256, by omega⟩ : Fin 128).val, by simp only []; omega⟩ := Fin.ext (by simp only []; omega)
    rw [e]
    exact head_2 m c t l b s h _
  by_cases h3 : q.val < 512
  · have e : q = ⟨384 + (⟨q.val - 384, by omega⟩ : Fin 128).val, by simp only []; omega⟩ := Fin.ext (by simp only []; omega)
    rw [e]
    exact head_3 m c t l b s h _
  by_cases h4 : q.val < 640
  · have e : q = ⟨512 + (⟨q.val - 512, by omega⟩ : Fin 128).val, by simp only []; omega⟩ := Fin.ext (by simp only []; omega)
    rw [e]
    exact head_4 m c t l b s h _
  by_cases h5 : q.val < 768
  · have e : q = ⟨640 + (⟨q.val - 640, by omega⟩ : Fin 128).val, by simp only []; omega⟩ := Fin.ext (by simp only []; omega)
    rw [e]
    exact head_5 m c t l b s h _
  by_cases h6 : q.val < 896
  · have e : q = ⟨768 + (⟨q.val - 768, by omega⟩ : Fin 128).val, by simp only []; omega⟩ := Fin.ext (by simp only []; omega)
    rw [e]
    exact head_6 m c t l b s h _
  by_cases h7 : q.val < 1024
  · have e : q = ⟨896 + (⟨q.val - 896, by omega⟩ : Fin 128).val, by simp only []; omega⟩ := Fin.ext (by simp only []; omega)
    rw [e]
    exact head_7 m c t l b s h _
  by_cases h8 : q.val < 1152
  · have e : q = ⟨1024 + (⟨q.val - 1024, by omega⟩ : Fin 128).val, by simp only []; omega⟩ := Fin.ext (by simp only []; omega)
    rw [e]
    exact head_8 m c t l b s h _
  by_cases h9 : q.val < 1280
  · have e : q = ⟨1152 + (⟨q.val - 1152, by omega⟩ : Fin 128).val, by simp only []; omega⟩ := Fin.ext (by simp only []; omega)
    rw [e]
    exact head_9 m c t l b s h _
  by_cases h10 : q.val < 1408
  · have e : q = ⟨1280 + (⟨q.val - 1280, by omega⟩ : Fin 128).val, by simp only []; omega⟩ := Fin.ext (by simp only []; omega)
    rw [e]
    exact head_10 m c t l b s h _
  by_cases h11 : q.val < 1536
  · have e : q = ⟨1408 + (⟨q.val - 1408, by omega⟩ : Fin 128).val, by simp only []; omega⟩ := Fin.ext (by simp only []; omega)
    rw [e]
    exact head_11 m c t l b s h _
  exact absurd hq h11

/-- The sequence of a tile's row, and its place in it. -/
def tileSeq (t : Fin cfg0.N) : Fin 2 := ⟨t.val / 8, by have := lt_of_lt_of_eq t.isLt N_0; omega⟩
def tilePos (t : Fin cfg0.N) (l : Fin 512) : Fin 4096 := ⟨t.val % 8 * 512 + l.val, by have := l.isLt; omega⟩

theorem tile_at (t : Fin cfg0.N) (l : Fin 512) : (tileSeq t).val * 4096 + (tilePos t l).val = t.val * 512 + l.val := by
  show t.val / 8 * 4096 + (t.val % 8 * 512 + l.val) = t.val * 512 + l.val
  omega

theorem flat_4 (c : Dev nD) (b : Fin 2) (s : Fin 4096) (r : Fin 8192) (h : b.val * 4096 + s.val = r.val) (q : Fin 512) :
    (val_main_v15 (F := Ideal) (m ((c : Thread nD τ).loc main_arg0)) (m ((c : Thread nD τ).loc main_arg1)) (m ((c : Thread nD τ).loc main_arg2))) (ix3 b s q) = (val_main_v20 (F := Ideal) (m ((c : Thread nD τ).loc main_arg0)) (m ((c : Thread nD τ).loc main_arg1)) (m ((c : Thread nD τ).loc main_arg2))) (ix2 r q) := by
  have hs := s.isLt
  have lt : b.val * 4096 + s.val < 8192 := by have := b.isLt; omega
  rw [show r = ⟨b.val * 4096 + s.val, lt⟩ from Fin.ext h.symm]
  unfold val_main_v20
  generalize val_main_v15 (F := Ideal) (m ((c : Thread nD τ).loc main_arg0)) (m ((c : Thread nD τ).loc main_arg1)) (m ((c : Thread nD τ).loc main_arg2)) = U
  pointwise []

/-- A result array. -/
theorem final_4 (c : Dev nD) : (dats m 0 c).arrAt 4 (cfgs 0).N = val_main_v20 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have key : ∀ (l : Fin 512) (hl : t.val * 512 + l.val < 8192) k, _ := fun l hl k =>
    (low_eq m c t l (tileSeq t) (tilePos t l) (tile_at t l) k).trans (flat_4 m c (tileSeq t) (tilePos t l) ⟨t.val * 512 + l.val, hl⟩ (tile_at t l) k)
  have at_place : ∀ (l : Fin 512) (hl : t.val * 512 + l.val < 8192) (k : Fin 512),
      (val_main_v20 (F := Ideal) (m ((c : Thread nD τ).loc main_arg0)) (m ((c : Thread nD τ).loc main_arg1)) (m ((c : Thread nD τ).loc main_arg2))) (ix2 ⟨t.val * 512 + l.val, hl⟩ k)
        = (val_main_v20 (F := Ideal) (m ((c : Thread nD τ).loc main_arg0)) (m ((c : Thread nD τ).loc main_arg1)) (m ((c : Thread nD τ).loc main_arg2))) (((View.whole main_v3_0).slice (win0_4.rect t)).emb (ix2 l k)) := by
    intro l hl k
    generalize val_main_v20 (F := Ideal) (m ((c : Thread nD τ).loc main_arg0)) (m ((c : Thread nD τ).loc main_arg1)) (m ((c : Thread nD τ).loc main_arg2)) = R
    refine Eq.symm ?_
    blk_point [idx t]
  blk_simp
  rw [after4]
  idx_vars y
  have hl : t.val * 512 + y0.val < 8192 := by
    have h16 := lt_of_lt_of_eq t.isLt N_0
    have h512 := y0.isLt
    omega
  exact (key y0 hl y1).trans (at_place y0 hl y1)

theorem flat_5 (c : Dev nD) (b : Fin 2) (s : Fin 4096) (r : Fin 8192) (h : b.val * 4096 + s.val = r.val) (q : Fin 1536) :
    (val_main_v16 (F := Ideal) (m ((c : Thread nD τ).loc main_arg0)) (m ((c : Thread nD τ).loc main_arg1)) (m ((c : Thread nD τ).loc main_arg2))) (ix3 b s q) = (val_main_v21 (F := Ideal) (m ((c : Thread nD τ).loc main_arg0)) (m ((c : Thread nD τ).loc main_arg1)) (m ((c : Thread nD τ).loc main_arg2))) (ix2 r q) := by
  have hs := s.isLt
  have lt : b.val * 4096 + s.val < 8192 := by have := b.isLt; omega
  rw [show r = ⟨b.val * 4096 + s.val, lt⟩ from Fin.ext h.symm]
  unfold val_main_v21
  generalize val_main_v16 (F := Ideal) (m ((c : Thread nD τ).loc main_arg0)) (m ((c : Thread nD τ).loc main_arg1)) (m ((c : Thread nD τ).loc main_arg2)) = U
  pointwise []

/-- A result array. -/
theorem final_5 (c : Dev nD) : (dats m 0 c).arrAt 5 (cfgs 0).N = val_main_v21 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have key : ∀ (l : Fin 512) (hl : t.val * 512 + l.val < 8192) k, _ := fun l hl k =>
    (prod_eq m c t l (tileSeq t) (tilePos t l) (tile_at t l) k).trans (flat_5 m c (tileSeq t) (tilePos t l) ⟨t.val * 512 + l.val, hl⟩ (tile_at t l) k)
  have at_place : ∀ (l : Fin 512) (hl : t.val * 512 + l.val < 8192) (k : Fin 1536),
      (val_main_v21 (F := Ideal) (m ((c : Thread nD τ).loc main_arg0)) (m ((c : Thread nD τ).loc main_arg1)) (m ((c : Thread nD τ).loc main_arg2))) (ix2 ⟨t.val * 512 + l.val, hl⟩ k)
        = (val_main_v21 (F := Ideal) (m ((c : Thread nD τ).loc main_arg0)) (m ((c : Thread nD τ).loc main_arg1)) (m ((c : Thread nD τ).loc main_arg2))) (((View.whole main_v3_1).slice (win0_5.rect t)).emb (ix2 l k)) := by
    intro l hl k
    generalize val_main_v21 (F := Ideal) (m ((c : Thread nD τ).loc main_arg0)) (m ((c : Thread nD τ).loc main_arg1)) (m ((c : Thread nD τ).loc main_arg2)) = R
    refine Eq.symm ?_
    blk_point [idx t]
  blk_simp
  rw [after5]
  idx_vars y
  have hl : t.val * 512 + y0.val < 8192 := by
    have h16 := lt_of_lt_of_eq t.isLt N_0
    have h512 := y0.isLt
    omega
  exact (key y0 hl y1).trans (at_place y0 hl y1)

theorem flat_6 (c : Dev nD) (b : Fin 2) (s : Fin 4096) (r : Fin 8192) (h : b.val * 4096 + s.val = r.val) (q : Fin 512) :
    (val_main_v17 (F := Ideal) (m ((c : Thread nD τ).loc main_arg0)) (m ((c : Thread nD τ).loc main_arg1)) (m ((c : Thread nD τ).loc main_arg2))) (ix3 b s q) = (val_main_v22 (F := Ideal) (m ((c : Thread nD τ).loc main_arg0)) (m ((c : Thread nD τ).loc main_arg1)) (m ((c : Thread nD τ).loc main_arg2))) (ix2 r q) := by
  have hs := s.isLt
  have lt : b.val * 4096 + s.val < 8192 := by have := b.isLt; omega
  rw [show r = ⟨b.val * 4096 + s.val, lt⟩ from Fin.ext h.symm]
  unfold val_main_v22
  generalize val_main_v17 (F := Ideal) (m ((c : Thread nD τ).loc main_arg0)) (m ((c : Thread nD τ).loc main_arg1)) (m ((c : Thread nD τ).loc main_arg2)) = U
  pointwise []

/-- A result array. -/
theorem final_6 (c : Dev nD) : (dats m 0 c).arrAt 6 (cfgs 0).N = val_main_v22 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have key : ∀ (l : Fin 512) (hl : t.val * 512 + l.val < 8192) k, _ := fun l hl k =>
    (gate_eq m c t l (tileSeq t) (tilePos t l) (tile_at t l) k).trans (flat_6 m c (tileSeq t) (tilePos t l) ⟨t.val * 512 + l.val, hl⟩ (tile_at t l) k)
  have at_place : ∀ (l : Fin 512) (hl : t.val * 512 + l.val < 8192) (k : Fin 512),
      (val_main_v22 (F := Ideal) (m ((c : Thread nD τ).loc main_arg0)) (m ((c : Thread nD τ).loc main_arg1)) (m ((c : Thread nD τ).loc main_arg2))) (ix2 ⟨t.val * 512 + l.val, hl⟩ k)
        = (val_main_v22 (F := Ideal) (m ((c : Thread nD τ).loc main_arg0)) (m ((c : Thread nD τ).loc main_arg1)) (m ((c : Thread nD τ).loc main_arg2))) (((View.whole main_v3_2).slice (win0_6.rect t)).emb (ix2 l k)) := by
    intro l hl k
    generalize val_main_v22 (F := Ideal) (m ((c : Thread nD τ).loc main_arg0)) (m ((c : Thread nD τ).loc main_arg1)) (m ((c : Thread nD τ).loc main_arg2)) = R
    refine Eq.symm ?_
    blk_point [idx t]
  blk_simp
  rw [after6]
  idx_vars y
  have hl : t.val * 512 + y0.val < 8192 := by
    have h16 := lt_of_lt_of_eq t.isLt N_0
    have h512 := y0.isLt
    omega
  exact (key y0 hl y1).trans (at_place y0 hl y1)

theorem flat_7 (c : Dev nD) (b : Fin 2) (s : Fin 4096) (r : Fin 8192) (h : b.val * 4096 + s.val = r.val) (q : Fin 768) :
    (val_main_v18 (F := Ideal) (m ((c : Thread nD τ).loc main_arg0)) (m ((c : Thread nD τ).loc main_arg1)) (m ((c : Thread nD τ).loc main_arg2))) (ix3 b s q) = (val_main_v23 (F := Ideal) (m ((c : Thread nD τ).loc main_arg0)) (m ((c : Thread nD τ).loc main_arg1)) (m ((c : Thread nD τ).loc main_arg2))) (ix2 r q) := by
  have hs := s.isLt
  have lt : b.val * 4096 + s.val < 8192 := by have := b.isLt; omega
  rw [show r = ⟨b.val * 4096 + s.val, lt⟩ from Fin.ext h.symm]
  unfold val_main_v23
  generalize val_main_v18 (F := Ideal) (m ((c : Thread nD τ).loc main_arg0)) (m ((c : Thread nD τ).loc main_arg1)) (m ((c : Thread nD τ).loc main_arg2)) = U
  pointwise []

/-- A result array. -/
theorem final_7 (c : Dev nD) : (dats m 0 c).arrAt 7 (cfgs 0).N = val_main_v23 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have key : ∀ (l : Fin 512) (hl : t.val * 512 + l.val < 8192) k, _ := fun l hl k =>
    (side_eq m c t l (tileSeq t) (tilePos t l) (tile_at t l) k).trans (flat_7 m c (tileSeq t) (tilePos t l) ⟨t.val * 512 + l.val, hl⟩ (tile_at t l) k)
  have at_place : ∀ (l : Fin 512) (hl : t.val * 512 + l.val < 8192) (k : Fin 768),
      (val_main_v23 (F := Ideal) (m ((c : Thread nD τ).loc main_arg0)) (m ((c : Thread nD τ).loc main_arg1)) (m ((c : Thread nD τ).loc main_arg2))) (ix2 ⟨t.val * 512 + l.val, hl⟩ k)
        = (val_main_v23 (F := Ideal) (m ((c : Thread nD τ).loc main_arg0)) (m ((c : Thread nD τ).loc main_arg1)) (m ((c : Thread nD τ).loc main_arg2))) (((View.whole main_v3_3).slice (win0_7.rect t)).emb (ix2 l k)) := by
    intro l hl k
    generalize val_main_v23 (F := Ideal) (m ((c : Thread nD τ).loc main_arg0)) (m ((c : Thread nD τ).loc main_arg1)) (m ((c : Thread nD τ).loc main_arg2)) = R
    refine Eq.symm ?_
    blk_point [idx t]
  blk_simp
  rw [after7]
  idx_vars y
  have hl : t.val * 512 + y0.val < 8192 := by
    have h16 := lt_of_lt_of_eq t.isLt N_0
    have h512 := y0.isLt
    omega
  exact (key y0 hl y1).trans (at_place y0 hl y1)

theorem flat_8 (c : Dev nD) (b : Fin 2) (s : Fin 4096) (r : Fin 8192) (h : b.val * 4096 + s.val = r.val) (q : Fin 128) :
    (val_main_v19 (F := Ideal) (m ((c : Thread nD τ).loc main_arg0)) (m ((c : Thread nD τ).loc main_arg1)) (m ((c : Thread nD τ).loc main_arg2))) (ix3 b s q) = (val_main_v24 (F := Ideal) (m ((c : Thread nD τ).loc main_arg0)) (m ((c : Thread nD τ).loc main_arg1)) (m ((c : Thread nD τ).loc main_arg2))) (ix2 r q) := by
  have hs := s.isLt
  have lt : b.val * 4096 + s.val < 8192 := by have := b.isLt; omega
  rw [show r = ⟨b.val * 4096 + s.val, lt⟩ from Fin.ext h.symm]
  unfold val_main_v24
  generalize val_main_v19 (F := Ideal) (m ((c : Thread nD τ).loc main_arg0)) (m ((c : Thread nD τ).loc main_arg1)) (m ((c : Thread nD τ).loc main_arg2)) = U
  pointwise []

/-- A result array. -/
theorem final_8 (c : Dev nD) : (dats m 0 c).arrAt 8 (cfgs 0).N = val_main_v24 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  have key : ∀ (l : Fin 512) (hl : t.val * 512 + l.val < 8192) k, _ := fun l hl k =>
    (last_eq m c t l (tileSeq t) (tilePos t l) (tile_at t l) k).trans (flat_8 m c (tileSeq t) (tilePos t l) ⟨t.val * 512 + l.val, hl⟩ (tile_at t l) k)
  have at_place : ∀ (l : Fin 512) (hl : t.val * 512 + l.val < 8192) (k : Fin 128),
      (val_main_v24 (F := Ideal) (m ((c : Thread nD τ).loc main_arg0)) (m ((c : Thread nD τ).loc main_arg1)) (m ((c : Thread nD τ).loc main_arg2))) (ix2 ⟨t.val * 512 + l.val, hl⟩ k)
        = (val_main_v24 (F := Ideal) (m ((c : Thread nD τ).loc main_arg0)) (m ((c : Thread nD τ).loc main_arg1)) (m ((c : Thread nD τ).loc main_arg2))) (((View.whole main_v3_4).slice (win0_8.rect t)).emb (ix2 l k)) := by
    intro l hl k
    generalize val_main_v24 (F := Ideal) (m ((c : Thread nD τ).loc main_arg0)) (m ((c : Thread nD τ).loc main_arg1)) (m ((c : Thread nD τ).loc main_arg2)) = R
    refine Eq.symm ?_
    blk_point [idx t]
  blk_simp
  rw [after8]
  idx_vars y
  have hl : t.val * 512 + y0.val < 8192 := by
    have h16 := lt_of_lt_of_eq t.isLt N_0
    have h512 := y0.isLt
    omega
  exact (key y0 hl y1).trans (at_place y0 hl y1)

theorem flat_9 (c : Dev nD) (b : Fin 2) (s : Fin 4096) (r : Fin 8192) (h : b.val * 4096 + s.val = r.val) (q : Fin 1536) :
    (val_main_v82 (F := Ideal) (m ((c : Thread nD τ).loc main_arg0)) (m ((c : Thread nD τ).loc main_arg1)) (m ((c : Thread nD τ).loc main_arg2)) (m ((c : Thread nD τ).loc main_arg3))) (ix3 b s q) = (val_main_v83 (F := Ideal) (m ((c : Thread nD τ).loc main_arg0)) (m ((c : Thread nD τ).loc main_arg1)) (m ((c : Thread nD τ).loc main_arg2)) (m ((c : Thread nD τ).loc main_arg3))) (ix2 r q) := by
  have hs := s.isLt
  have lt : b.val * 4096 + s.val < 8192 := by have := b.isLt; omega
  rw [show r = ⟨b.val * 4096 + s.val, lt⟩ from Fin.ext h.symm]
  unfold val_main_v83
  generalize val_main_v82 (F := Ideal) (m ((c : Thread nD τ).loc main_arg0)) (m ((c : Thread nD τ).loc main_arg1)) (m ((c : Thread nD τ).loc main_arg2)) (m ((c : Thread nD τ).loc main_arg3)) = U
  pointwise []

/-- A result array. -/
theorem final_9 (c : Dev nD) : (dats m 0 c).arrAt 9 (cfgs 0).N = val_main_v83 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have key : ∀ (l : Fin 512) (hl : t.val * 512 + l.val < 8192) k, _ := fun l hl k =>
    (heads_eq m c t l (tileSeq t) (tilePos t l) (tile_at t l) k).trans (flat_9 m c (tileSeq t) (tilePos t l) ⟨t.val * 512 + l.val, hl⟩ (tile_at t l) k)
  have at_place : ∀ (l : Fin 512) (hl : t.val * 512 + l.val < 8192) (k : Fin 1536),
      (val_main_v83 (F := Ideal) (m ((c : Thread nD τ).loc main_arg0)) (m ((c : Thread nD τ).loc main_arg1)) (m ((c : Thread nD τ).loc main_arg2)) (m ((c : Thread nD τ).loc main_arg3))) (ix2 ⟨t.val * 512 + l.val, hl⟩ k)
        = (val_main_v83 (F := Ideal) (m ((c : Thread nD τ).loc main_arg0)) (m ((c : Thread nD τ).loc main_arg1)) (m ((c : Thread nD τ).loc main_arg2)) (m ((c : Thread nD τ).loc main_arg3))) (((View.whole main_v3_5).slice (win0_9.rect t)).emb (ix2 l k)) := by
    intro l hl k
    generalize val_main_v83 (F := Ideal) (m ((c : Thread nD τ).loc main_arg0)) (m ((c : Thread nD τ).loc main_arg1)) (m ((c : Thread nD τ).loc main_arg2)) (m ((c : Thread nD τ).loc main_arg3)) = R
    refine Eq.symm ?_
    blk_point [idx t]
  blk_simp
  rw [after9]
  idx_vars y
  have hl : t.val * 512 + y0.val < 8192 := by
    have h16 := lt_of_lt_of_eq t.isLt N_0
    have h512 := y0.isLt
    omega
  exact (key y0 hl y1).trans (at_place y0 hl y1)

end Cert.ProjIdeal.Sums

end
-- ==== Proof.ProjClaim.lean ====
/- The input projection, forward: the kernel's six results are the reference's, and the reference's frame. -/
module

public import proofs.«01_k».proof.Defs
public import proofs.«01_k».proof.Proof.Gen.ProjIdeal.Frame
public import proofs.«01_k».proof.Proof.Gen.ProjRefIdeal.Run
public import proofs.«01_k».proof.Proof.Gen.ProjRefIdeal.Read
public import proofs.«01_k».proof.Proof.ProjSums
public import Idealize.ShloMosaic.Lib.Claim

@[expose] public section

set_option maxRecDepth 16384

noncomputable section

namespace Cert.ProjClaim

open Idealize.ShloMosaic Idealize.SL.Sem

/-- The reference leaves its arguments alone; it declares no semaphore. -/
theorem ref_frame : Cert.quiescent_ProjRefIdeal := fun m ρ _ =>
  (θ_run Cert.ProjRefIdeal.defs _ _).mono (fun r h => ⟨fun c => (h c).2.2.2.2.2.2, sem_eq_zero_of_no_sems (by decide) r.2⟩)
    (Cert.ProjRefIdeal.Value.run (F := Ideal) m ρ)

set_option maxHeartbeats 1600000 in
/-- The kernel's results are the reference's. -/
theorem algebraic : Cert.algebraic_ProjIdeal_ProjRefIdeal := by
  intro m g m' g' hpre hagree
  refine ⟨fun c => (Cert.ProjIdeal.Body.dats m 0 c).arrAt 4 (Cert.ProjIdeal.cfgs 0).N,
    fun c => (Cert.ProjIdeal.Body.dats m 0 c).arrAt 5 (Cert.ProjIdeal.cfgs 0).N,
    fun c => (Cert.ProjIdeal.Body.dats m 0 c).arrAt 6 (Cert.ProjIdeal.cfgs 0).N,
    fun c => (Cert.ProjIdeal.Body.dats m 0 c).arrAt 7 (Cert.ProjIdeal.cfgs 0).N,
    fun c => (Cert.ProjIdeal.Body.dats m 0 c).arrAt 8 (Cert.ProjIdeal.cfgs 0).N,
    fun c => (Cert.ProjIdeal.Body.dats m 0 c).arrAt 9 (Cert.ProjIdeal.cfgs 0).N, ?_, ?_⟩
  · exact θ_run_mono (θ_run_and (Cert.ProjIdeal.Body.run_main m g) (Cert.ProjIdeal.Body.unchanged m g)) fun r hr c =>
      ⟨(hr.1 c).1 4, (hr.1 c).1 5, (hr.1 c).1 6, (hr.1 c).1 7, (hr.1 c).1 8, (hr.1 c).1 9, hr.2 c⟩
  · have ha := PLift.up hagree
    clear hagree
    run_from Cert.ProjRefIdeal.Value.run m' g'
    · refine (Cert.ProjRefIdeal.Read.val_main_v20_eq ..).trans ?_
      simp only [ha.down c]
      exact (Cert.ProjIdeal.Sums.final_4 m c).symm
    · refine (Cert.ProjRefIdeal.Read.val_main_v21_eq ..).trans ?_
      simp only [ha.down c]
      exact (Cert.ProjIdeal.Sums.final_5 m c).symm
    · refine (Cert.ProjRefIdeal.Read.val_main_v22_eq ..).trans ?_
      simp only [ha.down c]
      exact (Cert.ProjIdeal.Sums.final_6 m c).symm
    · refine (Cert.ProjRefIdeal.Read.val_main_v23_eq ..).trans ?_
      simp only [ha.down c]
      exact (Cert.ProjIdeal.Sums.final_7 m c).symm
    · refine (Cert.ProjRefIdeal.Read.val_main_v24_eq ..).trans ?_
      simp only [ha.down c]
      exact (Cert.ProjIdeal.Sums.final_8 m c).symm
    · refine (Cert.ProjRefIdeal.Read.val_main_v83_eq ..).trans ?_
      simp only [ha.down c]
      exact (Cert.ProjIdeal.Sums.final_9 m c).symm

end Cert.ProjClaim

end
-- ==== Proof.ProjfSkel.lean ====
/- The input projection over the floats, laid out as its memory operations over named values (`k0_payN`), the same
   names and the same layout as the generated module of the idealized kernel; that the printed function is this layout
   is `rfl` (the theorems `…_eq_skeleton`). -/
module

public import proofs.«01_k».proof.Proof.Gen.Proj

@[expose] public section

set_option synthInstance.maxSize 4096

noncomputable section

namespace Cert.Proj.Body

open Cert.Proj.Gen
open Idealize.ShloMosaic Idealize.SL.Sem

variable {F : FTy → Type} [FloatOps F]

noncomputable def k0_pay1 (v159 : FVec F S512x1408 .f32) : FVec F S512x128 .f32 :=
  have v164 : FVec F S512x128 .f32 := extractStridedSlice S512x128 ![0, 1280] v159 slices_S512x1408_o0_1280_S512x128
  v164

noncomputable def k0_pay2 (v0 : Vec F S512x1024 .f32) (v1 : Vec F S1x1024 .f32) : FVec F S512x1024 .bf16 :=
  have v2 : FVec F S1x1024 .f32 := shapeCast S1x1024 v1 shapeCasts_S1x1024_S1x1024
  have v3 : FVec F S512x1024 .f32 := mulf v0 v0
  have v4 : FVec F S512 .f32 := multiReduction .add [1] S512 v3 0x00000000#32 reduces_S512x1024_S512 (.inl rfl) rfl
  have v5 : FVec F S512x1 .f32 := shapeCast S512x1 v4 shapeCasts_S512_S512x1
  have cst_3 : F .f32 := Scalar.ofBits .f32 0x44800000#32
  have v6 : FVec F S512x1 .f32 := broadcast S512x1 cst_3
  have v7 : FVec F S512x1 .f32 := divf v5 v6
  have cst_4 : F .f32 := Scalar.ofBits .f32 0x358637BD#32
  have v8 : FVec F S512x1 .f32 := broadcast S512x1 cst_4
  have v9 : FVec F S512x1 .f32 := addf v7 v8
  have v10 : FVec F S512x1 .f32 := rsqrt v9
  have v11 : FVec F S512x1024 .f32 := broadcastTo S512x1024 v10 broadcasts_S512x1_S512x1024
  have v12 : FVec F S512x1024 .f32 := mulf v0 v11
  have v13 : FVec F S512x1024 .f32 := broadcastTo S512x1024 v2 broadcasts_S1x1024_S512x1024
  have v14 : FVec F S512x1024 .f32 := mulf v12 v13
  have v15 : FVec F S512x1024 .bf16 := truncf .bf16 v14 bitsLt_bf16_f32
  v15

noncomputable def k0_pay3 (v0 : Vec F S512x1024 .f32) (v1 : Vec F S1x1024 .f32) (v16 : Vec F S1024x1536 .bf16) : FVec F S512x1536 .f32 :=
  have v17 : FVec F S1024x1536 .bf16 := shapeCast S1024x1536 v16 shapeCasts_S1024x1536_S1024x1536
  have cst_6 : FVec F S512x1536 .f32 := constant S512x1536 .f32 0x00000000#32
  have v18 : FVec F S512x1536 .f32 := matmul dot_S512x1024_S1024x1536_S512x1536_1_0_0_1_n_n none (k0_pay2 v0 v1) v17 cst_6
  v18

noncomputable def k0_pay4 (i : grid0.Coords) (v0 : Vec F S512x1024 .f32) (v1 : Vec F S1x1024 .f32) (v16 : Vec F S1024x1536 .bf16) (v31 : Vec F S8x1536 .f32) : FVec F S520x1536 .f32 :=
  let arg0 : BitVec 32 := BitVec.ofNat 32 (i 0).val
  let v20 : BitVec 1 := Scalar.cmpi .eq 8#32 0#32
  let v21 : BitVec 32 := Scalar.select v20 1#32 8#32
  let v22 : BitVec 32 := Scalar.remsi arg0 v21
  let v23 : BitVec 1 := Scalar.cmpi .ne v22 0#32
  let v24 : BitVec 1 := Scalar.cmpi .slt v22 0#32
  let v25 : BitVec 1 := Scalar.cmpi .slt v21 0#32
  let v26 : BitVec 1 := Scalar.xori v24 v25
  let v27 : BitVec 1 := Scalar.andi v26 v23
  let v28 : BitVec 32 := Scalar.addi v22 v21
  let v29 : BitVec 32 := Scalar.select v27 v28 v22
  let v30 : BitVec 1 := Scalar.cmpi .eq v29 0#32
  have cst_15 : F .f32 := Scalar.ofBits .f32 0x00000000#32
  have v32 : FVec F S8x1536 .f32 := broadcast S8x1536 cst_15
  have v33 : FVec F S8x1536 .f32 := Scalar.select v30 v32 v31
  have v34 : FVec F S520x1536 .f32 := concatenate S520x1536 0 [⟨S8x1536, v33⟩, ⟨S512x1536, k0_pay3 v0 v1 v16⟩] concatenates_S8x1536_S512x1536_S520x1536_d0
  v34

noncomputable def k0_pay5 (v34 : FVec F S520x1536 .f32) (c3_i32 : BitVec 32) (v36 : Vec F S1x1536 .f32) (v42 : Vec F S1x1536 .f32) (v49 : Vec F S1x1536 .f32) (v55 : Vec F S1x1536 .f32) : FVec F S512x1536 .f32 :=
  have v35 : FVec F S520x1536 .f32 := dynamicRotate 0 c3_i32 none v34 rotates_S520x1536_d0
  have v37 : FVec F S1x1536 .f32 := shapeCast S1x1536 v36 shapeCasts_S1x1536_S1x1536
  have v38 : FVec F S512x1536 .f32 := extractStridedSlice S512x1536 ![8, 0] v35 slices_S520x1536_o8_0_S512x1536
  have v39 : FVec F S512x1536 .f32 := broadcastTo S512x1536 v37 broadcasts_S1x1536_S512x1536
  have v40 : FVec F S512x1536 .f32 := mulf v39 v38
  have v41 : FVec F S520x1536 .f32 := dynamicRotate 0 2#32 none v34 rotates_S520x1536_d0
  have v43 : FVec F S1x1536 .f32 := shapeCast S1x1536 v42 shapeCasts_S1x1536_S1x1536
  have v44 : FVec F S512x1536 .f32 := extractStridedSlice S512x1536 ![8, 0] v41 slices_S520x1536_o8_0_S512x1536
  have v45 : FVec F S512x1536 .f32 := broadcastTo S512x1536 v43 broadcasts_S1x1536_S512x1536
  have v46 : FVec F S512x1536 .f32 := mulf v45 v44
  have v47 : FVec F S512x1536 .f32 := addf v40 v46
  have v48 : FVec F S520x1536 .f32 := dynamicRotate 0 1#32 none v34 rotates_S520x1536_d0
  have v50 : FVec F S1x1536 .f32 := shapeCast S1x1536 v49 shapeCasts_S1x1536_S1x1536
  have v51 : FVec F S512x1536 .f32 := extractStridedSlice S512x1536 ![8, 0] v48 slices_S520x1536_o8_0_S512x1536
  have v52 : FVec F S512x1536 .f32 := broadcastTo S512x1536 v50 broadcasts_S1x1536_S512x1536
  have v53 : FVec F S512x1536 .f32 := mulf v52 v51
  have v54 : FVec F S512x1536 .f32 := addf v47 v53
  have v56 : FVec F S1x1536 .f32 := shapeCast S1x1536 v55 shapeCasts_S1x1536_S1x1536
  have v57 : FVec F S512x1536 .f32 := extractStridedSlice S512x1536 ![8, 0] v34 slices_S520x1536_o8_0_S512x1536
  have v58 : FVec F S512x1536 .f32 := broadcastTo S512x1536 v56 broadcasts_S1x1536_S512x1536
  have v59 : FVec F S512x1536 .f32 := mulf v58 v57
  have v60 : FVec F S512x1536 .f32 := addf v54 v59
  have v61 : FVec F S512x1536 .f32 := logistic v60
  have v62 : FVec F S512x1536 .f32 := mulf v60 v61
  v62

noncomputable def k0_pay6 (v34 : FVec F S520x1536 .f32) (c3_i32 : BitVec 32) (v36 : Vec F S1x1536 .f32) (v42 : Vec F S1x1536 .f32) (v49 : Vec F S1x1536 .f32) (v55 : Vec F S1x1536 .f32) : FVec F S512x128 .f32 :=
  have v63 : FVec F S512x128 .f32 := extractStridedSlice S512x128 ![0, 0] (k0_pay5 v34 c3_i32 v36 v42 v49 v55) slices_S512x1536_o0_0_S512x128
  have v64 : FVec F S512x128 .f32 := mulf v63 v63
  have v65 : FVec F S512 .f32 := multiReduction .add [1] S512 v64 0x00000000#32 reduces_S512x128_S512 (.inl rfl) rfl
  have v66 : FVec F S512x1 .f32 := shapeCast S512x1 v65 shapeCasts_S512_S512x1
  have cst_23 : F .f32 := Scalar.ofBits .f32 0x358637BD#32
  have v67 : FVec F S512x1 .f32 := broadcast S512x1 cst_23
  have v68 : FVec F S512x1 .f32 := addf v66 v67
  have v69 : FVec F S512x1 .f32 := rsqrt v68
  have v70 : FVec F S512x128 .f32 := broadcastTo S512x128 v69 broadcasts_S512x1_S512x128
  have v71 : FVec F S512x128 .f32 := mulf v63 v70
  have cst_24 : F .f32 := Scalar.ofBits .f32 0x3DB504F3#32
  have v72 : FVec F S512x128 .f32 := broadcast S512x128 cst_24
  have v73 : FVec F S512x128 .f32 := mulf v71 v72
  v73

noncomputable def k0_pay7 (v34 : FVec F S520x1536 .f32) (c3_i32 : BitVec 32) (v36 : Vec F S1x1536 .f32) (v42 : Vec F S1x1536 .f32) (v49 : Vec F S1x1536 .f32) (v55 : Vec F S1x1536 .f32) : FVec F S512x128 .f32 :=
  have v74 : FVec F S512x128 .f32 := extractStridedSlice S512x128 ![0, 128] (k0_pay5 v34 c3_i32 v36 v42 v49 v55) slices_S512x1536_o0_128_S512x128
  v74

noncomputable def k0_pay8 (v34 : FVec F S520x1536 .f32) (c3_i32 : BitVec 32) (v36 : Vec F S1x1536 .f32) (v42 : Vec F S1x1536 .f32) (v49 : Vec F S1x1536 .f32) (v55 : Vec F S1x1536 .f32) : FVec F S512x1 .f32 :=
  have v75 : FVec F S512x128 .f32 := mulf (k0_pay7 v34 c3_i32 v36 v42 v49 v55) (k0_pay7 v34 c3_i32 v36 v42 v49 v55)
  have v76 : FVec F S512 .f32 := multiReduction .add [1] S512 v75 0x00000000#32 reduces_S512x128_S512 (.inl rfl) rfl
  have v77 : FVec F S512x1 .f32 := shapeCast S512x1 v76 shapeCasts_S512_S512x1
  have cst_26 : F .f32 := Scalar.ofBits .f32 0x358637BD#32
  have v78 : FVec F S512x1 .f32 := broadcast S512x1 cst_26
  have v79 : FVec F S512x1 .f32 := addf v77 v78
  v79

noncomputable def k0_pay9 (v74 : FVec F S512x128 .f32) (v79 : FVec F S512x1 .f32) : FVec F S512x128 .f32 :=
  have v80 : FVec F S512x1 .f32 := rsqrt v79
  have v81 : FVec F S512x128 .f32 := broadcastTo S512x128 v80 broadcasts_S512x1_S512x128
  have v82 : FVec F S512x128 .f32 := mulf v74 v81
  have cst_27 : F .f32 := Scalar.ofBits .f32 0x3DB504F3#32
  have v83 : FVec F S512x128 .f32 := broadcast S512x128 cst_27
  have v84 : FVec F S512x128 .f32 := mulf v82 v83
  v84

noncomputable def k0_pay10 (v62 : FVec F S512x1536 .f32) : FVec F S512x128 .f32 :=
  have v85 : FVec F S512x128 .f32 := extractStridedSlice S512x128 ![0, 256] v62 slices_S512x1536_o0_256_S512x128
  have v86 : FVec F S512x128 .f32 := mulf v85 v85
  have v87 : FVec F S512 .f32 := multiReduction .add [1] S512 v86 0x00000000#32 reduces_S512x128_S512 (.inl rfl) rfl
  have v88 : FVec F S512x1 .f32 := shapeCast S512x1 v87 shapeCasts_S512_S512x1
  have cst_29 : F .f32 := Scalar.ofBits .f32 0x358637BD#32
  have v89 : FVec F S512x1 .f32 := broadcast S512x1 cst_29
  have v90 : FVec F S512x1 .f32 := addf v88 v89
  have v91 : FVec F S512x1 .f32 := rsqrt v90
  have v92 : FVec F S512x128 .f32 := broadcastTo S512x128 v91 broadcasts_S512x1_S512x128
  have v93 : FVec F S512x128 .f32 := mulf v85 v92
  have cst_30 : F .f32 := Scalar.ofBits .f32 0x3DB504F3#32
  have v94 : FVec F S512x128 .f32 := broadcast S512x128 cst_30
  have v95 : FVec F S512x128 .f32 := mulf v93 v94
  v95

noncomputable def k0_pay11 (v62 : FVec F S512x1536 .f32) : FVec F S512x128 .f32 :=
  have v96 : FVec F S512x128 .f32 := extractStridedSlice S512x128 ![0, 384] v62 slices_S512x1536_o0_384_S512x128
  have v97 : FVec F S512x128 .f32 := mulf v96 v96
  have v98 : FVec F S512 .f32 := multiReduction .add [1] S512 v97 0x00000000#32 reduces_S512x128_S512 (.inl rfl) rfl
  have v99 : FVec F S512x1 .f32 := shapeCast S512x1 v98 shapeCasts_S512_S512x1
  have cst_32 : F .f32 := Scalar.ofBits .f32 0x358637BD#32
  have v100 : FVec F S512x1 .f32 := broadcast S512x1 cst_32
  have v101 : FVec F S512x1 .f32 := addf v99 v100
  have v102 : FVec F S512x1 .f32 := rsqrt v101
  have v103 : FVec F S512x128 .f32 := broadcastTo S512x128 v102 broadcasts_S512x1_S512x128
  have v104 : FVec F S512x128 .f32 := mulf v96 v103
  have cst_33 : F .f32 := Scalar.ofBits .f32 0x3DB504F3#32
  have v105 : FVec F S512x128 .f32 := broadcast S512x128 cst_33
  have v106 : FVec F S512x128 .f32 := mulf v104 v105
  v106

noncomputable def k0_pay12 (v62 : FVec F S512x1536 .f32) : FVec F S512x128 .f32 :=
  have v107 : FVec F S512x128 .f32 := extractStridedSlice S512x128 ![0, 512] v62 slices_S512x1536_o0_512_S512x128
  have v108 : FVec F S512x128 .f32 := mulf v107 v107
  have v109 : FVec F S512 .f32 := multiReduction .add [1] S512 v108 0x00000000#32 reduces_S512x128_S512 (.inl rfl) rfl
  have v110 : FVec F S512x1 .f32 := shapeCast S512x1 v109 shapeCasts_S512_S512x1
  have cst_35 : F .f32 := Scalar.ofBits .f32 0x358637BD#32
  have v111 : FVec F S512x1 .f32 := broadcast S512x1 cst_35
  have v112 : FVec F S512x1 .f32 := addf v110 v111
  have v113 : FVec F S512x1 .f32 := rsqrt v112
  have v114 : FVec F S512x128 .f32 := broadcastTo S512x128 v113 broadcasts_S512x1_S512x128
  have v115 : FVec F S512x128 .f32 := mulf v107 v114
  v115

noncomputable def k0_pay13 (v62 : FVec F S512x1536 .f32) : FVec F S512x128 .f32 :=
  have v116 : FVec F S512x128 .f32 := extractStridedSlice S512x128 ![0, 640] v62 slices_S512x1536_o0_640_S512x128
  have v117 : FVec F S512x128 .f32 := mulf v116 v116
  have v118 : FVec F S512 .f32 := multiReduction .add [1] S512 v117 0x00000000#32 reduces_S512x128_S512 (.inl rfl) rfl
  have v119 : FVec F S512x1 .f32 := shapeCast S512x1 v118 shapeCasts_S512_S512x1
  have cst_37 : F .f32 := Scalar.ofBits .f32 0x358637BD#32
  have v120 : FVec F S512x1 .f32 := broadcast S512x1 cst_37
  have v121 : FVec F S512x1 .f32 := addf v119 v120
  have v122 : FVec F S512x1 .f32 := rsqrt v121
  have v123 : FVec F S512x128 .f32 := broadcastTo S512x128 v122 broadcasts_S512x1_S512x128
  have v124 : FVec F S512x128 .f32 := mulf v116 v123
  v124

noncomputable def k0_pay14 (v62 : FVec F S512x1536 .f32) : FVec F S512x128 .f32 :=
  have v125 : FVec F S512x128 .f32 := extractStridedSlice S512x128 ![0, 768] v62 slices_S512x1536_o0_768_S512x128
  v125

noncomputable def k0_pay15 (v62 : FVec F S512x1536 .f32) : FVec F S512 .f32 :=
  have v126 : FVec F S512x128 .f32 := mulf (k0_pay14 v62) (k0_pay14 v62)
  have v127 : FVec F S512 .f32 := multiReduction .add [1] S512 v126 0x00000000#32 reduces_S512x128_S512 (.inl rfl) rfl
  v127

noncomputable def k0_pay16 (v62 : FVec F S512x1536 .f32) (v73 : FVec F S512x128 .f32) (v84 : FVec F S512x128 .f32) (v95 : FVec F S512x128 .f32) (v106 : FVec F S512x128 .f32) (v115 : FVec F S512x128 .f32) (v124 : FVec F S512x128 .f32) (v125 : FVec F S512x128 .f32) (v127 : FVec F S512 .f32) : FVec F S512x1536 .f32 :=
  have v128 : FVec F S512x1 .f32 := shapeCast S512x1 v127 shapeCasts_S512_S512x1
  have cst_39 : F .f32 := Scalar.ofBits .f32 0x358637BD#32
  have v129 : FVec F S512x1 .f32 := broadcast S512x1 cst_39
  have v130 : FVec F S512x1 .f32 := addf v128 v129
  have v131 : FVec F S512x1 .f32 := rsqrt v130
  have v132 : FVec F S512x128 .f32 := broadcastTo S512x128 v131 broadcasts_S512x1_S512x128
  have v133 : FVec F S512x128 .f32 := mulf v125 v132
  have v134 : FVec F S512x128 .f32 := extractStridedSlice S512x128 ![0, 896] v62 slices_S512x1536_o0_896_S512x128
  have v135 : FVec F S512x128 .f32 := mulf v134 v134
  have v136 : FVec F S512 .f32 := multiReduction .add [1] S512 v135 0x00000000#32 reduces_S512x128_S512 (.inl rfl) rfl
  have v137 : FVec F S512x1 .f32 := shapeCast S512x1 v136 shapeCasts_S512_S512x1
  have cst_41 : F .f32 := Scalar.ofBits .f32 0x358637BD#32
  have v138 : FVec F S512x1 .f32 := broadcast S512x1 cst_41
  have v139 : FVec F S512x1 .f32 := addf v137 v138
  have v140 : FVec F S512x1 .f32 := rsqrt v139
  have v141 : FVec F S512x128 .f32 := broadcastTo S512x128 v140 broadcasts_S512x1_S512x128
  have v142 : FVec F S512x128 .f32 := mulf v134 v141
  have v143 : FVec F S512x128 .f32 := extractStridedSlice S512x128 ![0, 1024] v62 slices_S512x1536_o0_1024_S512x128
  have v144 : FVec F S512x128 .f32 := extractStridedSlice S512x128 ![0, 1152] v62 slices_S512x1536_o0_1152_S512x128
  have v145 : FVec F S512x128 .f32 := extractStridedSlice S512x128 ![0, 1280] v62 slices_S512x1536_o0_1280_S512x128
  have v146 : FVec F S512x128 .f32 := extractStridedSlice S512x128 ![0, 1408] v62 slices_S512x1536_o0_1408_S512x128
  have v147 : FVec F S512x1536 .f32 := concatenate S512x1536 1 [⟨S512x128, v73⟩, ⟨S512x128, v84⟩, ⟨S512x128, v95⟩, ⟨S512x128, v106⟩, ⟨S512x128, v115⟩, ⟨S512x128, v124⟩, ⟨S512x128, v133⟩, ⟨S512x128, v142⟩, ⟨S512x128, v143⟩, ⟨S512x128, v144⟩, ⟨S512x128, v145⟩, ⟨S512x128, v146⟩] concatenates_S512x128_S512x128_S512x128_S512x128_S512x128_S512x128_S512x128_S512x128_S512x128_S512x128_S512x128_S512x128_S512x1536_d1
  v147

noncomputable def k0_pay17 (v18 : FVec F S512x1536 .f32) : FVec F S8x1536 .f32 :=
  have v149 : FVec F S8x1536 .f32 := extractStridedSlice S8x1536 ![504, 0] v18 slices_S512x1536_o504_0_S8x1536
  have v152 : FVec F S8x1536 .f32 := shapeCast S8x1536 v149 shapeCasts_S8x1536_S8x1536
  v152

noncomputable def k0_pay18 (v15 : FVec F S512x1024 .bf16) (v153 : Vec F S1024x512 .bf16) : FVec F S512x512 .f32 :=
  have v154 : FVec F S1024x512 .bf16 := shapeCast S1024x512 v153 shapeCasts_S1024x512_S1024x512
  have cst_48 : FVec F S512x512 .f32 := constant S512x512 .f32 0x00000000#32
  have v155 : FVec F S512x512 .f32 := matmul dot_S512x1024_S1024x512_S512x512_1_0_0_1_n_n none v15 v154 cst_48
  v155

noncomputable def k0_pay19 (v15 : FVec F S512x1024 .bf16) (v157 : Vec F S1024x1408 .bf16) : FVec F S512x1408 .f32 :=
  have v158 : FVec F S1024x1408 .bf16 := shapeCast S1024x1408 v157 shapeCasts_S1024x1408_S1024x1408
  have cst_52 : FVec F S512x1408 .f32 := constant S512x1408 .f32 0x00000000#32
  have v159 : FVec F S512x1408 .f32 := matmul dot_S512x1024_S1024x1408_S512x1408_1_0_0_1_n_n none v15 v158 cst_52
  v159

noncomputable def k0_pay20 (v15 : FVec F S512x1024 .bf16) (v157 : Vec F S1024x1408 .bf16) : FVec F S512x512 .f32 :=
  have v160 : FVec F S512x512 .f32 := extractStridedSlice S512x512 ![0, 0] (k0_pay19 v15 v157) slices_S512x1408_o0_0_S512x512
  v160

noncomputable def k0_pay21 (v15 : FVec F S512x1024 .bf16) (v157 : Vec F S1024x1408 .bf16) : FVec F S512x768 .f32 :=
  have v162 : FVec F S512x768 .f32 := extractStridedSlice S512x768 ![0, 512] (k0_pay19 v15 v157) slices_S512x1408_o0_512_S512x768
  v162

noncomputable def cc0_in_proj_skel (i : grid0.Coords) (arg1 : Memref sig .tc .vmem S512x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S8x1536 .f32) (harg4 : arg4.IsWhole) (arg5 : Memref sig .tc .vmem S512x512 .f32) (harg5 : arg5.IsWhole) (arg6 : Memref sig .tc .vmem S512x1536 .f32) (harg6 : arg6.IsWhole) (arg7 : Memref sig .tc .vmem S512x512 .f32) (harg7 : arg7.IsWhole) (arg8 : Memref sig .tc .vmem S512x768 .f32) (harg8 : arg8.IsWhole) (arg9 : Memref sig .tc .vmem S512x128 .f32) (harg9 : arg9.IsWhole) (arg10 : Memref sig .tc .vmem S512x1536 .f32) (harg10 : arg10.IsWhole) (arg11 : Memref sig .tc .vmem S8x1536 .f32) (harg11 : arg11.IsWhole) :
    Prog (TpuEff nD τ sig (Elt F) Λ₀ .tc) PUnit := do
  let ⟨v15, v18, v34, c3_i32⟩ : Σ' (v15 : FVec F S512x1024 .bf16) (v18 : FVec F S512x1536 .f32) (v34 : FVec F S520x1536 .f32), BitVec 32 ← k0_part1 i arg1 harg1 arg2 harg2 arg3 harg3 arg4 harg4 arg5 harg5 arg6 harg6 arg7 harg7 arg8 harg8 arg9 harg9 arg10 harg10 arg11 harg11
  let ⟨v62, v73, v74, v79⟩ : Σ' (v62 : FVec F S512x1536 .f32) (v73 : FVec F S512x128 .f32) (v74 : FVec F S512x128 .f32), FVec F S512x1 .f32 ← k0_part2 i arg1 harg1 arg2 harg2 arg3 harg3 arg4 harg4 arg5 harg5 arg6 harg6 arg7 harg7 arg8 harg8 arg9 harg9 arg10 harg10 arg11 harg11 v34 c3_i32
  let ⟨v84, v95, v106, v115, v124, v125, v127⟩ : Σ' (v84 : FVec F S512x128 .f32) (v95 : FVec F S512x128 .f32) (v106 : FVec F S512x128 .f32) (v115 : FVec F S512x128 .f32) (v124 : FVec F S512x128 .f32) (v125 : FVec F S512x128 .f32), FVec F S512 .f32 ← k0_part3 i arg1 harg1 arg2 harg2 arg3 harg3 arg4 harg4 arg5 harg5 arg6 harg6 arg7 harg7 arg8 harg8 arg9 harg9 arg10 harg10 arg11 harg11 v62 v74 v79
  let v159 : FVec F S512x1408 .f32 ← k0_part4 i arg1 harg1 arg2 harg2 arg3 harg3 arg4 harg4 arg5 harg5 arg6 harg6 arg7 harg7 arg8 harg8 arg9 harg9 arg10 harg10 arg11 harg11 v15 v18 v62 v73 v84 v95 v106 v115 v124 v125 v127
  let v165 : Vec F S512x128 .f32 ← Prog.lift (.load arg9 (Rect.unit (s := S512x128) ![0, 0] S512x128.size inb_S512x128_S512x128_0_0).toLoadRect (View.loadsAt_vmem h_S512x128))
  Prog.lift (.store arg9 (Rect.unit (s := S512x128) ![0, 0] S512x128.size inb_S512x128_S512x128_0_0) (k0_pay1 v159) Finset.univ (View.stores_vmem_bits_univ h_S512x128 rfl) (.inl rfl))
  pure ⟨⟩

set_option maxRecDepth 65536 in
theorem cc0_in_proj_eq_skeleton : cc0_in_proj (F := F) = cc0_in_proj_skel (F := F) := rfl

noncomputable def k0_part1_skel (i : grid0.Coords) (arg1 : Memref sig .tc .vmem S512x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S8x1536 .f32) (harg4 : arg4.IsWhole) (arg5 : Memref sig .tc .vmem S512x512 .f32) (harg5 : arg5.IsWhole) (arg6 : Memref sig .tc .vmem S512x1536 .f32) (harg6 : arg6.IsWhole) (arg7 : Memref sig .tc .vmem S512x512 .f32) (harg7 : arg7.IsWhole) (arg8 : Memref sig .tc .vmem S512x768 .f32) (harg8 : arg8.IsWhole) (arg9 : Memref sig .tc .vmem S512x128 .f32) (harg9 : arg9.IsWhole) (arg10 : Memref sig .tc .vmem S512x1536 .f32) (harg10 : arg10.IsWhole) (arg11 : Memref sig .tc .vmem S8x1536 .f32) (harg11 : arg11.IsWhole) :
    Prog (TpuEff nD τ sig (Elt F) Λ₀ .tc) (Σ' (v15 : FVec F S512x1024 .bf16) (v18 : FVec F S512x1536 .f32) (v34 : FVec F S520x1536 .f32), BitVec 32) := do
  let v0 : Vec F S512x1024 .f32 ← Prog.lift (.load arg1 (Rect.unit (s := S512x1024) ![0, 0] S512x1024.size inb_S512x1024_S512x1024_0_0).toLoadRect (View.loadsAt_vmem h_S512x1024))
  let v1 : Vec F S1x1024 .f32 ← Prog.lift (.load arg2 (Rect.unit (s := S1x1024) ![0, 0] S1x1024.size inb_S1x1024_S1x1024_0_0).toLoadRect (View.loadsAt_vmem h_S1x1024))

  let v16 : Vec F S1024x1536 .bf16 ← Prog.lift (.load arg3 (Rect.unit (s := S1024x3456) ![0, 512] S1024x1536.size inb_S1024x3456_S1024x1536_0_512).toLoadRect (View.loadsAt_vmem h_S1024x1536))
  let v19 : Vec F S512x1536 .f32 ← Prog.lift (.load arg6 (Rect.unit (s := S512x1536) ![0, 0] S512x1536.size inb_S512x1536_S512x1536_0_0).toLoadRect (View.loadsAt_vmem h_S512x1536))
  Prog.lift (.store arg6 (Rect.unit (s := S512x1536) ![0, 0] S512x1536.size inb_S512x1536_S512x1536_0_0) (k0_pay3 v0 v1 v16) Finset.univ (View.stores_vmem_bits_univ h_S512x1536 rfl) (.inl rfl))
  let v31 : Vec F S8x1536 .f32 ← Prog.lift (.load arg11 (Rect.unit (s := S8x1536) ![0, 0] S8x1536.size inb_S8x1536_S8x1536_0_0).toLoadRect (View.loadsAt_vmem h_S8x1536))
  pure ⟨k0_pay2 v0 v1, k0_pay3 v0 v1 v16, k0_pay4 i v0 v1 v16 v31, 3#32⟩

set_option maxRecDepth 65536 in
theorem k0_part1_eq_skeleton : k0_part1 (F := F) = k0_part1_skel (F := F) := rfl

noncomputable def k0_part2_skel (i : grid0.Coords) (arg1 : Memref sig .tc .vmem S512x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S8x1536 .f32) (harg4 : arg4.IsWhole) (arg5 : Memref sig .tc .vmem S512x512 .f32) (harg5 : arg5.IsWhole) (arg6 : Memref sig .tc .vmem S512x1536 .f32) (harg6 : arg6.IsWhole) (arg7 : Memref sig .tc .vmem S512x512 .f32) (harg7 : arg7.IsWhole) (arg8 : Memref sig .tc .vmem S512x768 .f32) (harg8 : arg8.IsWhole) (arg9 : Memref sig .tc .vmem S512x128 .f32) (harg9 : arg9.IsWhole) (arg10 : Memref sig .tc .vmem S512x1536 .f32) (harg10 : arg10.IsWhole) (arg11 : Memref sig .tc .vmem S8x1536 .f32) (harg11 : arg11.IsWhole) (v34 : FVec F S520x1536 .f32) (c3_i32 : BitVec 32) :
    Prog (TpuEff nD τ sig (Elt F) Λ₀ .tc) (Σ' (v62 : FVec F S512x1536 .f32) (v73 : FVec F S512x128 .f32) (v74 : FVec F S512x128 .f32), FVec F S512x1 .f32) := do
  let v36 : Vec F S1x1536 .f32 ← Prog.lift (.load arg4 (Rect.unit (s := S8x1536) ![0, 0] S1x1536.size inb_S8x1536_S1x1536_0_0).toLoadRect (View.loadsAt_vmem h_S1x1536))
  let v42 : Vec F S1x1536 .f32 ← Prog.lift (.load arg4 (Rect.unit (s := S8x1536) ![1, 0] S1x1536.size inb_S8x1536_S1x1536_1_0).toLoadRect (View.loadsAt_vmem h_S1x1536))
  let v49 : Vec F S1x1536 .f32 ← Prog.lift (.load arg4 (Rect.unit (s := S8x1536) ![2, 0] S1x1536.size inb_S8x1536_S1x1536_2_0).toLoadRect (View.loadsAt_vmem h_S1x1536))
  let v55 : Vec F S1x1536 .f32 ← Prog.lift (.load arg4 (Rect.unit (s := S8x1536) ![3, 0] S1x1536.size inb_S8x1536_S1x1536_3_0).toLoadRect (View.loadsAt_vmem h_S1x1536))

  pure ⟨k0_pay5 v34 c3_i32 v36 v42 v49 v55, k0_pay6 v34 c3_i32 v36 v42 v49 v55, k0_pay7 v34 c3_i32 v36 v42 v49 v55, k0_pay8 v34 c3_i32 v36 v42 v49 v55⟩

set_option maxRecDepth 65536 in
theorem k0_part2_eq_skeleton : k0_part2 (F := F) = k0_part2_skel (F := F) := rfl

noncomputable def k0_part3_skel (i : grid0.Coords) (arg1 : Memref sig .tc .vmem S512x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S8x1536 .f32) (harg4 : arg4.IsWhole) (arg5 : Memref sig .tc .vmem S512x512 .f32) (harg5 : arg5.IsWhole) (arg6 : Memref sig .tc .vmem S512x1536 .f32) (harg6 : arg6.IsWhole) (arg7 : Memref sig .tc .vmem S512x512 .f32) (harg7 : arg7.IsWhole) (arg8 : Memref sig .tc .vmem S512x768 .f32) (harg8 : arg8.IsWhole) (arg9 : Memref sig .tc .vmem S512x128 .f32) (harg9 : arg9.IsWhole) (arg10 : Memref sig .tc .vmem S512x1536 .f32) (harg10 : arg10.IsWhole) (arg11 : Memref sig .tc .vmem S8x1536 .f32) (harg11 : arg11.IsWhole) (v62 : FVec F S512x1536 .f32) (v74 : FVec F S512x128 .f32) (v79 : FVec F S512x1 .f32) :
    Prog (TpuEff nD τ sig (Elt F) Λ₀ .tc) (Σ' (v84 : FVec F S512x128 .f32) (v95 : FVec F S512x128 .f32) (v106 : FVec F S512x128 .f32) (v115 : FVec F S512x128 .f32) (v124 : FVec F S512x128 .f32) (v125 : FVec F S512x128 .f32), FVec F S512 .f32) := do

  pure ⟨k0_pay9 v74 v79, k0_pay10 v62, k0_pay11 v62, k0_pay12 v62, k0_pay13 v62, k0_pay14 v62, k0_pay15 v62⟩

set_option maxRecDepth 65536 in
theorem k0_part3_eq_skeleton : k0_part3 (F := F) = k0_part3_skel (F := F) := rfl

noncomputable def k0_part4_skel (i : grid0.Coords) (arg1 : Memref sig .tc .vmem S512x1024 .f32) (harg1 : arg1.IsWhole) (arg2 : Memref sig .tc .vmem S1x1024 .f32) (harg2 : arg2.IsWhole) (arg3 : Memref sig .tc .vmem S1024x3456 .bf16) (harg3 : arg3.IsWhole) (arg4 : Memref sig .tc .vmem S8x1536 .f32) (harg4 : arg4.IsWhole) (arg5 : Memref sig .tc .vmem S512x512 .f32) (harg5 : arg5.IsWhole) (arg6 : Memref sig .tc .vmem S512x1536 .f32) (harg6 : arg6.IsWhole) (arg7 : Memref sig .tc .vmem S512x512 .f32) (harg7 : arg7.IsWhole) (arg8 : Memref sig .tc .vmem S512x768 .f32) (harg8 : arg8.IsWhole) (arg9 : Memref sig .tc .vmem S512x128 .f32) (harg9 : arg9.IsWhole) (arg10 : Memref sig .tc .vmem S512x1536 .f32) (harg10 : arg10.IsWhole) (arg11 : Memref sig .tc .vmem S8x1536 .f32) (harg11 : arg11.IsWhole) (v15 : FVec F S512x1024 .bf16) (v18 : FVec F S512x1536 .f32) (v62 : FVec F S512x1536 .f32) (v73 : FVec F S512x128 .f32) (v84 : FVec F S512x128 .f32) (v95 : FVec F S512x128 .f32) (v106 : FVec F S512x128 .f32) (v115 : FVec F S512x128 .f32) (v124 : FVec F S512x128 .f32) (v125 : FVec F S512x128 .f32) (v127 : FVec F S512 .f32) :
    Prog (TpuEff nD τ sig (Elt F) Λ₀ .tc) (FVec F S512x1408 .f32) := do

  let v148 : Vec F S512x1536 .f32 ← Prog.lift (.load arg10 (Rect.unit (s := S512x1536) ![0, 0] S512x1536.size inb_S512x1536_S512x1536_0_0).toLoadRect (View.loadsAt_vmem h_S512x1536))
  Prog.lift (.store arg10 (Rect.unit (s := S512x1536) ![0, 0] S512x1536.size inb_S512x1536_S512x1536_0_0) (k0_pay16 v62 v73 v84 v95 v106 v115 v124 v125 v127) Finset.univ (View.stores_vmem_bits_univ h_S512x1536 rfl) (.inl rfl))
  let v150 : Vec F S8x1536 .f32 ← Prog.lift (.load arg11 (Rect.unit (s := S8x1536) ![0, 0] S8x1536.size inb_S8x1536_S8x1536_0_0).toLoadRect (View.loadsAt_vmem h_S8x1536))

  Prog.lift (.store arg11 (Rect.unit (s := S8x1536) ![0, 0] S8x1536.size inb_S8x1536_S8x1536_0_0) (k0_pay17 v18) Finset.univ (View.stores_vmem_bits_univ h_S8x1536 rfl) (.inl rfl))
  let v153 : Vec F S1024x512 .bf16 ← Prog.lift (.load arg3 (Rect.unit (s := S1024x3456) ![0, 0] S1024x512.size inb_S1024x3456_S1024x512_0_0).toLoadRect (View.loadsAt_vmem h_S1024x512))
  let v156 : Vec F S512x512 .f32 ← Prog.lift (.load arg5 (Rect.unit (s := S512x512) ![0, 0] S512x512.size inb_S512x512_S512x512_0_0).toLoadRect (View.loadsAt_vmem h_S512x512))
  Prog.lift (.store arg5 (Rect.unit (s := S512x512) ![0, 0] S512x512.size inb_S512x512_S512x512_0_0) (k0_pay18 v15 v153) Finset.univ (View.stores_vmem_bits_univ h_S512x512 rfl) (.inl rfl))
  let v157 : Vec F S1024x1408 .bf16 ← Prog.lift (.load arg3 (Rect.unit (s := S1024x3456) ![0, 2048] S1024x1408.size inb_S1024x3456_S1024x1408_0_2048).toLoadRect (View.loadsAt_vmem h_S1024x1408))
  let v161 : Vec F S512x512 .f32 ← Prog.lift (.load arg7 (Rect.unit (s := S512x512) ![0, 0] S512x512.size inb_S512x512_S512x512_0_0).toLoadRect (View.loadsAt_vmem h_S512x512))
  Prog.lift (.store arg7 (Rect.unit (s := S512x512) ![0, 0] S512x512.size inb_S512x512_S512x512_0_0) (k0_pay20 v15 v157) Finset.univ (View.stores_vmem_bits_univ h_S512x512 rfl) (.inl rfl))
  let v163 : Vec F S512x768 .f32 ← Prog.lift (.load arg8 (Rect.unit (s := S512x768) ![0, 0] S512x768.size inb_S512x768_S512x768_0_0).toLoadRect (View.loadsAt_vmem h_S512x768))
  Prog.lift (.store arg8 (Rect.unit (s := S512x768) ![0, 0] S512x768.size inb_S512x768_S512x768_0_0) (k0_pay21 v15 v157) Finset.univ (View.stores_vmem_bits_univ h_S512x768 rfl) (.inl rfl))
  pure (k0_pay19 v15 v157)

set_option maxRecDepth 65536 in
theorem k0_part4_eq_skeleton : k0_part4 (F := F) = k0_part4_skel (F := F) := rfl

end Cert.Proj.Body

end
-- ==== Proof.OutfRows.lean ====
/-
  The output projection, forward: every result array of the kernel is the reference's.
-/
module

public import proofs.«01_k».proof.Proof.Gen.OutfIdeal.Frame
public import proofs.«01_k».proof.Proof.Gen.OutfRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.OutfIdeal.Rows

open Cert.OutfIdeal Cert.OutfIdeal.Gen Cert.OutfRefIdeal.Read

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, t.val, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0] :=
  (by decide +kernel : ∀ t : Fin grid0.N, _)

theorem blk_0 (c : Dev nD) (t : Fin cfg0.N) (l : Fin 512) (hl : t.val * 512 + l.val < 8192) (k : Fin 1024) : iblk m c 0 t (ix2 l k) = (m ((c : Thread nD τ).loc main_arg0) : FVec Ideal S8192x1024 .f32) (ix2 ⟨t.val * 512 + l.val, hl⟩ k) := by
  blk_point [iblk, V, idx t]

theorem blk_1 (c : Dev nD) (t : Fin cfg0.N) (l : Fin 512) (hl : t.val * 512 + l.val < 8192) (k : Fin 256) : iblk m c 1 t (ix2 l k) = (m ((c : Thread nD τ).loc main_arg1) : FVec Ideal S8192x256 .f32) (ix2 ⟨t.val * 512 + l.val, hl⟩ k) := by
  blk_point [iblk, V, idx t]

theorem blk_2 (c : Dev nD) (t : Fin cfg0.N) (l : Fin 512) (hl : t.val * 512 + l.val < 8192) (k : Fin 512) : iblk m c 2 t (ix2 l k) = (m ((c : Thread nD τ).loc main_arg2) : FVec Ideal S8192x512 .f32) (ix2 ⟨t.val * 512 + l.val, hl⟩ k) := by
  blk_point [iblk, V, idx t]

theorem blk_3 (c : Dev nD) (t : Fin cfg0.N) (l : Fin 512) (hl : t.val * 512 + l.val < 8192) (k : Fin 256) : iblk m c 3 t (ix2 l k) = (m ((c : Thread nD τ).loc main_arg3) : FVec Ideal S8192x256 .f32) (ix2 ⟨t.val * 512 + l.val, hl⟩ k) := by
  blk_point [iblk, V, idx t]

theorem blk_4 (c : Dev nD) (t : Fin cfg0.N) (l : Fin 512) (hl : t.val * 512 + l.val < 8192) (k : Fin 256) : iblk m c 4 t (ix3 0 l k) = (m ((c : Thread nD τ).loc main_arg4) : FVec Ideal S8192x256 .f32) (ix2 ⟨t.val * 512 + l.val, hl⟩ k) := by
  refine Eq.trans (b := V m c main_v0 (ix3 0 ⟨t.val * 512 + l.val, hl⟩ k)) ?_ ?_
  · blk_point [iblk, idx t]
  · entry_read
    pointwise

theorem blk_5 (c : Dev nD) (t : Fin cfg0.N) (a : Fin 1024) (k : Fin 1024) : iblk m c 5 t (ix2 a k) = (m ((c : Thread nD τ).loc main_arg5) : FVec Ideal S1024x1024 .f32) (ix2 a k) := by
  refine Eq.trans (b := V m c main_v1 (ix2 a k)) ?_ ?_
  · blk_point [iblk, idx t]
  · entry_read
    pointwise

theorem blk_7 (c : Dev nD) (t : Fin cfg0.N) (a : Fin 1024) (k : Fin 1024) : iblk m c 7 t (ix2 a k) = (m ((c : Thread nD τ).loc main_arg7) : FVec Ideal S1024x1024 .f32) (ix2 a k) := by
  refine Eq.trans (b := V m c main_v3 (ix2 a k)) ?_ ?_
  · blk_point [iblk, idx t]
  · entry_read
    pointwise

theorem blk_8 (c : Dev nD) (t : Fin cfg0.N) (a : Fin 256) (k : Fin 1024) : iblk m c 8 t (ix2 a k) = (m ((c : Thread nD τ).loc main_arg8) : FVec Ideal S256x1024 .f32) (ix2 a k) := by
  refine Eq.trans (b := V m c main_v4 (ix2 a k)) ?_ ?_
  · blk_point [iblk, idx t]
  · entry_read
    pointwise

theorem blk_6 (c : Dev nD) (t : Fin cfg0.N) (k : Fin 1024) : iblk m c 6 t (ix2 0 k) = (m ((c : Thread nD τ).loc main_arg6) : FVec Ideal S1024 .f32) (ix1 k) := by
  refine Eq.trans (b := V m c main_v2 (ix2 0 k)) ?_ ?_
  · blk_point [iblk, idx t]
  · entry_read
    pointwise

/-- The residual stream of a token. -/
theorem row_x1 (c : Dev nD) (t : Fin cfg0.N) (l : Fin 512) (hl : t.val * 512 + l.val < 8192) (k : Fin 1024) :
    (k0_pay2 (iblk m c 1 t) (iblk m c 2 t) (iblk m c 3 t) (iblk m c 0 t) (iblk m c 5 t)) (ix2 l k)
      = (val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 ⟨t.val * 512 + l.val, hl⟩ k) := by
  pointwise [k0_pay2, val_main_v2, val_main_v1, val_main_v0]
  simp only [blk_0 m c t l hl, blk_1 m c t l hl, blk_2 m c t l hl, blk_3 m c t l hl, blk_4 m c t l hl, blk_5 m c t, blk_6 m c t, blk_7 m c t, blk_8 m c t]

/-- The gate of a token. -/
theorem row_gate (c : Dev nD) (t : Fin cfg0.N) (l : Fin 512) (hl : t.val * 512 + l.val < 8192) (k : Fin 1024) :
    (k0_pay3 (iblk m c 1 t) (iblk m c 2 t) (iblk m c 3 t) (iblk m c 0 t) (iblk m c 5 t) (iblk m c 6 t) (iblk m c 7 t)) (ix2 l k)
      = (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (ix2 ⟨t.val * 512 + l.val, hl⟩ k) := by
  pointwise [k0_pay3, k0_pay2, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  simp only [blk_0 m c t l hl, blk_1 m c t l hl, blk_2 m c t l hl, blk_3 m c t l hl, blk_4 m c t l hl, blk_5 m c t, blk_6 m c t, blk_7 m c t, blk_8 m c t]
  simp only [Ideal.logistic]

/-- The result of a token. -/
theorem row_x2 (c : Dev nD) (t : Fin cfg0.N) (l : Fin 512) (hl : t.val * 512 + l.val < 8192) (k : Fin 1024) :
    k0_pay1 (k0_pay2 (iblk m c 1 t) (iblk m c 2 t) (iblk m c 3 t) (iblk m c 0 t) (iblk m c 5 t)) (k0_pay3 (iblk m c 1 t) (iblk m c 2 t) (iblk m c 3 t) (iblk m c 0 t) (iblk m c 5 t) (iblk m c 6 t) (iblk m c 7 t)) (k0_pay4 (iblk m c 4 t)) (k0_pay5 (iblk m c 8 t)) (constant S512x1024 .f32 0x00000000#32) (ix2 l k)
      = (val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨t.val * 512 + l.val, hl⟩ k) := by
  pointwise [k0_pay1, k0_pay4, k0_pay5, val_main_v25, val_main_v24, val_main_v23]
  rw [row_x1 m c t l hl, row_gate m c t l hl]
  simp only [blk_0 m c t l hl, blk_1 m c t l hl, blk_2 m c t l hl, blk_3 m c t l hl, blk_4 m c t l hl, blk_5 m c t, blk_6 m c t, blk_7 m c t, blk_8 m c t]

/-- A result array. -/
theorem final_9 (c : Dev nD) : (dats m 0 c).arrAt 9 (cfgs 0).N = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  have key : ∀ (l : Fin 512) (hl : t.val * 512 + l.val < 8192) k, _ := fun l hl k => row_x2 m c t l hl k
  have at_place : ∀ (l : Fin 512) (hl : t.val * 512 + l.val < 8192) (k : Fin 1024),
      (val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix2 ⟨t.val * 512 + l.val, hl⟩ k)
        = (val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (((View.whole main_v5_0).slice (win0_9.rect t)).emb (ix2 l k)) := by
    intro l hl k
    generalize val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = R
    refine Eq.symm ?_
    blk_point [idx t]
  blk_simp
  rw [after0_9]
  idx_vars y
  have hl : t.val * 512 + y0.val < 8192 := by
    have h16 := lt_of_lt_of_eq t.isLt N_0
    have h512 := y0.isLt
    omega
  frame_out [k0_pay6, k0_pay7]
  exact (key y0 hl y1).trans (at_place y0 hl y1)

/-- A result array. -/
theorem final_10 (c : Dev nD) : (dats m 0 c).arrAt 10 (cfgs 0).N = val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 10 _ (by decide +kernel) fun t hf y => ?_
  have key : ∀ (l : Fin 512) (hl : t.val * 512 + l.val < 8192) k, _ := fun l hl k => row_x1 m c t l hl k
  have at_place : ∀ (l : Fin 512) (hl : t.val * 512 + l.val < 8192) (k : Fin 1024),
      (val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 ⟨t.val * 512 + l.val, hl⟩ k)
        = (val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (((View.whole main_v5_1).slice (win0_10.rect t)).emb (ix2 l k)) := by
    intro l hl k
    generalize val_main_v2 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = R
    refine Eq.symm ?_
    blk_point [idx t]
  blk_simp
  rw [after0_10]
  idx_vars y
  have hl : t.val * 512 + y0.val < 8192 := by
    have h16 := lt_of_lt_of_eq t.isLt N_0
    have h512 := y0.isLt
    omega
  frame_out [k0_pay6, k0_pay7]
  exact (key y0 hl y1).trans (at_place y0 hl y1)

/-- A result array. -/
theorem final_11 (c : Dev nD) : (dats m 0 c).arrAt 11 (cfgs 0).N = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 11 _ (by decide +kernel) fun t hf y => ?_
  have key : ∀ (l : Fin 512) (hl : t.val * 512 + l.val < 8192) k, _ := fun l hl k => row_gate m c t l hl k
  have at_place : ∀ (l : Fin 512) (hl : t.val * 512 + l.val < 8192) (k : Fin 1024),
      (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (ix2 ⟨t.val * 512 + l.val, hl⟩ k)
        = (val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (((View.whole main_v5_2).slice (win0_11.rect t)).emb (ix2 l k)) := by
    intro l hl k
    generalize val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) = R
    refine Eq.symm ?_
    blk_point [idx t]
  blk_simp
  rw [after0_11]
  idx_vars y
  have hl : t.val * 512 + y0.val < 8192 := by
    have h16 := lt_of_lt_of_eq t.isLt N_0
    have h512 := y0.isLt
    omega
  frame_out [k0_pay6, k0_pay7]
  exact (key y0 hl y1).trans (at_place y0 hl y1)

end Cert.OutfIdeal.Rows

end
-- ==== Proof.OutfClaim.lean ====
/- The output projection, forward: the kernel's three results are the reference's, and the reference's frame. -/
module

public import proofs.«01_k».proof.Defs
public import proofs.«01_k».proof.Proof.Gen.OutfIdeal.Frame
public import proofs.«01_k».proof.Proof.Gen.OutfIdeal.Value
public import proofs.«01_k».proof.Proof.Gen.OutfRefIdeal.Run
public import proofs.«01_k».proof.Proof.Gen.OutfRefIdeal.Read
public import proofs.«01_k».proof.Proof.OutfRows
public import Idealize.ShloMosaic.Lib.Claim

@[expose] public section

set_option maxRecDepth 16384

noncomputable section

namespace Cert.OutfClaim

open Idealize.ShloMosaic Idealize.SL.Sem

/-- The reference leaves its arguments alone; it declares no semaphore. -/
theorem ref_frame : Cert.quiescent_OutfRefIdeal := fun m ρ _ =>
  (θ_run Cert.OutfRefIdeal.defs _ _).mono (fun r h => ⟨fun c => (h c).2.2.2, sem_eq_zero_of_no_sems (by decide) r.2⟩)
    (Cert.OutfRefIdeal.Value.run (F := Ideal) m ρ)

set_option maxHeartbeats 1600000 in
/-- The kernel's results are the reference's. -/
theorem algebraic : Cert.algebraic_OutfIdeal_OutfRefIdeal := by
  intro m g m' g' hpre hagree
  refine ⟨fun c => (Cert.OutfIdeal.Gen.dats m 0 c).arrAt 9 (Cert.OutfIdeal.cfgs 0).N,
    fun c => (Cert.OutfIdeal.Gen.dats m 0 c).arrAt 10 (Cert.OutfIdeal.cfgs 0).N,
    fun c => (Cert.OutfIdeal.Gen.dats m 0 c).arrAt 11 (Cert.OutfIdeal.cfgs 0).N, ?_, ?_⟩
  · exact θ_run_mono (θ_run_and (Cert.OutfIdeal.Gen.run_main m g) (Cert.OutfIdeal.Gen.unchanged m g)) fun r hr c =>
      ⟨(hr.1 c).1 9, (hr.1 c).1 10, (hr.1 c).1 11, hr.2 c⟩
  · have ha := PLift.up hagree
    clear hagree
    run_from Cert.OutfRefIdeal.Value.run m' g'
    · refine (Cert.OutfRefIdeal.Read.val_main_v25_eq ..).trans ?_
      simp only [ha.down c]
      exact (Cert.OutfIdeal.Rows.final_9 m c).symm
    · refine (Cert.OutfRefIdeal.Read.val_main_v2_eq ..).trans ?_
      simp only [ha.down c]
      exact (Cert.OutfIdeal.Rows.final_10 m c).symm
    · refine (Cert.OutfRefIdeal.Read.val_main_v22_eq ..).trans ?_
      simp only [ha.down c]
      exact (Cert.OutfIdeal.Rows.final_11 m c).symm

end Cert.OutfClaim

end
-- ==== Proof.HeadRows.lean ====
/-
  The last layer's output projection with the loss: the rows of each block, in terms of the reference.
-/
module

public import proofs.«01_k».proof.Proof.Gen.HeadIdeal.Frame
public import proofs.«01_k».proof.Proof.Gen.HeadRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.HeadIdeal.Rows

open Cert.HeadIdeal Cert.HeadIdeal.Gen Cert.HeadRefIdeal.Read

variable (m : (ℓ : Loc nD τ sig) → Buf (Elt Ideal) ℓ)

/-- Every window's block index at every grid point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, t.val, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![t.val, 0]
    ∧ win0_14.index t = ![0, 0]
    ∧ win0_15.index t = ![0, 0] :=
  (by decide +kernel : ∀ t : Fin grid0.N, _)

theorem blk_0 (c : Dev nD) (t : Fin cfg0.N) (l : Fin 512) (hl : t.val * 512 + l.val < 8192) (k : Fin 1024) : iblk m c 0 t (ix2 l k) = (m ((c : Thread nD τ).loc main_arg0) : FVec Ideal S8192x1024 .f32) (ix2 ⟨t.val * 512 + l.val, hl⟩ k) := by
  blk_point [iblk, V, idx t]

theorem blk_1 (c : Dev nD) (t : Fin cfg0.N) (l : Fin 512) (hl : t.val * 512 + l.val < 8192) (k : Fin 256) : iblk m c 1 t (ix2 l k) = (m ((c : Thread nD τ).loc main_arg1) : FVec Ideal S8192x256 .f32) (ix2 ⟨t.val * 512 + l.val, hl⟩ k) := by
  blk_point [iblk, V, idx t]

theorem blk_2 (c : Dev nD) (t : Fin cfg0.N) (l : Fin 512) (hl : t.val * 512 + l.val < 8192) (k : Fin 512) : iblk m c 2 t (ix2 l k) = (m ((c : Thread nD τ).loc main_arg2) : FVec Ideal S8192x512 .f32) (ix2 ⟨t.val * 512 + l.val, hl⟩ k) := by
  blk_point [iblk, V, idx t]

theorem blk_3 (c : Dev nD) (t : Fin cfg0.N) (l : Fin 512) (hl : t.val * 512 + l.val < 8192) (k : Fin 256) : iblk m c 3 t (ix2 l k) = (m ((c : Thread nD τ).loc main_arg3) : FVec Ideal S8192x256 .f32) (ix2 ⟨t.val * 512 + l.val, hl⟩ k) := by
  blk_point [iblk, V, idx t]

theorem blk_10 (c : Dev nD) (t : Fin cfg0.N) (l : Fin 512) (hl : t.val * 512 + l.val < 8192) (k : Fin 1024) : iblk m c 10 t (ix2 l k) = (m ((c : Thread nD τ).loc main_arg10) : FVec Ideal S8192x1024 .f32) (ix2 ⟨t.val * 512 + l.val, hl⟩ k) := by
  blk_point [iblk, V, idx t]

theorem blk_4 (c : Dev nD) (t : Fin cfg0.N) (l : Fin 512) (hl : t.val * 512 + l.val < 8192) (k : Fin 256) : iblk m c 4 t (ix3 0 l k) = (m ((c : Thread nD τ).loc main_arg4) : FVec Ideal S1x8192x256 .f32) (ix3 0 ⟨t.val * 512 + l.val, hl⟩ k) := by
  blk_point [iblk, V, idx t]

theorem blk_5 (c : Dev nD) (t : Fin cfg0.N) (a : Fin 1024) (k : Fin 1024) : iblk m c 5 t (ix2 a k) = (m ((c : Thread nD τ).loc main_arg5) : FVec Ideal S1x1024x1024 .f32) (ix3 0 a k) := by
  refine Eq.trans (b := V m c main_v1 (ix2 a k)) ?_ ?_
  · blk_point [iblk, idx t]
  · entry_read
    pointwise

theorem blk_7 (c : Dev nD) (t : Fin cfg0.N) (a : Fin 1024) (k : Fin 1024) : iblk m c 7 t (ix2 a k) = (m ((c : Thread nD τ).loc main_arg7) : FVec Ideal S1x1024x1024 .f32) (ix3 0 a k) := by
  refine Eq.trans (b := V m c main_v5 (ix2 a k)) ?_ ?_
  · blk_point [iblk, idx t]
  · entry_read
    pointwise

theorem blk_8 (c : Dev nD) (t : Fin cfg0.N) (a : Fin 256) (k : Fin 1024) : iblk m c 8 t (ix2 a k) = (m ((c : Thread nD τ).loc main_arg8) : FVec Ideal S1x256x1024 .f32) (ix3 0 a k) := by
  refine Eq.trans (b := V m c main_v7 (ix2 a k)) ?_ ?_
  · blk_point [iblk, idx t]
  · entry_read
    pointwise

theorem blk_6 (c : Dev nD) (t : Fin cfg0.N) (k : Fin 1024) : iblk m c 6 t (ix2 0 k) = (m ((c : Thread nD τ).loc main_arg6) : FVec Ideal S1x1024 .f32) (ix2 0 k) := by
  refine Eq.trans (b := V m c main_v3 (ix2 0 k)) ?_ ?_
  · blk_point [iblk, idx t]
  · entry_read
    pointwise

theorem blk_9 (c : Dev nD) (t : Fin cfg0.N) (k : Fin 1024) : iblk m c 9 t (ix2 0 k) = (m ((c : Thread nD τ).loc main_arg9) : FVec Ideal S1024 .f32) (ix1 k) := by
  refine Eq.trans (b := V m c main_v8 (ix2 0 k)) ?_ ?_
  · blk_point [iblk, idx t]
  · entry_read
    pointwise

/-- The residual stream of a block. -/
def X1 (c : Dev nD) (t : Fin cfg0.N) : FVec Ideal S512x1024 .f32 := k0_pay5 (iblk m c 1 t) (iblk m c 2 t) (iblk m c 3 t) (iblk m c 0 t) (iblk m c 5 t)

/-- The gates of a block. -/
def GT (c : Dev nD) (t : Fin cfg0.N) : FVec Ideal S512x1024 .f32 := k0_pay6 (iblk m c 1 t) (iblk m c 2 t) (iblk m c 3 t) (iblk m c 0 t) (iblk m c 5 t) (iblk m c 6 t) (iblk m c 7 t)

/-- The result of the layer for a block. -/
def X2 (c : Dev nD) (t : Fin cfg0.N) : FVec Ideal S512x1024 .f32 := k0_pay9 (X1 m c t) (GT m c t) (k0_pay7 (iblk m c 4 t)) (k0_pay8 (iblk m c 8 t)) (constant S512x1024 .f32 0x00000000#32)

/-- The mean square of each row of a block, with the epsilon. -/
def VAR (c : Dev nD) (t : Fin cfg0.N) : FVec Ideal S512x1 .f32 := k0_pay13 (X1 m c t) (GT m c t) (k0_pay7 (iblk m c 4 t)) (k0_pay8 (iblk m c 8 t)) (constant S512x1024 .f32 0x00000000#32)

/-- Its inverse square root. -/
def RS (c : Dev nD) (t : Fin cfg0.N) : FVec Ideal S512x1 .f32 := k0_pay14 (X1 m c t) (GT m c t) (k0_pay7 (iblk m c 4 t)) (k0_pay8 (iblk m c 8 t)) (constant S512x1024 .f32 0x00000000#32)

/-- The slope of the inverse square root. -/
def HF (c : Dev nD) (t : Fin cfg0.N) : FVec Ideal S512x1 .f32 := k0_pay15 (X1 m c t) (GT m c t) (k0_pay7 (iblk m c 4 t)) (k0_pay8 (iblk m c 8 t)) (constant S512x1024 .f32 0x00000000#32)

/-- The normalised rows of a block. -/
def NRM (c : Dev nD) (t : Fin cfg0.N) : FVec Ideal S512x1024 .f32 := k0_pay16 (X1 m c t) (GT m c t) (k0_pay7 (iblk m c 4 t)) (k0_pay8 (iblk m c 8 t)) (constant S512x1024 .f32 0x00000000#32)

/-- The error of each row of a block. -/
def ERR (c : Dev nD) (t : Fin cfg0.N) : FVec Ideal S512x1024 .f32 := k0_pay17 (X1 m c t) (GT m c t) (k0_pay7 (iblk m c 4 t)) (k0_pay8 (iblk m c 8 t)) (constant S512x1024 .f32 0x00000000#32) (iblk m c 9 t) (iblk m c 10 t)

theorem half_bits : Ideal.ofBits .f32 0x3F000000#32 = ((1 / 2 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem width_bits : Ideal.ofBits .f32 0x44800000#32 = ((1024 : ℝ) : EReal) := by
  simp [Ideal.ofBits, Ideal.ieee, -EReal.coe_mul]; norm_num

/-- Half of twice an error over the width is the error over the width. -/
theorem scale (x : EReal) : Ideal.div x (Ideal.ofBits .f32 0x44800000#32)
    = Ideal.div (Ideal.ofBits .f32 0x3F000000#32) (Ideal.ofBits .f32 0x44800000#32) * (Ideal.ofBits .f32 0x40000000#32 * x) := by
  rw [half_bits, two_bits, width_bits, Ideal.div_coe (by norm_num), Ideal.div_coe (by norm_num), ← mul_assoc, ← EReal.coe_mul, ← EReal.coe_mul, mul_comm x]
  congr 2
  norm_num

theorem row_x1 (c : Dev nD) (t : Fin cfg0.N) (l : Fin 512) (b : Fin 2) (s : Fin 4096) (h : b.val * 4096 + s.val = t.val * 512 + l.val) (k : Fin 1024) :
    X1 m c t (ix2 l k)
      = (val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s k) := by
  have hl : t.val * 512 + l.val < 8192 := by have h1 := lt_of_lt_of_eq t.isLt N_0; have h2 := l.isLt; omega
  pointwise [X1, k0_pay5, val_main_v8, val_main_v7, val_main_v6, val_main_v5, val_main_v4, val_main_v3, val_main_v2, val_main_v1, val_main_v0]
  simp only [blk_0 m c t l hl, blk_1 m c t l hl, blk_2 m c t l hl, blk_3 m c t l hl, blk_4 m c t l hl, blk_10 m c t l hl, blk_5 m c t, blk_6 m c t, blk_7 m c t, blk_8 m c t, blk_9 m c t, h]

theorem row_gate (c : Dev nD) (t : Fin cfg0.N) (l : Fin 512) (b : Fin 2) (s : Fin 4096) (h : b.val * 4096 + s.val = t.val * 512 + l.val) (k : Fin 1024) :
    GT m c t (ix2 l k)
      = (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (ix3 b s k) := by
  have hl : t.val * 512 + l.val < 8192 := by have h1 := lt_of_lt_of_eq t.isLt N_0; have h2 := l.isLt; omega
  pointwise [GT, k0_pay6, k0_pay5, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  simp only [blk_0 m c t l hl, blk_1 m c t l hl, blk_2 m c t l hl, blk_3 m c t l hl, blk_4 m c t l hl, blk_10 m c t l hl, blk_5 m c t, blk_6 m c t, blk_7 m c t, blk_8 m c t, blk_9 m c t, h]
  simp only [Ideal.logistic]

theorem row_x2 (c : Dev nD) (t : Fin cfg0.N) (l : Fin 512) (b : Fin 2) (s : Fin 4096) (h : b.val * 4096 + s.val = t.val * 512 + l.val) (k : Fin 1024) :
    X2 m c t (ix2 l k)
      = (val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k) := by
  have hl : t.val * 512 + l.val < 8192 := by have h1 := lt_of_lt_of_eq t.isLt N_0; have h2 := l.isLt; omega
  pointwise [X2, k0_pay9, k0_pay7, k0_pay8, val_main_v36, val_main_v35, val_main_v34, val_main_v33, val_main_v32, val_main_v31, val_main_v4, val_main_v5, val_main_v3]
  rw [row_x1 m c t l b s h, row_gate m c t l b s h]
  simp only [blk_0 m c t l hl, blk_1 m c t l hl, blk_2 m c t l hl, blk_3 m c t l hl, blk_4 m c t l hl, blk_10 m c t l hl, blk_5 m c t, blk_6 m c t, blk_7 m c t, blk_8 m c t, blk_9 m c t, h]

theorem x2_def (c : Dev nD) (t : Fin cfg0.N) : X2 m c t = k0_pay9 (X1 m c t) (GT m c t) (k0_pay7 (iblk m c 4 t)) (k0_pay8 (iblk m c 8 t)) (constant S512x1024 .f32 0x00000000#32) := rfl

theorem row_var (c : Dev nD) (t : Fin cfg0.N) (l : Fin 512) (b : Fin 2) (s : Fin 4096) (h : b.val * 4096 + s.val = t.val * 512 + l.val) :
    VAR m c t (ix2 l 0)
      = (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s 0) := by
  pointwise [VAR, k0_pay13, val_main_v43, val_main_v42, val_main_v41, val_main_v40, val_main_v39, val_main_v38, val_main_v37, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  rw [← x2_def m c t]
  simp only [row_x2 m c t l b s h]

theorem row_rs (c : Dev nD) (t : Fin cfg0.N) (l : Fin 512) (b : Fin 2) (s : Fin 4096) (h : b.val * 4096 + s.val = t.val * 512 + l.val) :
    RS m c t (ix2 l 0)
      = (val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s 0) := by
  refine Eq.trans (b := Ideal.rsqrt (VAR m c t (ix2 l 0))) ?_ ?_
  · rfl
  · rw [row_var m c t l b s h]
    rfl

theorem var_def (c : Dev nD) (t : Fin cfg0.N) : VAR m c t = k0_pay13 (X1 m c t) (GT m c t) (k0_pay7 (iblk m c 4 t)) (k0_pay8 (iblk m c 8 t)) (constant S512x1024 .f32 0x00000000#32) := rfl

theorem rs_def (c : Dev nD) (t : Fin cfg0.N) : RS m c t = k0_pay14 (X1 m c t) (GT m c t) (k0_pay7 (iblk m c 4 t)) (k0_pay8 (iblk m c 8 t)) (constant S512x1024 .f32 0x00000000#32) := rfl

theorem hf_def (c : Dev nD) (t : Fin cfg0.N) : HF m c t = k0_pay15 (X1 m c t) (GT m c t) (k0_pay7 (iblk m c 4 t)) (k0_pay8 (iblk m c 8 t)) (constant S512x1024 .f32 0x00000000#32) := rfl

theorem nrm_def (c : Dev nD) (t : Fin cfg0.N) : NRM m c t = k0_pay16 (X1 m c t) (GT m c t) (k0_pay7 (iblk m c 4 t)) (k0_pay8 (iblk m c 8 t)) (constant S512x1024 .f32 0x00000000#32) := rfl

theorem row_hf (c : Dev nD) (t : Fin cfg0.N) (l : Fin 512) (b : Fin 2) (s : Fin 4096) (h : b.val * 4096 + s.val = t.val * 512 + l.val) :
    HF m c t (ix2 l 0)
      = (val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s 0) := by
  pointwise [HF, k0_pay15, val_main_v47, val_main_v46, val_main_v45, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  rw [← rs_def m c t, ← var_def m c t, row_rs m c t l b s h, row_var m c t l b s h]

theorem row_nrm (c : Dev nD) (t : Fin cfg0.N) (l : Fin 512) (b : Fin 2) (s : Fin 4096) (h : b.val * 4096 + s.val = t.val * 512 + l.val) (k : Fin 1024) :
    NRM m c t (ix2 l k)
      = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k) := by
  pointwise [NRM, k0_pay16, val_main_v49, val_main_v48]
  rw [← x2_def m c t, ← rs_def m c t, row_rs m c t l b s h, row_x2 m c t l b s h]

theorem row_err (c : Dev nD) (t : Fin cfg0.N) (l : Fin 512) (b : Fin 2) (s : Fin 4096) (h : b.val * 4096 + s.val = t.val * 512 + l.val) (k : Fin 1024) :
    ERR m c t (ix2 l k)
      = (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 b s k) := by
  have hl : t.val * 512 + l.val < 8192 := by have h1 := lt_of_lt_of_eq t.isLt N_0; have h2 := l.isLt; omega
  pointwise [ERR, k0_pay17, k0_pay12, val_main_v53, val_main_v52, val_main_v51, val_main_v50, val_main_v4]
  rw [← nrm_def m c t, row_nrm m c t l b s h]
  simp only [blk_0 m c t l hl, blk_1 m c t l hl, blk_2 m c t l hl, blk_3 m c t l hl, blk_4 m c t l hl, blk_10 m c t l hl, blk_5 m c t, blk_6 m c t, blk_7 m c t, blk_8 m c t, blk_9 m c t, h]

/-- The cotangent of the normalised rows. -/
theorem row_ct (c : Dev nD) (t : Fin cfg0.N) (l : Fin 512) (b : Fin 2) (s : Fin 4096) (h : b.val * 4096 + s.val = t.val * 512 + l.val) (k : Fin 1024) :
    k0_pay2 (ERR m c t) (ix2 l k)
      = (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 b s k) := by
  pointwise [k0_pay2, val_main_v67, val_main_v66, val_main_v65, val_main_v64, val_main_v63, val_main_v62, val_main_v56, val_main_v55, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  rw [row_err m c t l b s h]
  exact scale _

/-- The cotangent of the layer's result. -/
theorem row_dx2 (c : Dev nD) (t : Fin cfg0.N) (l : Fin 512) (b : Fin 2) (s : Fin 4096) (h : b.val * 4096 + s.val = t.val * 512 + l.val) (k : Fin 1024) :
    k0_pay3 (X2 m c t) (k0_pay12 (iblk m c 9 t)) (RS m c t) (HF m c t) (ERR m c t) (ix2 l k)
      = (val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 b s k) := by
  pointwise [k0_pay3, k0_pay12, val_main_v87, val_main_v86, val_main_v85, val_main_v84, val_main_v83, val_main_v82, val_main_v81, val_main_v80, val_main_v79, val_main_v78, val_main_v77, val_main_v76, val_main_v75, val_main_v74, val_main_v72, val_main_v71, val_main_v50, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  simp only [Fin.sum_univ_one, row_ct m c t l b s h, row_x2 m c t l b s h, row_rs m c t l b s h, row_hf m c t l b s h, blk_9 m c t]

end Cert.HeadIdeal.Rows

end
-- ==== Proof.HeadSums.lean ====
/-
  The last layer's output projection with the loss: every result array of the kernel is the reference's.
-/
module

public import proofs.«01_k».proof.Proof.HeadRows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.HeadIdeal.Sums

open Cert.HeadIdeal Cert.HeadIdeal.Gen Cert.HeadRefIdeal.Read Cert.HeadIdeal.Rows

variable (m : (ℓ : Loc nD τ sig) → Buf (Elt Ideal) ℓ)

/-- The sequence of a token, and its place in it. -/
def seqOf (T : Fin 8192) : Fin 2 := ⟨T.val / 4096, by have := T.isLt; omega⟩
def posOf (T : Fin 8192) : Fin 4096 := ⟨T.val % 4096, Nat.mod_lt _ (by decide)⟩

theorem seq_pos (T : Fin 8192) : (seqOf T).val * 4096 + (posOf T).val = T.val := by
  show T.val / 4096 * 4096 + T.val % 4096 = T.val
  omega

/-- A sum over sequences and places is a sum over tokens. -/
theorem tokens (f : Fin 2 → Fin 4096 → Ideal .f32) : ∑ b, ∑ s, f b s = ∑ T : Fin 8192, f (seqOf T) (posOf T) := by
  refine Fin.sum_mul_add_congr fun b s hl => ?_
  have h1 : seqOf ⟨b.val * 4096 + s.val, hl⟩ = b := Fin.ext (by show (b.val * 4096 + s.val) / 4096 = b.val; have := s.isLt; omega)
  have h2 : posOf ⟨b.val * 4096 + s.val, hl⟩ = s := Fin.ext (by show (b.val * 4096 + s.val) % 4096 = s.val; have := s.isLt; omega)
  rw [h1, h2]

/-- A sum over the two leading axes of an array of three axes. -/
theorem sum_leading {n0 n1 n2 : Nat} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  have hd : ∀ i : (⟨3, ![n0, n1, n2]⟩ : Shape).Idx, ((h.drop i) 0).val = (i 2).val := fun _ => rfl
  unfold Ideal.hostReduceAdd
  rw [← Fintype.sum_prod_type' fun (a : Fin n0) (b : Fin n1) => v (ix3 a b k)]
  refine congrArg (init + ·) ?_
  refine Finset.sum_bij' (fun i _ => ((i 0, i 1) : Fin n0 × Fin n1)) (fun p _ => ix3 p.1 p.2 k)
    (fun _ _ => Finset.mem_univ _) ?_ ?_ (fun _ _ => rfl) ?_
  · intro p _
    refine Finset.mem_filter.mpr ⟨Finset.mem_univ _, ?_⟩
    funext a
    match a with
    | ⟨0, _⟩ => exact Fin.ext (hd _)
  · intro i hi
    have e := congrArg Fin.val (congrFun (Finset.mem_filter.mp hi).2 0)
    rw [hd] at e
    funext a
    match a with
    | ⟨0, _⟩ => rfl
    | ⟨1, _⟩ => rfl
    | ⟨2, _⟩ => exact Fin.ext e.symm
  · intro i hi
    have e := congrArg Fin.val (congrFun (Finset.mem_filter.mp hi).2 0)
    rw [hd] at e
    refine congrArg v ?_
    funext a
    match a with
    | ⟨0, _⟩ => rfl
    | ⟨1, _⟩ => rfl
    | ⟨2, _⟩ => exact Fin.ext e

/-- The sequence of a tile's row, and its place in it. -/
def tileSeq (t : Fin cfg0.N) : Fin 2 := ⟨t.val / 8, by have := lt_of_lt_of_eq t.isLt N_0; omega⟩
def tilePos (t : Fin cfg0.N) (l : Fin 512) : Fin 4096 := ⟨t.val % 8 * 512 + l.val, by have := l.isLt; omega⟩

theorem tile_at (t : Fin cfg0.N) (l : Fin 512) : (tileSeq t).val * 4096 + (tilePos t l).val = t.val * 512 + l.val := by
  show t.val / 8 * 4096 + (t.val % 8 * 512 + l.val) = t.val * 512 + l.val
  omega

theorem seq_tile (t : Fin cfg0.N) (l : Fin 512) (hl : t.val * 512 + l.val < 8192) : seqOf ⟨t.val * 512 + l.val, hl⟩ = tileSeq t :=
  Fin.ext (by show (t.val * 512 + l.val) / 4096 = t.val / 8; have := l.isLt; omega)

theorem pos_tile (t : Fin cfg0.N) (l : Fin 512) (hl : t.val * 512 + l.val < 8192) : posOf ⟨t.val * 512 + l.val, hl⟩ = tilePos t l :=
  Fin.ext (by show (t.val * 512 + l.val) % 4096 = t.val % 8 * 512 + l.val; have := l.isLt; omega)

theorem place_eq (t : Fin cfg0.N) (l : Fin 512) (hl : t.val * 512 + l.val < 8192) (h : (tileSeq t).val * 4096 + (tilePos t l).val < 8192) :
    (⟨(tileSeq t).val * 4096 + (tilePos t l).val, h⟩ : Fin 8192) = ⟨t.val * 512 + l.val, hl⟩ := Fin.ext (tile_at t l)

/-- A product of two numbers of the kernel. -/
def times (x y : Ideal .f32) : Ideal .f32 := FloatOps.mulf x y

/-- A positive constant goes through a sum. -/
theorem coe_mul_sum {ι : Type} [Fintype ι] (x : ℝ) (hx : 0 ≤ x) (f : ι → EReal) : (x : EReal) * ∑ i, f i = ∑ i, (x : EReal) * f i := by
  classical
  refine Finset.induction_on (Finset.univ : Finset ι) (by simp) fun i u hi e => ?_
  rw [Finset.sum_insert hi, Finset.sum_insert hi, EReal.left_distrib_of_nonneg_of_ne_top (EReal.coe_nonneg.mpr hx) (EReal.coe_ne_top x), e]

/-- The gain's gradient is a sum over tokens. -/
theorem ref_dfg (c : Dev nD) (k : Fin 1024) :
    (val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix2 0 k) = ∑ T : Fin 8192, (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 (seqOf T) (posOf T) k) * (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 (seqOf T) (posOf T) k) := by
  refine Eq.trans ?_ (tokens fun b s => (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ix3 b s k) * (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 b s k))
  pointwise [val_main_v91, val_main_v73, val_main_v70, val_main_v69, val_main_v68, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  rw [sum_leading, zero_add, Fin.sum_univ_one, Fin.sum_univ_one]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  rw [sum_leading]
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]

/-- The loss is a sum over tokens. -/
theorem ref_loss (c : Dev nD) (q : Fin 128) :
    (val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix2 0 q) = Ideal.ofBits .f32 0x3F000000#32 * ∑ T : Fin 8192, Ideal.div (∑ k : Fin 1024, (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 (seqOf T) (posOf T) k) * (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 (seqOf T) (posOf T) k)) (Ideal.ofBits .f32 0x44800000#32) := by
  refine Eq.trans ?_ (congrArg (Ideal.ofBits .f32 0x3F000000#32 * ·) (tokens fun b s => Ideal.div (∑ k : Fin 1024, (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 b s k) * (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 b s k)) (Ideal.ofBits .f32 0x44800000#32)))
  pointwise [val_main_v92, val_main_v61, val_main_v60, val_main_v59, val_main_v58, val_main_v57, val_main_v54, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]

theorem zero_14 (j : S1x1024.Idx) : k0_pay10 (F := Ideal) j = 0 := by pointwise [k0_pay10]

theorem zero_15 (j : S1x128.Idx) : k0_pay11 (F := Ideal) j = 0 := by pointwise [k0_pay11]

/-- What one grid point adds to the gain's gradient. -/
theorem pay_14 (n e : FVec Ideal S512x1024 .f32) (acc : Vec Ideal S1x1024 .f32) (j : S1x1024.Idx) :
    k0_pay4 n e acc j = acc j + ∑ l : Fin 512, times (n (ix2 l (j 1))) (k0_pay2 e (ix2 l (j 1))) := by
  generalize hg : k0_pay2 e = g
  unfold k0_pay4
  rw [hg]
  pointwise [times]

/-- What one grid point adds to the loss. -/
theorem pay_15 (acc : Vec Ideal S1x128 .f32) (v : Ideal .f32) (j : S1x128.Idx) :
    k0_pay1 (k0_pay18 acc) k0_pay19 v j = acc j + v := by
  pointwise [k0_pay1, k0_pay18, k0_pay19]

/-- The loss of one grid point. -/
def part (c : Dev nD) (t : Fin cfg0.N) : Ideal .f32 := Ideal.div (Ideal.ofBits .f32 0x3F000000#32 * ∑ l : Fin 512, ∑ k : Fin 1024, (ERR m c t (ix2 l k) * ERR m c t (ix2 l k) : EReal)) (Ideal.ofBits .f32 0x44800000#32)

theorem pay_20 (c : Dev nD) (t : Fin cfg0.N) :
    k0_pay20 (X1 m c t) (GT m c t) (k0_pay7 (iblk m c 4 t)) (k0_pay8 (iblk m c 8 t)) (constant S512x1024 .f32 0x00000000#32) (iblk m c 9 t) (iblk m c 10 t)
      = part m c t := by
  unfold k0_pay20 part
  rw [show k0_pay17 (X1 m c t) (GT m c t) (k0_pay7 (iblk m c 4 t)) (k0_pay8 (iblk m c 8 t)) (constant S512x1024 .f32 0x00000000#32) (iblk m c 9 t) (iblk m c 10 t) = ERR m c t from rfl]
  generalize ERR m c t = e
  pointwise []

theorem flat_11 (c : Dev nD) (b : Fin 2) (s : Fin 4096) (r : Fin 8192) (h : b.val * 4096 + s.val = r.val) (q : Fin 1024) :
    (val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 b s q) = (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix2 r q) := by
  have hs := s.isLt
  have lt : b.val * 4096 + s.val < 8192 := by have := b.isLt; omega
  rw [show r = ⟨b.val * 4096 + s.val, lt⟩ from Fin.ext h.symm]
  unfold val_main_v88
  generalize val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = U
  pointwise []

theorem flat_12 (c : Dev nD) (b : Fin 2) (s : Fin 4096) (r : Fin 8192) (h : b.val * 4096 + s.val = r.val) (q : Fin 1024) :
    (val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix3 b s q) = (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 r q) := by
  have hs := s.isLt
  have lt : b.val * 4096 + s.val < 8192 := by have := b.isLt; omega
  rw [show r = ⟨b.val * 4096 + s.val, lt⟩ from Fin.ext h.symm]
  unfold val_main_v89
  generalize val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = U
  pointwise []

theorem flat_13 (c : Dev nD) (b : Fin 2) (s : Fin 4096) (r : Fin 8192) (h : b.val * 4096 + s.val = r.val) (q : Fin 1024) :
    (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (ix3 b s q) = (val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (ix2 r q) := by
  have hs := s.isLt
  have lt : b.val * 4096 + s.val < 8192 := by have := b.isLt; omega
  rw [show r = ⟨b.val * 4096 + s.val, lt⟩ from Fin.ext h.symm]
  unfold val_main_v90
  generalize val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) = U
  pointwise []

/-- The cotangent of the layer's result. -/
theorem final_11 (c : Dev nD) : (dats m 0 c).arrAt 11 (cfgs 0).N = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  have key : ∀ (l : Fin 512) (hl : t.val * 512 + l.val < 8192) k, _ := fun l hl k =>
    (row_dx2 m c t l (tileSeq t) (tilePos t l) (tile_at t l) k).trans (flat_11 m c (tileSeq t) (tilePos t l) ⟨t.val * 512 + l.val, hl⟩ (tile_at t l) k)
  have at_place : ∀ (l : Fin 512) (hl : t.val * 512 + l.val < 8192) (k : Fin 1024),
      (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix2 ⟨t.val * 512 + l.val, hl⟩ k)
        = (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (((View.whole main_v9_0).slice (win0_11.rect t)).emb (ix2 l k)) := by
    intro l hl k
    generalize val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = R
    refine Eq.symm ?_
    blk_point [idx t]
  blk_simp
  rw [after0_11]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

/-- The residual stream. -/
theorem final_12 (c : Dev nD) : (dats m 0 c).arrAt 12 (cfgs 0).N = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 12 _ (by decide +kernel) fun t hf y => ?_
  have key : ∀ (l : Fin 512) (hl : t.val * 512 + l.val < 8192) k, _ := fun l hl k =>
    (row_x1 m c t l (tileSeq t) (tilePos t l) (tile_at t l) k).trans (flat_12 m c (tileSeq t) (tilePos t l) ⟨t.val * 512 + l.val, hl⟩ (tile_at t l) k)
  have at_place : ∀ (l : Fin 512) (hl : t.val * 512 + l.val < 8192) (k : Fin 1024),
      (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (ix2 ⟨t.val * 512 + l.val, hl⟩ k)
        = (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg5))) (((View.whole main_v9_1).slice (win0_12.rect t)).emb (ix2 l k)) := by
    intro l hl k
    generalize val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = R
    refine Eq.symm ?_
    blk_point [idx t]
  blk_simp
  rw [after0_12]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

/-- The gate. -/
theorem final_13 (c : Dev nD) : (dats m 0 c).arrAt 13 (cfgs 0).N = val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 13 _ (by decide +kernel) fun t hf y => ?_
  have key : ∀ (l : Fin 512) (hl : t.val * 512 + l.val < 8192) k, _ := fun l hl k =>
    (row_gate m c t l (tileSeq t) (tilePos t l) (tile_at t l) k).trans (flat_13 m c (tileSeq t) (tilePos t l) ⟨t.val * 512 + l.val, hl⟩ (tile_at t l) k)
  have at_place : ∀ (l : Fin 512) (hl : t.val * 512 + l.val < 8192) (k : Fin 1024),
      (val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (ix2 ⟨t.val * 512 + l.val, hl⟩ k)
        = (val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) (((View.whole main_v9_2).slice (win0_13.rect t)).emb (ix2 l k)) := by
    intro l hl k
    generalize val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) = R
    refine Eq.symm ?_
    blk_point [idx t]
  blk_simp
  rw [after0_13]
  idx_vars y
  have hl : t.val * 512 + y0.val < 8192 := by
    have h16 := lt_of_lt_of_eq t.isLt N_0
    have h512 := y0.isLt
    omega
  by_cases h : t.val % 16 = 0
  · rw [outsAt0_A m c t h]
    frame_out
    exact (key y0 hl y1).trans (at_place y0 hl y1)
  · rw [outsAt0_B m c t h]
    frame_out
    exact (key y0 hl y1).trans (at_place y0 hl y1)

/-- The gain's gradient. -/
theorem final_14 (c : Dev nD) : (dats m 0 c).arrAt 14 (cfgs 0).N = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 14 t0_15 (by decide +kernel) _ fun j => ?_
  blk_simp
  obtain ⟨k, rfl⟩ : ∃ k : Fin 1024, j = (ix2 0 k : S1x1024.Idx) := ⟨j 1, by funext x; match x with | ⟨0, _⟩ => exact Subsingleton.elim (α := Fin 1) _ _ | ⟨1, _⟩ => rfl⟩
  rw [after0_14, Pipeline.eq_sum_fin_of_reset_step_apply_last (fun n h => (outsAt0 m c n h).2.2.2.1) 16 (fun _ => 0)
    (fun t j => ∑ l : Fin 512, times (NRM m c t (ix2 l (j 1))) (k0_pay2 (ERR m c t) (ix2 l (j 1))))
    (fun t h j => by rw [outsAt0_A m c t h]; frame_out; exact (pay_14 _ _ _ j).trans (congrArg (· + _) (zero_14 j)))
    (fun t h j => by rw [outsAt0_B m c t h]; frame_out; exact pay_14 _ _ _ j)
    (le_of_eq N_0) t0_15 rfl (ix2 0 k), zero_add, ref_dfg]
  refine Fin.sum_mul_add_congr fun t l hl => ?_
  rw [seq_tile t l hl, pos_tile t l hl]
  exact congrArg₂ times (row_nrm m c t l _ _ (tile_at t l) k) (row_ct m c t l _ _ (tile_at t l) k)

theorem loss_sum (c : Dev nD) : ∑ t, (part m c t : EReal)
    = Ideal.ofBits .f32 0x3F000000#32 * ∑ T : Fin 8192, Ideal.div (∑ k : Fin 1024, (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 (seqOf T) (posOf T) k) * (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 (seqOf T) (posOf T) k)) (Ideal.ofBits .f32 0x44800000#32) := by
  have hrow : ∀ (t : Fin cfg0.N) (l : Fin 512), (∑ k : Fin 1024, (ERR m c t (ix2 l k) * ERR m c t (ix2 l k) : EReal))
      = ∑ k : Fin 1024, (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 (tileSeq t) (tilePos t l) k) * (val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (ix3 (tileSeq t) (tilePos t l) k) := fun t l =>
    Finset.sum_congr rfl fun k _ => congrArg₂ (fun x y : EReal => x * y) (row_err m c t l _ _ (tile_at t l) k) (row_err m c t l _ _ (tile_at t l) k)
  simp only [part, hrow]
  generalize val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = E
  rw [half_bits, width_bits]
  simp only [Ideal.div_coe (show (1024 : ℝ) ≠ 0 by norm_num)]
  rw [coe_mul_sum _ (by norm_num)]
  refine Eq.trans (Finset.sum_congr rfl fun t _ => (?_ : _ = ∑ l : Fin 512, ((1 / 2 : ℝ) : EReal) * ((∑ k : Fin 1024, (E (ix3 (tileSeq t) (tilePos t l) k) * E (ix3 (tileSeq t) (tilePos t l) k) : EReal)) * ((1 / 1024 : ℝ) : EReal)))) ?_
  · rw [mul_right_comm, ← EReal.coe_mul, coe_mul_sum _ (by norm_num)]
    refine Finset.sum_congr rfl fun l _ => ?_
    rw [EReal.coe_mul, mul_assoc, mul_comm ((1 / 1024 : ℝ) : EReal)]
  · refine Fin.sum_mul_add_congr fun t l hl => ?_
    rw [seq_tile t l hl, pos_tile t l hl]

/-- The loss. -/
theorem final_15 (c : Dev nD) : (dats m 0 c).arrAt 15 (cfgs 0).N = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_after_last 15 t0_15 (by decide +kernel) _ fun j => ?_
  blk_simp
  obtain ⟨k, rfl⟩ : ∃ k : Fin 128, j = (ix2 0 k : S1x128.Idx) := ⟨j 1, by funext x; match x with | ⟨0, _⟩ => exact Subsingleton.elim (α := Fin 1) _ _ | ⟨1, _⟩ => rfl⟩
  rw [after0_15, Pipeline.eq_sum_fin_of_reset_step_apply_last (fun n h => (outsAt0 m c n h).2.2.2.2) 16 (fun _ => 0)
    (fun t j => part m c t)
    (fun t h j => by rw [outsAt0_A m c t h]; frame_out; exact (pay_15 _ _ j).trans (congrArg₂ (fun x y : EReal => x + y) (zero_15 j) (pay_20 m c t)))
    (fun t h j => by rw [outsAt0_B m c t h]; frame_out; exact (pay_15 _ _ j).trans (congrArg (_ + ·) (pay_20 m c t)))
    (le_of_eq N_0) t0_15 rfl (ix2 0 k), zero_add, ref_loss]
  exact loss_sum m c

end Cert.HeadIdeal.Sums

end
-- ==== Proof.HeadClaim.lean ====
/- The last layer's output projection with the loss, forward: the claims. -/
module

public import proofs.«01_k».proof.Defs
public import proofs.«01_k».proof.Proof.Gen.HeadIdeal.Frame
public import proofs.«01_k».proof.Proof.Gen.HeadIdeal.Value
public import proofs.«01_k».proof.Proof.Gen.HeadRefIdeal.Run
public import proofs.«01_k».proof.Proof.Gen.HeadRefIdeal.Read
public import proofs.«01_k».proof.Proof.HeadSums
public import Idealize.ShloMosaic.Lib.Claim

@[expose] public section

set_option maxRecDepth 16384

noncomputable section

namespace Cert.HeadClaim

open Idealize.ShloMosaic Idealize.SL.Sem

/-- The reference leaves its arguments alone; it declares no semaphore. -/
theorem ref_frame : Cert.quiescent_HeadRefIdeal := fun m ρ _ =>
  (θ_run Cert.HeadRefIdeal.defs _ _).mono (fun r h => ⟨fun c => (h c).2.2.2.2.2, sem_eq_zero_of_no_sems (by decide) r.2⟩)
    (Cert.HeadRefIdeal.Value.run (F := Ideal) m ρ)

set_option maxHeartbeats 1600000 in
/-- The kernel's results are the reference's. -/
theorem algebraic : Cert.algebraic_HeadIdeal_HeadRefIdeal := by
  intro m g m' g' hpre hagree
  refine ⟨fun c => (Cert.HeadIdeal.Gen.dats m 0 c).arrAt 11 (Cert.HeadIdeal.cfgs 0).N,
    fun c => (Cert.HeadIdeal.Gen.dats m 0 c).arrAt 12 (Cert.HeadIdeal.cfgs 0).N,
    fun c => (Cert.HeadIdeal.Gen.dats m 0 c).arrAt 13 (Cert.HeadIdeal.cfgs 0).N,
    fun c => (Cert.HeadIdeal.Gen.dats m 0 c).arrAt 14 (Cert.HeadIdeal.cfgs 0).N,
    fun c => (Cert.HeadIdeal.Gen.dats m 0 c).arrAt 15 (Cert.HeadIdeal.cfgs 0).N, ?_, ?_⟩
  · exact θ_run_mono (θ_run_and (Cert.HeadIdeal.Gen.run_main m g) (Cert.HeadIdeal.Gen.unchanged m g)) fun r hr c =>
      ⟨(hr.1 c).1 11, (hr.1 c).1 12, (hr.1 c).1 13, (hr.1 c).1 14, (hr.1 c).1 15, hr.2 c⟩
  · have ha := PLift.up hagree
    clear hagree
    run_from Cert.HeadRefIdeal.Value.run m' g'
    · refine (Cert.HeadRefIdeal.Read.val_main_v88_eq ..).trans ?_
      simp only [ha.down c]
      exact (Cert.HeadIdeal.Sums.final_11 m c).symm
    · refine (Cert.HeadRefIdeal.Read.val_main_v89_eq ..).trans ?_
      simp only [ha.down c]
      exact (Cert.HeadIdeal.Sums.final_12 m c).symm
    · refine (Cert.HeadRefIdeal.Read.val_main_v90_eq ..).trans ?_
      simp only [ha.down c]
      exact (Cert.HeadIdeal.Sums.final_13 m c).symm
    · refine (Cert.HeadRefIdeal.Read.val_main_v91_eq ..).trans ?_
      simp only [ha.down c]
      exact (Cert.HeadIdeal.Sums.final_14 m c).symm
    · refine (Cert.HeadRefIdeal.Read.val_main_v92_eq ..).trans ?_
      simp only [ha.down c]
      exact (Cert.HeadIdeal.Sums.final_15 m c).symm

end Cert.HeadClaim

end
-- ==== Proof.lean ====
/- Every claim of the certificate. The frames of the kernels are the generated ones, in each case once for every
   choice of float values; those of the input projection are proved in ProjFrame and ProjfFrame. The value claims are
   proved call by call in the modules named `…Claim`. -/
module

public import proofs.«01_k».proof.Defs
public import proofs.«01_k».proof.Proof.Gen.Dw
public import proofs.«01_k».proof.Proof.Gen.Dw.Frame
public import proofs.«01_k».proof.Proof.Gen.DwIdeal
public import proofs.«01_k».proof.Proof.Gen.DwIdeal.Frame
public import proofs.«01_k».proof.Proof.Gen.DwRefIdeal
public import proofs.«01_k».proof.Proof.DwClaim
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.OutClaim
public import proofs.«01_k».proof.Proof.Gen.Dx
public import proofs.«01_k».proof.Proof.Gen.Dx.Frame
public import proofs.«01_k».proof.Proof.Gen.DxIdeal
public import proofs.«01_k».proof.Proof.Gen.DxIdeal.Frame
public import proofs.«01_k».proof.Proof.Gen.DxRefIdeal
public import proofs.«01_k».proof.Proof.DxClaim
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.ProjClaim
public import proofs.«01_k».proof.Proof.ProjFrame
public import proofs.«01_k».proof.Proof.ProjfFrame
public import proofs.«01_k».proof.Proof.Gen.Outf
public import proofs.«01_k».proof.Proof.Gen.Outf.Frame
public import proofs.«01_k».proof.Proof.Gen.OutfIdeal
public import proofs.«01_k».proof.Proof.Gen.OutfIdeal.Frame
public import proofs.«01_k».proof.Proof.Gen.OutfRefIdeal
public import proofs.«01_k».proof.Proof.OutfClaim
public import proofs.«01_k».proof.Proof.Gen.Head
public import proofs.«01_k».proof.Proof.Gen.Head.Frame
public import proofs.«01_k».proof.Proof.Gen.HeadIdeal
public import proofs.«01_k».proof.Proof.Gen.HeadIdeal.Frame
public import proofs.«01_k».proof.Proof.Gen.HeadRefIdeal
public import proofs.«01_k».proof.Proof.HeadClaim
public import Idealize.ShloMosaic.Adequacy
public import Idealize.ShloMosaic.Init

@[expose] public section

noncomputable section

namespace Cert.Proof

open Idealize.ShloMosaic Idealize.SL.Sem

theorem claim : Cert.Claim := ⟨Cert.Dw.Gen.facts, Cert.DwIdeal.Gen.facts, Cert.DwRefIdeal.Gen.facts, Cert.Out.Gen.facts, Cert.OutIdeal.Gen.facts, Cert.OutRefIdeal.Gen.facts, Cert.Dx.Gen.facts, Cert.DxIdeal.Gen.facts, Cert.DxRefIdeal.Gen.facts, Cert.Proj.Gen.facts, Cert.ProjIdeal.Gen.facts, Cert.ProjRefIdeal.Gen.facts, Cert.Outf.Gen.facts, Cert.OutfIdeal.Gen.facts, Cert.OutfRefIdeal.Gen.facts, Cert.Head.Gen.facts, Cert.HeadIdeal.Gen.facts, Cert.HeadRefIdeal.Gen.facts,
  fun m ρ _ => Cert.Dw.Gen.frame m ρ,
  fun m ρ _ => Cert.DwIdeal.Gen.frame m ρ,
  Cert.DwClaim.ref_frame,
  fun m ρ _ => Cert.Out.Gen.frame m ρ,
  fun m ρ _ => Cert.OutIdeal.Gen.frame m ρ,
  Cert.OutClaim.ref_frame,
  fun m ρ _ => Cert.Dx.Gen.frame m ρ,
  fun m ρ _ => Cert.DxIdeal.Gen.frame m ρ,
  Cert.DxClaim.ref_frame,
  fun m ρ _ => Cert.Proj.Body.frame m ρ,
  fun m ρ _ => Cert.ProjIdeal.Body.frame m ρ,
  Cert.ProjClaim.ref_frame,
  fun m ρ _ => Cert.Outf.Gen.frame m ρ,
  fun m ρ _ => Cert.OutfIdeal.Gen.frame m ρ,
  Cert.OutfClaim.ref_frame,
  fun m ρ _ => Cert.Head.Gen.frame m ρ,
  fun m ρ _ => Cert.HeadIdeal.Gen.frame m ρ,
  Cert.HeadClaim.ref_frame,
  trivial,
  Cert.DwClaim.algebraic,
  trivial,
  Cert.OutClaim.algebraic,
  trivial,
  Cert.DxClaim.algebraic,
  trivial,
  Cert.ProjClaim.algebraic,
  trivial,
  Cert.OutfClaim.algebraic,
  trivial,
  Cert.HeadClaim.algebraic⟩

end Cert.Proof

end
